-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_LastKernel (m : (ℓ : Loc Cert.LastKernel.nD Cert.LastKernel.τ Cert.LastKernel.sig) → Buf (Elt Bits) ℓ) : Prop :=
  True

def Pre_LastKernelIdeal (m : (ℓ : Loc Cert.LastKernelIdeal.nD Cert.LastKernelIdeal.τ Cert.LastKernelIdeal.sig) → Buf (Elt Ideal) ℓ) : Prop :=
  True

def Pre_LastKernelIdeal_finite [hPre_finite : Cert.Pre_finite.Facts] (m : (ℓ : Loc Cert.LastKernelIdeal.nD Cert.LastKernelIdeal.τ Cert.LastKernelIdeal.sig) → Buf (Elt Ideal) ℓ) : Prop :=
  ∀ c : Dev Cert.LastKernelIdeal.nD,
    (Cert.Pre_finite.fn (F := Ideal) (m ((c.tc : Thread Cert.LastKernelIdeal.nD Cert.LastKernelIdeal.τ).loc Cert.LastKernelIdeal.main_arg0)) (m ((c.tc : Thread Cert.LastKernelIdeal.nD Cert.LastKernelIdeal.τ).loc Cert.LastKernelIdeal.main_arg1)) (m ((c.tc : Thread Cert.LastKernelIdeal.nD Cert.LastKernelIdeal.τ).loc Cert.LastKernelIdeal.main_arg2)) (m ((c.tc : Thread Cert.LastKernelIdeal.nD Cert.LastKernelIdeal.τ).loc Cert.LastKernelIdeal.main_arg3)) (m ((c.tc : Thread Cert.LastKernelIdeal.nD Cert.LastKernelIdeal.τ).loc Cert.LastKernelIdeal.main_arg4))) = (fun _ => 1#1)

def Pre_LastReferenceIdeal (m : (ℓ : Loc Cert.LastReferenceIdeal.nD Cert.LastReferenceIdeal.τ Cert.LastReferenceIdeal.sig) → Buf (Elt Ideal) ℓ) : Prop :=
  True

def Pre_LastReferenceIdeal_finite [hPre_finite : Cert.Pre_finite.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_finite.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4))) = (fun _ => 1#1)

def Pre_BackKernel (m : (ℓ : Loc Cert.BackKernel.nD Cert.BackKernel.τ Cert.BackKernel.sig) → Buf (Elt Bits) ℓ) : Prop :=
  True

def Pre_BackKernelIdeal (m : (ℓ : Loc Cert.BackKernelIdeal.nD Cert.BackKernelIdeal.τ Cert.BackKernelIdeal.sig) → Buf (Elt Ideal) ℓ) : Prop :=
  True

def Pre_BackKernelIdeal_finite [hPre_finite : Cert.Pre_finite.Facts] (m : (ℓ : Loc Cert.BackKernelIdeal.nD Cert.BackKernelIdeal.τ Cert.BackKernelIdeal.sig) → Buf (Elt Ideal) ℓ) : Prop :=
  ∀ c : Dev Cert.BackKernelIdeal.nD,
    (Cert.Pre_finite.fn (F := Ideal) (m ((c.tc : Thread Cert.BackKernelIdeal.nD Cert.BackKernelIdeal.τ).loc Cert.BackKernelIdeal.main_arg0)) (m ((c.tc : Thread Cert.BackKernelIdeal.nD Cert.BackKernelIdeal.τ).loc Cert.BackKernelIdeal.main_arg1)) (m ((c.tc : Thread Cert.BackKernelIdeal.nD Cert.BackKernelIdeal.τ).loc Cert.BackKernelIdeal.main_arg2)) (m ((c.tc : Thread Cert.BackKernelIdeal.nD Cert.BackKernelIdeal.τ).loc Cert.BackKernelIdeal.main_arg3)) (m ((c.tc : Thread Cert.BackKernelIdeal.nD Cert.BackKernelIdeal.τ).loc Cert.BackKernelIdeal.main_arg4))) = (fun _ => 1#1)

def Pre_BackReferenceIdeal (m : (ℓ : Loc Cert.BackReferenceIdeal.nD Cert.BackReferenceIdeal.τ Cert.BackReferenceIdeal.sig) → Buf (Elt Ideal) ℓ) : Prop :=
  True

def Pre_BackReferenceIdeal_finite [hPre_finite : Cert.Pre_finite.Facts] (m : (ℓ : Loc Cert.BackReferenceIdeal.nD Cert.BackReferenceIdeal.τ Cert.BackReferenceIdeal.sig) → Buf (Elt Ideal) ℓ) : Prop :=
  ∀ c : Dev Cert.BackReferenceIdeal.nD,
    (Cert.Pre_finite.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3)) (m ((c.tc : Thread Cert.BackReferenceIdeal.nD Cert.BackReferenceIdeal.τ).loc Cert.BackReferenceIdeal.main_arg4))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_GradKernel (m : (ℓ : Loc Cert.GradKernel.nD Cert.GradKernel.τ Cert.GradKernel.sig) → Buf (Elt Bits) ℓ) : Prop :=
  True

def Pre_GradKernelIdeal (m : (ℓ : Loc Cert.GradKernelIdeal.nD Cert.GradKernelIdeal.τ Cert.GradKernelIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_UpdateKernel (m : (ℓ : Loc Cert.UpdateKernel.nD Cert.UpdateKernel.τ Cert.UpdateKernel.sig) → Buf (Elt Bits) ℓ) : Prop :=
  True

def Pre_UpdateKernelIdeal (m : (ℓ : Loc Cert.UpdateKernelIdeal.nD Cert.UpdateKernelIdeal.τ Cert.UpdateKernelIdeal.sig) → Buf (Elt Ideal) ℓ) : Prop :=
  True

def Pre_UpdateReferenceIdeal (m : (ℓ : Loc Cert.UpdateReferenceIdeal.nD Cert.UpdateReferenceIdeal.τ Cert.UpdateReferenceIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4)
      ∧ r.2.mem ((c.tc : Thread Cert.GateKernel.nD Cert.GateKernel.τ).loc Cert.GateKernel.main_arg5) = m ((c.tc : Thread Cert.GateKernel.nD Cert.GateKernel.τ).loc Cert.GateKernel.main_arg5)
      ∧ r.2.mem ((c.tc : Thread Cert.GateKernel.nD Cert.GateKernel.τ).loc Cert.GateKernel.main_arg6) = m ((c.tc : Thread Cert.GateKernel.nD Cert.GateKernel.τ).loc Cert.GateKernel.main_arg6))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
      ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6))
      ∧ r.2.sem = fun _ => 0)

def quiescent_LastKernel [hLastKernel : Cert.LastKernel.Facts] : Prop :=
  ∀ (m : (ℓ : Loc Cert.LastKernel.nD Cert.LastKernel.τ Cert.LastKernel.sig) → Buf (Elt Bits) ℓ) (g : Dev Cert.LastKernel.nD → PrngReg), Pre_LastKernel m →
    θ_run (Cert.LastKernel.defs (F := Bits)) (onTc (τ := Cert.LastKernel.τ) (Cert.LastKernel.main (F := Bits))) ⟨m, fun _ => 0, g⟩ (fun r => (∀ c : Dev Cert.LastKernel.nD,
      r.2.mem ((c.tc : Thread Cert.LastKernel.nD Cert.LastKernel.τ).loc Cert.LastKernel.main_arg0) = m ((c.tc : Thread Cert.LastKernel.nD Cert.LastKernel.τ).loc Cert.LastKernel.main_arg0)
      ∧ r.2.mem ((c.tc : Thread Cert.LastKernel.nD Cert.LastKernel.τ).loc Cert.LastKernel.main_arg1) = m ((c.tc : Thread Cert.LastKernel.nD Cert.LastKernel.τ).loc Cert.LastKernel.main_arg1)
      ∧ r.2.mem ((c.tc : Thread Cert.LastKernel.nD Cert.LastKernel.τ).loc Cert.LastKernel.main_arg2) = m ((c.tc : Thread Cert.LastKernel.nD Cert.LastKernel.τ).loc Cert.LastKernel.main_arg2)
      ∧ r.2.mem ((c.tc : Thread Cert.LastKernel.nD Cert.LastKernel.τ).loc Cert.LastKernel.main_arg3) = m ((c.tc : Thread Cert.LastKernel.nD Cert.LastKernel.τ).loc Cert.LastKernel.main_arg3)
      ∧ r.2.mem ((c.tc : Thread Cert.LastKernel.nD Cert.LastKernel.τ).loc Cert.LastKernel.main_arg4) = m ((c.tc : Thread Cert.LastKernel.nD Cert.LastKernel.τ).loc Cert.LastKernel.main_arg4))
      ∧ r.2.sem = fun _ => 0)

def quiescent_LastKernelIdeal [hLastKernelIdeal : Cert.LastKernelIdeal.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4))
      ∧ r.2.sem = fun _ => 0)

def quiescent_LastKernelIdeal_pre_finite [hLastKernelIdeal : Cert.LastKernelIdeal.Facts] [hPre_finite : Cert.Pre_finite.Facts] : Prop :=
  ∀ (m : (ℓ : Loc Cert.LastKernelIdeal.nD Cert.LastKernelIdeal.τ Cert.LastKernelIdeal.sig) → Buf (Elt Ideal) ℓ) (g : Dev Cert.LastKernelIdeal.nD → PrngReg), Pre_LastKernelIdeal_finite m →
    θ_run (Cert.LastKernelIdeal.defs (F := Ideal)) (onTc (τ := Cert.LastKernelIdeal.τ) (Cert.LastKernelIdeal.main (F := Ideal))) ⟨m, fun _ => 0, g⟩ (fun r => (∀ c : Dev Cert.LastKernelIdeal.nD,
      r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
      ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
      ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
      ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
      ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_LastReferenceIdeal_pre_finite [hLastReferenceIdeal : Cert.LastReferenceIdeal.Facts] [hPre_finite : Cert.Pre_finite.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal_finite m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def quiescent_BackKernel [hBackKernel : Cert.BackKernel.Facts] : Prop :=
  ∀ (m : (ℓ : Loc Cert.BackKernel.nD Cert.BackKernel.τ Cert.BackKernel.sig) → Buf (Elt Bits) ℓ) (g : Dev Cert.BackKernel.nD → PrngReg), Pre_BackKernel m →
    θ_run (Cert.BackKernel.defs (F := Bits)) (onTc (τ := Cert.BackKernel.τ) (Cert.BackKernel.main (F := Bits))) ⟨m, fun _ => 0, g⟩ (fun r => (∀ c : Dev Cert.BackKernel.nD,
      r.2.mem ((c.tc : Thread Cert.BackKernel.nD Cert.BackKernel.τ).loc Cert.BackKernel.main_arg0) = m ((c.tc : Thread Cert.BackKernel.nD Cert.BackKernel.τ).loc Cert.BackKernel.main_arg0)
      ∧ r.2.mem ((c.tc : Thread Cert.BackKernel.nD Cert.BackKernel.τ).loc Cert.BackKernel.main_arg1) = m ((c.tc : Thread Cert.BackKernel.nD Cert.BackKernel.τ).loc Cert.BackKernel.main_arg1)
      ∧ r.2.mem ((c.tc : Thread Cert.BackKernel.nD Cert.BackKernel.τ).loc Cert.BackKernel.main_arg2) = m ((c.tc : Thread Cert.BackKernel.nD Cert.BackKernel.τ).loc Cert.BackKernel.main_arg2)
      ∧ r.2.mem ((c.tc : Thread Cert.BackKernel.nD Cert.BackKernel.τ).loc Cert.BackKernel.main_arg3) = m ((c.tc : Thread Cert.BackKernel.nD Cert.BackKernel.τ).loc Cert.BackKernel.main_arg3)
      ∧ r.2.mem ((c.tc : Thread Cert.BackKernel.nD Cert.BackKernel.τ).loc Cert.BackKernel.main_arg4) = m ((c.tc : Thread Cert.BackKernel.nD Cert.BackKernel.τ).loc Cert.BackKernel.main_arg4))
      ∧ r.2.sem = fun _ => 0)

def quiescent_BackKernelIdeal [hBackKernelIdeal : Cert.BackKernelIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg), Pre_BackKernelIdeal m →
    θ_run (Cert.BackKernelIdeal.defs (F := Ideal)) (onTc (τ := Cert.BackKernelIdeal.τ) (Cert.BackKernelIdeal.main (F := Ideal))) ⟨m, fun _ => 0, g⟩ (fun r => (∀ c : Dev Cert.BackKernelIdeal.nD,
      r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
      ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
      ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
      ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3)
      ∧ r.2.mem ((c.tc : Thread Cert.BackKernelIdeal.nD Cert.BackKernelIdeal.τ).loc Cert.BackKernelIdeal.main_arg4) = m ((c.tc : Thread Cert.BackKernelIdeal.nD Cert.BackKernelIdeal.τ).loc Cert.BackKernelIdeal.main_arg4))
      ∧ r.2.sem = fun _ => 0)

def quiescent_BackKernelIdeal_pre_finite [hBackKernelIdeal : Cert.BackKernelIdeal.Facts] [hPre_finite : Cert.Pre_finite.Facts] : Prop :=
  ∀ (m : (ℓ : Loc Cert.BackKernelIdeal.nD Cert.BackKernelIdeal.τ Cert.BackKernelIdeal.sig) → Buf (Elt Ideal) ℓ) (g : Dev Cert.BackKernelIdeal.nD → PrngReg), Pre_BackKernelIdeal_finite m →
    θ_run (Cert.BackKernelIdeal.defs (F := Ideal)) (onTc (τ := Cert.BackKernelIdeal.τ) (Cert.BackKernelIdeal.main (F := Ideal))) ⟨m, fun _ => 0, g⟩ (fun r => (∀ c : Dev Cert.BackKernelIdeal.nD,
      r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
      ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
      ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
      ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3)
      ∧ r.2.mem ((c.tc : Thread Cert.BackKernelIdeal.nD Cert.BackKernelIdeal.τ).loc Cert.BackKernelIdeal.main_arg4) = m ((c.tc : Thread Cert.BackKernelIdeal.nD Cert.BackKernelIdeal.τ).loc Cert.BackKernelIdeal.main_arg4))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4))
      ∧ r.2.sem = fun _ => 0)

def quiescent_BackReferenceIdeal_pre_finite [hBackReferenceIdeal : Cert.BackReferenceIdeal.Facts] [hPre_finite : Cert.Pre_finite.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal_finite m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_GradKernel [hGradKernel : Cert.GradKernel.Facts] : Prop :=
  ∀ (m : (ℓ : Loc Cert.GradKernel.nD Cert.GradKernel.τ Cert.GradKernel.sig) → Buf (Elt Bits) ℓ) (g : Dev Cert.GradKernel.nD → PrngReg), Pre_GradKernel m →
    θ_run (Cert.GradKernel.defs (F := Bits)) (onTc (τ := Cert.GradKernel.τ) (Cert.GradKernel.main (F := Bits))) ⟨m, fun _ => 0, g⟩ (fun r => (∀ c : Dev Cert.GradKernel.nD,
      r.2.mem ((c.tc : Thread Cert.GradKernel.nD Cert.GradKernel.τ).loc Cert.GradKernel.main_arg0) = m ((c.tc : Thread Cert.GradKernel.nD Cert.GradKernel.τ).loc Cert.GradKernel.main_arg0)
      ∧ r.2.mem ((c.tc : Thread Cert.GradKernel.nD Cert.GradKernel.τ).loc Cert.GradKernel.main_arg1) = m ((c.tc : Thread Cert.GradKernel.nD Cert.GradKernel.τ).loc Cert.GradKernel.main_arg1)
      ∧ r.2.mem ((c.tc : Thread Cert.GradKernel.nD Cert.GradKernel.τ).loc Cert.GradKernel.main_arg2) = m ((c.tc : Thread Cert.GradKernel.nD Cert.GradKernel.τ).loc Cert.GradKernel.main_arg2)
      ∧ r.2.mem ((c.tc : Thread Cert.GradKernel.nD Cert.GradKernel.τ).loc Cert.GradKernel.main_arg3) = m ((c.tc : Thread Cert.GradKernel.nD Cert.GradKernel.τ).loc Cert.GradKernel.main_arg3)
      ∧ r.2.mem ((c.tc : Thread Cert.GradKernel.nD Cert.GradKernel.τ).loc Cert.GradKernel.main_arg4) = m ((c.tc : Thread Cert.GradKernel.nD Cert.GradKernel.τ).loc Cert.GradKernel.main_arg4)
      ∧ r.2.mem ((c.tc : Thread Cert.GradKernel.nD Cert.GradKernel.τ).loc Cert.GradKernel.main_arg5) = m ((c.tc : Thread Cert.GradKernel.nD Cert.GradKernel.τ).loc Cert.GradKernel.main_arg5)
      ∧ r.2.mem ((c.tc : Thread Cert.GradKernel.nD Cert.GradKernel.τ).loc Cert.GradKernel.main_arg6) = m ((c.tc : Thread Cert.GradKernel.nD Cert.GradKernel.τ).loc Cert.GradKernel.main_arg6)
      ∧ r.2.mem ((c.tc : Thread Cert.GradKernel.nD Cert.GradKernel.τ).loc Cert.GradKernel.main_arg7) = m ((c.tc : Thread Cert.GradKernel.nD Cert.GradKernel.τ).loc Cert.GradKernel.main_arg7)
      ∧ r.2.mem ((c.tc : Thread Cert.GradKernel.nD Cert.GradKernel.τ).loc Cert.GradKernel.main_arg8) = m ((c.tc : Thread Cert.GradKernel.nD Cert.GradKernel.τ).loc Cert.GradKernel.main_arg8))
      ∧ r.2.sem = fun _ => 0)

def quiescent_GradKernelIdeal [hGradKernelIdeal : Cert.GradKernelIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg), Pre_GradKernelIdeal m →
    θ_run (Cert.GradKernelIdeal.defs (F := Ideal)) (onTc (τ := Cert.GradKernelIdeal.τ) (Cert.GradKernelIdeal.main (F := Ideal))) ⟨m, fun _ => 0, g⟩ (fun r => (∀ c : Dev Cert.GradKernelIdeal.nD,
      r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
      ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1)
      ∧ r.2.mem ((c.tc : Thread Cert.GradKernelIdeal.nD Cert.GradKernelIdeal.τ).loc Cert.GradKernelIdeal.main_arg2) = m ((c.tc : Thread Cert.GradKernelIdeal.nD Cert.GradKernelIdeal.τ).loc Cert.GradKernelIdeal.main_arg2)
      ∧ r.2.mem ((c.tc : Thread Cert.GradKernelIdeal.nD Cert.GradKernelIdeal.τ).loc Cert.GradKernelIdeal.main_arg3) = m ((c.tc : Thread Cert.GradKernelIdeal.nD Cert.GradKernelIdeal.τ).loc Cert.GradKernelIdeal.main_arg3)
      ∧ r.2.mem ((c.tc : Thread Cert.GradKernelIdeal.nD Cert.GradKernelIdeal.τ).loc Cert.GradKernelIdeal.main_arg4) = m ((c.tc : Thread Cert.GradKernelIdeal.nD Cert.GradKernelIdeal.τ).loc Cert.GradKernelIdeal.main_arg4)
      ∧ r.2.mem ((c.tc : Thread Cert.GradKernelIdeal.nD Cert.GradKernelIdeal.τ).loc Cert.GradKernelIdeal.main_arg5) = m ((c.tc : Thread Cert.GradKernelIdeal.nD Cert.GradKernelIdeal.τ).loc Cert.GradKernelIdeal.main_arg5)
      ∧ r.2.mem ((c.tc : Thread Cert.GradKernelIdeal.nD Cert.GradKernelIdeal.τ).loc Cert.GradKernelIdeal.main_arg6) = m ((c.tc : Thread Cert.GradKernelIdeal.nD Cert.GradKernelIdeal.τ).loc Cert.GradKernelIdeal.main_arg6)
      ∧ r.2.mem ((c.tc : Thread Cert.GradKernelIdeal.nD Cert.GradKernelIdeal.τ).loc Cert.GradKernelIdeal.main_arg7) = m ((c.tc : Thread Cert.GradKernelIdeal.nD Cert.GradKernelIdeal.τ).loc Cert.GradKernelIdeal.main_arg7)
      ∧ r.2.mem ((c.tc : Thread Cert.GradKernelIdeal.nD Cert.GradKernelIdeal.τ).loc Cert.GradKernelIdeal.main_arg8) = m ((c.tc : Thread Cert.GradKernelIdeal.nD Cert.GradKernelIdeal.τ).loc Cert.GradKernelIdeal.main_arg8))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1)
      ∧ r.2.mem ((c.tc : Thread Cert.GradReferenceIdeal.nD Cert.GradReferenceIdeal.τ).loc Cert.GradReferenceIdeal.main_arg2) = m ((c.tc : Thread Cert.GradReferenceIdeal.nD Cert.GradReferenceIdeal.τ).loc Cert.GradReferenceIdeal.main_arg2)
      ∧ r.2.mem ((c.tc : Thread Cert.GradReferenceIdeal.nD Cert.GradReferenceIdeal.τ).loc Cert.GradReferenceIdeal.main_arg3) = m ((c.tc : Thread Cert.GradReferenceIdeal.nD Cert.GradReferenceIdeal.τ).loc Cert.GradReferenceIdeal.main_arg3)
      ∧ r.2.mem ((c.tc : Thread Cert.GradReferenceIdeal.nD Cert.GradReferenceIdeal.τ).loc Cert.GradReferenceIdeal.main_arg4) = m ((c.tc : Thread Cert.GradReferenceIdeal.nD Cert.GradReferenceIdeal.τ).loc Cert.GradReferenceIdeal.main_arg4)
      ∧ r.2.mem ((c.tc : Thread Cert.GradReferenceIdeal.nD Cert.GradReferenceIdeal.τ).loc Cert.GradReferenceIdeal.main_arg5) = m ((c.tc : Thread Cert.GradReferenceIdeal.nD Cert.GradReferenceIdeal.τ).loc Cert.GradReferenceIdeal.main_arg5)
      ∧ r.2.mem ((c.tc : Thread Cert.GradReferenceIdeal.nD Cert.GradReferenceIdeal.τ).loc Cert.GradReferenceIdeal.main_arg6) = m ((c.tc : Thread Cert.GradReferenceIdeal.nD Cert.GradReferenceIdeal.τ).loc Cert.GradReferenceIdeal.main_arg6)
      ∧ r.2.mem ((c.tc : Thread Cert.GradReferenceIdeal.nD Cert.GradReferenceIdeal.τ).loc Cert.GradReferenceIdeal.main_arg7) = m ((c.tc : Thread Cert.GradReferenceIdeal.nD Cert.GradReferenceIdeal.τ).loc Cert.GradReferenceIdeal.main_arg7)
      ∧ r.2.mem ((c.tc : Thread Cert.GradReferenceIdeal.nD Cert.GradReferenceIdeal.τ).loc Cert.GradReferenceIdeal.main_arg8) = m ((c.tc : Thread Cert.GradReferenceIdeal.nD Cert.GradReferenceIdeal.τ).loc Cert.GradReferenceIdeal.main_arg8))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_UpdateKernel [hUpdateKernel : Cert.UpdateKernel.Facts] : Prop :=
  ∀ (m : (ℓ : Loc Cert.UpdateKernel.nD Cert.UpdateKernel.τ Cert.UpdateKernel.sig) → Buf (Elt Bits) ℓ) (g : Dev Cert.UpdateKernel.nD → PrngReg), Pre_UpdateKernel m →
    θ_run (Cert.UpdateKernel.defs (F := Bits)) (onTc (τ := Cert.UpdateKernel.τ) (Cert.UpdateKernel.main (F := Bits))) ⟨m, fun _ => 0, g⟩ (fun r => (∀ c : Dev Cert.UpdateKernel.nD,
      r.2.mem ((c.tc : Thread Cert.UpdateKernel.nD Cert.UpdateKernel.τ).loc Cert.UpdateKernel.main_arg0) = m ((c.tc : Thread Cert.UpdateKernel.nD Cert.UpdateKernel.τ).loc Cert.UpdateKernel.main_arg0)
      ∧ r.2.mem ((c.tc : Thread Cert.UpdateKernel.nD Cert.UpdateKernel.τ).loc Cert.UpdateKernel.main_arg1) = m ((c.tc : Thread Cert.UpdateKernel.nD Cert.UpdateKernel.τ).loc Cert.UpdateKernel.main_arg1)
      ∧ r.2.mem ((c.tc : Thread Cert.UpdateKernel.nD Cert.UpdateKernel.τ).loc Cert.UpdateKernel.main_arg2) = m ((c.tc : Thread Cert.UpdateKernel.nD Cert.UpdateKernel.τ).loc Cert.UpdateKernel.main_arg2)
      ∧ r.2.mem ((c.tc : Thread Cert.UpdateKernel.nD Cert.UpdateKernel.τ).loc Cert.UpdateKernel.main_arg3) = m ((c.tc : Thread Cert.UpdateKernel.nD Cert.UpdateKernel.τ).loc Cert.UpdateKernel.main_arg3))
      ∧ r.2.sem = fun _ => 0)

def quiescent_UpdateKernelIdeal [hUpdateKernelIdeal : Cert.UpdateKernelIdeal.Facts] : Prop :=
  ∀ (m : (ℓ : Loc Cert.UpdateKernelIdeal.nD Cert.UpdateKernelIdeal.τ Cert.UpdateKernelIdeal.sig) → Buf (Elt Ideal) ℓ) (g : Dev Cert.UpdateKernelIdeal.nD → PrngReg), Pre_UpdateKernelIdeal m →
    θ_run (Cert.UpdateKernelIdeal.defs (F := Ideal)) (onTc (τ := Cert.UpdateKernelIdeal.τ) (Cert.UpdateKernelIdeal.main (F := Ideal))) ⟨m, fun _ => 0, g⟩ (fun r => (∀ c : Dev Cert.UpdateKernelIdeal.nD,
      r.2.mem ((c.tc : Thread Cert.UpdateKernelIdeal.nD Cert.UpdateKernelIdeal.τ).loc Cert.UpdateKernelIdeal.main_arg0) = m ((c.tc : Thread Cert.UpdateKernelIdeal.nD Cert.UpdateKernelIdeal.τ).loc Cert.UpdateKernelIdeal.main_arg0)
      ∧ r.2.mem ((c.tc : Thread Cert.UpdateKernelIdeal.nD Cert.UpdateKernelIdeal.τ).loc Cert.UpdateKernelIdeal.main_arg1) = m ((c.tc : Thread Cert.UpdateKernelIdeal.nD Cert.UpdateKernelIdeal.τ).loc Cert.UpdateKernelIdeal.main_arg1)
      ∧ r.2.mem ((c.tc : Thread Cert.UpdateKernelIdeal.nD Cert.UpdateKernelIdeal.τ).loc Cert.UpdateKernelIdeal.main_arg2) = m ((c.tc : Thread Cert.UpdateKernelIdeal.nD Cert.UpdateKernelIdeal.τ).loc Cert.UpdateKernelIdeal.main_arg2)
      ∧ r.2.mem ((c.tc : Thread Cert.UpdateKernelIdeal.nD Cert.UpdateKernelIdeal.τ).loc Cert.UpdateKernelIdeal.main_arg3) = m ((c.tc : Thread Cert.UpdateKernelIdeal.nD Cert.UpdateKernelIdeal.τ).loc Cert.UpdateKernelIdeal.main_arg3))
      ∧ r.2.sem = fun _ => 0)

def quiescent_UpdateReferenceIdeal [hUpdateReferenceIdeal : Cert.UpdateReferenceIdeal.Facts] : Prop :=
  ∀ (m : (ℓ : Loc Cert.UpdateReferenceIdeal.nD Cert.UpdateReferenceIdeal.τ Cert.UpdateReferenceIdeal.sig) → Buf (Elt Ideal) ℓ) (g : Dev Cert.UpdateReferenceIdeal.nD → PrngReg), Pre_UpdateReferenceIdeal m →
    θ_run (Cert.UpdateReferenceIdeal.defs (F := Ideal)) (onTc (τ := Cert.UpdateReferenceIdeal.τ) (Cert.UpdateReferenceIdeal.main (F := Ideal))) ⟨m, fun _ => 0, g⟩ (fun r => (∀ c : Dev Cert.UpdateReferenceIdeal.nD,
      r.2.mem ((c.tc : Thread Cert.UpdateReferenceIdeal.nD Cert.UpdateReferenceIdeal.τ).loc Cert.UpdateReferenceIdeal.main_arg0) = m ((c.tc : Thread Cert.UpdateReferenceIdeal.nD Cert.UpdateReferenceIdeal.τ).loc Cert.UpdateReferenceIdeal.main_arg0)
      ∧ r.2.mem ((c.tc : Thread Cert.UpdateReferenceIdeal.nD Cert.UpdateReferenceIdeal.τ).loc Cert.UpdateReferenceIdeal.main_arg1) = m ((c.tc : Thread Cert.UpdateReferenceIdeal.nD Cert.UpdateReferenceIdeal.τ).loc Cert.UpdateReferenceIdeal.main_arg1)
      ∧ r.2.mem ((c.tc : Thread Cert.UpdateReferenceIdeal.nD Cert.UpdateReferenceIdeal.τ).loc Cert.UpdateReferenceIdeal.main_arg2) = m ((c.tc : Thread Cert.UpdateReferenceIdeal.nD Cert.UpdateReferenceIdeal.τ).loc Cert.UpdateReferenceIdeal.main_arg2)
      ∧ r.2.mem ((c.tc : Thread Cert.UpdateReferenceIdeal.nD Cert.UpdateReferenceIdeal.τ).loc Cert.UpdateReferenceIdeal.main_arg3) = m ((c.tc : Thread Cert.UpdateReferenceIdeal.nD Cert.UpdateReferenceIdeal.τ).loc Cert.UpdateReferenceIdeal.main_arg3))
      ∧ r.2.sem = fun _ => 0)

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)
      ∧ m' ((c.tc : Thread Cert.GateReferenceIdeal.nD Cert.GateReferenceIdeal.τ).loc Cert.GateReferenceIdeal.main_arg5) = m ((c.tc : Thread Cert.GateKernelIdeal.nD Cert.GateKernelIdeal.τ).loc Cert.GateKernelIdeal.main_arg5)
      ∧ m' ((c.tc : Thread Cert.GateReferenceIdeal.nD Cert.GateReferenceIdeal.τ).loc Cert.GateReferenceIdeal.main_arg6) = m ((c.tc : Thread Cert.GateKernelIdeal.nD Cert.GateKernelIdeal.τ).loc Cert.GateKernelIdeal.main_arg6)) →
    ∃ (v0 : (c : Dev Cert.GateKernelIdeal.nD) → Buf (Elt Ideal) ((c.tc : Thread Cert.GateKernelIdeal.nD Cert.GateKernelIdeal.τ).loc Cert.GateKernelIdeal.main_v8_0)) (v1 : (c : Dev Cert.GateKernelIdeal.nD) → Buf (Elt Ideal) ((c.tc : Thread Cert.GateKernelIdeal.nD Cert.GateKernelIdeal.τ).loc Cert.GateKernelIdeal.main_v8_1)) (v2 : (c : Dev Cert.GateKernelIdeal.nD) → Buf (Elt Ideal) ((c.tc : Thread Cert.GateKernelIdeal.nD Cert.GateKernelIdeal.τ).loc Cert.GateKernelIdeal.main_v8_2)) (v3 : (c : Dev Cert.GateKernelIdeal.nD) → Buf (Elt Ideal) ((c.tc : Thread Cert.GateKernelIdeal.nD Cert.GateKernelIdeal.τ).loc Cert.GateKernelIdeal.main_v8_3)) (v4 : (c : Dev Cert.GateKernelIdeal.nD) → Buf (Elt Ideal) ((c.tc : Thread Cert.GateKernelIdeal.nD Cert.GateKernelIdeal.τ).loc Cert.GateKernelIdeal.main_v8_4)) (v5 : (c : Dev Cert.GateKernelIdeal.nD) → Buf (Elt Ideal) ((c.tc : Thread Cert.GateKernelIdeal.nD Cert.GateKernelIdeal.τ).loc Cert.GateKernelIdeal.main_v8_5)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v8_0) = v0 c
          ∧ r.2.mem ((c.tc : Thread Cert.GateKernelIdeal.nD Cert.GateKernelIdeal.τ).loc Cert.GateKernelIdeal.main_v8_1) = v1 c
          ∧ r.2.mem ((c.tc : Thread Cert.GateKernelIdeal.nD Cert.GateKernelIdeal.τ).loc Cert.GateKernelIdeal.main_v8_2) = v2 c
          ∧ r.2.mem ((c.tc : Thread Cert.GateKernelIdeal.nD Cert.GateKernelIdeal.τ).loc Cert.GateKernelIdeal.main_v8_3) = v3 c
          ∧ r.2.mem ((c.tc : Thread Cert.GateKernelIdeal.nD Cert.GateKernelIdeal.τ).loc Cert.GateKernelIdeal.main_v8_4) = v4 c
          ∧ r.2.mem ((c.tc : Thread Cert.GateKernelIdeal.nD Cert.GateKernelIdeal.τ).loc Cert.GateKernelIdeal.main_v8_5) = v5 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
          ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
          ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v35) = v0 c
          ∧ r.2.mem ((c.tc : Thread Cert.GateReferenceIdeal.nD Cert.GateReferenceIdeal.τ).loc Cert.GateReferenceIdeal.main_v37) = v1 c
          ∧ r.2.mem ((c.tc : Thread Cert.GateReferenceIdeal.nD Cert.GateReferenceIdeal.τ).loc Cert.GateReferenceIdeal.main_v38) = v2 c
          ∧ r.2.mem ((c.tc : Thread Cert.GateReferenceIdeal.nD Cert.GateReferenceIdeal.τ).loc Cert.GateReferenceIdeal.main_v39) = v3 c
          ∧ r.2.mem ((c.tc : Thread Cert.GateReferenceIdeal.nD Cert.GateReferenceIdeal.τ).loc Cert.GateReferenceIdeal.main_v40) = v4 c
          ∧ r.2.mem ((c.tc : Thread Cert.GateReferenceIdeal.nD Cert.GateReferenceIdeal.τ).loc Cert.GateReferenceIdeal.main_v41) = v5 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5)
          ∧ r.2.mem ((c.tc : Thread Cert.GateReferenceIdeal.nD Cert.GateReferenceIdeal.τ).loc Cert.GateReferenceIdeal.main_arg6) = m' ((c.tc : Thread Cert.GateReferenceIdeal.nD Cert.GateReferenceIdeal.τ).loc Cert.GateReferenceIdeal.main_arg6))

def preserves_LastKernel_LastKernelIdeal : Prop :=
  True

def algebraic_LastKernelIdeal_LastReferenceIdeal_pre_finite [hLastKernelIdeal : Cert.LastKernelIdeal.Facts] [hLastReferenceIdeal : Cert.LastReferenceIdeal.Facts] [hPre_finite : Cert.Pre_finite.Facts] : Prop :=
  ∀ (m : (ℓ : Loc Cert.LastKernelIdeal.nD Cert.LastKernelIdeal.τ Cert.LastKernelIdeal.sig) → Buf (Elt Ideal) ℓ) (g : Dev Cert.LastKernelIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastKernelIdeal_finite m →
    (∀ c : Dev Cert.LastKernelIdeal.nD,
      m' ((c.tc : Thread Cert.LastReferenceIdeal.nD Cert.LastReferenceIdeal.τ).loc Cert.LastReferenceIdeal.main_arg0) = m ((c.tc : Thread Cert.LastKernelIdeal.nD Cert.LastKernelIdeal.τ).loc Cert.LastKernelIdeal.main_arg0)
      ∧ m' ((c.tc : Thread Cert.LastReferenceIdeal.nD Cert.LastReferenceIdeal.τ).loc Cert.LastReferenceIdeal.main_arg1) = m ((c.tc : Thread Cert.LastKernelIdeal.nD Cert.LastKernelIdeal.τ).loc Cert.LastKernelIdeal.main_arg1)
      ∧ m' ((c.tc : Thread Cert.LastReferenceIdeal.nD Cert.LastReferenceIdeal.τ).loc Cert.LastReferenceIdeal.main_arg2) = m ((c.tc : Thread Cert.LastKernelIdeal.nD Cert.LastKernelIdeal.τ).loc Cert.LastKernelIdeal.main_arg2)
      ∧ m' ((c.tc : Thread Cert.LastReferenceIdeal.nD Cert.LastReferenceIdeal.τ).loc Cert.LastReferenceIdeal.main_arg3) = m ((c.tc : Thread Cert.LastKernelIdeal.nD Cert.LastKernelIdeal.τ).loc Cert.LastKernelIdeal.main_arg3)
      ∧ m' ((c.tc : Thread Cert.LastReferenceIdeal.nD Cert.LastReferenceIdeal.τ).loc Cert.LastReferenceIdeal.main_arg4) = m ((c.tc : Thread Cert.LastKernelIdeal.nD Cert.LastKernelIdeal.τ).loc Cert.LastKernelIdeal.main_arg4)) →
    ∃ (v0 : (c : Dev Cert.LastKernelIdeal.nD) → Buf (Elt Ideal) ((c.tc : Thread Cert.LastKernelIdeal.nD Cert.LastKernelIdeal.τ).loc Cert.LastKernelIdeal.main_v4_0)) (v1 : (c : Dev Cert.LastKernelIdeal.nD) → Buf (Elt Ideal) ((c.tc : Thread Cert.LastKernelIdeal.nD Cert.LastKernelIdeal.τ).loc Cert.LastKernelIdeal.main_v4_1)) (v2 : (c : Dev Cert.LastKernelIdeal.nD) → Buf (Elt Ideal) ((c.tc : Thread Cert.LastKernelIdeal.nD Cert.LastKernelIdeal.τ).loc Cert.LastKernelIdeal.main_v4_2)) (v3 : (c : Dev Cert.LastKernelIdeal.nD) → Buf (Elt Ideal) ((c.tc : Thread Cert.LastKernelIdeal.nD Cert.LastKernelIdeal.τ).loc Cert.LastKernelIdeal.main_v4_3)) (v4 : (c : Dev Cert.LastKernelIdeal.nD) → Buf (Elt Ideal) ((c.tc : Thread Cert.LastKernelIdeal.nD Cert.LastKernelIdeal.τ).loc Cert.LastKernelIdeal.main_v4_4)) (v5 : (c : Dev Cert.LastKernelIdeal.nD) → Buf (Elt Ideal) ((c.tc : Thread Cert.LastKernelIdeal.nD Cert.LastKernelIdeal.τ).loc Cert.LastKernelIdeal.main_v4_5)) (v6 : (c : Dev Cert.LastKernelIdeal.nD) → Buf (Elt Ideal) ((c.tc : Thread Cert.LastKernelIdeal.nD Cert.LastKernelIdeal.τ).loc Cert.LastKernelIdeal.main_v4_6)),
      θ_run (Cert.LastKernelIdeal.defs (F := Ideal)) (onTc (τ := Cert.LastKernelIdeal.τ) (Cert.LastKernelIdeal.main (F := Ideal))) ⟨m, fun _ => 0, g⟩ (fun r => ∀ c : Dev Cert.LastKernelIdeal.nD,
          r.2.mem ((c.tc : Thread Cert.LastKernelIdeal.nD Cert.LastKernelIdeal.τ).loc Cert.LastKernelIdeal.main_v4_0) = v0 c
          ∧ r.2.mem ((c.tc : Thread Cert.LastKernelIdeal.nD Cert.LastKernelIdeal.τ).loc Cert.LastKernelIdeal.main_v4_1) = v1 c
          ∧ r.2.mem ((c.tc : Thread Cert.LastKernelIdeal.nD Cert.LastKernelIdeal.τ).loc Cert.LastKernelIdeal.main_v4_2) = v2 c
          ∧ r.2.mem ((c.tc : Thread Cert.LastKernelIdeal.nD Cert.LastKernelIdeal.τ).loc Cert.LastKernelIdeal.main_v4_3) = v3 c
          ∧ r.2.mem ((c.tc : Thread Cert.LastKernelIdeal.nD Cert.LastKernelIdeal.τ).loc Cert.LastKernelIdeal.main_v4_4) = v4 c
          ∧ r.2.mem ((c.tc : Thread Cert.LastKernelIdeal.nD Cert.LastKernelIdeal.τ).loc Cert.LastKernelIdeal.main_v4_5) = v5 c
          ∧ r.2.mem ((c.tc : Thread Cert.LastKernelIdeal.nD Cert.LastKernelIdeal.τ).loc Cert.LastKernelIdeal.main_v4_6) = v6 c
          ∧ r.2.mem ((c.tc : Thread Cert.LastKernelIdeal.nD Cert.LastKernelIdeal.τ).loc Cert.LastKernelIdeal.main_arg0) = m ((c.tc : Thread Cert.LastKernelIdeal.nD Cert.LastKernelIdeal.τ).loc Cert.LastKernelIdeal.main_arg0)
          ∧ r.2.mem ((c.tc : Thread Cert.LastKernelIdeal.nD Cert.LastKernelIdeal.τ).loc Cert.LastKernelIdeal.main_arg1) = m ((c.tc : Thread Cert.LastKernelIdeal.nD Cert.LastKernelIdeal.τ).loc Cert.LastKernelIdeal.main_arg1)
          ∧ r.2.mem ((c.tc : Thread Cert.LastKernelIdeal.nD Cert.LastKernelIdeal.τ).loc Cert.LastKernelIdeal.main_arg2) = m ((c.tc : Thread Cert.LastKernelIdeal.nD Cert.LastKernelIdeal.τ).loc Cert.LastKernelIdeal.main_arg2)
          ∧ r.2.mem ((c.tc : Thread Cert.LastKernelIdeal.nD Cert.LastKernelIdeal.τ).loc Cert.LastKernelIdeal.main_arg3) = m ((c.tc : Thread Cert.LastKernelIdeal.nD Cert.LastKernelIdeal.τ).loc Cert.LastKernelIdeal.main_arg3)
          ∧ r.2.mem ((c.tc : Thread Cert.LastKernelIdeal.nD Cert.LastKernelIdeal.τ).loc Cert.LastKernelIdeal.main_arg4) = m ((c.tc : Thread Cert.LastKernelIdeal.nD Cert.LastKernelIdeal.τ).loc Cert.LastKernelIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v75) = v0 c
          ∧ r.2.mem ((c.tc : Thread Cert.LastReferenceIdeal.nD Cert.LastReferenceIdeal.τ).loc Cert.LastReferenceIdeal.main_v76) = v1 c
          ∧ r.2.mem ((c.tc : Thread Cert.LastReferenceIdeal.nD Cert.LastReferenceIdeal.τ).loc Cert.LastReferenceIdeal.main_v77) = v2 c
          ∧ r.2.mem ((c.tc : Thread Cert.LastReferenceIdeal.nD Cert.LastReferenceIdeal.τ).loc Cert.LastReferenceIdeal.main_v78) = v3 c
          ∧ r.2.mem ((c.tc : Thread Cert.LastReferenceIdeal.nD Cert.LastReferenceIdeal.τ).loc Cert.LastReferenceIdeal.main_v79) = v4 c
          ∧ r.2.mem ((c.tc : Thread Cert.LastReferenceIdeal.nD Cert.LastReferenceIdeal.τ).loc Cert.LastReferenceIdeal.main_v74) = v5 c
          ∧ r.2.mem ((c.tc : Thread Cert.LastReferenceIdeal.nD Cert.LastReferenceIdeal.τ).loc Cert.LastReferenceIdeal.main_v80) = v6 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def preserves_BackKernel_BackKernelIdeal : Prop :=
  True

def algebraic_BackKernelIdeal_BackReferenceIdeal_pre_finite [hBackKernelIdeal : Cert.BackKernelIdeal.Facts] [hBackReferenceIdeal : Cert.BackReferenceIdeal.Facts] [hPre_finite : Cert.Pre_finite.Facts] : Prop :=
  ∀ (m : (ℓ : Loc Cert.BackKernelIdeal.nD Cert.BackKernelIdeal.τ Cert.BackKernelIdeal.sig) → Buf (Elt Ideal) ℓ) (g : Dev Cert.BackKernelIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackKernelIdeal_finite m →
    (∀ c : Dev Cert.BackKernelIdeal.nD,
      m' ((c.tc : Thread Cert.BackReferenceIdeal.nD Cert.BackReferenceIdeal.τ).loc Cert.BackReferenceIdeal.main_arg0) = m ((c.tc : Thread Cert.BackKernelIdeal.nD Cert.BackKernelIdeal.τ).loc Cert.BackKernelIdeal.main_arg0)
      ∧ m' ((c.tc : Thread Cert.BackReferenceIdeal.nD Cert.BackReferenceIdeal.τ).loc Cert.BackReferenceIdeal.main_arg1) = m ((c.tc : Thread Cert.BackKernelIdeal.nD Cert.BackKernelIdeal.τ).loc Cert.BackKernelIdeal.main_arg1)
      ∧ m' ((c.tc : Thread Cert.BackReferenceIdeal.nD Cert.BackReferenceIdeal.τ).loc Cert.BackReferenceIdeal.main_arg2) = m ((c.tc : Thread Cert.BackKernelIdeal.nD Cert.BackKernelIdeal.τ).loc Cert.BackKernelIdeal.main_arg2)
      ∧ m' ((c.tc : Thread Cert.BackReferenceIdeal.nD Cert.BackReferenceIdeal.τ).loc Cert.BackReferenceIdeal.main_arg3) = m ((c.tc : Thread Cert.BackKernelIdeal.nD Cert.BackKernelIdeal.τ).loc Cert.BackKernelIdeal.main_arg3)
      ∧ m' ((c.tc : Thread Cert.BackReferenceIdeal.nD Cert.BackReferenceIdeal.τ).loc Cert.BackReferenceIdeal.main_arg4) = m ((c.tc : Thread Cert.BackKernelIdeal.nD Cert.BackKernelIdeal.τ).loc Cert.BackKernelIdeal.main_arg4)) →
    ∃ (v0 : (c : Dev Cert.BackKernelIdeal.nD) → Buf (Elt Ideal) ((c.tc : Thread Cert.BackKernelIdeal.nD Cert.BackKernelIdeal.τ).loc Cert.BackKernelIdeal.main_v19_0)) (v1 : (c : Dev Cert.BackKernelIdeal.nD) → Buf (Elt Ideal) ((c.tc : Thread Cert.BackKernelIdeal.nD Cert.BackKernelIdeal.τ).loc Cert.BackKernelIdeal.main_v19_1)) (v2 : (c : Dev Cert.BackKernelIdeal.nD) → Buf (Elt Ideal) ((c.tc : Thread Cert.BackKernelIdeal.nD Cert.BackKernelIdeal.τ).loc Cert.BackKernelIdeal.main_v19_2)) (v3 : (c : Dev Cert.BackKernelIdeal.nD) → Buf (Elt Ideal) ((c.tc : Thread Cert.BackKernelIdeal.nD Cert.BackKernelIdeal.τ).loc Cert.BackKernelIdeal.main_v19_3)) (v4 : (c : Dev Cert.BackKernelIdeal.nD) → Buf (Elt Ideal) ((c.tc : Thread Cert.BackKernelIdeal.nD Cert.BackKernelIdeal.τ).loc Cert.BackKernelIdeal.main_v19_4)),
      θ_run (Cert.BackKernelIdeal.defs (F := Ideal)) (onTc (τ := Cert.BackKernelIdeal.τ) (Cert.BackKernelIdeal.main (F := Ideal))) ⟨m, fun _ => 0, g⟩ (fun r => ∀ c : Dev Cert.BackKernelIdeal.nD,
          r.2.mem ((c.tc : Thread Cert.BackKernelIdeal.nD Cert.BackKernelIdeal.τ).loc Cert.BackKernelIdeal.main_v19_0) = v0 c
          ∧ r.2.mem ((c.tc : Thread Cert.BackKernelIdeal.nD Cert.BackKernelIdeal.τ).loc Cert.BackKernelIdeal.main_v19_1) = v1 c
          ∧ r.2.mem ((c.tc : Thread Cert.BackKernelIdeal.nD Cert.BackKernelIdeal.τ).loc Cert.BackKernelIdeal.main_v19_2) = v2 c
          ∧ r.2.mem ((c.tc : Thread Cert.BackKernelIdeal.nD Cert.BackKernelIdeal.τ).loc Cert.BackKernelIdeal.main_v19_3) = v3 c
          ∧ r.2.mem ((c.tc : Thread Cert.BackKernelIdeal.nD Cert.BackKernelIdeal.τ).loc Cert.BackKernelIdeal.main_v19_4) = v4 c
          ∧ r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
          ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
          ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
          ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3)
          ∧ r.2.mem ((c.tc : Thread Cert.BackKernelIdeal.nD Cert.BackKernelIdeal.τ).loc Cert.BackKernelIdeal.main_arg4) = m ((c.tc : Thread Cert.BackKernelIdeal.nD Cert.BackKernelIdeal.τ).loc Cert.BackKernelIdeal.main_arg4))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v54) = v0 c
          ∧ r.2.mem ((c.tc : Thread Cert.BackReferenceIdeal.nD Cert.BackReferenceIdeal.τ).loc Cert.BackReferenceIdeal.main_v55) = v1 c
          ∧ r.2.mem ((c.tc : Thread Cert.BackReferenceIdeal.nD Cert.BackReferenceIdeal.τ).loc Cert.BackReferenceIdeal.main_v56) = v2 c
          ∧ r.2.mem ((c.tc : Thread Cert.BackReferenceIdeal.nD Cert.BackReferenceIdeal.τ).loc Cert.BackReferenceIdeal.main_v57) = v3 c
          ∧ r.2.mem ((c.tc : Thread Cert.BackReferenceIdeal.nD Cert.BackReferenceIdeal.τ).loc Cert.BackReferenceIdeal.main_v58) = v4 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v3_0)) (v1 : (c : Dev Cert.ProjKernelIdeal.nD) → Buf (Elt Ideal) ((c.tc : Thread Cert.ProjKernelIdeal.nD Cert.ProjKernelIdeal.τ).loc Cert.ProjKernelIdeal.main_v3_1)) (v2 : (c : Dev Cert.ProjKernelIdeal.nD) → Buf (Elt Ideal) ((c.tc : Thread Cert.ProjKernelIdeal.nD Cert.ProjKernelIdeal.τ).loc Cert.ProjKernelIdeal.main_v3_2)) (v3 : (c : Dev Cert.ProjKernelIdeal.nD) → Buf (Elt Ideal) ((c.tc : Thread Cert.ProjKernelIdeal.nD Cert.ProjKernelIdeal.τ).loc Cert.ProjKernelIdeal.main_v3_3)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v3_0) = v0 c
          ∧ r.2.mem ((c.tc : Thread Cert.ProjKernelIdeal.nD Cert.ProjKernelIdeal.τ).loc Cert.ProjKernelIdeal.main_v3_1) = v1 c
          ∧ r.2.mem ((c.tc : Thread Cert.ProjKernelIdeal.nD Cert.ProjKernelIdeal.τ).loc Cert.ProjKernelIdeal.main_v3_2) = v2 c
          ∧ r.2.mem ((c.tc : Thread Cert.ProjKernelIdeal.nD Cert.ProjKernelIdeal.τ).loc Cert.ProjKernelIdeal.main_v3_3) = v3 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v22) = v0 c
          ∧ r.2.mem ((c.tc : Thread Cert.ProjReferenceIdeal.nD Cert.ProjReferenceIdeal.τ).loc Cert.ProjReferenceIdeal.main_v23) = v1 c
          ∧ r.2.mem ((c.tc : Thread Cert.ProjReferenceIdeal.nD Cert.ProjReferenceIdeal.τ).loc Cert.ProjReferenceIdeal.main_v24) = v2 c
          ∧ r.2.mem ((c.tc : Thread Cert.ProjReferenceIdeal.nD Cert.ProjReferenceIdeal.τ).loc Cert.ProjReferenceIdeal.main_v26) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_GradKernel_GradKernelIdeal : Prop :=
  True

def algebraic_GradKernelIdeal_GradReferenceIdeal [hGradKernelIdeal : Cert.GradKernelIdeal.Facts] [hGradReferenceIdeal : Cert.GradReferenceIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradKernelIdeal m →
    (∀ c : Dev Cert.GradKernelIdeal.nD,
      m' ((c.tc : Thread Cert.GradReferenceIdeal.nD Cert.GradReferenceIdeal.τ).loc Cert.GradReferenceIdeal.main_arg0) = m ((c.tc : Thread Cert.GradKernelIdeal.nD Cert.GradKernelIdeal.τ).loc Cert.GradKernelIdeal.main_arg0)
      ∧ m' ((c.tc : Thread Cert.GradReferenceIdeal.nD Cert.GradReferenceIdeal.τ).loc Cert.GradReferenceIdeal.main_arg1) = m ((c.tc : Thread Cert.GradKernelIdeal.nD Cert.GradKernelIdeal.τ).loc Cert.GradKernelIdeal.main_arg1)
      ∧ m' ((c.tc : Thread Cert.GradReferenceIdeal.nD Cert.GradReferenceIdeal.τ).loc Cert.GradReferenceIdeal.main_arg2) = m ((c.tc : Thread Cert.GradKernelIdeal.nD Cert.GradKernelIdeal.τ).loc Cert.GradKernelIdeal.main_arg2)
      ∧ m' ((c.tc : Thread Cert.GradReferenceIdeal.nD Cert.GradReferenceIdeal.τ).loc Cert.GradReferenceIdeal.main_arg3) = m ((c.tc : Thread Cert.GradKernelIdeal.nD Cert.GradKernelIdeal.τ).loc Cert.GradKernelIdeal.main_arg3)
      ∧ m' ((c.tc : Thread Cert.GradReferenceIdeal.nD Cert.GradReferenceIdeal.τ).loc Cert.GradReferenceIdeal.main_arg4) = m ((c.tc : Thread Cert.GradKernelIdeal.nD Cert.GradKernelIdeal.τ).loc Cert.GradKernelIdeal.main_arg4)
      ∧ m' ((c.tc : Thread Cert.GradReferenceIdeal.nD Cert.GradReferenceIdeal.τ).loc Cert.GradReferenceIdeal.main_arg5) = m ((c.tc : Thread Cert.GradKernelIdeal.nD Cert.GradKernelIdeal.τ).loc Cert.GradKernelIdeal.main_arg5)
      ∧ m' ((c.tc : Thread Cert.GradReferenceIdeal.nD Cert.GradReferenceIdeal.τ).loc Cert.GradReferenceIdeal.main_arg6) = m ((c.tc : Thread Cert.GradKernelIdeal.nD Cert.GradKernelIdeal.τ).loc Cert.GradKernelIdeal.main_arg6)
      ∧ m' ((c.tc : Thread Cert.GradReferenceIdeal.nD Cert.GradReferenceIdeal.τ).loc Cert.GradReferenceIdeal.main_arg7) = m ((c.tc : Thread Cert.GradKernelIdeal.nD Cert.GradKernelIdeal.τ).loc Cert.GradKernelIdeal.main_arg7)
      ∧ m' ((c.tc : Thread Cert.GradReferenceIdeal.nD Cert.GradReferenceIdeal.τ).loc Cert.GradReferenceIdeal.main_arg8) = m ((c.tc : Thread Cert.GradKernelIdeal.nD Cert.GradKernelIdeal.τ).loc Cert.GradKernelIdeal.main_arg8)) →
    ∃ (v0 : (c : Dev Cert.GradKernelIdeal.nD) → Buf (Elt Ideal) ((c.tc : Thread Cert.GradKernelIdeal.nD Cert.GradKernelIdeal.τ).loc Cert.GradKernelIdeal.main_v22)),
      θ_run (Cert.GradKernelIdeal.defs (F := Ideal)) (onTc (τ := Cert.GradKernelIdeal.τ) (Cert.GradKernelIdeal.main (F := Ideal))) ⟨m, fun _ => 0, g⟩ (fun r => ∀ c : Dev Cert.GradKernelIdeal.nD,
          r.2.mem ((c.tc : Thread Cert.GradKernelIdeal.nD Cert.GradKernelIdeal.τ).loc Cert.GradKernelIdeal.main_v22) = v0 c
          ∧ r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
          ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1)
          ∧ r.2.mem ((c.tc : Thread Cert.GradKernelIdeal.nD Cert.GradKernelIdeal.τ).loc Cert.GradKernelIdeal.main_arg2) = m ((c.tc : Thread Cert.GradKernelIdeal.nD Cert.GradKernelIdeal.τ).loc Cert.GradKernelIdeal.main_arg2)
          ∧ r.2.mem ((c.tc : Thread Cert.GradKernelIdeal.nD Cert.GradKernelIdeal.τ).loc Cert.GradKernelIdeal.main_arg3) = m ((c.tc : Thread Cert.GradKernelIdeal.nD Cert.GradKernelIdeal.τ).loc Cert.GradKernelIdeal.main_arg3)
          ∧ r.2.mem ((c.tc : Thread Cert.GradKernelIdeal.nD Cert.GradKernelIdeal.τ).loc Cert.GradKernelIdeal.main_arg4) = m ((c.tc : Thread Cert.GradKernelIdeal.nD Cert.GradKernelIdeal.τ).loc Cert.GradKernelIdeal.main_arg4)
          ∧ r.2.mem ((c.tc : Thread Cert.GradKernelIdeal.nD Cert.GradKernelIdeal.τ).loc Cert.GradKernelIdeal.main_arg5) = m ((c.tc : Thread Cert.GradKernelIdeal.nD Cert.GradKernelIdeal.τ).loc Cert.GradKernelIdeal.main_arg5)
          ∧ r.2.mem ((c.tc : Thread Cert.GradKernelIdeal.nD Cert.GradKernelIdeal.τ).loc Cert.GradKernelIdeal.main_arg6) = m ((c.tc : Thread Cert.GradKernelIdeal.nD Cert.GradKernelIdeal.τ).loc Cert.GradKernelIdeal.main_arg6)
          ∧ r.2.mem ((c.tc : Thread Cert.GradKernelIdeal.nD Cert.GradKernelIdeal.τ).loc Cert.GradKernelIdeal.main_arg7) = m ((c.tc : Thread Cert.GradKernelIdeal.nD Cert.GradKernelIdeal.τ).loc Cert.GradKernelIdeal.main_arg7)
          ∧ r.2.mem ((c.tc : Thread Cert.GradKernelIdeal.nD Cert.GradKernelIdeal.τ).loc Cert.GradKernelIdeal.main_arg8) = m ((c.tc : Thread Cert.GradKernelIdeal.nD Cert.GradKernelIdeal.τ).loc Cert.GradKernelIdeal.main_arg8))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v24) = v0 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1)
          ∧ r.2.mem ((c.tc : Thread Cert.GradReferenceIdeal.nD Cert.GradReferenceIdeal.τ).loc Cert.GradReferenceIdeal.main_arg2) = m' ((c.tc : Thread Cert.GradReferenceIdeal.nD Cert.GradReferenceIdeal.τ).loc Cert.GradReferenceIdeal.main_arg2)
          ∧ r.2.mem ((c.tc : Thread Cert.GradReferenceIdeal.nD Cert.GradReferenceIdeal.τ).loc Cert.GradReferenceIdeal.main_arg3) = m' ((c.tc : Thread Cert.GradReferenceIdeal.nD Cert.GradReferenceIdeal.τ).loc Cert.GradReferenceIdeal.main_arg3)
          ∧ r.2.mem ((c.tc : Thread Cert.GradReferenceIdeal.nD Cert.GradReferenceIdeal.τ).loc Cert.GradReferenceIdeal.main_arg4) = m' ((c.tc : Thread Cert.GradReferenceIdeal.nD Cert.GradReferenceIdeal.τ).loc Cert.GradReferenceIdeal.main_arg4)
          ∧ r.2.mem ((c.tc : Thread Cert.GradReferenceIdeal.nD Cert.GradReferenceIdeal.τ).loc Cert.GradReferenceIdeal.main_arg5) = m' ((c.tc : Thread Cert.GradReferenceIdeal.nD Cert.GradReferenceIdeal.τ).loc Cert.GradReferenceIdeal.main_arg5)
          ∧ r.2.mem ((c.tc : Thread Cert.GradReferenceIdeal.nD Cert.GradReferenceIdeal.τ).loc Cert.GradReferenceIdeal.main_arg6) = m' ((c.tc : Thread Cert.GradReferenceIdeal.nD Cert.GradReferenceIdeal.τ).loc Cert.GradReferenceIdeal.main_arg6)
          ∧ r.2.mem ((c.tc : Thread Cert.GradReferenceIdeal.nD Cert.GradReferenceIdeal.τ).loc Cert.GradReferenceIdeal.main_arg7) = m' ((c.tc : Thread Cert.GradReferenceIdeal.nD Cert.GradReferenceIdeal.τ).loc Cert.GradReferenceIdeal.main_arg7)
          ∧ r.2.mem ((c.tc : Thread Cert.GradReferenceIdeal.nD Cert.GradReferenceIdeal.τ).loc Cert.GradReferenceIdeal.main_arg8) = m' ((c.tc : Thread Cert.GradReferenceIdeal.nD Cert.GradReferenceIdeal.τ).loc Cert.GradReferenceIdeal.main_arg8))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v7_0)) (v1 : (c : Dev Cert.MergeKernelIdeal.nD) → Buf (Elt Ideal) ((c.tc : Thread Cert.MergeKernelIdeal.nD Cert.MergeKernelIdeal.τ).loc Cert.MergeKernelIdeal.main_v7_1)) (v2 : (c : Dev Cert.MergeKernelIdeal.nD) → Buf (Elt Ideal) ((c.tc : Thread Cert.MergeKernelIdeal.nD Cert.MergeKernelIdeal.τ).loc Cert.MergeKernelIdeal.main_v7_2)) (v3 : (c : Dev Cert.MergeKernelIdeal.nD) → Buf (Elt Ideal) ((c.tc : Thread Cert.MergeKernelIdeal.nD Cert.MergeKernelIdeal.τ).loc Cert.MergeKernelIdeal.main_v7_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v7_0) = v0 c
          ∧ r.2.mem ((c.tc : Thread Cert.MergeKernelIdeal.nD Cert.MergeKernelIdeal.τ).loc Cert.MergeKernelIdeal.main_v7_1) = v1 c
          ∧ r.2.mem ((c.tc : Thread Cert.MergeKernelIdeal.nD Cert.MergeKernelIdeal.τ).loc Cert.MergeKernelIdeal.main_v7_2) = v2 c
          ∧ r.2.mem ((c.tc : Thread Cert.MergeKernelIdeal.nD Cert.MergeKernelIdeal.τ).loc Cert.MergeKernelIdeal.main_v7_3) = v3 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v20) = v0 c
          ∧ r.2.mem ((c.tc : Thread Cert.MergeReferenceIdeal.nD Cert.MergeReferenceIdeal.τ).loc Cert.MergeReferenceIdeal.main_v21) = v1 c
          ∧ r.2.mem ((c.tc : Thread Cert.MergeReferenceIdeal.nD Cert.MergeReferenceIdeal.τ).loc Cert.MergeReferenceIdeal.main_v22) = v2 c
          ∧ r.2.mem ((c.tc : Thread Cert.MergeReferenceIdeal.nD Cert.MergeReferenceIdeal.τ).loc Cert.MergeReferenceIdeal.main_v23) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)) →
    ∃ (v0 : (c : Dev Cert.MixKernelIdeal.nD) → Buf (Elt Ideal) ((c.tc : Thread Cert.MixKernelIdeal.nD Cert.MixKernelIdeal.τ).loc Cert.MixKernelIdeal.main_v27_0)) (v1 : (c : Dev Cert.MixKernelIdeal.nD) → Buf (Elt Ideal) ((c.tc : Thread Cert.MixKernelIdeal.nD Cert.MixKernelIdeal.τ).loc Cert.MixKernelIdeal.main_v27_1)) (v2 : (c : Dev Cert.MixKernelIdeal.nD) → Buf (Elt Ideal) ((c.tc : Thread Cert.MixKernelIdeal.nD Cert.MixKernelIdeal.τ).loc Cert.MixKernelIdeal.main_v27_2)) (v3 : (c : Dev Cert.MixKernelIdeal.nD) → Buf (Elt Ideal) ((c.tc : Thread Cert.MixKernelIdeal.nD Cert.MixKernelIdeal.τ).loc Cert.MixKernelIdeal.main_v27_3)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v27_0) = v0 c
          ∧ r.2.mem ((c.tc : Thread Cert.MixKernelIdeal.nD Cert.MixKernelIdeal.τ).loc Cert.MixKernelIdeal.main_v27_1) = v1 c
          ∧ r.2.mem ((c.tc : Thread Cert.MixKernelIdeal.nD Cert.MixKernelIdeal.τ).loc Cert.MixKernelIdeal.main_v27_2) = v2 c
          ∧ r.2.mem ((c.tc : Thread Cert.MixKernelIdeal.nD Cert.MixKernelIdeal.τ).loc Cert.MixKernelIdeal.main_v27_3) = v3 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v113) = v0 c
          ∧ r.2.mem ((c.tc : Thread Cert.MixReferenceIdeal.nD Cert.MixReferenceIdeal.τ).loc Cert.MixReferenceIdeal.main_v114) = v1 c
          ∧ r.2.mem ((c.tc : Thread Cert.MixReferenceIdeal.nD Cert.MixReferenceIdeal.τ).loc Cert.MixReferenceIdeal.main_v116) = v2 c
          ∧ r.2.mem ((c.tc : Thread Cert.MixReferenceIdeal.nD Cert.MixReferenceIdeal.τ).loc Cert.MixReferenceIdeal.main_v117) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_UpdateKernel_UpdateKernelIdeal : Prop :=
  True

def algebraic_UpdateKernelIdeal_UpdateReferenceIdeal [hUpdateKernelIdeal : Cert.UpdateKernelIdeal.Facts] [hUpdateReferenceIdeal : Cert.UpdateReferenceIdeal.Facts] : Prop :=
  ∀ (m : (ℓ : Loc Cert.UpdateKernelIdeal.nD Cert.UpdateKernelIdeal.τ Cert.UpdateKernelIdeal.sig) → Buf (Elt Ideal) ℓ) (g : Dev Cert.UpdateKernelIdeal.nD → PrngReg)
    (m' : (ℓ : Loc Cert.UpdateReferenceIdeal.nD Cert.UpdateReferenceIdeal.τ Cert.UpdateReferenceIdeal.sig) → Buf (Elt Ideal) ℓ) (g' : Dev Cert.UpdateReferenceIdeal.nD → PrngReg), Pre_UpdateKernelIdeal m →
    (∀ c : Dev Cert.UpdateKernelIdeal.nD,
      m' ((c.tc : Thread Cert.UpdateReferenceIdeal.nD Cert.UpdateReferenceIdeal.τ).loc Cert.UpdateReferenceIdeal.main_arg0) = m ((c.tc : Thread Cert.UpdateKernelIdeal.nD Cert.UpdateKernelIdeal.τ).loc Cert.UpdateKernelIdeal.main_arg0)
      ∧ m' ((c.tc : Thread Cert.UpdateReferenceIdeal.nD Cert.UpdateReferenceIdeal.τ).loc Cert.UpdateReferenceIdeal.main_arg1) = m ((c.tc : Thread Cert.UpdateKernelIdeal.nD Cert.UpdateKernelIdeal.τ).loc Cert.UpdateKernelIdeal.main_arg1)
      ∧ m' ((c.tc : Thread Cert.UpdateReferenceIdeal.nD Cert.UpdateReferenceIdeal.τ).loc Cert.UpdateReferenceIdeal.main_arg2) = m ((c.tc : Thread Cert.UpdateKernelIdeal.nD Cert.UpdateKernelIdeal.τ).loc Cert.UpdateKernelIdeal.main_arg2)
      ∧ m' ((c.tc : Thread Cert.UpdateReferenceIdeal.nD Cert.UpdateReferenceIdeal.τ).loc Cert.UpdateReferenceIdeal.main_arg3) = m ((c.tc : Thread Cert.UpdateKernelIdeal.nD Cert.UpdateKernelIdeal.τ).loc Cert.UpdateKernelIdeal.main_arg3)) →
    ∃ (v0 : (c : Dev Cert.UpdateKernelIdeal.nD) → Buf (Elt Ideal) ((c.tc : Thread Cert.UpdateKernelIdeal.nD Cert.UpdateKernelIdeal.τ).loc Cert.UpdateKernelIdeal.main_v5_0)) (v1 : (c : Dev Cert.UpdateKernelIdeal.nD) → Buf (Elt Ideal) ((c.tc : Thread Cert.UpdateKernelIdeal.nD Cert.UpdateKernelIdeal.τ).loc Cert.UpdateKernelIdeal.main_v5_1)) (v2 : (c : Dev Cert.UpdateKernelIdeal.nD) → Buf (Elt Ideal) ((c.tc : Thread Cert.UpdateKernelIdeal.nD Cert.UpdateKernelIdeal.τ).loc Cert.UpdateKernelIdeal.main_v5_2)) (v3 : (c : Dev Cert.UpdateKernelIdeal.nD) → Buf (Elt Ideal) ((c.tc : Thread Cert.UpdateKernelIdeal.nD Cert.UpdateKernelIdeal.τ).loc Cert.UpdateKernelIdeal.main_v5_3)),
      θ_run (Cert.UpdateKernelIdeal.defs (F := Ideal)) (onTc (τ := Cert.UpdateKernelIdeal.τ) (Cert.UpdateKernelIdeal.main (F := Ideal))) ⟨m, fun _ => 0, g⟩ (fun r => ∀ c : Dev Cert.UpdateKernelIdeal.nD,
          r.2.mem ((c.tc : Thread Cert.UpdateKernelIdeal.nD Cert.UpdateKernelIdeal.τ).loc Cert.UpdateKernelIdeal.main_v5_0) = v0 c
          ∧ r.2.mem ((c.tc : Thread Cert.UpdateKernelIdeal.nD Cert.UpdateKernelIdeal.τ).loc Cert.UpdateKernelIdeal.main_v5_1) = v1 c
          ∧ r.2.mem ((c.tc : Thread Cert.UpdateKernelIdeal.nD Cert.UpdateKernelIdeal.τ).loc Cert.UpdateKernelIdeal.main_v5_2) = v2 c
          ∧ r.2.mem ((c.tc : Thread Cert.UpdateKernelIdeal.nD Cert.UpdateKernelIdeal.τ).loc Cert.UpdateKernelIdeal.main_v5_3) = v3 c
          ∧ r.2.mem ((c.tc : Thread Cert.UpdateKernelIdeal.nD Cert.UpdateKernelIdeal.τ).loc Cert.UpdateKernelIdeal.main_arg0) = m ((c.tc : Thread Cert.UpdateKernelIdeal.nD Cert.UpdateKernelIdeal.τ).loc Cert.UpdateKernelIdeal.main_arg0)
          ∧ r.2.mem ((c.tc : Thread Cert.UpdateKernelIdeal.nD Cert.UpdateKernelIdeal.τ).loc Cert.UpdateKernelIdeal.main_arg1) = m ((c.tc : Thread Cert.UpdateKernelIdeal.nD Cert.UpdateKernelIdeal.τ).loc Cert.UpdateKernelIdeal.main_arg1)
          ∧ r.2.mem ((c.tc : Thread Cert.UpdateKernelIdeal.nD Cert.UpdateKernelIdeal.τ).loc Cert.UpdateKernelIdeal.main_arg2) = m ((c.tc : Thread Cert.UpdateKernelIdeal.nD Cert.UpdateKernelIdeal.τ).loc Cert.UpdateKernelIdeal.main_arg2)
          ∧ r.2.mem ((c.tc : Thread Cert.UpdateKernelIdeal.nD Cert.UpdateKernelIdeal.τ).loc Cert.UpdateKernelIdeal.main_arg3) = m ((c.tc : Thread Cert.UpdateKernelIdeal.nD Cert.UpdateKernelIdeal.τ).loc Cert.UpdateKernelIdeal.main_arg3))
      ∧ θ_run (Cert.UpdateReferenceIdeal.defs (F := Ideal)) (onTc (τ := Cert.UpdateReferenceIdeal.τ) (Cert.UpdateReferenceIdeal.main (F := Ideal))) ⟨m', fun _ => 0, g'⟩ (fun r => ∀ c : Dev Cert.UpdateReferenceIdeal.nD,
          r.2.mem ((c.tc : Thread Cert.UpdateReferenceIdeal.nD Cert.UpdateReferenceIdeal.τ).loc Cert.UpdateReferenceIdeal.main_v26) = v0 c
          ∧ r.2.mem ((c.tc : Thread Cert.UpdateReferenceIdeal.nD Cert.UpdateReferenceIdeal.τ).loc Cert.UpdateReferenceIdeal.main_v27) = v1 c
          ∧ r.2.mem ((c.tc : Thread Cert.UpdateReferenceIdeal.nD Cert.UpdateReferenceIdeal.τ).loc Cert.UpdateReferenceIdeal.main_v28) = v2 c
          ∧ r.2.mem ((c.tc : Thread Cert.UpdateReferenceIdeal.nD Cert.UpdateReferenceIdeal.τ).loc Cert.UpdateReferenceIdeal.main_v29) = v3 c
          ∧ r.2.mem ((c.tc : Thread Cert.UpdateReferenceIdeal.nD Cert.UpdateReferenceIdeal.τ).loc Cert.UpdateReferenceIdeal.main_arg0) = m' ((c.tc : Thread Cert.UpdateReferenceIdeal.nD Cert.UpdateReferenceIdeal.τ).loc Cert.UpdateReferenceIdeal.main_arg0)
          ∧ r.2.mem ((c.tc : Thread Cert.UpdateReferenceIdeal.nD Cert.UpdateReferenceIdeal.τ).loc Cert.UpdateReferenceIdeal.main_arg1) = m' ((c.tc : Thread Cert.UpdateReferenceIdeal.nD Cert.UpdateReferenceIdeal.τ).loc Cert.UpdateReferenceIdeal.main_arg1)
          ∧ r.2.mem ((c.tc : Thread Cert.UpdateReferenceIdeal.nD Cert.UpdateReferenceIdeal.τ).loc Cert.UpdateReferenceIdeal.main_arg2) = m' ((c.tc : Thread Cert.UpdateReferenceIdeal.nD Cert.UpdateReferenceIdeal.τ).loc Cert.UpdateReferenceIdeal.main_arg2)
          ∧ r.2.mem ((c.tc : Thread Cert.UpdateReferenceIdeal.nD Cert.UpdateReferenceIdeal.τ).loc Cert.UpdateReferenceIdeal.main_arg3) = m' ((c.tc : Thread Cert.UpdateReferenceIdeal.nD Cert.UpdateReferenceIdeal.τ).loc Cert.UpdateReferenceIdeal.main_arg3))

def Claim : Prop :=
  ∃ (hGateKernel : Cert.GateKernel.Facts) (hGateKernelIdeal : Cert.GateKernelIdeal.Facts) (hGateReferenceIdeal : Cert.GateReferenceIdeal.Facts) (hLastKernel : Cert.LastKernel.Facts) (hLastKernelIdeal : Cert.LastKernelIdeal.Facts) (hLastReferenceIdeal : Cert.LastReferenceIdeal.Facts) (hBackKernel : Cert.BackKernel.Facts) (hBackKernelIdeal : Cert.BackKernelIdeal.Facts) (hBackReferenceIdeal : Cert.BackReferenceIdeal.Facts) (hProjKernel : Cert.ProjKernel.Facts) (hProjKernelIdeal : Cert.ProjKernelIdeal.Facts) (hProjReferenceIdeal : Cert.ProjReferenceIdeal.Facts) (hGradKernel : Cert.GradKernel.Facts) (hGradKernelIdeal : Cert.GradKernelIdeal.Facts) (hGradReferenceIdeal : Cert.GradReferenceIdeal.Facts) (hMergeKernel : Cert.MergeKernel.Facts) (hMergeKernelIdeal : Cert.MergeKernelIdeal.Facts) (hMergeReferenceIdeal : Cert.MergeReferenceIdeal.Facts) (hMixKernel : Cert.MixKernel.Facts) (hMixKernelIdeal : Cert.MixKernelIdeal.Facts) (hMixReferenceIdeal : Cert.MixReferenceIdeal.Facts) (hUpdateKernel : Cert.UpdateKernel.Facts) (hUpdateKernelIdeal : Cert.UpdateKernelIdeal.Facts) (hUpdateReferenceIdeal : Cert.UpdateReferenceIdeal.Facts) (hPre_finite : Cert.Pre_finite.Facts),
    quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_LastKernel (hLastKernel := hLastKernel)
    ∧ quiescent_LastKernelIdeal (hLastKernelIdeal := hLastKernelIdeal)
    ∧ quiescent_LastKernelIdeal_pre_finite (hLastKernelIdeal := hLastKernelIdeal) (hPre_finite := hPre_finite)
    ∧ quiescent_LastReferenceIdeal (hLastReferenceIdeal := hLastReferenceIdeal)
    ∧ quiescent_LastReferenceIdeal_pre_finite (hLastReferenceIdeal := hLastReferenceIdeal) (hPre_finite := hPre_finite)
    ∧ quiescent_BackKernel (hBackKernel := hBackKernel)
    ∧ quiescent_BackKernelIdeal (hBackKernelIdeal := hBackKernelIdeal)
    ∧ quiescent_BackKernelIdeal_pre_finite (hBackKernelIdeal := hBackKernelIdeal) (hPre_finite := hPre_finite)
    ∧ quiescent_BackReferenceIdeal (hBackReferenceIdeal := hBackReferenceIdeal)
    ∧ quiescent_BackReferenceIdeal_pre_finite (hBackReferenceIdeal := hBackReferenceIdeal) (hPre_finite := hPre_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_GradKernel (hGradKernel := hGradKernel)
    ∧ quiescent_GradKernelIdeal (hGradKernelIdeal := hGradKernelIdeal)
    ∧ quiescent_GradReferenceIdeal (hGradReferenceIdeal := hGradReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_UpdateKernel (hUpdateKernel := hUpdateKernel)
    ∧ quiescent_UpdateKernelIdeal (hUpdateKernelIdeal := hUpdateKernelIdeal)
    ∧ quiescent_UpdateReferenceIdeal (hUpdateReferenceIdeal := hUpdateReferenceIdeal)
    ∧ preserves_GateKernel_GateKernelIdeal
    ∧ algebraic_GateKernelIdeal_GateReferenceIdeal (hGateKernelIdeal := hGateKernelIdeal) (hGateReferenceIdeal := hGateReferenceIdeal)
    ∧ preserves_LastKernel_LastKernelIdeal
    ∧ algebraic_LastKernelIdeal_LastReferenceIdeal_pre_finite (hLastKernelIdeal := hLastKernelIdeal) (hLastReferenceIdeal := hLastReferenceIdeal) (hPre_finite := hPre_finite)
    ∧ preserves_BackKernel_BackKernelIdeal
    ∧ algebraic_BackKernelIdeal_BackReferenceIdeal_pre_finite (hBackKernelIdeal := hBackKernelIdeal) (hBackReferenceIdeal := hBackReferenceIdeal) (hPre_finite := hPre_finite)
    ∧ preserves_ProjKernel_ProjKernelIdeal
    ∧ algebraic_ProjKernelIdeal_ProjReferenceIdeal (hProjKernelIdeal := hProjKernelIdeal) (hProjReferenceIdeal := hProjReferenceIdeal)
    ∧ preserves_GradKernel_GradKernelIdeal
    ∧ algebraic_GradKernelIdeal_GradReferenceIdeal (hGradKernelIdeal := hGradKernelIdeal) (hGradReferenceIdeal := hGradReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_MixKernel_MixKernelIdeal
    ∧ algebraic_MixKernelIdeal_MixReferenceIdeal (hMixKernelIdeal := hMixKernelIdeal) (hMixReferenceIdeal := hMixReferenceIdeal)
    ∧ preserves_UpdateKernel_UpdateKernelIdeal
    ∧ algebraic_UpdateKernelIdeal_UpdateReferenceIdeal (hUpdateKernelIdeal := hUpdateKernelIdeal) (hUpdateReferenceIdeal := hUpdateReferenceIdeal)
-- ==== Pre_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1024 .f32) (main_arg3 : FVec F S1024x5632 .f32) (main_arg4 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_v13 main_v16
-- ==== GateKernel.lean ====
abbrev S4096x1024 : Shape := ⟨2, ![4096, 1024]⟩
abbrev S4096x2048 : Shape := ⟨2, ![4096, 2048]⟩
abbrev S1024x1024 : Shape := ⟨2, ![1024, 1024]⟩
abbrev S1024x4096 : Shape := ⟨2, ![1024, 4096]⟩
abbrev S512x1024 : Shape := ⟨2, ![512, 1024]⟩
abbrev S512x2048 : Shape := ⟨2, ![512, 2048]⟩
abbrev S1024x512 : Shape := ⟨2, ![1024, 512]⟩

abbrev nBuf : Space → Nat
  | .hbm => 21
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4096x2048, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S4096x1024, .f32⟩
  | .hbm, ⟨16, _⟩ => ⟨S1024x4096, .bf16⟩
  | .hbm, ⟨17, _⟩ => ⟨S4096x2048, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S1024x512, .bf16⟩
  | .local _ .vmem, ⟨14, _⟩ => ⟨S1024x512, .bf16⟩
  | .local _ .vmem, ⟨15, _⟩ => ⟨S512x2048, .bf16⟩
  | .local _ .vmem, ⟨16, _⟩ => ⟨S512x2048, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== GateReferenceIdeal.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩
abbrev S1024x4096 : Shape := ⟨2, ![1024, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x2048, .f32⟩
  | .hbm, ⟨47, _⟩ => ⟨S4096x1024, .f32⟩
  | .hbm, ⟨48, _⟩ => ⟨S4096x1024, .f32⟩
  | .hbm, ⟨49, _⟩ => ⟨S1024x4096, .f32⟩
  | .hbm, ⟨50, _⟩ => ⟨S1024x4096, .bf16⟩
  | .hbm, ⟨51, _⟩ => ⟨S4096x2048, .bf16⟩
  | .hbm, ⟨52, _⟩ => ⟨S4096x1024, .bf16⟩
  | .hbm, ⟨53, _⟩ => ⟨S4096x1024, .bf16⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== LastKernel.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 16
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S4096x1024, .bf16⟩
  | .hbm, ⟨10, _⟩ => ⟨S4096x5632, .bf16⟩
  | .hbm, ⟨11, _⟩ => ⟨S4096x2816, .bf16⟩
  | .hbm, ⟨12, _⟩ => ⟨S4096x1024, .bf16⟩
  | .hbm, ⟨13, _⟩ => ⟨S4096x1024, .f32⟩
  | .hbm, ⟨14, _⟩ => ⟨S1x1024, .f32⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S5632x1024, .bf16⟩
  | .local _ .vmem, ⟨6, _⟩ => ⟨S2816x1024, .bf16⟩
  | .local _ .vmem, ⟨7, _⟩ => ⟨S256x1024, .bf16⟩
  | .local _ .vmem, ⟨8, _⟩ => ⟨S256x1024, .bf16⟩
  | .local _ .vmem, ⟨9, _⟩ => ⟨S256x5632, .bf16⟩
  | .local _ .vmem, ⟨10, _⟩ => ⟨S256x5632, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev main_v4_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== LastReferenceIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 122
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S4096x2816, .f32⟩
  | .hbm, ⟨74, _⟩ => ⟨S4096x2816, .f32⟩
  | .hbm, ⟨75, _⟩ => ⟨S4096x2816, .f32⟩
  | .hbm, ⟨76, _⟩ => ⟨S4096x2816, .f32⟩
  | .hbm, ⟨77, _⟩ => ⟨S4096x2816, .f32⟩
  | .hbm, ⟨78, _⟩ => ⟨S4096x2816, .f32⟩
  | .hbm, ⟨79, _⟩ => ⟨S4096x2816, .f32⟩
  | .hbm, ⟨80, _⟩ => ⟨S4096x5632, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S_, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S_, .f32⟩
  | .hbm, ⟨114, _⟩ => ⟨S1024, .f32⟩
  | .hbm, ⟨115, _⟩ => ⟨S1x1024, .f32⟩
  | .hbm, ⟨116, _⟩ => ⟨S4096x1024, .bf16⟩
  | .hbm, ⟨117, _⟩ => ⟨S4096x5632, .bf16⟩
  | .hbm, ⟨118, _⟩ => ⟨S4096x2816, .bf16⟩
  | .hbm, ⟨119, _⟩ => ⟨S4096x1024, .bf16⟩
  | .hbm, ⟨120, _⟩ => ⟨S4096x1024, .f32⟩
  | .hbm, ⟨121, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_cst_9 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_cst_11 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_12 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_13 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_14 : Ref sig .tc := ⟨.hbm, 88, rfl⟩
abbrev main_v53 : Ref sig .tc := ⟨.hbm, 89, rfl⟩
abbrev main_v54 : Ref sig .tc := ⟨.hbm, 90, rfl⟩
abbrev main_cst_15 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_16 : Ref sig .tc := ⟨.hbm, 97, rfl⟩
abbrev main_v60 : Ref sig .tc := ⟨.hbm, 98, rfl⟩
abbrev main_v61 : Ref sig .tc := ⟨.hbm, 99, rfl⟩
abbrev main_cst_17 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_19 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩

abbrev nD : Nat := 1
abbrev τ : Topo := Topo.v7x

variable {F : FTy → Type} [FloatOps F]
-- ==== BackKernel.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S5632x1024 : Shape := ⟨2, ![5632, 1024]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S3x256x5632 : Shape := ⟨3, ![3, 256, 5632]⟩
abbrev S3 : Shape := ⟨1, ![3]⟩
abbrev S1 : Shape := ⟨1, ![1]⟩
abbrev S1x256x5632 : Shape := ⟨3, ![1, 256, 5632]⟩
abbrev S256 : Shape := ⟨1, ![256]⟩
abbrev S256x1 : Shape := ⟨2, ![256, 1]⟩

abbrev nBuf : Space → Nat
  | .hbm => 32
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x5632, .bf16⟩
  | .hbm, ⟨23, _⟩ => ⟨S1x1024, .f32⟩
  | .hbm, ⟨24, _⟩ => ⟨S5632x1024, .f32⟩
  | .hbm, ⟨25, _⟩ => ⟨S5632x1024, .bf16⟩
  | .hbm, ⟨26, _⟩ => ⟨S2816x1024, .bf16⟩
  | .hbm, ⟨27, _⟩ => ⟨S4096x1024, .f32⟩
  | .hbm, ⟨28, _⟩ => ⟨S4096x5632, .bf16⟩
  | .hbm, ⟨29, _⟩ => ⟨S4096x2816, .bf16⟩
  | .hbm, ⟨30, _⟩ => ⟨S4096x1024, .bf16⟩
  | .hbm, ⟨31, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S5632x1024, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S3x256x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev main_v19_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_mult1 (i : grid0.Coords) : BitVec 32 :=
  let arg0 : BitVec 32 := BitVec.ofNat 32 (i 0).val
  let c3_i32_70 : BitVec 32 := 3#32
  let v127 : BitVec 32 := Scalar.addi arg0 c3_i32_70
  let c1_i32_71 : BitVec 32 := 1#32
  let v128 : BitVec 32 := Scalar.subi v127 c1_i32_71
  let c256_i32_72 : BitVec 32 := 256#32
  let v129 : BitVec 32 := Scalar.muli v128 c256_i32_72
  v129
def k0_off1 (i : grid0.Coords) : Fin 1 → Nat :=
  let arg0 : BitVec 32 := BitVec.ofNat 32 (i 0).val
  let c3_i32_70 : BitVec 32 := 3#32
  let v127 : BitVec 32 := Scalar.addi arg0 c3_i32_70
  let c1_i32_71 : BitVec 32 := 1#32
  let v128 : BitVec 32 := Scalar.subi v127 c1_i32_71
  let c3_i32_79 : BitVec 32 := 3#32
  let c0_i32_80 : BitVec 32 := 0#32
  let v141 : BitVec 1 := Scalar.cmpi .eq c3_i32_79 c0_i32_80
  let c1_i32_81 : BitVec 32 := 1#32
  let v142 : BitVec 32 := Scalar.select v141 c1_i32_81 c3_i32_79
  let v143 : BitVec 32 := Scalar.remsi v128 v142
  let c0_i32_83 : BitVec 32 := 0#32
  let v145 : BitVec 1 := Scalar.cmpi .slt v143 c0_i32_83
  let c0_i32_84 : BitVec 32 := 0#32
  let v146 : BitVec 1 := Scalar.cmpi .slt v142 c0_i32_84
  let v147 : BitVec 1 := Scalar.xori v145 v146
  let c0_i32_82 : BitVec 32 := 0#32
  let v144 : BitVec 1 := Scalar.cmpi .ne v143 c0_i32_82
  let v148 : BitVec 1 := Scalar.andi v147 v144
  let v149 : BitVec 32 := Scalar.addi v143 v142
  let v150 : BitVec 32 := Scalar.select v148 v149 v143
  ![v150.toNat]
def k0_off2 (i : grid0.Coords) : Fin 3 → Nat :=
  let arg0 : BitVec 32 := BitVec.ofNat 32 (i 0).val
  let c3_i32_70 : BitVec 32 := 3#32
  let v127 : BitVec 32 := Scalar.addi arg0 c3_i32_70
  let c1_i32_71 : BitVec 32 := 1#32
  let v128 : BitVec 32 := Scalar.subi v127 c1_i32_71
  let c3_i32_73 : BitVec 32 := 3#32
  let c0_i32_74 : BitVec 32 := 0#32
  let v131 : BitVec 1 := Scalar.cmpi .eq c3_i32_73 c0_i32_74
  let c1_i32_75 : BitVec 32 := 1#32
  let v132 : BitVec 32 := Scalar.select v131 c1_i32_75 c3_i32_73
  let v133 : BitVec 32 := Scalar.remsi v128 v132
  let c0_i32_77 : BitVec 32 := 0#32
  let v135 : BitVec 1 := Scalar.cmpi .slt v133 c0_i32_77
  let c0_i32_78 : BitVec 32 := 0#32
  let v136 : BitVec 1 := Scalar.cmpi .slt v132 c0_i32_78
  let v137 : BitVec 1 := Scalar.xori v135 v136
  let c0_i32_76 : BitVec 32 := 0#32
  let v134 : BitVec 1 := Scalar.cmpi .ne v133 c0_i32_76
  let v138 : BitVec 1 := Scalar.andi v137 v134
  let v139 : BitVec 32 := Scalar.addi v133 v132
  let v140 : BitVec 32 := Scalar.select v138 v139 v133
  let c0_i32_85 : BitVec 32 := 0#32
  let c0_i32_86 : BitVec 32 := 0#32
  ![v140.toNat, 0, 0]
def k0_off3 (i : grid0.Coords) : Fin 2 → Nat :=
  let arg0 : BitVec 32 := BitVec.ofNat 32 (i 0).val
  let c3_i32_70 : BitVec 32 := 3#32
  let v127 : BitVec 32 := Scalar.addi arg0 c3_i32_70
  let c1_i32_71 : BitVec 32 := 1#32
  let v128 : BitVec 32 := Scalar.subi v127 c1_i32_71
  let c256_i32_72 : BitVec 32 := 256#32
  let v129 : BitVec 32 := Scalar.muli v128 c256_i32_72
  let v130 : BitVec 32 := v129
  let c0_i32_87 : BitVec 32 := 0#32
  ![v130.toNat, 0]
def k0_mult2 (i : grid0.Coords) : BitVec 32 :=
  let arg0 : BitVec 32 := BitVec.ofNat 32 (i 0).val
  let c256_i32 : BitVec 32 := 256#32
  let v8 : BitVec 32 := Scalar.muli arg0 c256_i32
  v8
def k0_off4 (i : grid0.Coords) : Fin 1 → Nat :=
  let arg0 : BitVec 32 := BitVec.ofNat 32 (i 0).val
  let c3_i32_8 : BitVec 32 := 3#32
  let c0_i32_9 : BitVec 32 := 0#32
  let v20 : BitVec 1 := Scalar.cmpi .eq c3_i32_8 c0_i32_9
  let c1_i32_10 : BitVec 32 := 1#32
  let v21 : BitVec 32 := Scalar.select v20 c1_i32_10 c3_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  ![v29.toNat]
def k0_off5 (i : grid0.Coords) : Fin 3 → Nat :=
  let arg0 : BitVec 32 := BitVec.ofNat 32 (i 0).val
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_14 : BitVec 32 := 0#32
  let c0_i32_15 : BitVec 32 := 0#32
  ![v19.toNat, 0, 0]
def k0_off6 (i : grid0.Coords) : Fin 2 → Nat :=
  let arg0 : BitVec 32 := BitVec.ofNat 32 (i 0).val
  let c256_i32 : BitVec 32 := 256#32
  let v8 : BitVec 32 := Scalar.muli arg0 c256_i32
  let v9 : BitVec 32 := v8
  let c0_i32_16 : BitVec 32 := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5632x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BackReferenceIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x5632, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x5632, .bf16⟩
  | .hbm, ⟨87, _⟩ => ⟨S4096x2816, .bf16⟩
  | .hbm, ⟨88, _⟩ => ⟨S4096x1024, .bf16⟩
  | .hbm, ⟨89, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== ProjKernel.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S5632x1024 : Shape := ⟨2, ![5632, 1024]⟩
abbrev S4096x2048 : Shape := ⟨2, ![4096, 2048]⟩
abbrev S1536x4096 : Shape := ⟨2, ![1536, 4096]⟩
abbrev S512x1024 : Shape := ⟨2, ![512, 1024]⟩
abbrev S512x2048 : Shape := ⟨2, ![512, 2048]⟩
abbrev S1536x512 : Shape := ⟨2, ![1536, 512]⟩
abbrev S512 : Shape := ⟨1, ![512]⟩
abbrev S512x1 : Shape := ⟨2, ![512, 1]⟩
abbrev S2048x1024 : Shape := ⟨2, ![2048, 1024]⟩
abbrev S1536x1024 : Shape := ⟨2, ![1536, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S5632x1024, .f32⟩
  | .hbm, ⟨5, _⟩ => ⟨S5632x1024, .bf16⟩
  | .hbm, ⟨6, _⟩ => ⟨S4096x1024, .bf16⟩
  | .hbm, ⟨7, _⟩ => ⟨S4096x2048, .bf16⟩
  | .hbm, ⟨8, _⟩ => ⟨S4096x2048, .bf16⟩
  | .hbm, ⟨9, _⟩ => ⟨S1536x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1536x512, .bf16⟩
  | .local _ .vmem, ⟨11, _⟩ => ⟨S1536x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjReferenceIdeal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2048 : Shape := ⟨2, ![4096, 2048]⟩
abbrev S4096x256 : Shape := ⟨2, ![4096, 256]⟩
abbrev S4096x1536 : Shape := ⟨2, ![4096, 1536]⟩
abbrev S1536x4096 : Shape := ⟨2, ![1536, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2048, .f32⟩
  | .hbm, ⟨21, _⟩ => ⟨S4096x1024, .f32⟩
  | .hbm, ⟨22, _⟩ => ⟨S4096x256, .f32⟩
  | .hbm, ⟨23, _⟩ => ⟨S4096x256, .f32⟩
  | .hbm, ⟨24, _⟩ => ⟨S4096x1024, .f32⟩
  | .hbm, ⟨25, _⟩ => ⟨S4096x1024, .f32⟩
  | .hbm, ⟨26, _⟩ => ⟨S4096x2048, .f32⟩
  | .hbm, ⟨27, _⟩ => ⟨S4096x1536, .f32⟩
  | .hbm, ⟨28, _⟩ => ⟨S4096x1024, .bf16⟩
  | .hbm, ⟨29, _⟩ => ⟨S4096x2048, .bf16⟩
  | .hbm, ⟨30, _⟩ => ⟨S4096x2048, .bf16⟩
  | .hbm, ⟨31, _⟩ => ⟨S1536x4096, .f32⟩
  | .hbm, ⟨32, _⟩ => ⟨S1536x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== GradKernel.lean ====
abbrev S4096x1024 : Shape := ⟨2, ![4096, 1024]⟩
abbrev S1024 : Shape := ⟨1, ![1024]⟩
abbrev S1024x5632 : Shape := ⟨2, ![1024, 5632]⟩
abbrev S4096x2048 : Shape := ⟨2, ![4096, 2048]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x512 : Shape := ⟨2, ![4096, 512]⟩
abbrev S1024x4096 : Shape := ⟨2, ![1024, 4096]⟩
abbrev S512x4096 : Shape := ⟨2, ![512, 4096]⟩
abbrev S5632x1024 : Shape := ⟨2, ![5632, 1024]⟩
abbrev S512x1024 : Shape := ⟨2, ![512, 1024]⟩

abbrev nBuf : Space → Nat
  | .hbm => 35
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x2048, .f32⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x512, .f32⟩
  | .hbm, ⟨26, _⟩ => ⟨S4096x2048, .f32⟩
  | .hbm, ⟨27, _⟩ => ⟨S4096x2048, .bf16⟩
  | .hbm, ⟨28, _⟩ => ⟨S1024x4096, .f32⟩
  | .hbm, ⟨29, _⟩ => ⟨S1024x4096, .bf16⟩
  | .hbm, ⟨30, _⟩ => ⟨S512x4096, .f32⟩
  | .hbm, ⟨31, _⟩ => ⟨S512x4096, .bf16⟩
  | .hbm, ⟨32, _⟩ => ⟨S4096x2048, .bf16⟩
  | .hbm, ⟨33, _⟩ => ⟨S4096x1024, .bf16⟩
  | .hbm, ⟨34, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S4096x512, .bf16⟩
  | .local _ .vmem, ⟨7, _⟩ => ⟨S4096x512, .bf16⟩
  | .local _ .vmem, ⟨8, _⟩ => ⟨S4096x1024, .bf16⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let c6_i32 : BitVec 32 := 6#32
  let v4 : BitVec 1 := Scalar.cmpi .slt arg0 c6_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c6_i32_2 : BitVec 32 := 6#32
  let v8 : BitVec 1 := Scalar.cmpi .sge arg0 c6_i32_2
  let c7_i32 : BitVec 32 := 7#32
  let v9 : BitVec 1 := Scalar.cmpi .slt arg0 c7_i32
  let v10 : BitVec 1 := Scalar.andi v8 v9
  let v11 : BitVec 32 := Scalar.extui v10
  let c0_i32_3 : BitVec 32 := 0#32
  let v12 : BitVec 1 := Scalar.cmpi .ne v11 c0_i32_3
  v12

def k0_cond4 (i : grid0.Coords) : BitVec 1 :=
  let arg0 : BitVec 32 := BitVec.ofNat 32 (i 0).val
  let c7_i32_4 : BitVec 32 := 7#32
  let v13 : BitVec 1 := Scalar.cmpi .sge arg0 c7_i32_4
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let c0_i32 : BitVec 32 := 0#32
  let c3_i32 : BitVec 32 := 3#32
  let v0 : BitVec 32 := Scalar.maxsi c0_i32 arg0
  let v1 : BitVec 32 := Scalar.minsi c3_i32 v0
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GradReferenceIdeal.lean ====
abbrev S4096x1024 : Shape := ⟨2, ![4096, 1024]⟩
abbrev S1024 : Shape := ⟨1, ![1024]⟩
abbrev S1024x5632 : Shape := ⟨2, ![1024, 5632]⟩
abbrev S4096x2048 : Shape := ⟨2, ![4096, 2048]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S5632x1024 : Shape := ⟨2, ![5632, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x2048, .f32⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2048, .f32⟩
  | .hbm, ⟨27, _⟩ => ⟨S4096x1024, .f32⟩
  | .hbm, ⟨28, _⟩ => ⟨S4096x256, .f32⟩
  | .hbm, ⟨29, _⟩ => ⟨S4096x256, .f32⟩
  | .hbm, ⟨30, _⟩ => ⟨S4096x1024, .f32⟩
  | .hbm, ⟨31, _⟩ => ⟨S4096x1024, .f32⟩
  | .hbm, ⟨32, _⟩ => ⟨S4096x5632, .f32⟩
  | .hbm, ⟨33, _⟩ => ⟨S5632x1024, .f32⟩
  | .hbm, ⟨34, _⟩ => ⟨S1024x5632, .f32⟩
  | .hbm, ⟨35, _⟩ => ⟨S5632x1024, .f32⟩
  | .hbm, ⟨36, _⟩ => ⟨S5632x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== MergeKernel.lean ====
abbrev S4096x1024 : Shape := ⟨2, ![4096, 1024]⟩
abbrev S4096x2048 : Shape := ⟨2, ![4096, 2048]⟩
abbrev S1024x1024 : Shape := ⟨2, ![1024, 1024]⟩
abbrev S1024x4096 : Shape := ⟨2, ![1024, 4096]⟩
abbrev S512x1024 : Shape := ⟨2, ![512, 1024]⟩
abbrev S1024x512 : Shape := ⟨2, ![1024, 512]⟩
abbrev S512x2048 : Shape := ⟨2, ![512, 2048]⟩

abbrev nBuf : Space → Nat
  | .hbm => 18
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .bf16⟩
  | .hbm, ⟨8, _⟩ => ⟨S1024x4096, .f32⟩
  | .hbm, ⟨9, _⟩ => ⟨S1024x4096, .bf16⟩
  | .hbm, ⟨10, _⟩ => ⟨S4096x2048, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x1024, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== MixKernel.lean ====
abbrev S4096x1024 : Shape := ⟨2, ![4096, 1024]⟩
abbrev S4096x2048 : Shape := ⟨2, ![4096, 2048]⟩
abbrev S32x256x256 : Shape := ⟨3, ![32, 256, 256]⟩
abbrev S1024 : Shape := ⟨1, ![1024]⟩
abbrev S1024x5632 : Shape := ⟨2, ![1024, 5632]⟩
abbrev S64 : Shape := ⟨1, ![64]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x1536 : Shape := ⟨2, ![4096, 1536]⟩
abbrev S32x256x512 : Shape := ⟨3, ![32, 256, 512]⟩
abbrev S32x512x256 : Shape := ⟨3, ![32, 512, 256]⟩
abbrev S1024x4096 : Shape := ⟨2, ![1024, 4096]⟩
abbrev S1536x4096 : Shape := ⟨2, ![1536, 4096]⟩
abbrev S64x1 : Shape := ⟨2, ![64, 1]⟩
abbrev S5632x1024 : Shape := ⟨2, ![5632, 1024]⟩
abbrev S512x4096 : Shape := ⟨2, ![512, 4096]⟩
abbrev S512x1024 : Shape := ⟨2, ![512, 1024]⟩
abbrev S512x2048 : Shape := ⟨2, ![512, 2048]⟩
abbrev S1024x512 : Shape := ⟨2, ![1024, 512]⟩
abbrev S4x512x256 : Shape := ⟨3, ![4, 512, 256]⟩
abbrev S1x512x256 : Shape := ⟨3, ![1, 512, 256]⟩
abbrev S256x512 : Shape := ⟨2, ![256, 512]⟩
abbrev S512x512 : Shape := ⟨2, ![512, 512]⟩
abbrev S64x128 : Shape := ⟨2, ![64, 128]⟩
abbrev S1x512x128 : Shape := ⟨3, ![1, 512, 128]⟩
abbrev S512x128 : Shape := ⟨2, ![512, 128]⟩
abbrev S256x128 : Shape := ⟨2, ![256, 128]⟩
abbrev S128 : Shape := ⟨1, ![128]⟩
abbrev S1x128 : Shape := ⟨2, ![1, 128]⟩
abbrev S2048x1024 : Shape := ⟨2, ![2048, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 44
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S32x256x256, .f32⟩
  | .hbm, ⟨4, _⟩ => ⟨S32x256x256, .f32⟩
  | .hbm, ⟨5, _⟩ => ⟨S4096x2048, .f32⟩
  | .hbm, ⟨6, _⟩ => ⟨S4096x1024, .f32⟩
  | .hbm, ⟨7, _⟩ => ⟨S1024, .f32⟩
  | .hbm, ⟨8, _⟩ => ⟨S1024x5632, .f32⟩
  | .hbm, ⟨9, _⟩ => ⟨S64, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x1536, .f32⟩
  | .hbm, ⟨28, _⟩ => ⟨S32x256x512, .f32⟩
  | .hbm, ⟨29, _⟩ => ⟨S32x512x256, .f32⟩
  | .hbm, ⟨30, _⟩ => ⟨S4096x2048, .bf16⟩
  | .hbm, ⟨31, _⟩ => ⟨S1024x4096, .f32⟩
  | .hbm, ⟨32, _⟩ => ⟨S1024x4096, .bf16⟩
  | .hbm, ⟨33, _⟩ => ⟨S1536x4096, .f32⟩
  | .hbm, ⟨34, _⟩ => ⟨S1536x4096, .bf16⟩
  | .hbm, ⟨35, _⟩ => ⟨S64x1, .f32⟩
  | .hbm, ⟨36, _⟩ => ⟨S4096x2048, .bf16⟩
  | .hbm, ⟨37, _⟩ => ⟨S1x1024, .f32⟩
  | .hbm, ⟨38, _⟩ => ⟨S5632x1024, .f32⟩
  | .hbm, ⟨39, _⟩ => ⟨S5632x1024, .bf16⟩
  | .hbm, ⟨40, _⟩ => ⟨S4096x1024, .f32⟩
  | .hbm, ⟨41, _⟩ => ⟨S1x1024, .f32⟩
  | .hbm, ⟨42, _⟩ => ⟨S512x4096, .bf16⟩
  | .hbm, ⟨43, _⟩ => ⟨S64x1, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S4x512x256, .f32⟩
  | .local _ .vmem, ⟨7, _⟩ => ⟨S4x512x256, .f32⟩
  | .local _ .vmem, ⟨8, _⟩ => ⟨S1x512x256, .f32⟩
  | .local _ .vmem, ⟨9, _⟩ => ⟨S1x512x256, .f32⟩
  | .local _ .vmem, ⟨10, _⟩ => ⟨S256x512, .bf16⟩
  | .local _ .vmem, ⟨11, _⟩ => ⟨S256x512, .bf16⟩
  | .local _ .vmem, ⟨12, _⟩ => ⟨S64x1, .f32⟩
  | .local _ .vmem, ⟨13, _⟩ => ⟨S512x2048, .bf16⟩
  | .local _ .vmem, ⟨14, _⟩ => ⟨S512x2048, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S5632x1024, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x512, .bf16⟩
  | .local _ .vmem, ⟨23, _⟩ => ⟨S512x512, .bf16⟩
  | .local _ .vmem, ⟨24, _⟩ => ⟨S64x1, .f32⟩
  | .local _ .vmem, ⟨25, _⟩ => ⟨S64x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_v27_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_209 : BitVec 32 := 7#32
  let v586 : BitVec 1 := Scalar.cmpi .eq arg0 c7_i32_209
  let v587 : BitVec 32 := Scalar.extui v586
  let c0_i32_210 : BitVec 32 := 0#32
  let v588 : BitVec 1 := Scalar.cmpi .ne v587 c0_i32_210
  v588

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  ![c4_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5632x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixReferenceIdeal.lean ====
abbrev S4096x1024 : Shape := ⟨2, ![4096, 1024]⟩
abbrev S4096x2048 : Shape := ⟨2, ![4096, 2048]⟩
abbrev S32x256x256 : Shape := ⟨3, ![32, 256, 256]⟩
abbrev S1024 : Shape := ⟨1, ![1024]⟩
abbrev S1024x5632 : Shape := ⟨2, ![1024, 5632]⟩
abbrev S64 : Shape := ⟨1, ![64]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x256 : Shape := ⟨2, ![4096, 256]⟩
abbrev S4096x4x64 : Shape := ⟨3, ![4096, 4, 64]⟩
abbrev S4096x4 : Shape := ⟨2, ![4096, 4]⟩
abbrev S4096x4x1 : Shape := ⟨3, ![4096, 4, 1]⟩
abbrev S1x1x64 : Shape := ⟨3, ![1, 1, 64]⟩
abbrev S32x128x256 : Shape := ⟨3, ![32, 128, 256]⟩
abbrev S1x128x256 : Shape := ⟨3, ![1, 128, 256]⟩
abbrev S31x128x256 : Shape := ⟨3, ![31, 128, 256]⟩
abbrev S4096x512 : Shape := ⟨2, ![4096, 512]⟩
abbrev S512x4096 : Shape := ⟨2, ![512, 4096]⟩
abbrev S64x1 : Shape := ⟨2, ![64, 1]⟩

abbrev nBuf : Space → Nat
  | .hbm => 151
  | .vmem => 0
  | .smem => 0
  | _ => 0

abbrev hbmTy0_0 (i : Nat) : BufTy := match i % 128 with
  | 0 => ⟨S4096x1024, .f32⟩
  | 1 => ⟨S4096x2048, .f32⟩
  | 2 => ⟨S4096x1024, .f32⟩
  | 3 => ⟨S32x256x256, .f32⟩
  | 4 => ⟨S32x256x256, .f32⟩
  | 5 => ⟨S4096x2048, .f32⟩
  | 6 => ⟨S4096x1024, .f32⟩
  | 7 => ⟨S1024, .f32⟩
  | 8 => ⟨S1024x5632, .f32⟩
  | 9 => ⟨S64, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S4096x5632, .f32⟩
  | 31 => ⟨S4096x2048, .f32⟩
  | 32 => ⟨S4096x1024, .f32⟩
  | 33 => ⟨S4096x256, .f32⟩
  | 34 => ⟨S4096x256, .f32⟩
  | 35 => ⟨S4096x1024, .f32⟩
  | 36 => ⟨S4096x1024, .f32⟩
  | 37 => ⟨S4096x2048, .f32⟩
  | 38 => ⟨S4096x4x64, .f32⟩
  | 39 => ⟨S4096x4x64, .f32⟩
  | 40 => ⟨S_, .f32⟩
  | 41 => ⟨S4096x4, .f32⟩
  | 42 => ⟨S4096x4x1, .f32⟩
  | 43 => ⟨S_, .f32⟩
  | 44 => ⟨S4096x4x1, .f32⟩
  | 45 => ⟨S4096x4x1, .f32⟩
  | 46 => ⟨S_, .f32⟩
  | 47 => ⟨S4096x4x1, .f32⟩
  | 48 => ⟨S4096x4x1, .f32⟩
  | 49 => ⟨S4096x4x1, .f32⟩
  | 50 => ⟨S4096x4x1, .f32⟩
  | 51 => ⟨S_, .f32⟩
  | 52 => ⟨S4096x4x1, .f32⟩
  | 53 => ⟨S4096x4x1, .f32⟩
  | 54 => ⟨S4096x4x64, .f32⟩
  | 55 => ⟨S4096x4x64, .f32⟩
  | 56 => ⟨S1x1x64, .f32⟩
  | 57 => ⟨S4096x4x64, .f32⟩
  | 58 => ⟨S4096x4x64, .f32⟩
  | 59 => ⟨S32x128x256, .f32⟩
  | 60 => ⟨S32x128x256, .f32⟩
  | 61 => ⟨S1x128x256, .f32⟩
  | 62 => ⟨S_, .f32⟩
  | 63 => ⟨S1x128x256, .f32⟩
  | 64 => ⟨S31x128x256, .f32⟩
  | 65 => ⟨S32x128x256, .f32⟩
  | 66 => ⟨S_, .f32⟩
  | 67 => ⟨S1x128x256, .f32⟩
  | 68 => ⟨S32x256x256, .f32⟩
  | 69 => ⟨S31x128x256, .f32⟩
  | 70 => ⟨S32x128x256, .f32⟩
  | 71 => ⟨S_, .f32⟩
  | 72 => ⟨S1x128x256, .f32⟩
  | 73 => ⟨S32x256x256, .f32⟩
  | 74 => ⟨S32x128x256, .f32⟩
  | 75 => ⟨S32x128x256, .f32⟩
  | 76 => ⟨S1x128x256, .f32⟩
  | 77 => ⟨S31x128x256, .f32⟩
  | 78 => ⟨S_, .f32⟩
  | 79 => ⟨S32x128x256, .f32⟩
  | 80 => ⟨S32x128x256, .f32⟩
  | 81 => ⟨S32x128x256, .f32⟩
  | 82 => ⟨S32x128x256, .f32⟩
  | 83 => ⟨S1x128x256, .f32⟩
  | 84 => ⟨S31x128x256, .f32⟩
  | 85 => ⟨S_, .f32⟩
  | 86 => ⟨S32x128x256, .f32⟩
  | 87 => ⟨S32x128x256, .f32⟩
  | 88 => ⟨S4096x256, .f32⟩
  | 89 => ⟨S4096x4x64, .f32⟩
  | 90 => ⟨S4096x4x64, .f32⟩
  | 91 => ⟨S_, .f32⟩
  | 92 => ⟨S64, .f32⟩
  | 93 => ⟨S1x1x64, .f32⟩
  | 94 => ⟨S4096x4x64, .f32⟩
  | 95 => ⟨S4096x4x64, .f32⟩
  | 96 => ⟨S_, .f32⟩
  | 97 => ⟨S64, .f32⟩
  | 98 => ⟨S4096x4x64, .f32⟩
  | 99 => ⟨S_, .f32⟩
  | 100 => ⟨S4096x4, .f32⟩
  | 101 => ⟨S4096x4x1, .f32⟩
  | 102 => ⟨S4096x4x64, .f32⟩
  | 103 => ⟨S4096x4x64, .f32⟩
  | 104 => ⟨S4096x4x1, .f32⟩
  | 105 => ⟨S_, .f32⟩
  | 106 => ⟨S4096x4x1, .f32⟩
  | 107 => ⟨S4096x4x1, .f32⟩
  | 108 => ⟨S_, .f32⟩
  | 109 => ⟨S4096x4, .f32⟩
  | 110 => ⟨S4096x4x64, .f32⟩
  | 111 => ⟨S4096x4x64, .f32⟩
  | 112 => ⟨S4096x4x64, .f32⟩
  | 113 => ⟨S4096x4x64, .f32⟩
  | 114 => ⟨S4096x4x64, .f32⟩
  | 115 => ⟨S4096x256, .f32⟩
  | 116 => ⟨S4096x1024, .f32⟩
  | 117 => ⟨S4096x1024, .f32⟩
  | 118 => ⟨S4096x5632, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S4096x1024, .f32⟩
  | 5 => ⟨S4096x1024, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x512, .f32⟩
  | 18 => ⟨S4096x1024, .f32⟩
  | 19 => ⟨S1x1024, .f32⟩
  | 20 => ⟨S512x4096, .f32⟩
  | 21 => ⟨S512x4096, .bf16⟩
  | 22 => ⟨S64x1, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_17 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_18 : Ref sig .tc := ⟨.hbm, 126, rfl⟩
abbrev main_v97 : Ref sig .tc := ⟨.hbm, 127, rfl⟩
abbrev main_v98 : Ref sig .tc := ⟨.hbm, 128, rfl⟩
abbrev main_cst_19 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_20 : Ref sig .tc := ⟨.hbm, 135, rfl⟩
abbrev main_v104 : Ref sig .tc := ⟨.hbm, 136, rfl⟩
abbrev main_v105 : Ref sig .tc := ⟨.hbm, 137, rfl⟩
abbrev main_cst_21 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩

abbrev nD : Nat := 1
abbrev τ : Topo := Topo.v7x

variable {F : FTy → Type} [FloatOps F]
-- ==== UpdateKernel.lean ====
abbrev S4x704x1024 : Shape := ⟨3, ![4, 704, 1024]⟩
abbrev S1024x704 : Shape := ⟨2, ![1024, 704]⟩
abbrev S2816x1024 : Shape := ⟨2, ![2816, 1024]⟩
abbrev S704x1024 : Shape := ⟨2, ![704, 1024]⟩
abbrev S352x1024 : Shape := ⟨2, ![352, 1024]⟩

abbrev nBuf : Space → Nat
  | .hbm => 13
  | .vmem => 22
  | .smem => 0
  | _ => 0

abbrev bufTy : (tb : Table) → Fin (tcTables nBuf tb) → BufTy
  | .hbm, ⟨0, _⟩ => ⟨S4x704x1024, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S2816x1024, .f32⟩
  | .hbm, ⟨5, _⟩ => ⟨S2816x1024, .bf16⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .local _ .vmem, ⟨0, _⟩ => ⟨S352x1024, .bf16⟩
  | .local _ .vmem, ⟨1, _⟩ => ⟨S352x1024, .bf16⟩
  | .local _ .vmem, ⟨2, _⟩ => ⟨S352x1024, .bf16⟩
  | .local _ .vmem, ⟨3, _⟩ => ⟨S352x1024, .bf16⟩
  | .local _ .vmem, ⟨4, _⟩ => ⟨S352x1024, .bf16⟩
  | .local _ .vmem, ⟨5, _⟩ => ⟨S352x1024, .bf16⟩
  | .local _ .vmem, ⟨6, _⟩ => ⟨S352x1024, .bf16⟩
  | .local _ .vmem, ⟨7, _⟩ => ⟨S352x1024, .bf16⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .vmem, ⟨18, _⟩ => ⟨S352x1024, .f32⟩
  | .local _ .vmem, ⟨19, _⟩ => ⟨S352x1024, .f32⟩
  | .local _ .vmem, ⟨20, _⟩ => ⟨S352x1024, .f32⟩
  | .local _ .vmem, ⟨21, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== UpdateReferenceIdeal.lean ====
abbrev S4x704x1024 : Shape := ⟨3, ![4, 704, 1024]⟩
abbrev S1024x704 : Shape := ⟨2, ![1024, 704]⟩
abbrev S_ : Shape := ⟨0, ![]⟩
abbrev S704x1024 : Shape := ⟨2, ![704, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S704x1024, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Gate.Sigmoid.lean ====
/- The kernel writes the logistic function as `tanh(x/2)/2 + 1/2`; the reference writes it `1/(1 + exp(-x))`. Over the
   extended reals the two are one function, at the infinities too (`halfTanh_eq`). The literals 0.5 and 1.0 of the two
   programs are read here as well. -/
module

public import Idealize.ShloMosaic.Lib.Pointwise

@[expose] public section

noncomputable section

namespace Cert.Gate

open Idealize.ShloMosaic

/-- The literal 0.5. -/
theorem half_word : Ideal.ofBits .f32 0x3F000000#32 = ((1 / 2 : ℝ) : EReal) := by
  simp [Ideal.ofBits, Ideal.ieee, -EReal.coe_mul]; norm_num

/-- The literal 1.0. -/
theorem one_word : Ideal.ofBits .f32 0x3F800000#32 = (1 : EReal) := by
  simp [Ideal.ofBits, Ideal.ieee, -EReal.coe_mul]; norm_num

/-- `tanh(r/2)/2 + 1/2 = 1/(1 + exp(-r))` over the reals. -/
theorem halfTanh_real (r : ℝ) : 1 / 2 * Real.tanh (1 / 2 * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have hr : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, hr]
  generalize Real.exp (1 / 2 * r) = a at hp
  field_simp
  ring

/-- The same over the extended reals: the kernel's form of the logistic function is the reference's. -/
theorem halfTanh_eq (x : EReal) :
    ((1 / 2 : ℝ) : EReal) * Ideal.tanh (((1 / 2 : ℝ) : EReal) * x) + ((1 / 2 : ℝ) : EReal) = Ideal.logistic x := by
  have hh : (0 : EReal) < ((1 / 2 : ℝ) : EReal) := by exact_mod_cast (by norm_num : (0 : ℝ) < 1 / 2)
  induction x with
  | bot =>
    rw [EReal.mul_bot_of_pos hh, Ideal.tanh_bot, Ideal.logistic_bot, show (-1 : EReal) = ((-1 : ℝ) : EReal) from rfl,
      ← EReal.coe_mul, ← EReal.coe_add]
    norm_num
  | top =>
    rw [EReal.mul_top_of_pos hh, Ideal.tanh_top, Ideal.logistic_top, mul_one, ← EReal.coe_add]
    norm_num
  | coe r =>
    rw [← EReal.coe_mul, Ideal.tanh_coe, Ideal.logistic_coe, ← EReal.coe_mul, ← EReal.coe_add, halfTanh_real]

/-- The reference's form, with its literals read. -/
theorem oneOver_eq (x : EReal) : Ideal.div 1 (1 + Ideal.exp (-x)) = Ideal.logistic x := rfl

end Cert.Gate

end
-- ==== Proof.Gate.Block.lean ====
/- WHAT ONE BLOCK OF 512 ROWS COMPUTES. From its input blocks (`dx`, the saved branches `a` and `b`, the gates `g` and the
   three matrices) the body leaves six blocks; here each is read at an index, as sums and products of extended reals, the
   gate as the logistic function (`Sigmoid.lean`). -/
module

public import proofs.«01_k».proof.Proof.Gate.Sigmoid
public import proofs.«01_k».proof.Proof.Gen.GateKernelIdeal.Frame
public import Idealize.ShloMosaic.Lib.Pipeline.Value
public import Idealize.ShloMosaic.Lib.Pipeline.ValueKit.Tiles

@[expose] public section

noncomputable section

namespace Cert.Gate

open Idealize.ShloMosaic Cert.GateKernelIdeal Cert.GateKernelIdeal.Gen

/-- The left half of the gates' columns: the convolution branch's gate. -/
def lo (k : Fin 1024) : Fin 2048 := ⟨k.val, by omega⟩
/-- The right half of the gates' columns: the attention branch's gate. -/
def hi (k : Fin 1024) : Fin 2048 := ⟨1024 + k.val, by omega⟩

theorem hz : (![0, 0] : Fin 2 → Nat) = fun _ => 0 := funext fun a => by fin_cases a <;> rfl

/-- The gradient of the merged rows: `dx` times the output matrix transposed. -/
def dm {n : ℕ} (dx : (⟨2, ![n, 1024]⟩ : Shape).Idx → EReal) (w : (⟨2, ![1024, 1024]⟩ : Shape).Idx → EReal)
    (r : Fin n) (k : Fin 1024) : EReal := ∑ j : Fin 1024, dx (ix2 r j) * w (ix2 k j)

/-- The gradient of the gates before the logistic function, column by column: the left half of the columns from the
    convolution branch `a`, the right half from the attention branch `b`. -/
def gateGrad {n : ℕ} (dx a b : (⟨2, ![n, 1024]⟩ : Shape).Idx → EReal) (g : (⟨2, ![n, 2048]⟩ : Shape).Idx → EReal)
    (w : (⟨2, ![1024, 1024]⟩ : Shape).Idx → EReal) (r : Fin n) (q : Fin 2048) : EReal :=
  if h : q.val < 1024 then
    dm dx w r ⟨q.val, h⟩ * a (ix2 r ⟨q.val, h⟩) * Ideal.logistic (g (ix2 r q)) * (1 - Ideal.logistic (g (ix2 r q)))
  else
    dm dx w r ⟨q.val - 1024, by omega⟩ * b (ix2 r ⟨q.val - 1024, by omega⟩) * Ideal.logistic (g (ix2 r q))
      * (1 - Ideal.logistic (g (ix2 r q)))

section Block
variable (x0 : Vec Ideal S512x1024 .f32) (x1 x2 : Vec Ideal S512x1024 .bf16) (x3 : Vec Ideal S512x2048 .bf16)
  (x4 x5 x6 : Vec Ideal S1024x1024 .bf16)

theorem pay6_apply (r : Fin 512) (k : Fin 1024) : k0_pay6 x0 x6 (ix2 r k) = dm x0 x6 r k := by
  pointwise [k0_pay6, k0_pay5, dm]

theorem pay7_apply (v : Vec Ideal S512x1024 .bf16) (i : S512x1024.Idx) : k0_pay7 v i = Ideal.logistic (v i) := by
  rw [← halfTanh_eq]; pointwise [k0_pay7, half_word]

theorem pay8_apply (v : Vec Ideal S512x1024 .bf16) (i : S512x1024.Idx) : k0_pay8 v i = Ideal.logistic (v i) := by
  rw [← halfTanh_eq]; pointwise [k0_pay8, half_word]

/-- A load of the left half of the gates' block. -/
theorem ld_lo (r : Fin 512) (k : Fin 1024) : View.ld x3 r0_2 (ix2 r k) = x3 (ix2 r (lo k)) :=
  View.ld_unit_apply_of _ _ _ _ _ _ fun a => by
    match a with
    | ⟨0, _⟩ => show r.val = 0 + r.val; omega
    | ⟨1, _⟩ => show k.val = 0 + k.val; omega

/-- A load of the right half of the gates' block. -/
theorem ld_hi (r : Fin 512) (k : Fin 1024) : View.ld x3 r0_3 (ix2 r k) = x3 (ix2 r (hi k)) :=
  View.ld_unit_apply_of _ _ _ _ _ _ fun a => by
    match a with
    | ⟨0, _⟩ => show r.val = 0 + r.val; omega
    | ⟨1, _⟩ => show 1024 + k.val = 1024 + k.val; rfl

/-- The gradient of the convolution branch. -/
theorem da_apply (r : Fin 512) (k : Fin 1024) :
    k0_pay9 x0 x6 (View.ld x3 r0_2) (ix2 r k) = dm x0 x6 r k * Ideal.logistic (x3 (ix2 r (lo k))) := by
  rw [← ld_lo x3 r k, ← pay6_apply, ← pay7_apply]; pointwise [k0_pay9]

/-- The gradient of the attention branch. -/
theorem db_apply (r : Fin 512) (k : Fin 1024) :
    k0_pay10 x0 x6 (View.ld x3 r0_3) (ix2 r k) = dm x0 x6 r k * Ideal.logistic (x3 (ix2 r (hi k))) := by
  rw [← ld_hi x3 r k, ← pay6_apply, ← pay8_apply]; pointwise [k0_pay10]

theorem out7_apply (r : Fin 512) (k : Fin 1024) : out0_7 x0 x1 x2 x3 x4 x5 x6 (ix2 r k)
    = ∑ j : Fin 1024, dm x0 x6 r j * Ideal.logistic (x3 (ix2 r (lo j))) * x4 (ix2 k j) := by
  unfold out0_7
  rw [View.canon_unit_zero hz, View.ld_unit_zero hz, View.ld_unit_zero hz, View.ld_unit_zero hz]
  simp only [← da_apply]
  pointwise [k0_pay3]

theorem out8_apply (k : Fin 1024) (r : Fin 512) : out0_8 x0 x1 x2 x3 x4 x5 x6 (ix2 k r)
    = ∑ j : Fin 1024, x5 (ix2 k j) * (dm x0 x6 r j * Ideal.logistic (x3 (ix2 r (hi j)))) := by
  unfold out0_8
  rw [View.canon_unit_zero hz, View.ld_unit_zero hz, View.ld_unit_zero hz, View.ld_unit_zero hz]
  simp only [← db_apply]
  pointwise [k0_pay4]

theorem out10_apply (r : Fin 512) (k : Fin 1024) : out0_10 x0 x1 x2 x3 x4 x5 x6 (ix2 r k)
    = dm x0 x6 r k * Ideal.logistic (x3 (ix2 r (lo k))) := by
  unfold out0_10
  rw [View.canon_unit_zero hz, View.ld_unit_zero hz, View.ld_unit_zero hz, da_apply]

theorem out11_apply (r : Fin 512) (k : Fin 1024) : out0_11 x0 x1 x2 x3 x4 x5 x6 (ix2 r k)
    = dm x0 x6 r k * Ideal.logistic (x3 (ix2 r (hi k))) := by
  unfold out0_11
  rw [View.canon_unit_zero hz, View.ld_unit_zero hz, View.ld_unit_zero hz, db_apply]

theorem out12_apply (i : S512x1024.Idx) : out0_12 x0 x1 x2 x3 x4 x5 x6 i = x0 i := by
  unfold out0_12
  rw [View.canon_unit_zero hz, View.ld_unit_zero hz]
  pointwise [k0_pay5]

theorem pay1_apply (r : Fin 512) (k : Fin 1024) :
    k0_pay1 (k0_pay6 x0 x6) (k0_pay7 (View.ld x3 r0_2)) x1 (ix2 r k) = gateGrad x0 x1 x2 x3 x6 r (lo k) := by
  have h : (lo k).val < 1024 := k.isLt
  unfold gateGrad
  rw [dif_pos h, show (⟨(lo k).val, h⟩ : Fin 1024) = k from rfl, ← ld_lo x3 r k, ← pay6_apply, ← pay7_apply]
  pointwise [k0_pay1, one_word]

theorem pay2_apply (r : Fin 512) (k : Fin 1024) :
    k0_pay2 (k0_pay6 x0 x6) (k0_pay8 (View.ld x3 r0_3)) x2 (ix2 r k) = gateGrad x0 x1 x2 x3 x6 r (hi k) := by
  have h : ¬(hi k).val < 1024 := by show ¬(1024 + k.val < 1024); omega
  have e : (⟨(hi k).val - 1024, by have := (hi k).isLt; omega⟩ : Fin 1024) = k := Fin.ext (by show 1024 + k.val - 1024 = k.val; omega)
  unfold gateGrad
  rw [dif_neg h, e, ← ld_hi x3 r k, ← pay6_apply, ← pay8_apply]
  pointwise [k0_pay2, one_word]

theorem out9_apply (r : Fin 512) (q : Fin 2048) : out0_9 x0 x1 x2 x3 x4 x5 x6 (ix2 r q) = gateGrad x0 x1 x2 x3 x6 r q := by
  unfold out0_9 k0_pay11
  rw [View.ld_unit_zero hz, View.ld_unit_zero hz, View.ld_unit_zero hz, View.ld_unit_zero hz]
  refine View.canon_apply_of_pieces (Val := Elt Ideal) (e := .bf16) (fun y => gateGrad x0 x1 x2 x3 x6 (y 0) (y 1)) _ ?_ (ix2 r q) (cover0_9 _ _ _)
  intro p hp
  rcases List.mem_cons.mp hp with rfl | hp
  · intro x
    rw [eq_ix2 x]
    refine (pay2_apply x0 x1 x2 x3 x6 (x 0) (x 1)).trans (congrArg₂ (gateGrad x0 x1 x2 x3 x6) (Fin.ext ?_) (Fin.ext ?_))
    · show (x 0).val = 0 + 1 * (x 0).val; omega
    · show 1024 + (x 1).val = 1024 + 1 * (x 1).val; omega
  rcases List.mem_cons.mp hp with rfl | hp
  · intro x
    rw [eq_ix2 x]
    refine (pay1_apply x0 x1 x2 x3 x6 (x 0) (x 1)).trans (congrArg₂ (gateGrad x0 x1 x2 x3 x6) (Fin.ext ?_) (Fin.ext ?_))
    · show (x 0).val = 0 + 1 * (x 0).val; omega
    · show (x 1).val = 0 + 1 * (x 1).val; omega
  nomatch hp

end Block

end Cert.Gate

end
-- ==== Proof.Gate.Arrays.lean ====
/- WHAT THE SIX RESULT ARRAYS HOLD after the kernel's run, index by index, as functions of the arguments. Grid point `t`
   reads rows `512 t … 512 t + 511` of `dx`, of the two branches and of the gates, and the three matrices whole; it writes
   the same rows of the results (the columns, of the one transposed result). So each result is one function of the
   arguments (`final7` … `final12`). -/
module

public import proofs.«01_k».proof.Proof.Gate.Block
public import proofs.«01_k».proof.Proof.Gen.GateKernelIdeal.Value

@[expose] public section

noncomputable section

namespace Cert.Gate

open Idealize.ShloMosaic Idealize.ShloMosaic.TcCoe Idealize.SL.Sem Cert.GateKernelIdeal Cert.GateKernelIdeal.Gen
  Cert.GateKernelIdeal.Value

variable (m : (ℓ : Loc nD τ sig) → Buf (Elt Ideal) ℓ) (c : Dev nD)

/-! ### The arguments, and the two branches that the host computes from them -/

abbrev argZ : Vec Ideal S4096x1024 .f32 := m ((c : Thread nD τ).loc main_arg0)
abbrev argO : Vec Ideal S4096x1024 .f32 := m ((c : Thread nD τ).loc main_arg1)
abbrev argG : Vec Ideal S4096x2048 .f32 := m ((c : Thread nD τ).loc main_arg2)
abbrev argWp : Vec Ideal S1024x1024 .f32 := m ((c : Thread nD τ).loc main_arg3)
abbrev argWo : Vec Ideal S1024x1024 .f32 := m ((c : Thread nD τ).loc main_arg4)
abbrev argWout : Vec Ideal S1024x1024 .f32 := m ((c : Thread nD τ).loc main_arg5)
abbrev argDx : Vec Ideal S4096x1024 .f32 := m ((c : Thread nD τ).loc main_arg6)

/-- A branch: its rows times its projection. -/
def branch (x : Vec Ideal S4096x1024 .f32) (w : Vec Ideal S1024x1024 .f32) : S4096x1024.Idx → EReal :=
  fun i => ∑ j : Fin 1024, x (ix2 (i 0) j) * w (ix2 j (i 1))

theorem V_v1 : V m c main_v1 = branch (argZ m c) (argWp m c) := by
  have e : V m c main_v1 = (truncf .bf16 (Host.dotGeneral (φ₁ := .f32) (φ₂ := .f32) dot_S4096x1024_S1024x1024_S4096x1024_1_0_0_1_n_n none
      (argZ m c) (argWp m c)) bitsLt_bf16_f32 : FVec Ideal S4096x1024 .bf16) := by
    unfold V; after_results_simp
  rw [e]; funext i; rw [eq_ix2 i]; pointwise [branch]

theorem V_v3 : V m c main_v3 = branch (argO m c) (argWo m c) := by
  have e : V m c main_v3 = (truncf .bf16 (Host.dotGeneral (φ₁ := .f32) (φ₂ := .f32) dot_S4096x1024_S1024x1024_S4096x1024_1_0_0_1_n_n none
      (argO m c) (argWo m c)) bitsLt_bf16_f32 : FVec Ideal S4096x1024 .bf16) := by
    unfold V; after_results_simp
  rw [e]; funext i; rw [eq_ix2 i]; pointwise [branch]

theorem V_v4 : V m c main_v4 = argG m c := by
  have e : V m c main_v4 = (truncf .bf16 (argG m c) bitsLt_bf16_f32 : FVec Ideal S4096x2048 .bf16) := by
    unfold V; after_results_simp
  exact e.trans rfl

theorem V_v5 : V m c main_v5 = argWp m c := by
  have e : V m c main_v5 = (truncf .bf16 (argWp m c) bitsLt_bf16_f32 : FVec Ideal S1024x1024 .bf16) := by
    unfold V; after_results_simp
  exact e.trans rfl

theorem V_v6 : V m c main_v6 = argWo m c := by
  have e : V m c main_v6 = (truncf .bf16 (argWo m c) bitsLt_bf16_f32 : FVec Ideal S1024x1024 .bf16) := by
    unfold V; after_results_simp
  exact e.trans rfl

theorem V_v7 : V m c main_v7 = argWout m c := by
  have e : V m c main_v7 = (truncf .bf16 (argWout m c) bitsLt_bf16_f32 : FVec Ideal S1024x1024 .bf16) := by
    unfold V; after_results_simp
  exact e.trans rfl

/-! ### Which rows a grid point's blocks are -/

/-- Row `r` of grid point `t`'s block. -/
def row (t : Fin cfg0.N) (r : Fin 512) : Fin 4096 :=
  ⟨512 * t.val + r.val, by have := t.isLt; have hN : cfg0.N = 8 := N_0; omega⟩

theorem ix_r0 : ∀ t : Fin cfg0.N, win0_0.index t (0 : Fin 2) = t.val ∧ win0_0.index t (1 : Fin 2) = 0 :=
  (by decide +kernel : ∀ t : Fin grid0.N, _)
theorem ix_r1 : ∀ t : Fin cfg0.N, win0_1.index t (0 : Fin 2) = t.val ∧ win0_1.index t (1 : Fin 2) = 0 :=
  (by decide +kernel : ∀ t : Fin grid0.N, _)
theorem ix_r2 : ∀ t : Fin cfg0.N, win0_2.index t (0 : Fin 2) = t.val ∧ win0_2.index t (1 : Fin 2) = 0 :=
  (by decide +kernel : ∀ t : Fin grid0.N, _)
theorem ix_r3 : ∀ t : Fin cfg0.N, win0_3.index t (0 : Fin 2) = t.val ∧ win0_3.index t (1 : Fin 2) = 0 :=
  (by decide +kernel : ∀ t : Fin grid0.N, _)
theorem ix_r4 : ∀ t : Fin cfg0.N, win0_4.index t (0 : Fin 2) = 0 ∧ win0_4.index t (1 : Fin 2) = 0 :=
  (by decide +kernel : ∀ t : Fin grid0.N, _)
theorem ix_r5 : ∀ t : Fin cfg0.N, win0_5.index t (0 : Fin 2) = 0 ∧ win0_5.index t (1 : Fin 2) = 0 :=
  (by decide +kernel : ∀ t : Fin grid0.N, _)
theorem ix_r6 : ∀ t : Fin cfg0.N, win0_6.index t (0 : Fin 2) = 0 ∧ win0_6.index t (1 : Fin 2) = 0 :=
  (by decide +kernel : ∀ t : Fin grid0.N, _)
theorem ix_r7 : ∀ t : Fin cfg0.N, win0_7.index t (0 : Fin 2) = t.val ∧ win0_7.index t (1 : Fin 2) = 0 :=
  (by decide +kernel : ∀ t : Fin grid0.N, _)
theorem ix_r8 : ∀ t : Fin cfg0.N, win0_8.index t (0 : Fin 2) = 0 ∧ win0_8.index t (1 : Fin 2) = t.val :=
  (by decide +kernel : ∀ t : Fin grid0.N, _)
theorem ix_r9 : ∀ t : Fin cfg0.N, win0_9.index t (0 : Fin 2) = t.val ∧ win0_9.index t (1 : Fin 2) = 0 :=
  (by decide +kernel : ∀ t : Fin grid0.N, _)
theorem ix_r10 : ∀ t : Fin cfg0.N, win0_10.index t (0 : Fin 2) = t.val ∧ win0_10.index t (1 : Fin 2) = 0 :=
  (by decide +kernel : ∀ t : Fin grid0.N, _)
theorem ix_r11 : ∀ t : Fin cfg0.N, win0_11.index t (0 : Fin 2) = t.val ∧ win0_11.index t (1 : Fin 2) = 0 :=
  (by decide +kernel : ∀ t : Fin grid0.N, _)
theorem ix_r12 : ∀ t : Fin cfg0.N, win0_12.index t (0 : Fin 2) = t.val ∧ win0_12.index t (1 : Fin 2) = 0 :=
  (by decide +kernel : ∀ t : Fin grid0.N, _)

/-! ### The input blocks -/

variable (t : Fin cfg0.N)

theorem blk0 (r : Fin 512) (k : Fin 1024) : (iblk m c 0 t : S512x1024.Idx → EReal) (ix2 r k) = argDx m c (ix2 (row t r) k) := by
  obtain ⟨e0, e1⟩ := ix_r0 t
  show V m c main_arg6 (((cfg0.win 0).blk t).view.emb (ix2 r k)) = _
  rw [V_main_arg6]
  refine congrArg (argDx m c) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

theorem blk1 (r : Fin 512) (k : Fin 1024) :
    (iblk m c 1 t : S512x1024.Idx → EReal) (ix2 r k) = branch (argZ m c) (argWp m c) (ix2 (row t r) k) := by
  obtain ⟨e0, e1⟩ := ix_r1 t
  show V m c main_v1 (((cfg0.win 1).blk t).view.emb (ix2 r k)) = _
  rw [V_v1]
  refine congrArg (branch (argZ m c) (argWp m c)) (funext fun a => Fin.ext ?_)
  match a with
  | ⟨0, _⟩ => show win0_1.index t (0 : Fin 2) * 512 + 1 * r.val = 512 * t.val + r.val; omega
  | ⟨1, _⟩ => show win0_1.index t (1 : Fin 2) * 1024 + 1 * k.val = k.val; omega

theorem blk2 (r : Fin 512) (k : Fin 1024) :
    (iblk m c 2 t : S512x1024.Idx → EReal) (ix2 r k) = branch (argO m c) (argWo m c) (ix2 (row t r) k) := by
  obtain ⟨e0, e1⟩ := ix_r2 t
  show V m c main_v3 (((cfg0.win 2).blk t).view.emb (ix2 r k)) = _
  rw [V_v3]
  refine congrArg (branch (argO m c) (argWo m c)) (funext fun a => Fin.ext ?_)
  match a with
  | ⟨0, _⟩ => show win0_2.index t (0 : Fin 2) * 512 + 1 * r.val = 512 * t.val + r.val; omega
  | ⟨1, _⟩ => show win0_2.index t (1 : Fin 2) * 1024 + 1 * k.val = k.val; omega

theorem blk3 (r : Fin 512) (k : Fin 2048) : (iblk m c 3 t : S512x2048.Idx → EReal) (ix2 r k) = argG m c (ix2 (row t r) k) := by
  obtain ⟨e0, e1⟩ := ix_r3 t
  show V m c main_v4 (((cfg0.win 3).blk t).view.emb (ix2 r k)) = _
  rw [V_v4]
  refine congrArg (argG m c) (funext fun a => Fin.ext ?_)
  match a with
  | ⟨0, _⟩ => show win0_3.index t (0 : Fin 2) * 512 + 1 * r.val = 512 * t.val + r.val; omega
  | ⟨1, _⟩ => show win0_3.index t (1 : Fin 2) * 2048 + 1 * k.val = k.val; omega

theorem blk4 : (iblk m c 4 t : S1024x1024.Idx → EReal) = argWp m c := by
  obtain ⟨e0, e1⟩ := ix_r4 t
  funext j
  show V m c main_v5 (((cfg0.win 4).blk t).view.emb j) = _
  rw [V_v5]
  refine congrArg (argWp m c) (funext fun a => Fin.ext ?_)
  match a with
  | ⟨0, _⟩ => show win0_4.index t (0 : Fin 2) * 1024 + 1 * (j 0).val = (j 0).val; omega
  | ⟨1, _⟩ => show win0_4.index t (1 : Fin 2) * 1024 + 1 * (j 1).val = (j 1).val; omega

theorem blk5 : (iblk m c 5 t : S1024x1024.Idx → EReal) = argWo m c := by
  obtain ⟨e0, e1⟩ := ix_r5 t
  funext j
  show V m c main_v6 (((cfg0.win 5).blk t).view.emb j) = _
  rw [V_v6]
  refine congrArg (argWo m c) (funext fun a => Fin.ext ?_)
  match a with
  | ⟨0, _⟩ => show win0_5.index t (0 : Fin 2) * 1024 + 1 * (j 0).val = (j 0).val; omega
  | ⟨1, _⟩ => show win0_5.index t (1 : Fin 2) * 1024 + 1 * (j 1).val = (j 1).val; omega

theorem blk6 : (iblk m c 6 t : S1024x1024.Idx → EReal) = argWout m c := by
  obtain ⟨e0, e1⟩ := ix_r6 t
  funext j
  show V m c main_v7 (((cfg0.win 6).blk t).view.emb j) = _
  rw [V_v7]
  refine congrArg (argWout m c) (funext fun a => Fin.ext ?_)
  match a with
  | ⟨0, _⟩ => show win0_6.index t (0 : Fin 2) * 1024 + 1 * (j 0).val = (j 0).val; omega
  | ⟨1, _⟩ => show win0_6.index t (1 : Fin 2) * 1024 + 1 * (j 1).val = (j 1).val; omega

/-- So the merged gradient of a block's row is that of the array's row. -/
theorem dm_blk (r : Fin 512) (k : Fin 1024) :
    dm (iblk m c 0 t : S512x1024.Idx → EReal) (iblk m c 6 t : S1024x1024.Idx → EReal) r k
      = dm (argDx m c) (argWout m c) (row t r) k := by
  unfold dm
  simp only [blk0, blk6]

/-! ### The result arrays -/

/-- The gradient of the convolution branch's rows before its projection. -/
def G7 : S4096x1024.Idx → EReal := fun i =>
  ∑ j : Fin 1024, dm (argDx m c) (argWout m c) (i 0) j * Ideal.logistic (argG m c (ix2 (i 0) (lo j))) * argWp m c (ix2 (i 1) j)
/-- The gradient of the attention's rows, transposed. -/
def G8 : S1024x4096.Idx → EReal := fun i =>
  ∑ j : Fin 1024, argWo m c (ix2 (i 0) j) * (dm (argDx m c) (argWout m c) (i 1) j * Ideal.logistic (argG m c (ix2 (i 1) (hi j))))
/-- The gradient of the gates. -/
def G9 : S4096x2048.Idx → EReal := fun i =>
  gateGrad (argDx m c) (branch (argZ m c) (argWp m c)) (branch (argO m c) (argWo m c)) (argG m c) (argWout m c) (i 0) (i 1)
/-- The gradient of the convolution branch. -/
def G10 : S4096x1024.Idx → EReal := fun i =>
  dm (argDx m c) (argWout m c) (i 0) (i 1) * Ideal.logistic (argG m c (ix2 (i 0) (lo (i 1))))
/-- The gradient of the attention branch. -/
def G11 : S4096x1024.Idx → EReal := fun i =>
  dm (argDx m c) (argWout m c) (i 0) (i 1) * Ideal.logistic (argG m c (ix2 (i 0) (hi (i 1))))

/-- The cell of a row-tiled array of 1024 columns under a block's index. -/
theorem emb7 (r : Fin 512) (k : Fin 1024) : ((cfg0.win 7).blk t).view.emb (ix2 r k) = (ix2 (row t r) k : S4096x1024.Idx) := by
  obtain ⟨e0, e1⟩ := ix_r7 t
  refine funext fun a => Fin.ext ?_
  match a with
  | ⟨0, _⟩ => show win0_7.index t (0 : Fin 2) * 512 + 1 * r.val = 512 * t.val + r.val; omega
  | ⟨1, _⟩ => show win0_7.index t (1 : Fin 2) * 1024 + 1 * k.val = k.val; omega

theorem emb8 (k : Fin 1024) (r : Fin 512) : ((cfg0.win 8).blk t).view.emb (ix2 k r) = (ix2 k (row t r) : S1024x4096.Idx) := by
  obtain ⟨e0, e1⟩ := ix_r8 t
  refine funext fun a => Fin.ext ?_
  match a with
  | ⟨0, _⟩ => show win0_8.index t (0 : Fin 2) * 1024 + 1 * k.val = k.val; omega
  | ⟨1, _⟩ => show win0_8.index t (1 : Fin 2) * 512 + 1 * r.val = 512 * t.val + r.val; omega

theorem emb9 (r : Fin 512) (k : Fin 2048) : ((cfg0.win 9).blk t).view.emb (ix2 r k) = (ix2 (row t r) k : S4096x2048.Idx) := by
  obtain ⟨e0, e1⟩ := ix_r9 t
  refine funext fun a => Fin.ext ?_
  match a with
  | ⟨0, _⟩ => show win0_9.index t (0 : Fin 2) * 512 + 1 * r.val = 512 * t.val + r.val; omega
  | ⟨1, _⟩ => show win0_9.index t (1 : Fin 2) * 2048 + 1 * k.val = k.val; omega

theorem emb10 (r : Fin 512) (k : Fin 1024) : ((cfg0.win 10).blk t).view.emb (ix2 r k) = (ix2 (row t r) k : S4096x1024.Idx) := by
  obtain ⟨e0, e1⟩ := ix_r10 t
  refine funext fun a => Fin.ext ?_
  match a with
  | ⟨0, _⟩ => show win0_10.index t (0 : Fin 2) * 512 + 1 * r.val = 512 * t.val + r.val; omega
  | ⟨1, _⟩ => show win0_10.index t (1 : Fin 2) * 1024 + 1 * k.val = k.val; omega

theorem emb11 (r : Fin 512) (k : Fin 1024) : ((cfg0.win 11).blk t).view.emb (ix2 r k) = (ix2 (row t r) k : S4096x1024.Idx) := by
  obtain ⟨e0, e1⟩ := ix_r11 t
  refine funext fun a => Fin.ext ?_
  match a with
  | ⟨0, _⟩ => show win0_11.index t (0 : Fin 2) * 512 + 1 * r.val = 512 * t.val + r.val; omega
  | ⟨1, _⟩ => show win0_11.index t (1 : Fin 2) * 1024 + 1 * k.val = k.val; omega

theorem emb12 (r : Fin 512) (k : Fin 1024) : ((cfg0.win 12).blk t).view.emb (ix2 r k) = (ix2 (row t r) k : S4096x1024.Idx) := by
  obtain ⟨e0, e1⟩ := ix_r12 t
  refine funext fun a => Fin.ext ?_
  match a with
  | ⟨0, _⟩ => show win0_12.index t (0 : Fin 2) * 512 + 1 * r.val = 512 * t.val + r.val; omega
  | ⟨1, _⟩ => show win0_12.index t (1 : Fin 2) * 1024 + 1 * k.val = k.val; omega

/-- Every row is a row of some grid point's block. -/
theorem exists_row (R : Fin 4096) : ∃ (t : Fin cfg0.N) (r : Fin 512), row t r = R :=
  ⟨⟨R.val / 512, by have hN : cfg0.N = 8 := N_0; omega⟩, ⟨R.val % 512, by omega⟩, Fin.ext (by show 512 * (R.val / 512) + R.val % 512 = R.val; omega)⟩

theorem out7_blk (r : Fin 512) (k : Fin 1024) :
    out0_7 (iblk m c 0 t) (iblk m c 1 t) (iblk m c 2 t) (iblk m c 3 t) (iblk m c 4 t) (iblk m c 5 t) (iblk m c 6 t) (ix2 r k) = G7 m c (ix2 (row t r) k) :=
  (out7_apply _ _ _ _ _ _ _ r k).trans (by simp only [dm_blk, blk3, blk4, G7]; rfl)

theorem final7 : (dats m 0 c).arrAt 7 cfg0.N = G7 m c := by
  refine (dats m 0 c).arrAt_eq_of_cover 7 (G7 m c) (fun t _ => ?_) (fun (i : S4096x1024.Idx) => ?_)
  · rw [flushed7]
    funext j
    have e : j = ix2 (n0 := 512) (n1 := 1024) (j 0) (j 1) := eq_ix2 j
    rw [e]
    exact (out7_blk m c t (j 0) (j 1)).trans (congrArg (G7 m c) (emb7 t (j 0) (j 1)).symm)
  · obtain ⟨t, r, h⟩ := exists_row (i 0)
    have e : ((cfg0.win 7).blk t).view.emb (ix2 r (i 1)) = i :=
      (emb7 t r (i 1)).trans (by rw [h]; exact (eq_ix2 i).symm)
    exact ⟨t, flush0_7 t, e ▸ View.emb_mem_set _ _⟩

theorem out8_blk (k : Fin 1024) (r : Fin 512) :
    out0_8 (iblk m c 0 t) (iblk m c 1 t) (iblk m c 2 t) (iblk m c 3 t) (iblk m c 4 t) (iblk m c 5 t) (iblk m c 6 t) (ix2 k r) = G8 m c (ix2 k (row t r)) :=
  (out8_apply _ _ _ _ _ _ _ k r).trans (by simp only [dm_blk, blk3, blk5, G8]; rfl)

theorem final8 : (dats m 0 c).arrAt 8 cfg0.N = G8 m c := by
  refine (dats m 0 c).arrAt_eq_of_cover 8 (G8 m c) (fun t _ => ?_) (fun (i : S1024x4096.Idx) => ?_)
  · rw [flushed8]
    funext j
    have e : j = ix2 (n0 := 1024) (n1 := 512) (j 0) (j 1) := eq_ix2 j
    rw [e]
    exact (out8_blk m c t (j 0) (j 1)).trans (congrArg (G8 m c) (emb8 t (j 0) (j 1)).symm)
  · obtain ⟨t, r, h⟩ := exists_row (i 1)
    have e : ((cfg0.win 8).blk t).view.emb (ix2 (i 0) r) = i :=
      (emb8 t (i 0) r).trans (by rw [h]; exact (eq_ix2 i).symm)
    exact ⟨t, flush0_8 t, e ▸ View.emb_mem_set _ _⟩

theorem out9_blk (r : Fin 512) (k : Fin 2048) :
    out0_9 (iblk m c 0 t) (iblk m c 1 t) (iblk m c 2 t) (iblk m c 3 t) (iblk m c 4 t) (iblk m c 5 t) (iblk m c 6 t) (ix2 r k) = G9 m c (ix2 (row t r) k) :=
  (out9_apply _ _ _ _ _ _ _ r k).trans (by simp only [gateGrad, dm_blk, blk1, blk2, blk3, G9]; rfl)

theorem final9 : (dats m 0 c).arrAt 9 cfg0.N = G9 m c := by
  refine (dats m 0 c).arrAt_eq_of_cover 9 (G9 m c) (fun t _ => ?_) (fun (i : S4096x2048.Idx) => ?_)
  · rw [flushed9]
    funext j
    have e : j = ix2 (n0 := 512) (n1 := 2048) (j 0) (j 1) := eq_ix2 j
    rw [e]
    exact (out9_blk m c t (j 0) (j 1)).trans (congrArg (G9 m c) (emb9 t (j 0) (j 1)).symm)
  · obtain ⟨t, r, h⟩ := exists_row (i 0)
    have e : ((cfg0.win 9).blk t).view.emb (ix2 r (i 1)) = i :=
      (emb9 t r (i 1)).trans (by rw [h]; exact (eq_ix2 i).symm)
    exact ⟨t, flush0_9 t, e ▸ View.emb_mem_set _ _⟩

theorem out10_blk (r : Fin 512) (k : Fin 1024) :
    out0_10 (iblk m c 0 t) (iblk m c 1 t) (iblk m c 2 t) (iblk m c 3 t) (iblk m c 4 t) (iblk m c 5 t) (iblk m c 6 t) (ix2 r k) = G10 m c (ix2 (row t r) k) :=
  (out10_apply _ _ _ _ _ _ _ r k).trans (by simp only [dm_blk, blk3, G10]; rfl)

theorem final10 : (dats m 0 c).arrAt 10 cfg0.N = G10 m c := by
  refine (dats m 0 c).arrAt_eq_of_cover 10 (G10 m c) (fun t _ => ?_) (fun (i : S4096x1024.Idx) => ?_)
  · rw [flushed10]
    funext j
    have e : j = ix2 (n0 := 512) (n1 := 1024) (j 0) (j 1) := eq_ix2 j
    rw [e]
    exact (out10_blk m c t (j 0) (j 1)).trans (congrArg (G10 m c) (emb10 t (j 0) (j 1)).symm)
  · obtain ⟨t, r, h⟩ := exists_row (i 0)
    have e : ((cfg0.win 10).blk t).view.emb (ix2 r (i 1)) = i :=
      (emb10 t r (i 1)).trans (by rw [h]; exact (eq_ix2 i).symm)
    exact ⟨t, flush0_10 t, e ▸ View.emb_mem_set _ _⟩

theorem out11_blk (r : Fin 512) (k : Fin 1024) :
    out0_11 (iblk m c 0 t) (iblk m c 1 t) (iblk m c 2 t) (iblk m c 3 t) (iblk m c 4 t) (iblk m c 5 t) (iblk m c 6 t) (ix2 r k) = G11 m c (ix2 (row t r) k) :=
  (out11_apply _ _ _ _ _ _ _ r k).trans (by simp only [dm_blk, blk3, G11]; rfl)

theorem final11 : (dats m 0 c).arrAt 11 cfg0.N = G11 m c := by
  refine (dats m 0 c).arrAt_eq_of_cover 11 (G11 m c) (fun t _ => ?_) (fun (i : S4096x1024.Idx) => ?_)
  · rw [flushed11]
    funext j
    have e : j = ix2 (n0 := 512) (n1 := 1024) (j 0) (j 1) := eq_ix2 j
    rw [e]
    exact (out11_blk m c t (j 0) (j 1)).trans (congrArg (G11 m c) (emb11 t (j 0) (j 1)).symm)
  · obtain ⟨t, r, h⟩ := exists_row (i 0)
    have e : ((cfg0.win 11).blk t).view.emb (ix2 r (i 1)) = i :=
      (emb11 t r (i 1)).trans (by rw [h]; exact (eq_ix2 i).symm)
    exact ⟨t, flush0_11 t, e ▸ View.emb_mem_set _ _⟩

theorem out12_blk (r : Fin 512) (k : Fin 1024) :
    out0_12 (iblk m c 0 t) (iblk m c 1 t) (iblk m c 2 t) (iblk m c 3 t) (iblk m c 4 t) (iblk m c 5 t) (iblk m c 6 t) (ix2 r k) = argDx m c (ix2 (row t r) k) :=
  (out12_apply _ _ _ _ _ _ _ (ix2 r k)).trans (blk0 m c t r k)

theorem final12 : (dats m 0 c).arrAt 12 cfg0.N = argDx m c := by
  refine (dats m 0 c).arrAt_eq_of_cover 12 (argDx m c) (fun t _ => ?_) (fun (i : S4096x1024.Idx) => ?_)
  · rw [flushed12]
    funext j
    have e : j = ix2 (n0 := 512) (n1 := 1024) (j 0) (j 1) := eq_ix2 j
    rw [e]
    exact (out12_blk m c t (j 0) (j 1)).trans (congrArg (argDx m c) (emb12 t (j 0) (j 1)).symm)
  · obtain ⟨t, r, h⟩ := exists_row (i 0)
    have e : ((cfg0.win 12).blk t).view.emb (ix2 r (i 1)) = i :=
      (emb12 t r (i 1)).trans (by rw [h]; exact (eq_ix2 i).symm)
    exact ⟨t, flush0_12 t, e ▸ View.emb_mem_set _ _⟩

end Cert.Gate

end
-- ==== Proof.Gate.Reference.lean ====
/- WHAT THE REFERENCE COMPUTES, read at an index: the gradients of the plain formulas, in the reference's own order of
   factors, are the functions that the kernel's arrays hold (`Arrays.lean`), by the commutativity and associativity of the
   extended reals' product alone. -/
module

public import proofs.«01_k».proof.Proof.Gate.Arrays
public import proofs.«01_k».proof.Proof.Gen.GateReferenceIdeal.Run

@[expose] public section

noncomputable section

namespace Cert.Gate.Reference

open Idealize.ShloMosaic Cert.GateReferenceIdeal Cert.GateReferenceIdeal.Facts₀

variable (z o dx : FVec Ideal S4096x1024 .f32) (g : FVec Ideal S4096x2048 .f32) (wp wo wout : FVec Ideal S1024x1024 .f32)

/-- The array of ones that the reference broadcasts. -/
abbrev ones : FVec Ideal S4096x1024 .f32 := broadcastInDim S4096x1024 ![] bcast_S_S4096x1024 (constant S_ .f32 0x3F800000#32)
/-- The convolution branch's gate. -/
abbrev sigLo : FVec Ideal S4096x1024 .f32 :=
  Host.divf ones (addf ones (Host.exp (Host.negf (extractStridedSlice S4096x1024 ![0, 0] g slices_S4096x2048_S4096x1024_0_0))))
/-- The attention branch's gate. -/
abbrev sigHi : FVec Ideal S4096x1024 .f32 :=
  Host.divf ones (addf ones (Host.exp (Host.negf (extractStridedSlice S4096x1024 ![0, 1024] g slices_S4096x2048_S4096x1024_0_1024))))
/-- The gradient of the merged rows. -/
abbrev dmer : FVec Ideal S4096x1024 .f32 := Host.dotGeneral dot_S4096x1024_S1024x1024_S4096x1024_1_1_0_0_n_n none dx wout
/-- A branch. -/
abbrev proj (x : FVec Ideal S4096x1024 .f32) (w : FVec Ideal S1024x1024 .f32) : FVec Ideal S4096x1024 .f32 :=
  Host.dotGeneral dot_S4096x1024_S1024x1024_S4096x1024_1_0_0_1_n_n none x w

theorem ones_apply (i : S4096x1024.Idx) : ones i = 1 := by pointwise [ones, one_word]

theorem sigLo_apply (r : Fin 4096) (k : Fin 1024) : sigLo g (ix2 r k) = Ideal.logistic (g (ix2 r (lo k))) := by
  rw [← oneOver_eq]
  pointwise [sigLo, one_word]
  rfl

theorem sigHi_apply (r : Fin 4096) (k : Fin 1024) : sigHi g (ix2 r k) = Ideal.logistic (g (ix2 r (hi k))) := by
  rw [← oneOver_eq]
  pointwise [sigHi, one_word]
  rfl

theorem dmer_apply (r : Fin 4096) (k : Fin 1024) : dmer dx wout (ix2 r k) = dm dx wout r k := by
  pointwise [dmer, dm]

theorem proj_apply (x : FVec Ideal S4096x1024 .f32) (w : FVec Ideal S1024x1024 .f32) (i : S4096x1024.Idx) :
    proj x w i = branch x w i := by
  pointwise [proj, branch]

/-- The gradient of the convolution branch's rows before its projection. -/
theorem ref7 (r : Fin 4096) (k : Fin 1024) :
    Host.dotGeneral dot_S4096x1024_S1024x1024_S4096x1024_1_1_0_0_n_n none (mulf (sigLo g) (dmer dx wout)) wp (ix2 r k)
      = ∑ j : Fin 1024, dm dx wout r j * Ideal.logistic (g (ix2 r (lo j))) * wp (ix2 k j) := by
  simp only [← sigLo_apply, ← dmer_apply, mul_comm (dmer dx wout _)]
  pointwise

/-- The gradient of the attention's rows, transposed. -/
theorem ref8 (k : Fin 1024) (r : Fin 4096) :
    (truncf .bf16 (transpose S1024x4096 [1, 0]
      (Host.dotGeneral dot_S4096x1024_S1024x1024_S4096x1024_1_1_0_0_n_n none (mulf (sigHi g) (dmer dx wout)) wo)
      transposes_S4096x1024_S1024x4096_1_0) bitsLt_bf16_f32 : FVec Ideal S1024x4096 .bf16) (ix2 k r)
      = ∑ j : Fin 1024, wo (ix2 k j) * (dm dx wout r j * Ideal.logistic (g (ix2 r (hi j)))) := by
  simp only [← sigHi_apply, ← dmer_apply, mul_comm (dmer dx wout _), mul_comm (wo _)]
  pointwise

/-- The gradient of the convolution branch. -/
theorem ref10 (r : Fin 4096) (k : Fin 1024) :
    (truncf .bf16 (mulf (sigLo g) (dmer dx wout)) bitsLt_bf16_f32 : FVec Ideal S4096x1024 .bf16) (ix2 r k)
      = dm dx wout r k * Ideal.logistic (g (ix2 r (lo k))) := by
  rw [← sigLo_apply, ← dmer_apply, mul_comm]
  pointwise

/-- The gradient of the attention branch. -/
theorem ref11 (r : Fin 4096) (k : Fin 1024) :
    (truncf .bf16 (mulf (sigHi g) (dmer dx wout)) bitsLt_bf16_f32 : FVec Ideal S4096x1024 .bf16) (ix2 r k)
      = dm dx wout r k * Ideal.logistic (g (ix2 r (hi k))) := by
  rw [← sigHi_apply, ← dmer_apply, mul_comm]
  pointwise

/-- One half of the gradient of the gates: the merged gradient times the branch times the logistic function's slope. -/
abbrev half (s a : FVec Ideal S4096x1024 .f32) : FVec Ideal S4096x1024 .f32 :=
  mulf (mulf (dmer dx wout) a) (mulf s (subf ones s))

theorem half_apply (s a : FVec Ideal S4096x1024 .f32) (r : Fin 4096) (k : Fin 1024) :
    half dx wout s a (ix2 r k) = dm dx wout r k * a (ix2 r k) * s (ix2 r k) * (1 - s (ix2 r k)) := by
  rw [← dmer_apply, ← ones_apply (ix2 r k), mul_assoc (_ * _)]
  pointwise

/-- The gradient of the gates. -/
theorem ref9 (r : Fin 4096) (q : Fin 2048) :
    (truncf .bf16 (concatenate S4096x2048 1
      [⟨S4096x1024, half dx wout (sigLo g) (proj z wp)⟩, ⟨S4096x1024, half dx wout (sigHi g) (proj o wo)⟩]
      concatenates_S4096x1024_S4096x1024_S4096x2048_d1) bitsLt_bf16_f32 : FVec Ideal S4096x2048 .bf16) (ix2 r q)
      = gateGrad dx (branch z wp) (branch o wo) g wout r q := by
  have hc : ∀ A B : FVec Ideal S4096x1024 .f32, (truncf .bf16 (concatenate S4096x2048 1
      [⟨S4096x1024, A⟩, ⟨S4096x1024, B⟩] concatenates_S4096x1024_S4096x1024_S4096x2048_d1) bitsLt_bf16_f32 :
        FVec Ideal S4096x2048 .bf16) (ix2 r q)
      = if h : q.val < 1024 then A (ix2 r ⟨q.val, h⟩) else B (ix2 r ⟨q.val - 1024, by omega⟩) := by
    intro A B
    pointwise
  rw [hc]
  unfold gateGrad
  split
  · rename_i h
    rw [half_apply, sigLo_apply, proj_apply]
    rfl
  · rename_i h
    have e : hi ⟨q.val - 1024, by omega⟩ = q := Fin.ext (by show 1024 + (q.val - 1024) = q.val; omega)
    rw [half_apply, sigHi_apply, proj_apply, e]

end Cert.Gate.Reference

end
-- ==== Proof.Ffn.Rows.lean ====
/- THE FEED-FORWARD HALF-STEP AND ITS GRADIENT, ROW BY ROW, over the extended reals: the functions of one token's row that
   both the kernel's arrays and the reference's arrays are set beside. `a` and `b` are the two halves of the hidden row before
   the activation (`left`, `right`), `a` the one that the logistic function gates. -/
module

public import proofs.«01_k».proof.Proof.Gate.Sigmoid

@[expose] public section

noncomputable section

namespace Cert.Ffn

open Idealize.ShloMosaic

/-- The literal 0.5. -/
abbrev half : EReal := ((1 / 2 : ℝ) : EReal)
/-- The number of features, 1024, as the literal that means divide by. -/
abbrev width : EReal := ((1024 : ℝ) : EReal)
/-- The literal added to the mean square. -/
abbrev eps : EReal := Ideal.ofBits .f32 0x358637BD#32

theorem width_word : Ideal.ofBits .f32 0x44800000#32 = width := by
  simp [Ideal.ofBits, Ideal.ieee, -EReal.coe_mul]; norm_num

/-- Column `f` of the left half of a hidden row. -/
def left (f : Fin 2816) : Fin 5632 := ⟨f.val, by omega⟩
/-- Column `f` of the right half of a hidden row. -/
def right (f : Fin 2816) : Fin 5632 := ⟨2816 + f.val, by omega⟩

/-- A row's mean square, on top of the small literal. -/
def msq (x : Fin 1024 → EReal) : EReal := Ideal.div (∑ k : Fin 1024, x k * x k) width + eps

/-- The reciprocal root of a row's mean square. -/
def rstd (x : Fin 1024 → EReal) : EReal := Ideal.rsqrt (msq x)

/-- The normalised row. -/
def normed (x g : Fin 1024 → EReal) (k : Fin 1024) : EReal := x k * rstd x * g k

/-- A row times a matrix. -/
def lin {n p : ℕ} (v : Fin n → EReal) (w : Fin n → Fin p → EReal) (j : Fin p) : EReal := ∑ k : Fin n, v k * w k j

/-- The activation of a hidden row. -/
def act (u : Fin 5632 → EReal) (f : Fin 2816) : EReal := u (left f) * Ideal.logistic (u (left f)) * u (right f)

/-- The gradient of the gated half. -/
def actLeft (dh a b : EReal) : EReal := dh * b * (Ideal.logistic a * (1 + a * (1 - Ideal.logistic a)))

/-- The gradient of a hidden row, from the gradient `dh` of its activation. -/
def actGrad (dh : Fin 2816 → EReal) (u : Fin 5632 → EReal) (q : Fin 5632) : EReal :=
  if h : q.val < 2816 then actLeft (dh ⟨q.val, h⟩) (u (left ⟨q.val, h⟩)) (u (right ⟨q.val, h⟩))
  else dh ⟨q.val - 2816, by omega⟩
    * (u (left ⟨q.val - 2816, by omega⟩) * Ideal.logistic (u (left ⟨q.val - 2816, by omega⟩)))

theorem actGrad_left (dh : Fin 2816 → EReal) (u : Fin 5632 → EReal) (f : Fin 2816) :
    actGrad dh u (left f) = actLeft (dh f) (u (left f)) (u (right f)) := dif_pos f.isLt

theorem actGrad_right (dh : Fin 2816 → EReal) (u : Fin 5632 → EReal) (f : Fin 2816) :
    actGrad dh u (right f) = dh f * (u (left f) * Ideal.logistic (u (left f))) := by
  have e : (⟨(right f).val - 2816, by have := (right f).isLt; omega⟩ : Fin 2816) = f :=
    Fin.ext (by show 2816 + f.val - 2816 = f.val; omega)
  have hn : ¬((right f).val < 2816) := by show ¬(2816 + f.val < 2816); omega
  unfold actGrad
  rw [dif_neg hn, e]

/-- The gradient that passes through the normalisation, from the gradient `dn` of the normalised row. -/
def normGrad (dn x g : Fin 1024 → EReal) (k : Fin 1024) : EReal :=
  rstd x * (dn k * g k - x k * rstd x * Ideal.div (∑ j : Fin 1024, dn j * g j * (x j * rstd x)) width)

/-- A row's part of the gradient of the gain. -/
def gainGrad (dn x : Fin 1024 → EReal) (k : Fin 1024) : EReal := dn k * (x k * rstd x)

end Cert.Ffn

end
-- ==== Proof.Last.Rows.lean ====
/- THE LAST FEED-FORWARD HALF-STEP, ITS LOSS AND ITS GRADIENT, ROW BY ROW: one token's row `x` with its target row `t`, the
   gain `g` and the two matrices. The array of each result is set beside these on both sides of the claim. -/
module

public import proofs.«01_k».proof.Proof.Ffn.Rows

@[expose] public section

noncomputable section

namespace Cert.Last

open Idealize.ShloMosaic Cert.Ffn

/-- The literal that divides the error by the number of features. -/
abbrev share : EReal := ((1 / 1024 : ℝ) : EReal)

theorem share_word : Ideal.ofBits .f32 0x3A800000#32 = share := by
  simp [Ideal.ofBits, Ideal.ieee, -EReal.coe_mul]; norm_num

/-- Row `r` of an array of rows. -/
abbrev row {n p : ℕ} (x : (⟨2, ![n, p]⟩ : Shape).Idx → EReal) (r : Fin n) : Fin p → EReal := fun k => x (ix2 r k)

variable (x t g : Fin 1024 → EReal) (wi : Fin 1024 → Fin 5632 → EReal) (wo : Fin 2816 → Fin 1024 → EReal)

/-- The hidden row before the activation. -/
def up : Fin 5632 → EReal := lin (normed x g) wi
/-- The hidden row. -/
def hid : Fin 2816 → EReal := act (up x g wi)
/-- The error of the prediction. -/
def err (d : Fin 1024) : EReal := x d + half * lin (hid x g wi) wo d - t d
/-- The gradient of the prediction. -/
def dOut (d : Fin 1024) : EReal := err x t g wi wo d * share
/-- The gradient of the second product's result. -/
def dY (d : Fin 1024) : EReal := half * dOut x t g wi wo d
/-- The gradient of the hidden row. -/
def dHid : Fin 2816 → EReal := lin (dY x t g wi wo) (fun d f => wo f d)
/-- The gradient of the hidden row before the activation. -/
def dUp : Fin 5632 → EReal := actGrad (dHid x t g wi wo) (up x g wi)
/-- The gradient of the normalised row. -/
def dNormed : Fin 1024 → EReal := lin (dUp x t g wi wo) (fun q k => wi k q)
/-- The gradient of the row. -/
def dX (k : Fin 1024) : EReal := dOut x t g wi wo k + normGrad (dNormed x t g wi wo) x g k
/-- The row's squared errors. -/
def sq (d : Fin 1024) : EReal := err x t g wi wo d * err x t g wi wo d
/-- The row's part of the gradient of the gain. -/
def dGain : Fin 1024 → EReal := gainGrad (dNormed x t g wi wo) x

end Cert.Last

end
-- ==== Proof.Last.Block.lean ====
/- WHAT ONE BLOCK'S ARITHMETIC COMPUTES in the call `ffn2`, at an index: the functions of a row of Proof/Last/Rows.lean. -/
module

public import proofs.«01_k».proof.Proof.Last.Rows
public import proofs.«01_k».proof.Proof.Gen.LastKernelIdeal.Value
public import Idealize.ShloMosaic.Lib.Pointwise

@[expose] public section

noncomputable section

namespace Cert.Last

open Idealize.ShloMosaic Cert.LastKernelIdeal Cert.LastKernelIdeal.Gen Cert.Ffn Cert.Gate

section Block
variable (x0 x1 : Vec Ideal S256x1024 .f32) (x2 : Vec Ideal S1x1024 .f32) (x3 : Vec Ideal S5632x1024 .bf16)
  (x4 : Vec Ideal S2816x1024 .bf16)

/-- The first matrix of a block, which the block holds transposed. -/
abbrev wIn (k : Fin 1024) (q : Fin 5632) : EReal := x3 (ix2 q k)

theorem pay6_apply (z : Fin 1) (k : Fin 1024) : k0_pay6 x2 (ix2 z k) = row x2 0 k := by
  obtain rfl : z = 0 := Subsingleton.elim _ _
  pointwise [k0_pay6]

theorem pay7_apply (r : Fin 256) (z : Fin 1) : k0_pay7 x0 (ix2 r z) = rstd (row x0 r) := by
  pointwise [k0_pay7, rstd, msq, width_word]

theorem pay8_apply (r : Fin 256) (k : Fin 1024) : k0_pay8 x0 (ix2 r k) = row x0 r k * rstd (row x0 r) := by
  rw [← pay7_apply x0 r 0]
  pointwise [k0_pay8]

theorem pay9_apply (r : Fin 256) (k : Fin 1024) : k0_pay9 x0 x2 (ix2 r k) = normed (row x0 r) (row x2 0) k := by
  unfold normed
  rw [← pay8_apply, ← pay6_apply x2 0]
  pointwise [k0_pay9]

theorem pay10_apply (r : Fin 256) (q : Fin 5632) :
    k0_pay10 x0 x2 x3 (ix2 r q) = up (row x0 r) (row x2 0) (wIn x3) q := by
  unfold up lin
  simp only [← pay9_apply]
  pointwise [k0_pay10]

theorem pay11_apply (r : Fin 256) (f : Fin 2816) :
    k0_pay11 x0 x2 x3 (ix2 r f) = up (row x0 r) (row x2 0) (wIn x3) (left f) := by
  rw [← pay10_apply]
  pointwise [k0_pay11, left]

theorem pay12_apply (r : Fin 256) (f : Fin 2816) :
    k0_pay12 x0 x2 x3 (ix2 r f) = up (row x0 r) (row x2 0) (wIn x3) (right f) := by
  rw [← pay10_apply]
  pointwise [k0_pay12, right]

theorem pay13_apply (r : Fin 256) (f : Fin 2816) :
    k0_pay13 x0 x2 x3 (ix2 r f) = Ideal.logistic (up (row x0 r) (row x2 0) (wIn x3) (left f)) := by
  rw [← pay11_apply, ← halfTanh_eq, ← half_word]
  pointwise [k0_pay13]

theorem pay14_apply (r : Fin 256) (f : Fin 2816) :
    k0_pay14 x0 x2 x3 (ix2 r f) = up (row x0 r) (row x2 0) (wIn x3) (left f)
      * Ideal.logistic (up (row x0 r) (row x2 0) (wIn x3) (left f)) := by
  rw [← pay13_apply, ← pay11_apply]
  pointwise [k0_pay14]

theorem pay15_apply (r : Fin 256) (f : Fin 2816) :
    k0_pay15 x0 x2 x3 (ix2 r f) = hid (row x0 r) (row x2 0) (wIn x3) f := by
  unfold hid act
  rw [← pay14_apply, ← pay12_apply]
  pointwise [k0_pay15]

theorem pay16_apply (r : Fin 256) (d : Fin 1024) :
    k0_pay16 x0 (k0_pay15 x0 x2 x3) x4 x1 (ix2 r d) = err (row x0 r) (row x1 r) (row x2 0) (wIn x3) (row x4) d := by
  unfold err lin
  simp only [← pay15_apply, ← half_word]
  pointwise [k0_pay16]

theorem pay18_apply (r : Fin 256) (d : Fin 1024) :
    k0_pay18 x0 (k0_pay15 x0 x2 x3) x4 x1 (ix2 r d) = dOut (row x0 r) (row x1 r) (row x2 0) (wIn x3) (row x4) d := by
  unfold dOut
  rw [← pay16_apply, ← share_word]
  pointwise [k0_pay18]

theorem pay19_apply (r : Fin 256) (d : Fin 1024) :
    k0_pay19 x0 (k0_pay15 x0 x2 x3) x4 x1 (ix2 r d) = dY (row x0 r) (row x1 r) (row x2 0) (wIn x3) (row x4) d := by
  unfold dY
  rw [← pay18_apply, show half = _ from half_word.symm]
  pointwise [k0_pay19]

theorem pay20_apply (r : Fin 256) (f : Fin 2816) :
    k0_pay20 x0 (k0_pay15 x0 x2 x3) x4 x1 x4 (ix2 r f)
      = dHid (row x0 r) (row x1 r) (row x2 0) (wIn x3) (row x4) f := by
  unfold dHid lin
  simp only [← pay19_apply]
  pointwise [k0_pay20]

theorem pay21_apply (r : Fin 256) (f : Fin 2816) :
    k0_pay21 x0 (k0_pay11 x0 x2 x3) (k0_pay12 x0 x2 x3) (k0_pay13 x0 x2 x3) (k0_pay15 x0 x2 x3) x4 x1 x4 (ix2 r f)
      = dUp (row x0 r) (row x1 r) (row x2 0) (wIn x3) (row x4) (left f) := by
  unfold dUp
  rw [actGrad_left]
  unfold actLeft
  rw [← pay20_apply, ← pay13_apply, ← pay12_apply, ← pay11_apply, ← one_word]
  pointwise [k0_pay21]

theorem pay22_apply (r : Fin 256) (f : Fin 2816) :
    k0_pay22 x0 (k0_pay14 x0 x2 x3) (k0_pay15 x0 x2 x3) x4 x1 x4 (ix2 r f)
      = dUp (row x0 r) (row x1 r) (row x2 0) (wIn x3) (row x4) (right f) := by
  unfold dUp
  rw [actGrad_right, ← pay20_apply, ← pay14_apply]
  pointwise [k0_pay22]

/-- The errors' squares, summed over the block's rows on top of `acc`. -/
theorem pay17_apply (acc : Vec Ideal S1x1024 .f32) (z : Fin 1) (d : Fin 1024) :
    k0_pay17 x0 (k0_pay15 x0 x2 x3) x4 x1 acc (ix2 z d)
      = acc (ix2 0 d) + ∑ r : Fin 256, sq (row x0 r) (row x1 r) (row x2 0) (wIn x3) (row x4) d := by
  obtain rfl : z = 0 := Subsingleton.elim _ _
  unfold sq
  simp only [← pay16_apply]
  pointwise [k0_pay17]

section Back
variable (du : Vec Ideal S256x5632 .bf16)
  (hdu : ∀ (r : Fin 256) (q : Fin 5632), du (ix2 r q) = dUp (row x0 r) (row x1 r) (row x2 0) (wIn x3) (row x4) q)

include hdu in
theorem pay1_apply (r : Fin 256) (k : Fin 1024) :
    k0_pay1 du x3 (ix2 r k) = dNormed (row x0 r) (row x1 r) (row x2 0) (wIn x3) (row x4) k := by
  unfold dNormed lin
  simp only [← hdu]
  pointwise [k0_pay1]

include hdu in
theorem pay2_apply (r : Fin 256) (k : Fin 1024) :
    k0_pay2 (k0_pay6 x2) (k0_pay7 x0) (k0_pay8 x0) (k0_pay18 x0 (k0_pay15 x0 x2 x3) x4 x1) du x3 (ix2 r k)
      = dX (row x0 r) (row x1 r) (row x2 0) (wIn x3) (row x4) k := by
  unfold dX normGrad
  simp only [← pay1_apply x0 x1 x2 x3 x4 du hdu]
  rw [← pay18_apply]
  simp only [← pay8_apply]
  rw [← pay7_apply x0 r 0, show width = _ from width_word.symm]
  simp only [← pay6_apply x2 0]
  pointwise [k0_pay2]

include hdu in
/-- The gain's gradient, summed over the block's rows on top of `acc`. -/
theorem pay3_apply (acc : Vec Ideal S1x1024 .f32) (z : Fin 1) (k : Fin 1024) :
    k0_pay3 (k0_pay8 x0) du x3 acc (ix2 z k)
      = acc (ix2 0 k) + ∑ r : Fin 256, dGain (row x0 r) (row x1 r) (row x2 0) (wIn x3) (row x4) k := by
  obtain rfl : z = 0 := Subsingleton.elim _ _
  unfold dGain gainGrad
  simp only [← pay1_apply x0 x1 x2 x3 x4 du hdu, ← pay8_apply]
  pointwise [k0_pay3]
end Back

end Block

end Cert.Last

end
-- ==== Proof.Last.Out.lean ====
/- WHAT A POINT OF THE GRID LEAVES in each output's buffer in the call `ffn2`, as the arithmetic of Proof/Last/Block.lean:
   at the first point (case A), where the two sums over the rows start from zero, and at each later one (case B), where
   they continue what the point before left. -/
module

public import proofs.«01_k».proof.Proof.Last.Block

@[expose] public section

noncomputable section

namespace Cert.Last

open Idealize.ShloMosaic Idealize Cert.LastKernelIdeal Cert.LastKernelIdeal.Gen Cert.Ffn Cert.Gate

theorem hz : (![0, 0] : Fin 2 → Nat) = fun _ => 0 := funext fun a => by fin_cases a <;> rfl

section Hidden
variable (x0 x1 : Vec Ideal S256x1024 .f32) (x2 : Vec Ideal S1x1024 .f32) (x3 : Vec Ideal S5632x1024 .bf16)
  (x4 : Vec Ideal S2816x1024 .bf16)

/-- The two stores that make up the block of the hidden row's gradient, the later first. -/
abbrev duPieces : List (View.Piece (Elt Ideal) S256x5632 .bf16) :=
  [⟨Rect.unit ![0, 2816] ![256, 2816] inb_S256x5632_S256x2816_0_2816,
      k0_pay22 x0 (k0_pay14 x0 x2 x3) (k0_pay15 x0 x2 x3) x4 x1 x4⟩,
    ⟨Rect.unit ![0, 0] ![256, 2816] inb_S256x5632_S256x2816_0_0,
      k0_pay21 x0 (k0_pay11 x0 x2 x3) (k0_pay12 x0 x2 x3) (k0_pay13 x0 x2 x3) (k0_pay15 x0 x2 x3) x4 x1 x4⟩]

/-- The block of the hidden row's gradient. -/
def duBlock : Vec Ideal S256x5632 .bf16 := View.canon (duPieces x0 x1 x2 x3 x4)

/-- The block of the row's gradient. -/
def dxBlock : Vec Ideal S256x1024 .f32 :=
  k0_pay2 (k0_pay6 x2) (k0_pay7 x0) (k0_pay8 x0) (k0_pay18 x0 (k0_pay15 x0 x2 x3) x4 x1) (duBlock x0 x1 x2 x3 x4) x3

theorem duBlock_apply (r : Fin 256) (q : Fin 5632) :
    duBlock x0 x1 x2 x3 x4 (ix2 r q) = dUp (row x0 r) (row x1 r) (row x2 0) (wIn x3) (row x4) q := by
  unfold duBlock
  refine View.canon_apply_of_pieces (Val := Elt Ideal) (e := .bf16)
    (fun y : S256x5632.Idx => dUp (row x0 (y 0)) (row x1 (y 0)) (row x2 0) (wIn x3) (row x4) (y 1)) _ ?_ (ix2 r q) ?_
  · intro p hp
    rcases List.mem_cons.mp hp with rfl | hp
    · intro x
      rw [eq_ix2 x]
      refine (pay22_apply x0 x1 x2 x3 x4 (x 0) (x 1)).trans ?_
      refine congrArg₂ (fun (r : Fin 256) q => dUp (row x0 r) (row x1 r) (row x2 0) (wIn x3) (row x4) q)
        (Fin.ext ?_) (Fin.ext ?_)
      · show (x 0).val = 0 + 1 * (x 0).val; omega
      · show 2816 + (x 1).val = 2816 + 1 * (x 1).val; omega
    rcases List.mem_cons.mp hp with rfl | hp
    · intro x
      rw [eq_ix2 x]
      refine (pay21_apply x0 x1 x2 x3 x4 (x 0) (x 1)).trans ?_
      refine congrArg₂ (fun (r : Fin 256) q => dUp (row x0 r) (row x1 r) (row x2 0) (wIn x3) (row x4) q)
        (Fin.ext ?_) (Fin.ext ?_)
      · show (x 0).val = 0 + 1 * (x 0).val; omega
      · show (x 1).val = 0 + 1 * (x 1).val; omega
    nomatch hp
  · by_cases hq : q.val < 2816
    · refine ⟨_, List.mem_cons_of_mem _ (List.mem_cons_self ..), ?_⟩
      rw [Rect.mem_set_unit]
      intro a
      match a with
      | ⟨0, _⟩ => exact ⟨Nat.zero_le _, by show r.val < 0 + 256; omega⟩
      | ⟨1, _⟩ => exact ⟨Nat.zero_le _, by show q.val < 0 + 2816; omega⟩
    · refine ⟨_, List.mem_cons_self .., ?_⟩
      rw [Rect.mem_set_unit]
      intro a
      match a with
      | ⟨0, _⟩ => exact ⟨Nat.zero_le _, by show r.val < 0 + 256; omega⟩
      | ⟨1, _⟩ => exact ⟨by show 2816 ≤ q.val; omega, by show q.val < 2816 + 2816; omega⟩

/-- The block, read back whole after its two stores. -/
theorem reload (a7 : Memref sig .tc .vmem S256x5632 .bf16) :
    a7.view.readCov (duPieces x0 x1 x2 x3 x4) (Rect.unit ![0, 0] ![256, 5632] inb_S256x5632_S256x5632_0_0).toLoadRect
      = duBlock x0 x1 x2 x3 x4 := by
  rw [View.readCov_eq_canon']
  exact View.ld_unit_zero (S := S256x5632) hz _ _

theorem dxBlock_apply (r : Fin 256) (k : Fin 1024) :
    dxBlock x0 x1 x2 x3 x4 (ix2 r k) = dX (row x0 r) (row x1 r) (row x2 0) (wIn x3) (row x4) k :=
  pay2_apply x0 x1 x2 x3 x4 _ (duBlock_apply x0 x1 x2 x3 x4) r k

end Hidden

variable (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S1x1024 .f32) (h3 : a3.IsWhole)
  (a4 : Memref sig .tc .vmem S5632x1024 .bf16) (h4 : a4.IsWhole)
  (a5 : Memref sig .tc .vmem S2816x1024 .bf16) (h5 : a5.IsWhole)
  (a6 : Memref sig .tc .vmem S256x1024 .bf16) (h6 : a6.IsWhole)
  (a7 : Memref sig .tc .vmem S256x5632 .bf16) (h7 : a7.IsWhole)
  (a8 : Memref sig .tc .vmem S256x2816 .bf16) (h8 : a8.IsWhole)
  (a9 : Memref sig .tc .vmem S256x1024 .bf16) (h9 : a9.IsWhole)
  (a10 : Memref sig .tc .vmem S256x1024 .f32) (h10 : a10.IsWhole)
  (a11 : Memref sig .tc .vmem S1x1024 .f32) (h11 : a11.IsWhole)
  (a12 : Memref sig .tc .vmem S1x1024 .f32) (h12 : a12.IsWhole)
  (x0 : Vec Ideal S256x1024 .f32)  (x1 : Vec Ideal S256x1024 .f32)  (x2 : Vec Ideal S1x1024 .f32)  (x3 : Vec Ideal S5632x1024 .bf16)  (x4 : Vec Ideal S2816x1024 .bf16)
  (p10 p11 : Vec Ideal S1x1024 .f32)

theorem out5_A (hc : cond0_0 i) :
    out0_A_5 c i a1 h1 a2 h2 a3 h3 a4 h4 a5 h5 a6 h6 a7 h7 a8 h8 a9 h9 a10 h10 a11 h11 a12 h12 hc x0 x1 x2 x3 x4 = k0_pay9 x0 x2 := by
  unfold out0_A_5
  rw [View.read_writes_eq_canon _ _ _ (cover0_A_5 c i a1 h1 a2 h2 a3 h3 a4 h4 a5 h5 a6 h6 a7 h7 a8 h8 a9 h9 a10 h10 a11 h11 a12 h12 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x1024) hz, View.ld_unit_zero (S := S1x1024) hz, View.ld_unit_zero (S := S5632x1024) hz, View.ld_unit_zero (S := S2816x1024) hz]

theorem out6_A (hc : cond0_0 i) :
    out0_A_6 c i a1 h1 a2 h2 a3 h3 a4 h4 a5 h5 a6 h6 a7 h7 a8 h8 a9 h9 a10 h10 a11 h11 a12 h12 hc x0 x1 x2 x3 x4 = duBlock x0 x1 x2 x3 x4 := by
  unfold out0_A_6
  rw [View.read_writes_eq_canon _ _ _ (cover0_A_6 c i a1 h1 a2 h2 a3 h3 a4 h4 a5 h5 a6 h6 a7 h7 a8 h8 a9 h9 a10 h10 a11 h11 a12 h12 hc x0 x1 x2 x3 x4)]
  unfold kernelRun0_A
  dsimp only
  sl_unfold_words
  simp only [View.readAt_eq_ld, h1.read_unread, h2.read_unread, h3.read_unread, h4.read_unread, h5.read_unread,
    View.ld_unit_zero (S := S256x1024) hz, View.ld_unit_zero (S := S1x1024) hz, View.ld_unit_zero (S := S5632x1024) hz, View.ld_unit_zero (S := S2816x1024) hz]
  rfl

theorem out7_A (hc : cond0_0 i) :
    out0_A_7 c i a1 h1 a2 h2 a3 h3 a4 h4 a5 h5 a6 h6 a7 h7 a8 h8 a9 h9 a10 h10 a11 h11 a12 h12 hc x0 x1 x2 x3 x4 = k0_pay15 x0 x2 x3 := by
  unfold out0_A_7
  rw [View.read_writes_eq_canon _ _ _ (cover0_A_7 c i a1 h1 a2 h2 a3 h3 a4 h4 a5 h5 a6 h6 a7 h7 a8 h8 a9 h9 a10 h10 a11 h11 a12 h12 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x1024) hz, View.ld_unit_zero (S := S1x1024) hz, View.ld_unit_zero (S := S5632x1024) hz, View.ld_unit_zero (S := S2816x1024) hz]

theorem out8_A (hc : cond0_0 i) :
    out0_A_8 c i a1 h1 a2 h2 a3 h3 a4 h4 a5 h5 a6 h6 a7 h7 a8 h8 a9 h9 a10 h10 a11 h11 a12 h12 hc x0 x1 x2 x3 x4 = k0_pay19 x0 (k0_pay15 x0 x2 x3) x4 x1 := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x1024) hz, View.ld_unit_zero (S := S1x1024) hz, View.ld_unit_zero (S := S5632x1024) hz, View.ld_unit_zero (S := S2816x1024) hz]

theorem out9_A (hc : cond0_0 i) :
    out0_A_9 c i a1 h1 a2 h2 a3 h3 a4 h4 a5 h5 a6 h6 a7 h7 a8 h8 a9 h9 a10 h10 a11 h11 a12 h12 hc x0 x1 x2 x3 x4 = dxBlock x0 x1 x2 x3 x4 := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x1024) hz, View.ld_unit_zero (S := S1x1024) hz, View.ld_unit_zero (S := S5632x1024) hz, View.ld_unit_zero (S := S2816x1024) hz]
  rw [reload]
  rfl

theorem out10_A (hc : cond0_0 i) :
    out0_A_10 c i a1 h1 a2 h2 a3 h3 a4 h4 a5 h5 a6 h6 a7 h7 a8 h8 a9 h9 a10 h10 a11 h11 a12 h12 hc x0 x1 x2 x3 x4 = k0_pay17 x0 (k0_pay15 x0 x2 x3) x4 x1 (k0_pay4 (F := Ideal)) := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread,
    View.ld_unit_zero (S := S256x1024) hz, View.ld_unit_zero (S := S1x1024) hz, View.ld_unit_zero (S := S5632x1024) hz, View.ld_unit_zero (S := S2816x1024) hz]

theorem out11_A (hc : cond0_0 i) :
    out0_A_11 c i a1 h1 a2 h2 a3 h3 a4 h4 a5 h5 a6 h6 a7 h7 a8 h8 a9 h9 a10 h10 a11 h11 a12 h12 hc x0 x1 x2 x3 x4 = k0_pay3 (k0_pay8 x0) (duBlock x0 x1 x2 x3 x4) x3 (k0_pay5 (F := Ideal)) := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread,
    View.ld_unit_zero (S := S256x1024) hz, View.ld_unit_zero (S := S1x1024) hz, View.ld_unit_zero (S := S5632x1024) hz, View.ld_unit_zero (S := S2816x1024) hz]
  rw [reload]

theorem out5_B (hc : ¬cond0_0 i) :
    out0_B_5 c i a1 h1 a2 h2 a3 h3 a4 h4 a5 h5 a6 h6 a7 h7 a8 h8 a9 h9 a10 h10 a11 h11 a12 h12 hc x0 x1 x2 x3 x4 p10 p11 = k0_pay9 x0 x2 := by
  unfold out0_B_5
  rw [View.read_writes_eq_canon _ _ _ (cover0_B_5 c i a1 h1 a2 h2 a3 h3 a4 h4 a5 h5 a6 h6 a7 h7 a8 h8 a9 h9 a10 h10 a11 h11 a12 h12 hc x0 x1 x2 x3 x4 p10 p11)]
  unfold kernelRun0_B
  dsimp only
  sl_unfold_words
  rw [View.canon_unit_zero hz]
  simp only [View.readAt_eq_ld, h1.read_unread, h2.read_unread, h3.read_unread, h4.read_unread, h5.read_unread, h11.read_unread, h12.read_unread,
    View.ld_unit_zero (S := S256x1024) hz, View.ld_unit_zero (S := S1x1024) hz, View.ld_unit_zero (S := S5632x1024) hz, View.ld_unit_zero (S := S2816x1024) hz]

theorem out6_B (hc : ¬cond0_0 i) :
    out0_B_6 c i a1 h1 a2 h2 a3 h3 a4 h4 a5 h5 a6 h6 a7 h7 a8 h8 a9 h9 a10 h10 a11 h11 a12 h12 hc x0 x1 x2 x3 x4 p10 p11 = duBlock x0 x1 x2 x3 x4 := by
  unfold out0_B_6
  rw [View.read_writes_eq_canon _ _ _ (cover0_B_6 c i a1 h1 a2 h2 a3 h3 a4 h4 a5 h5 a6 h6 a7 h7 a8 h8 a9 h9 a10 h10 a11 h11 a12 h12 hc x0 x1 x2 x3 x4 p10 p11)]
  unfold kernelRun0_B
  dsimp only
  sl_unfold_words
  simp only [View.readAt_eq_ld, h1.read_unread, h2.read_unread, h3.read_unread, h4.read_unread, h5.read_unread, h11.read_unread, h12.read_unread,
    View.ld_unit_zero (S := S256x1024) hz, View.ld_unit_zero (S := S1x1024) hz, View.ld_unit_zero (S := S5632x1024) hz, View.ld_unit_zero (S := S2816x1024) hz]
  rfl

theorem out7_B (hc : ¬cond0_0 i) :
    out0_B_7 c i a1 h1 a2 h2 a3 h3 a4 h4 a5 h5 a6 h6 a7 h7 a8 h8 a9 h9 a10 h10 a11 h11 a12 h12 hc x0 x1 x2 x3 x4 p10 p11 = k0_pay15 x0 x2 x3 := by
  unfold out0_B_7
  rw [View.read_writes_eq_canon _ _ _ (cover0_B_7 c i a1 h1 a2 h2 a3 h3 a4 h4 a5 h5 a6 h6 a7 h7 a8 h8 a9 h9 a10 h10 a11 h11 a12 h12 hc x0 x1 x2 x3 x4 p10 p11)]
  unfold kernelRun0_B
  dsimp only
  sl_unfold_words
  rw [View.canon_unit_zero hz]
  simp only [View.readAt_eq_ld, h1.read_unread, h2.read_unread, h3.read_unread, h4.read_unread, h5.read_unread, h11.read_unread, h12.read_unread,
    View.ld_unit_zero (S := S256x1024) hz, View.ld_unit_zero (S := S1x1024) hz, View.ld_unit_zero (S := S5632x1024) hz, View.ld_unit_zero (S := S2816x1024) hz]

theorem out8_B (hc : ¬cond0_0 i) :
    out0_B_8 c i a1 h1 a2 h2 a3 h3 a4 h4 a5 h5 a6 h6 a7 h7 a8 h8 a9 h9 a10 h10 a11 h11 a12 h12 hc x0 x1 x2 x3 x4 p10 p11 = k0_pay19 x0 (k0_pay15 x0 x2 x3) x4 x1 := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 p10 p11)]
  unfold kernelRun0_B
  dsimp only
  sl_unfold_words
  rw [View.canon_unit_zero hz]
  simp only [View.readAt_eq_ld, h1.read_unread, h2.read_unread, h3.read_unread, h4.read_unread, h5.read_unread, h11.read_unread, h12.read_unread,
    View.ld_unit_zero (S := S256x1024) hz, View.ld_unit_zero (S := S1x1024) hz, View.ld_unit_zero (S := S5632x1024) hz, View.ld_unit_zero (S := S2816x1024) hz]

theorem out9_B (hc : ¬cond0_0 i) :
    out0_B_9 c i a1 h1 a2 h2 a3 h3 a4 h4 a5 h5 a6 h6 a7 h7 a8 h8 a9 h9 a10 h10 a11 h11 a12 h12 hc x0 x1 x2 x3 x4 p10 p11 = dxBlock x0 x1 x2 x3 x4 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 p10 p11)]
  unfold kernelRun0_B
  dsimp only
  sl_unfold_words
  rw [View.canon_unit_zero hz]
  simp only [View.readAt_eq_ld, h1.read_unread, h2.read_unread, h3.read_unread, h4.read_unread, h5.read_unread, h11.read_unread, h12.read_unread,
    View.ld_unit_zero (S := S256x1024) hz, View.ld_unit_zero (S := S1x1024) hz, View.ld_unit_zero (S := S5632x1024) hz, View.ld_unit_zero (S := S2816x1024) hz]
  rw [reload]
  rfl

theorem out10_B (hc : ¬cond0_0 i) :
    out0_B_10 c i a1 h1 a2 h2 a3 h3 a4 h4 a5 h5 a6 h6 a7 h7 a8 h8 a9 h9 a10 h10 a11 h11 a12 h12 hc x0 x1 x2 x3 x4 p10 p11 = k0_pay17 x0 (k0_pay15 x0 x2 x3) x4 x1 p10 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 p10 p11)]
  unfold kernelRun0_B
  dsimp only
  sl_unfold_words
  rw [View.canon_unit_zero (S := S1x1024) hz]
  simp only [View.readAt_eq_ld, h1.read_unread, h2.read_unread, h3.read_unread, h4.read_unread, h5.read_unread, h11.read_unread, h12.read_unread,
    View.ld_unit_zero (S := S256x1024) hz, View.ld_unit_zero (S := S1x1024) hz, View.ld_unit_zero (S := S5632x1024) hz, View.ld_unit_zero (S := S2816x1024) hz]

theorem out11_B (hc : ¬cond0_0 i) :
    out0_B_11 c i a1 h1 a2 h2 a3 h3 a4 h4 a5 h5 a6 h6 a7 h7 a8 h8 a9 h9 a10 h10 a11 h11 a12 h12 hc x0 x1 x2 x3 x4 p10 p11 = k0_pay3 (k0_pay8 x0) (duBlock x0 x1 x2 x3 x4) x3 p11 := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 p10 p11)]
  unfold kernelRun0_B
  dsimp only
  sl_unfold_words
  rw [View.canon_unit_zero (S := S1x1024) hz]
  simp only [View.readAt_eq_ld, h1.read_unread, h2.read_unread, h3.read_unread, h4.read_unread, h5.read_unread, h11.read_unread, h12.read_unread,
    View.ld_unit_zero (S := S256x1024) hz, View.ld_unit_zero (S := S1x1024) hz, View.ld_unit_zero (S := S5632x1024) hz, View.ld_unit_zero (S := S2816x1024) hz]
  rw [reload]

end Cert.Last

end
-- ==== Proof.Last.Arrays.lean ====
/- WHAT THE SEVEN RESULT ARRAYS of the call `ffn2` HOLD after the kernel's run, index by index, as functions of the
   arguments. Grid point `t` reads rows `256 t … 256 t + 255` of the tokens and of the targets, and the gain and the two
   matrices whole; it writes the same rows of five results and adds the block's rows to the two sums. -/
module

public import proofs.«01_k».proof.Proof.Last.Out

@[expose] public section

noncomputable section

namespace Cert.Last

open Idealize.ShloMosaic Idealize.ShloMosaic.TcCoe Idealize.SL.Sem Cert.LastKernelIdeal Cert.LastKernelIdeal.Gen
  Cert.LastKernelIdeal.Value Cert.Ffn

variable (m : (ℓ : Loc nD τ sig) → Buf (Elt Ideal) ℓ) (c : Dev nD)

/-! ### The arguments -/

abbrev argX : Vec Ideal S4096x1024 .f32 := m ((c : Thread nD τ).loc main_arg0)
abbrev argT : Vec Ideal S4096x1024 .f32 := m ((c : Thread nD τ).loc main_arg1)
abbrev argG : Vec Ideal S1024 .f32 := m ((c : Thread nD τ).loc main_arg2)
abbrev argWi : Vec Ideal S1024x5632 .f32 := m ((c : Thread nD τ).loc main_arg3)
abbrev argWo : Vec Ideal S2816x1024 .f32 := m ((c : Thread nD τ).loc main_arg4)

/-- The gain, column by column. -/
def gain (k : Fin 1024) : EReal := argG m c (ix1 k)

theorem V_v0 (k : Fin 1024) : (V m c main_v0 : S1x1024.Idx → EReal) (ix2 0 k) = gain m c k := by
  have e : V m c main_v0 = (shapeCast S1x1024 (argG m c) shapeCasts_S1024_S1x1024 : FVec Ideal S1x1024 .f32) := by
    unfold V; after_results_simp; rfl
  rw [e]; pointwise [gain]

theorem V_v2 (q : Fin 5632) (k : Fin 1024) : (V m c main_v2 : S5632x1024.Idx → EReal) (ix2 q k) = argWi m c (ix2 k q) := by
  have e : V m c main_v2 = (truncf .bf16 (transpose S5632x1024 [1, 0] (argWi m c) transposes_S1024x5632_S5632x1024_1_0 : FVec Ideal S5632x1024 .f32)
      bitsLt_bf16_f32 : FVec Ideal S5632x1024 .bf16) := by
    unfold V; after_results_simp
  rw [e]; pointwise

theorem V_v3 : V m c main_v3 = argWo m c := by
  have e : V m c main_v3 = (truncf .bf16 (argWo m c) bitsLt_bf16_f32 : FVec Ideal S2816x1024 .bf16) := by
    unfold V; after_results_simp
  exact e.trans rfl

/-! ### Which rows a grid point's blocks are -/

/-- Row `r` of grid point `t`'s block. -/
def at_ (t : Fin cfg0.N) (r : Fin 256) : Fin 4096 :=
  ⟨256 * t.val + r.val, by have := t.isLt; have hN : cfg0.N = 16 := N_0; omega⟩

theorem ix_r0 : ∀ t : Fin cfg0.N, win0_0.index t (0 : Fin 2) = t.val ∧ win0_0.index t (1 : Fin 2) = 0 :=
  (by decide +kernel : ∀ t : Fin grid0.N, _)
theorem ix_r1 : ∀ t : Fin cfg0.N, win0_1.index t (0 : Fin 2) = t.val ∧ win0_1.index t (1 : Fin 2) = 0 :=
  (by decide +kernel : ∀ t : Fin grid0.N, _)
theorem ix_r2 : ∀ t : Fin cfg0.N, win0_2.index t (0 : Fin 2) = 0 ∧ win0_2.index t (1 : Fin 2) = 0 :=
  (by decide +kernel : ∀ t : Fin grid0.N, _)
theorem ix_r3 : ∀ t : Fin cfg0.N, win0_3.index t (0 : Fin 2) = 0 ∧ win0_3.index t (1 : Fin 2) = 0 :=
  (by decide +kernel : ∀ t : Fin grid0.N, _)
theorem ix_r4 : ∀ t : Fin cfg0.N, win0_4.index t (0 : Fin 2) = 0 ∧ win0_4.index t (1 : Fin 2) = 0 :=
  (by decide +kernel : ∀ t : Fin grid0.N, _)
theorem ix_r5 : ∀ t : Fin cfg0.N, win0_5.index t (0 : Fin 2) = t.val ∧ win0_5.index t (1 : Fin 2) = 0 :=
  (by decide +kernel : ∀ t : Fin grid0.N, _)
theorem ix_r6 : ∀ t : Fin cfg0.N, win0_6.index t (0 : Fin 2) = t.val ∧ win0_6.index t (1 : Fin 2) = 0 :=
  (by decide +kernel : ∀ t : Fin grid0.N, _)
theorem ix_r7 : ∀ t : Fin cfg0.N, win0_7.index t (0 : Fin 2) = t.val ∧ win0_7.index t (1 : Fin 2) = 0 :=
  (by decide +kernel : ∀ t : Fin grid0.N, _)
theorem ix_r8 : ∀ t : Fin cfg0.N, win0_8.index t (0 : Fin 2) = t.val ∧ win0_8.index t (1 : Fin 2) = 0 :=
  (by decide +kernel : ∀ t : Fin grid0.N, _)
theorem ix_r9 : ∀ t : Fin cfg0.N, win0_9.index t (0 : Fin 2) = t.val ∧ win0_9.index t (1 : Fin 2) = 0 :=
  (by decide +kernel : ∀ t : Fin grid0.N, _)
theorem ix_r10 : ∀ t : Fin cfg0.N, win0_10.index t (0 : Fin 2) = 0 ∧ win0_10.index t (1 : Fin 2) = 0 :=
  (by decide +kernel : ∀ t : Fin grid0.N, _)
theorem ix_r11 : ∀ t : Fin cfg0.N, win0_11.index t (0 : Fin 2) = 0 ∧ win0_11.index t (1 : Fin 2) = 0 :=
  (by decide +kernel : ∀ t : Fin grid0.N, _)

/-! ### The input blocks -/

variable (t : Fin cfg0.N)

theorem blk0 (r : Fin 256) : row (iblk m c 0 t : S256x1024.Idx → EReal) r = row (argX m c) (at_ t r) := by
  obtain ⟨e0, e1⟩ := ix_r0 t
  funext k
  show V m c main_arg0 (((cfg0.win 0).blk t).view.emb (ix2 r k)) = _
  rw [V_main_arg0]
  refine congrArg (argX m c) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * k.val = k.val; omega

theorem blk1 (r : Fin 256) : row (iblk m c 1 t : S256x1024.Idx → EReal) r = row (argT m c) (at_ t r) := by
  obtain ⟨e0, e1⟩ := ix_r1 t
  funext k
  show V m c main_arg1 (((cfg0.win 1).blk t).view.emb (ix2 r k)) = _
  rw [V_main_arg1]
  refine congrArg (argT m c) (funext fun a => Fin.ext ?_)
  match a with
  | ⟨0, _⟩ => show win0_1.index t (0 : Fin 2) * 256 + 1 * r.val = 256 * t.val + r.val; omega
  | ⟨1, _⟩ => show win0_1.index t (1 : Fin 2) * 1024 + 1 * k.val = k.val; omega

theorem blk2 : row (iblk m c 2 t : S1x1024.Idx → EReal) 0 = gain m c := by
  obtain ⟨e0, e1⟩ := ix_r2 t
  funext k
  refine Eq.trans ?_ (V_v0 m c k)
  show V m c main_v0 (((cfg0.win 2).blk t).view.emb (ix2 0 k)) = _
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

theorem blk3 : wIn (iblk m c 3 t : S5632x1024.Idx → EReal) = row (argWi m c) := by
  obtain ⟨e0, e1⟩ := ix_r3 t
  funext k q
  refine Eq.trans ?_ (V_v2 m c q k)
  show V m c main_v2 (((cfg0.win 3).blk t).view.emb (ix2 q k)) = _
  refine congrArg (V m c main_v2) (funext fun a => Fin.ext ?_)
  match a with
  | ⟨0, _⟩ => show win0_3.index t (0 : Fin 2) * 5632 + 1 * q.val = q.val; omega
  | ⟨1, _⟩ => show win0_3.index t (1 : Fin 2) * 1024 + 1 * k.val = k.val; omega

theorem blk4 : row (iblk m c 4 t : S2816x1024.Idx → EReal) = row (argWo m c) := by
  obtain ⟨e0, e1⟩ := ix_r4 t
  funext f d
  show V m c main_v3 (((cfg0.win 4).blk t).view.emb (ix2 f d)) = _
  rw [V_v3]
  refine congrArg (argWo m c) (funext fun a => Fin.ext ?_)
  match a with
  | ⟨0, _⟩ => show win0_4.index t (0 : Fin 2) * 2816 + 1 * f.val = f.val; omega
  | ⟨1, _⟩ => show win0_4.index t (1 : Fin 2) * 1024 + 1 * d.val = d.val; omega

/-! ### The result arrays -/

/-- The normalised rows. -/
def G5 : S4096x1024.Idx → EReal := fun i => normed (row (argX m c) (i 0)) (gain m c) (i 1)
/-- The gradient of the hidden rows before the activation. -/
def G6 : S4096x5632.Idx → EReal := fun i => dUp (row (argX m c) (i 0)) (row (argT m c) (i 0)) (gain m c) (row (argWi m c)) (row (argWo m c)) (i 1)
/-- The hidden rows. -/
def G7 : S4096x2816.Idx → EReal := fun i => hid (row (argX m c) (i 0)) (gain m c) (row (argWi m c)) (i 1)
/-- The gradient of the second product's result. -/
def G8 : S4096x1024.Idx → EReal := fun i => dY (row (argX m c) (i 0)) (row (argT m c) (i 0)) (gain m c) (row (argWi m c)) (row (argWo m c)) (i 1)
/-- The gradient of the rows. -/
def G9 : S4096x1024.Idx → EReal := fun i => dX (row (argX m c) (i 0)) (row (argT m c) (i 0)) (gain m c) (row (argWi m c)) (row (argWo m c)) (i 1)
/-- The squared errors, summed over the rows. -/
def G10 : S1x1024.Idx → EReal := fun i => ∑ R : Fin 4096,
  sq (row (argX m c) R) (row (argT m c) R) (gain m c) (row (argWi m c)) (row (argWo m c)) (i 1)
/-- The gradient of the gain. -/
def G11 : S1x1024.Idx → EReal := fun i => ∑ R : Fin 4096,
  dGain (row (argX m c) R) (row (argT m c) R) (gain m c) (row (argWi m c)) (row (argWo m c)) (i 1)

/-- Every row is a row of some grid point's block. -/
theorem exists_row (R : Fin 4096) : ∃ (t : Fin cfg0.N) (r : Fin 256), at_ t r = R :=
  ⟨⟨R.val / 256, by have hN : cfg0.N = 16 := N_0; omega⟩, ⟨R.val % 256, by omega⟩,
    Fin.ext (by show 256 * (R.val / 256) + R.val % 256 = R.val; omega)⟩

theorem left5 : (outsAt0 m c t.val t.isLt).1 = k0_pay9 (iblk m c 0 t) (iblk m c 2 t) := by
  by_cases h : t.val % 16 = 0
  · rw [outsAt0_A m c t h]; dsimp only; rw [out5_A]
  · rw [outsAt0_B m c t h]; dsimp only; rw [out5_B]

theorem blkOut5 (r : Fin 256) (k : Fin 1024) :
    k0_pay9 (iblk m c 0 t) (iblk m c 2 t) (ix2 r k) = G5 m c (ix2 (at_ t r) k) :=
  (pay9_apply _ _ r k).trans (by rw [blk0, blk2]; rfl)

theorem emb5 (r : Fin 256) (k : Fin 1024) : ((cfg0.win 5).blk t).view.emb (ix2 r k) = (ix2 (at_ t r) k : S4096x1024.Idx) := by
  obtain ⟨e0, e1⟩ := ix_r5 t
  refine funext fun a => Fin.ext ?_
  match a with
  | ⟨0, _⟩ => show win0_5.index t (0 : Fin 2) * 256 + 1 * r.val = 256 * t.val + r.val; omega
  | ⟨1, _⟩ => show win0_5.index t (1 : Fin 2) * 1024 + 1 * k.val = k.val; omega

theorem final5 : (dats m 0 c).arrAt 5 cfg0.N = G5 m c := by
  refine (dats m 0 c).arrAt_eq_of_cover 5 (G5 m c) (fun t _ => ?_) (fun (i : S4096x1024.Idx) => ?_)
  · rw [flushed5, left5]
    funext j
    have e : j = ix2 (n0 := 256) (n1 := 1024) (j 0) (j 1) := eq_ix2 j
    rw [e]
    exact (blkOut5 m c t (j 0) (j 1)).trans (congrArg (G5 m c) (emb5 t (j 0) (j 1)).symm)
  · obtain ⟨t, r, h⟩ := exists_row (i 0)
    have e : ((cfg0.win 5).blk t).view.emb (ix2 r (i 1)) = i :=
      (emb5 t r (i 1)).trans (by rw [h]; exact (eq_ix2 i).symm)
    exact ⟨t, flush0_5 t, e ▸ View.emb_mem_set _ _⟩

theorem left6 : (outsAt0 m c t.val t.isLt).2.1 = duBlock (iblk m c 0 t) (iblk m c 1 t) (iblk m c 2 t) (iblk m c 3 t) (iblk m c 4 t) := by
  by_cases h : t.val % 16 = 0
  · rw [outsAt0_A m c t h]; dsimp only; rw [out6_A]
  · rw [outsAt0_B m c t h]; dsimp only; rw [out6_B]

theorem blkOut6 (r : Fin 256) (k : Fin 5632) :
    duBlock (iblk m c 0 t) (iblk m c 1 t) (iblk m c 2 t) (iblk m c 3 t) (iblk m c 4 t) (ix2 r k) = G6 m c (ix2 (at_ t r) k) :=
  (duBlock_apply _ _ _ _ _ r k).trans (by rw [blk0, blk1, blk2, blk3, blk4]; rfl)

theorem emb6 (r : Fin 256) (k : Fin 5632) : ((cfg0.win 6).blk t).view.emb (ix2 r k) = (ix2 (at_ t r) k : S4096x5632.Idx) := by
  obtain ⟨e0, e1⟩ := ix_r6 t
  refine funext fun a => Fin.ext ?_
  match a with
  | ⟨0, _⟩ => show win0_6.index t (0 : Fin 2) * 256 + 1 * r.val = 256 * t.val + r.val; omega
  | ⟨1, _⟩ => show win0_6.index t (1 : Fin 2) * 5632 + 1 * k.val = k.val; omega

theorem final6 : (dats m 0 c).arrAt 6 cfg0.N = G6 m c := by
  refine (dats m 0 c).arrAt_eq_of_cover 6 (G6 m c) (fun t _ => ?_) (fun (i : S4096x5632.Idx) => ?_)
  · rw [flushed6, left6]
    funext j
    have e : j = ix2 (n0 := 256) (n1 := 5632) (j 0) (j 1) := eq_ix2 j
    rw [e]
    exact (blkOut6 m c t (j 0) (j 1)).trans (congrArg (G6 m c) (emb6 t (j 0) (j 1)).symm)
  · obtain ⟨t, r, h⟩ := exists_row (i 0)
    have e : ((cfg0.win 6).blk t).view.emb (ix2 r (i 1)) = i :=
      (emb6 t r (i 1)).trans (by rw [h]; exact (eq_ix2 i).symm)
    exact ⟨t, flush0_6 t, e ▸ View.emb_mem_set _ _⟩

theorem left7 : (outsAt0 m c t.val t.isLt).2.2.1 = k0_pay15 (iblk m c 0 t) (iblk m c 2 t) (iblk m c 3 t) := by
  by_cases h : t.val % 16 = 0
  · rw [outsAt0_A m c t h]; dsimp only; rw [out7_A]
  · rw [outsAt0_B m c t h]; dsimp only; rw [out7_B]

theorem blkOut7 (r : Fin 256) (k : Fin 2816) :
    k0_pay15 (iblk m c 0 t) (iblk m c 2 t) (iblk m c 3 t) (ix2 r k) = G7 m c (ix2 (at_ t r) k) :=
  (pay15_apply _ _ _ r k).trans (by rw [blk0, blk2, blk3]; rfl)

theorem emb7 (r : Fin 256) (k : Fin 2816) : ((cfg0.win 7).blk t).view.emb (ix2 r k) = (ix2 (at_ t r) k : S4096x2816.Idx) := by
  obtain ⟨e0, e1⟩ := ix_r7 t
  refine funext fun a => Fin.ext ?_
  match a with
  | ⟨0, _⟩ => show win0_7.index t (0 : Fin 2) * 256 + 1 * r.val = 256 * t.val + r.val; omega
  | ⟨1, _⟩ => show win0_7.index t (1 : Fin 2) * 2816 + 1 * k.val = k.val; omega

theorem final7 : (dats m 0 c).arrAt 7 cfg0.N = G7 m c := by
  refine (dats m 0 c).arrAt_eq_of_cover 7 (G7 m c) (fun t _ => ?_) (fun (i : S4096x2816.Idx) => ?_)
  · rw [flushed7, left7]
    funext j
    have e : j = ix2 (n0 := 256) (n1 := 2816) (j 0) (j 1) := eq_ix2 j
    rw [e]
    exact (blkOut7 m c t (j 0) (j 1)).trans (congrArg (G7 m c) (emb7 t (j 0) (j 1)).symm)
  · obtain ⟨t, r, h⟩ := exists_row (i 0)
    have e : ((cfg0.win 7).blk t).view.emb (ix2 r (i 1)) = i :=
      (emb7 t r (i 1)).trans (by rw [h]; exact (eq_ix2 i).symm)
    exact ⟨t, flush0_7 t, e ▸ View.emb_mem_set _ _⟩

theorem left8 : (outsAt0 m c t.val t.isLt).2.2.2.1 = k0_pay19 (iblk m c 0 t) (k0_pay15 (iblk m c 0 t) (iblk m c 2 t) (iblk m c 3 t)) (iblk m c 4 t) (iblk m c 1 t) := by
  by_cases h : t.val % 16 = 0
  · rw [outsAt0_A m c t h]; dsimp only; rw [out8_A]
  · rw [outsAt0_B m c t h]; dsimp only; rw [out8_B]

theorem blkOut8 (r : Fin 256) (k : Fin 1024) :
    k0_pay19 (iblk m c 0 t) (k0_pay15 (iblk m c 0 t) (iblk m c 2 t) (iblk m c 3 t)) (iblk m c 4 t) (iblk m c 1 t) (ix2 r k) = G8 m c (ix2 (at_ t r) k) :=
  (pay19_apply _ _ _ _ _ r k).trans (by rw [blk0, blk1, blk2, blk3, blk4]; rfl)

theorem emb8 (r : Fin 256) (k : Fin 1024) : ((cfg0.win 8).blk t).view.emb (ix2 r k) = (ix2 (at_ t r) k : S4096x1024.Idx) := by
  obtain ⟨e0, e1⟩ := ix_r8 t
  refine funext fun a => Fin.ext ?_
  match a with
  | ⟨0, _⟩ => show win0_8.index t (0 : Fin 2) * 256 + 1 * r.val = 256 * t.val + r.val; omega
  | ⟨1, _⟩ => show win0_8.index t (1 : Fin 2) * 1024 + 1 * k.val = k.val; omega

theorem final8 : (dats m 0 c).arrAt 8 cfg0.N = G8 m c := by
  refine (dats m 0 c).arrAt_eq_of_cover 8 (G8 m c) (fun t _ => ?_) (fun (i : S4096x1024.Idx) => ?_)
  · rw [flushed8, left8]
    funext j
    have e : j = ix2 (n0 := 256) (n1 := 1024) (j 0) (j 1) := eq_ix2 j
    rw [e]
    exact (blkOut8 m c t (j 0) (j 1)).trans (congrArg (G8 m c) (emb8 t (j 0) (j 1)).symm)
  · obtain ⟨t, r, h⟩ := exists_row (i 0)
    have e : ((cfg0.win 8).blk t).view.emb (ix2 r (i 1)) = i :=
      (emb8 t r (i 1)).trans (by rw [h]; exact (eq_ix2 i).symm)
    exact ⟨t, flush0_8 t, e ▸ View.emb_mem_set _ _⟩

theorem left9 : (outsAt0 m c t.val t.isLt).2.2.2.2.1 = dxBlock (iblk m c 0 t) (iblk m c 1 t) (iblk m c 2 t) (iblk m c 3 t) (iblk m c 4 t) := by
  by_cases h : t.val % 16 = 0
  · rw [outsAt0_A m c t h]; dsimp only; rw [out9_A]
  · rw [outsAt0_B m c t h]; dsimp only; rw [out9_B]

theorem blkOut9 (r : Fin 256) (k : Fin 1024) :
    dxBlock (iblk m c 0 t) (iblk m c 1 t) (iblk m c 2 t) (iblk m c 3 t) (iblk m c 4 t) (ix2 r k) = G9 m c (ix2 (at_ t r) k) :=
  (dxBlock_apply _ _ _ _ _ r k).trans (by rw [blk0, blk1, blk2, blk3, blk4]; rfl)

theorem emb9 (r : Fin 256) (k : Fin 1024) : ((cfg0.win 9).blk t).view.emb (ix2 r k) = (ix2 (at_ t r) k : S4096x1024.Idx) := by
  obtain ⟨e0, e1⟩ := ix_r9 t
  refine funext fun a => Fin.ext ?_
  match a with
  | ⟨0, _⟩ => show win0_9.index t (0 : Fin 2) * 256 + 1 * r.val = 256 * t.val + r.val; omega
  | ⟨1, _⟩ => show win0_9.index t (1 : Fin 2) * 1024 + 1 * k.val = k.val; omega

theorem final9 : (dats m 0 c).arrAt 9 cfg0.N = G9 m c := by
  refine (dats m 0 c).arrAt_eq_of_cover 9 (G9 m c) (fun t _ => ?_) (fun (i : S4096x1024.Idx) => ?_)
  · rw [flushed9, left9]
    funext j
    have e : j = ix2 (n0 := 256) (n1 := 1024) (j 0) (j 1) := eq_ix2 j
    rw [e]
    exact (blkOut9 m c t (j 0) (j 1)).trans (congrArg (G9 m c) (emb9 t (j 0) (j 1)).symm)
  · obtain ⟨t, r, h⟩ := exists_row (i 0)
    have e : ((cfg0.win 9).blk t).view.emb (ix2 r (i 1)) = i :=
      (emb9 t r (i 1)).trans (by rw [h]; exact (eq_ix2 i).symm)
    exact ⟨t, flush0_9 t, e ▸ View.emb_mem_set _ _⟩

/-! ### The two sums over the rows -/

theorem eq_row (i : S1x1024.Idx) : i = ix2 0 (i 1) :=
  (eq_ix2 i).trans (congrArg (fun z : Fin 1 => (ix2 z (i 1) : S1x1024.Idx)) (Subsingleton.elim (α := Fin 1) (i 0) 0))

/-- The last point. -/
abbrev t15 : Fin cfg0.N := ⟨15, by rw [show cfg0.N = 16 from N_0]; decide⟩

/-- A sum over the points' blocks is the sum over all rows. -/
theorem sum_blocks (f : Fin 4096 → EReal) :
    ∑ s : Fin 16, ∑ r : Fin 256, f ⟨256 * s.val + r.val, by omega⟩ = ∑ R : Fin 4096, f R := by
  rw [← (finProdFinEquiv (m := 16) (n := 256)).sum_comp, Fintype.sum_prod_type]
  refine Finset.sum_congr rfl fun s _ => Finset.sum_congr rfl fun r _ => congrArg f (Fin.ext ?_)
  show 256 * s.val + r.val = r.val + 256 * s.val
  omega

/-- What point `t` adds to the sum. -/
def part10 (k : Fin 1024) : EReal := ∑ r : Fin 256, sq (row (argX m c) (at_ t r)) (row (argT m c) (at_ t r)) (gain m c) (row (argWi m c)) (row (argWo m c)) k

theorem step10 (acc : Vec Ideal S1x1024 .f32) (k : Fin 1024) :
    k0_pay17 (iblk m c 0 t) (k0_pay15 (iblk m c 0 t) (iblk m c 2 t) (iblk m c 3 t)) (iblk m c 4 t) (iblk m c 1 t) acc (ix2 0 k)
      = acc (ix2 0 k) + part10 m c t k :=
  (pay17_apply _ _ _ _ _ acc 0 k).trans (by simp only [blk0, blk1, blk2, blk3, blk4]; rfl)

/-- After point `n` the sum holds what the points up to `n` added. -/
theorem sum10 (k : Fin 1024) : ∀ (n : ℕ) (h : n < cfg0.N), (outsAt0 m c n h).2.2.2.2.2.1 (ix2 0 k)
    = ∑ s : Fin (n + 1), part10 m c ⟨s.val, by omega⟩ k
  | 0, h => by
    rw [outsAt0_A m c ⟨0, h⟩ rfl]; dsimp only; rw [out10_A, step10, Fin.sum_univ_one]
    have e : ((k0_pay4 (F := Ideal)) : S1x1024.Idx → EReal) (ix2 0 k) = 0 := by pointwise [k0_pay4]
    rw [e, zero_add]; rfl
  | n + 1, h => by
    have hN : cfg0.N = 16 := N_0
    have hB : ¬(⟨n + 1, h⟩ : Fin cfg0.N).val % 16 = 0 := by dsimp only; omega
    rw [outsAt0_B m c ⟨n + 1, h⟩ hB]; dsimp only; rw [out10_B, step10, Fin.sum_univ_castSucc]
    exact congrArg (· + part10 m c ⟨n + 1, h⟩ k) (sum10 k n (Nat.lt_of_succ_lt h))

theorem emb10 (k : Fin 1024) : ((cfg0.win 10).blk t).view.emb (ix2 0 k) = (ix2 0 k : S1x1024.Idx) := by
  obtain ⟨e0, e1⟩ := ix_r10 t
  refine funext fun a => Fin.ext ?_
  match a with
  | ⟨0, _⟩ => show win0_10.index t (0 : Fin 2) * 1 + 1 * 0 = 0; omega
  | ⟨1, _⟩ => show win0_10.index t (1 : Fin 2) * 1024 + 1 * k.val = k.val; omega

theorem total10 (t : Fin cfg0.N) (ht : t.val = 15) (k : Fin 1024) :
    (outsAt0 m c t.val t.isLt).2.2.2.2.2.1 (ix2 0 k) = G10 m c (ix2 0 k) := by
  obtain ⟨n, hn⟩ := t
  obtain rfl : n = 15 := ht
  rw [sum10]
  exact sum_blocks fun R => sq (row (argX m c) R) (row (argT m c) R) (gain m c) (row (argWi m c)) (row (argWo m c)) k

theorem final10 : (dats m 0 c).arrAt 10 cfg0.N = G10 m c := by
  have hN : cfg0.N = 16 := N_0
  refine (dats m 0 c).arrAt_eq_of_cover 10 (G10 m c) (fun t hf => ?_) (fun (i : S1x1024.Idx) => ?_)
  · have ht : t.val = 15 := by have := (flush0_10 t).mp hf; have := t.isLt; omega
    rw [flushed10]
    funext j
    have e : j = ix2 (n0 := 1) (n1 := 1024) 0 (j 1) := eq_row j
    rw [e]
    exact (total10 m c t ht (j 1)).trans (congrArg (G10 m c) (emb10 t (j 1)).symm)
  · have e : ((cfg0.win 10).blk t15).view.emb (ix2 0 (i 1)) = i :=
      (emb10 t15 (i 1)).trans (eq_row i).symm
    exact ⟨t15, (flush0_10 _).mpr rfl, e ▸ View.emb_mem_set _ _⟩

/-- What point `t` adds to the sum. -/
def part11 (k : Fin 1024) : EReal := ∑ r : Fin 256, dGain (row (argX m c) (at_ t r)) (row (argT m c) (at_ t r)) (gain m c) (row (argWi m c)) (row (argWo m c)) k

theorem step11 (acc : Vec Ideal S1x1024 .f32) (k : Fin 1024) :
    k0_pay3 (k0_pay8 (iblk m c 0 t)) (duBlock (iblk m c 0 t) (iblk m c 1 t) (iblk m c 2 t) (iblk m c 3 t) (iblk m c 4 t)) (iblk m c 3 t) acc (ix2 0 k)
      = acc (ix2 0 k) + part11 m c t k :=
  (pay3_apply _ _ _ _ _ _ (duBlock_apply _ _ _ _ _) acc 0 k).trans (by simp only [blk0, blk1, blk2, blk3, blk4]; rfl)

/-- After point `n` the sum holds what the points up to `n` added. -/
theorem sum11 (k : Fin 1024) : ∀ (n : ℕ) (h : n < cfg0.N), (outsAt0 m c n h).2.2.2.2.2.2 (ix2 0 k)
    = ∑ s : Fin (n + 1), part11 m c ⟨s.val, by omega⟩ k
  | 0, h => by
    rw [outsAt0_A m c ⟨0, h⟩ rfl]; dsimp only; rw [out11_A, step11, Fin.sum_univ_one]
    have e : ((k0_pay5 (F := Ideal)) : S1x1024.Idx → EReal) (ix2 0 k) = 0 := by pointwise [k0_pay5]
    rw [e, zero_add]; rfl
  | n + 1, h => by
    have hN : cfg0.N = 16 := N_0
    have hB : ¬(⟨n + 1, h⟩ : Fin cfg0.N).val % 16 = 0 := by dsimp only; omega
    rw [outsAt0_B m c ⟨n + 1, h⟩ hB]; dsimp only; rw [out11_B, step11, Fin.sum_univ_castSucc]
    exact congrArg (· + part11 m c ⟨n + 1, h⟩ k) (sum11 k n (Nat.lt_of_succ_lt h))

theorem emb11 (k : Fin 1024) : ((cfg0.win 11).blk t).view.emb (ix2 0 k) = (ix2 0 k : S1x1024.Idx) := by
  obtain ⟨e0, e1⟩ := ix_r11 t
  refine funext fun a => Fin.ext ?_
  match a with
  | ⟨0, _⟩ => show win0_11.index t (0 : Fin 2) * 1 + 1 * 0 = 0; omega
  | ⟨1, _⟩ => show win0_11.index t (1 : Fin 2) * 1024 + 1 * k.val = k.val; omega

theorem total11 (t : Fin cfg0.N) (ht : t.val = 15) (k : Fin 1024) :
    (outsAt0 m c t.val t.isLt).2.2.2.2.2.2 (ix2 0 k) = G11 m c (ix2 0 k) := by
  obtain ⟨n, hn⟩ := t
  obtain rfl : n = 15 := ht
  rw [sum11]
  exact sum_blocks fun R => dGain (row (argX m c) R) (row (argT m c) R) (gain m c) (row (argWi m c)) (row (argWo m c)) k

theorem final11 : (dats m 0 c).arrAt 11 cfg0.N = G11 m c := by
  have hN : cfg0.N = 16 := N_0
  refine (dats m 0 c).arrAt_eq_of_cover 11 (G11 m c) (fun t hf => ?_) (fun (i : S1x1024.Idx) => ?_)
  · have ht : t.val = 15 := by have := (flush0_11 t).mp hf; have := t.isLt; omega
    rw [flushed11]
    funext j
    have e : j = ix2 (n0 := 1) (n1 := 1024) 0 (j 1) := eq_row j
    rw [e]
    exact (total11 m c t ht (j 1)).trans (congrArg (G11 m c) (emb11 t (j 1)).symm)
  · have e : ((cfg0.win 11).blk t15).view.emb (ix2 0 (i 1)) = i :=
      (emb11 t15 (i 1)).trans (eq_row i).symm
    exact ⟨t15, (flush0_11 _).mpr rfl, e ▸ View.emb_mem_set _ _⟩

end Cert.Last

end
-- ==== Proof.Ffn.Finite.lean ====
/- WHERE THE INPUTS ARE FINITE, so is every value of the half-step and of its gradient, and there the gradient's two forms
   agree: the one the formulas' derivative gives and the one a block computes (`actLeft_eq`, `normGrad_eq`). -/
module

public import proofs.«01_k».proof.Proof.Ffn.Rows

@[expose] public section

noncomputable section

namespace Cert.Ffn

open Idealize.ShloMosaic

/-- A finite extended real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem fin_half : IsReal half := ⟨_, rfl⟩
theorem fin_one : IsReal 1 := ⟨1, EReal.coe_one.symm⟩

theorem coe_sum {n : ℕ} (f : Fin n → ℝ) : ∑ k : Fin n, ((f k : ℝ) : EReal) = ((∑ k : Fin n, f k : ℝ) : EReal) := by
  induction n with
  | zero => simp
  | succ n ih => rw [Fin.sum_univ_succ, Fin.sum_univ_succ, ih, EReal.coe_add]

theorem IsReal.sum {n : ℕ} {f : Fin n → EReal} (h : ∀ k, IsReal (f k)) : IsReal (∑ k : Fin n, f k) := by
  choose g hg using h
  exact ⟨∑ k, g k, by rw [← coe_sum]; exact Finset.sum_congr rfl fun k _ => hg k⟩

theorem IsReal.lin {n p : ℕ} {v : Fin n → EReal} {w : Fin n → Fin p → EReal} (hv : ∀ k, IsReal (v k))
    (hw : ∀ k j, IsReal (w k j)) (j : Fin p) : IsReal (lin v w j) := IsReal.sum fun k => (hv k).mul (hw k j)

/-- A quotient by a number other than zero. -/
theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem logistic_coe (a : ℝ) : ∃ s : ℝ, Ideal.logistic (a : EReal) = (s : EReal) := ⟨_, Ideal.logistic_coe a⟩

theorem IsReal.logistic {x : EReal} (hx : IsReal x) : IsReal (Ideal.logistic x) := by
  obtain ⟨a, rfl⟩ := hx; exact logistic_coe a

theorem eps_pos : ∃ e : ℝ, 0 < e ∧ eps = (e : EReal) :=
  ⟨8796093 / 2 ^ 43, by norm_num, by simp [eps, Ideal.ofBits, Ideal.ieee, -EReal.coe_mul]; norm_num⟩

/-- The mean square and its reciprocal root, of a finite row: `ρ² μ = 1`. -/
theorem rstd_coe {x : Fin 1024 → EReal} (hx : ∀ k, IsReal (x k)) :
    ∃ μ ρ : ℝ, msq x = (μ : EReal) ∧ rstd x = (ρ : EReal) ∧ μ ≠ 0 ∧ ρ * ρ = μ⁻¹ := by
  choose X hX using hx
  obtain ⟨e, he, hE⟩ := eps_pos
  have hm : msq x = (((∑ k, X k * X k) / 1024 + e : ℝ) : EReal) := by
    unfold msq
    rw [hE]
    simp only [hX, ← EReal.coe_mul]
    rw [coe_sum, div_coe _ (by norm_num), ← EReal.coe_add]
  have hp : 0 < (∑ k, X k * X k) / 1024 + e :=
    add_pos_of_nonneg_of_pos (div_nonneg (Finset.sum_nonneg fun k _ => mul_self_nonneg _) (by norm_num)) he
  refine ⟨_, (Real.sqrt ((∑ k, X k * X k) / 1024 + e))⁻¹, hm, ?_, hp.ne', ?_⟩
  · unfold rstd
    rw [hm]
    show (if _ then ⊥ else if _ then ⊤ else _) = _
    rw [if_neg (not_lt.mpr hp.le), if_neg hp.ne']
  · rw [← mul_inv, Real.mul_self_sqrt hp.le]

theorem IsReal.rstd {x : Fin 1024 → EReal} (hx : ∀ k, IsReal (x k)) : IsReal (rstd x) := by
  obtain ⟨_, ρ, _, h, _⟩ := rstd_coe hx; exact ⟨ρ, h⟩

theorem IsReal.normed {x g : Fin 1024 → EReal} (hx : ∀ k, IsReal (x k)) (hg : ∀ k, IsReal (g k)) (k : Fin 1024) :
    IsReal (normed x g k) := ((hx k).mul (IsReal.rstd hx)).mul (hg k)

theorem IsReal.act {u : Fin 5632 → EReal} (hu : ∀ q, IsReal (u q)) (f : Fin 2816) : IsReal (act u f) :=
  ((hu _).mul (hu _).logistic).mul (hu _)

theorem IsReal.actGrad {dh : Fin 2816 → EReal} {u : Fin 5632 → EReal} (hd : ∀ f, IsReal (dh f)) (hu : ∀ q, IsReal (u q))
    (q : Fin 5632) : IsReal (actGrad dh u q) := by
  unfold Ffn.actGrad actLeft
  split
  · exact ((hd _).mul (hu _)).mul ((hu _).logistic.mul (fin_one.add ((hu _).mul (fin_one.sub (hu _).logistic))))
  · exact (hd _).mul ((hu _).mul (hu _).logistic)

/-- The gated half's gradient as the product rule gives it. -/
theorem actLeft_eq {dh a b : EReal} (hd : IsReal dh) (ha : IsReal a) (hb : IsReal b) :
    dh * b * Ideal.logistic a + a * (dh * b) * (Ideal.logistic a * (1 - Ideal.logistic a)) = actLeft dh a b := by
  obtain ⟨d, rfl⟩ := hd; obtain ⟨a, rfl⟩ := ha; obtain ⟨b, rfl⟩ := hb
  obtain ⟨s, hs⟩ := logistic_coe a
  unfold actLeft
  rw [hs, ← EReal.coe_one]
  simp only [← EReal.coe_mul, ← EReal.coe_add, ← EReal.coe_sub]
  exact congrArg _ (by ring)

/-- The normalisation's gradient as the derivative of the reciprocal root gives it. -/
theorem normGrad_eq {dn x g : Fin 1024 → EReal} (hn : ∀ k, IsReal (dn k)) (hx : ∀ k, IsReal (x k)) (hg : ∀ k, IsReal (g k))
    (k : Fin 1024) :
    dn k * g k * rstd x
      + x k * Ideal.div ((∑ j : Fin 1024, x j * (dn j * g j)) * (((-(1 / 2) : ℝ) : EReal) * Ideal.div (rstd x) (msq x))) width
      + Ideal.div ((∑ j : Fin 1024, x j * (dn j * g j)) * (((-(1 / 2) : ℝ) : EReal) * Ideal.div (rstd x) (msq x))) width * x k
    = normGrad dn x g k := by
  obtain ⟨μ, ρ, hμ, hρ, h0, h1⟩ := rstd_coe hx
  choose N hN using hn
  choose X hX using hx
  choose G hG using hg
  unfold normGrad
  rw [hμ, hρ, div_coe _ h0]
  simp only [hN, hX, hG, ← EReal.coe_mul]
  rw [coe_sum, coe_sum]
  simp only [← EReal.coe_mul]
  rw [div_coe _ (by norm_num), div_coe _ (by norm_num)]
  simp only [← EReal.coe_mul, ← EReal.coe_add, ← EReal.coe_sub]
  refine congrArg _ ?_
  have hq : ∑ j, N j * G j * (X j * ρ) = ρ * ∑ j, X j * (N j * G j) := by
    rw [Finset.mul_sum]; exact Finset.sum_congr rfl fun j _ => by ring
  rw [hq, div_eq_mul_inv ρ μ, ← h1]
  ring

end Cert.Ffn

end
-- ==== Proof.Last.Reference.lean ====
/- WHAT THE REFERENCE of the call `ffn2` COMPUTES, stage by stage and read at an index: the functions of a row of
   Proof/Last/Rows.lean. Where the gradient's form differs from the block's (the gated half of the hidden row's gradient, and
   the gradient through the normalisation) the two agree at finite arguments. -/
module

public import proofs.«01_k».proof.Proof.Last.Rows
public import proofs.«01_k».proof.Proof.Ffn.Finite
public import proofs.«01_k».proof.Proof.Gen.LastReferenceIdeal.Run
public import Idealize.ShloMosaic.Lib.Pointwise

@[expose] public section

noncomputable section

namespace Cert.Last.Reference

open Idealize.ShloMosaic Idealize.SL.Sem Cert.LastReferenceIdeal Cert.LastReferenceIdeal.Facts₀ Cert.Ffn

variable (x t : FVec Ideal S4096x1024 .f32) (g : FVec Ideal S1024 .f32) (wi : FVec Ideal S1024x5632 .f32)
  (wo : FVec Ideal S2816x1024 .f32)

/-- The gain, column by column. -/
abbrev gn (k : Fin 1024) : EReal := g (ix1 k)

/-! ### The stages -/

def vWidth : FVec Ideal S4096x1 .f32 := broadcastInDim S4096x1 ![] bcast_S_S4096x1 (constant S_ .f32 0x44800000#32)
def vMsq : FVec Ideal S4096x1 .f32 :=
  addf (Host.divf (broadcastInDim S4096x1 ![0] bcast_S4096_S4096x1_0
    (Host.reduceAdd (mulf x x) (constant S_ .f32 0x00000000#32) reducesTo_S4096x1024_S4096_d1 h_S_)) vWidth)
    (broadcastInDim S4096x1 ![] bcast_S_S4096x1 (constant S_ .f32 0x358637BD#32))
def vRstd : FVec Ideal S4096x1 .f32 := Host.rsqrt (vMsq x)
def vRstdB : FVec Ideal S4096x1024 .f32 := broadcastInDim S4096x1024 ![0, 1] bcast_S4096x1_S4096x1024_0_1 (vRstd x)
def vHat : FVec Ideal S4096x1024 .f32 := mulf x (vRstdB x)
def vGain : FVec Ideal S4096x1024 .f32 :=
  broadcastInDim S4096x1024 ![0, 1] bcast_S1x1024_S4096x1024_0_1 (broadcastInDim S1x1024 ![1] bcast_S1024_S1x1024_1 g)
def vNorm : FVec Ideal S4096x1024 .f32 := mulf (vHat x) (vGain g)
def vHalf : FVec Ideal S4096x1024 .f32 := broadcastInDim S4096x1024 ![] bcast_S_S4096x1024 (constant S_ .f32 0x3F000000#32)
def vShare : FVec Ideal S4096x1024 .f32 :=
  broadcastInDim S4096x1024 ![0] bcast_S4096_S4096x1024_0
    (Host.divf (broadcastInDim S4096 ![] bcast_S_S4096 (mulf (constant S_ .f32 0x3F000000#32) (constant S_ .f32 0x3F800000#32)))
      (broadcastInDim S4096 ![] bcast_S_S4096 (constant S_ .f32 0x44800000#32)))
def vUp : FVec Ideal S4096x5632 .f32 :=
  Host.dotGeneral dot_S4096x1024_S1024x5632_S4096x5632_1_0_0_1_n_n none (vNorm x g) wi
def vA : FVec Ideal S4096x2816 .f32 := extractStridedSlice S4096x2816 ![0, 0] (vUp x g wi) slices_S4096x5632_S4096x2816_0_0
def vOne : FVec Ideal S4096x2816 .f32 := broadcastInDim S4096x2816 ![] bcast_S_S4096x2816 (constant S_ .f32 0x3F800000#32)
def vSig : FVec Ideal S4096x2816 .f32 := Host.divf vOne (addf vOne (Host.exp (Host.negf (vA x g wi))))
def vSilu : FVec Ideal S4096x2816 .f32 := mulf (vA x g wi) (vSig x g wi)
def vB : FVec Ideal S4096x2816 .f32 := extractStridedSlice S4096x2816 ![0, 2816] (vUp x g wi) slices_S4096x5632_S4096x2816_0_2816
def vHid : FVec Ideal S4096x2816 .f32 := mulf (vSilu x g wi) (vB x g wi)
def vErr : FVec Ideal S4096x1024 .f32 :=
  subf (addf x (mulf vHalf (Host.dotGeneral dot_S4096x2816_S2816x1024_S4096x1024_1_0_0_1_n_n none (vHid x g wi) wo))) t
def vDOut : FVec Ideal S4096x1024 .f32 :=
  mulf vShare (mulf (broadcastInDim S4096x1024 ![] bcast_S_S4096x1024 (constant S_ .f32 0x40000000#32)) (vErr x t g wi wo))
def vDY : FVec Ideal S4096x1024 .f32 := mulf vHalf (vDOut x t g wi wo)
def vDHid : FVec Ideal S4096x2816 .f32 :=
  Host.dotGeneral dot_S4096x1024_S2816x1024_S4096x2816_1_1_0_0_n_n none (vDY x t g wi wo) wo
def vDB : FVec Ideal S4096x2816 .f32 := mulf (vDHid x t g wi wo) (vB x g wi)
def vDLeft : FVec Ideal S4096x2816 .f32 :=
  addf (mulf (vDB x t g wi wo) (vSig x g wi))
    (mulf (mulf (vA x g wi) (vDB x t g wi wo)) (mulf (vSig x g wi) (subf vOne (vSig x g wi))))
def vDRight : FVec Ideal S4096x2816 .f32 := mulf (vSilu x g wi) (vDHid x t g wi wo)
def vDUp : FVec Ideal S4096x5632 .f32 :=
  concatenate S4096x5632 1 [⟨S4096x2816, vDLeft x t g wi wo⟩, ⟨S4096x2816, vDRight x t g wi wo⟩]
    concatenates_S4096x2816_S4096x2816_S4096x5632_d1
def vDNorm : FVec Ideal S4096x1024 .f32 :=
  Host.dotGeneral dot_S4096x5632_S1024x5632_S4096x1024_1_1_0_0_n_n none (vDUp x t g wi wo) wi
def vDHat : FVec Ideal S4096x1024 .f32 := mulf (vDNorm x t g wi wo) (vGain g)
def vBack : FVec Ideal S4096x1 .f32 :=
  Host.divf (mulf (shapeCast S4096x1 (Host.reduceAdd (mulf x (vDHat x t g wi wo)) (constant S_ .f32 0x00000000#32)
      reducesTo_S4096x1024_S4096_d1 h_S_) shapeCasts_S4096_S4096x1)
    (mulf (broadcastInDim S4096x1 ![] bcast_S_S4096x1 (constant S_ .f32 0xBF000000#32)) (Host.divf (vRstd x) (vMsq x)))) vWidth
def vBackB : FVec Ideal S4096x1024 .f32 :=
  broadcastInDim S4096x1024 ![0] bcast_S4096_S4096x1024_0
    (Host.reduceAdd (vBack x t g wi wo) (constant S_ .f32 0x00000000#32) reducesTo_S4096x1_S4096_d1 h_S_)
def vDX : FVec Ideal S4096x1024 .f32 :=
  addf (vDOut x t g wi wo) (addf (addf (mulf (vDHat x t g wi wo) (vRstdB x)) (mulf x (vBackB x t g wi wo)))
    (mulf (vBackB x t g wi wo) x))
def vSq : FVec Ideal S1x1024 .f32 :=
  broadcastInDim S1x1024 ![1] bcast_S1024_S1x1024_1
    (Host.reduceAdd (mulf (vErr x t g wi wo) (vErr x t g wi wo)) (constant S_ .f32 0x00000000#32) reducesTo_S4096x1024_S1024_d0 h_S_)
def vDGain : FVec Ideal S1x1024 .f32 :=
  shapeCast S1x1024 (Host.reduceAdd (shapeCast S1x1024
      (Host.reduceAdd (mulf (vHat x) (vDNorm x t g wi wo)) (constant S_ .f32 0x00000000#32) reducesTo_S4096x1024_S1024_d0 h_S_)
      shapeCasts_S1024_S1x1024) (constant S_ .f32 0x00000000#32) reducesTo_S1x1024_S1024_d0 h_S_) shapeCasts_S1024_S1x1024

/-! ### Each stage at an index -/

theorem minusHalf_word : Ideal.ofBits .f32 0xBF000000#32 = ((-(1 / 2) : ℝ) : EReal) := by
  simp [Ideal.ofBits, Ideal.ieee, -EReal.coe_mul, -EReal.coe_neg]; norm_num

theorem two_word : Ideal.ofBits .f32 0x40000000#32 = ((2 : ℝ) : EReal) := by
  simp [Ideal.ofBits, Ideal.ieee, -EReal.coe_mul]; norm_num

open Cert.Gate (half_word one_word oneOver_eq)

theorem vWidth_apply (i : S4096x1.Idx) : vWidth i = width := by pointwise [vWidth, width_word]

theorem vMsq_apply (r : Fin 4096) (z : Fin 1) : vMsq x (ix2 r z) = msq (row x r) := by
  unfold msq
  rw [← vWidth_apply (ix2 r z)]
  pointwise [vMsq]

theorem vRstd_apply (r : Fin 4096) (z : Fin 1) : vRstd x (ix2 r z) = rstd (row x r) := by
  unfold rstd; rw [← vMsq_apply x r z]; pointwise [vRstd]

theorem vRstdB_apply (r : Fin 4096) (k : Fin 1024) : vRstdB x (ix2 r k) = rstd (row x r) := by
  rw [← vRstd_apply x r 0]; pointwise [vRstdB]

theorem vHat_apply (r : Fin 4096) (k : Fin 1024) : vHat x (ix2 r k) = row x r k * rstd (row x r) := by
  rw [← vRstdB_apply x r k]; pointwise [vHat]

theorem vGain_apply (r : Fin 4096) (k : Fin 1024) : vGain g (ix2 r k) = gn g k := by pointwise [vGain]

theorem vNorm_apply (r : Fin 4096) (k : Fin 1024) : vNorm x g (ix2 r k) = normed (row x r) (gn g) k := by
  unfold normed; rw [← vHat_apply, ← vGain_apply g r k]; pointwise [vNorm]

theorem vHalf_apply (i : S4096x1024.Idx) : vHalf i = half := by pointwise [vHalf, half_word]

theorem vShare_apply (i : S4096x1024.Idx) : vShare i = ((1 / 2 / 1024 : ℝ) : EReal) := by
  pointwise [vShare, half_word, one_word, width_word]
  exact div_coe _ (by norm_num)

theorem vUp_apply (r : Fin 4096) (q : Fin 5632) : vUp x g wi (ix2 r q) = up (row x r) (gn g) (row wi) q := by
  unfold up lin; simp only [← vNorm_apply]; pointwise [vUp]

theorem vA_apply (r : Fin 4096) (f : Fin 2816) : vA x g wi (ix2 r f) = up (row x r) (gn g) (row wi) (left f) := by
  rw [← vUp_apply]; pointwise [vA, left]

theorem vB_apply (r : Fin 4096) (f : Fin 2816) : vB x g wi (ix2 r f) = up (row x r) (gn g) (row wi) (right f) := by
  rw [← vUp_apply]; pointwise [vB, right]

theorem vOne_apply (i : S4096x2816.Idx) : vOne i = 1 := by pointwise [vOne, one_word]

theorem vSig_apply (r : Fin 4096) (f : Fin 2816) :
    vSig x g wi (ix2 r f) = Ideal.logistic (up (row x r) (gn g) (row wi) (left f)) := by
  rw [← vA_apply, ← oneOver_eq, ← vOne_apply (ix2 r f)]; pointwise [vSig]

theorem vSilu_apply (r : Fin 4096) (f : Fin 2816) :
    vSilu x g wi (ix2 r f) = up (row x r) (gn g) (row wi) (left f) * Ideal.logistic (up (row x r) (gn g) (row wi) (left f)) := by
  rw [← vSig_apply, ← vA_apply]; pointwise [vSilu]

theorem vHid_apply (r : Fin 4096) (f : Fin 2816) : vHid x g wi (ix2 r f) = hid (row x r) (gn g) (row wi) f := by
  unfold hid act; rw [← vSilu_apply, ← vB_apply]; pointwise [vHid]

theorem vErr_apply (r : Fin 4096) (d : Fin 1024) :
    vErr x t g wi wo (ix2 r d) = err (row x r) (row t r) (gn g) (row wi) (row wo) d := by
  unfold err lin; simp only [← vHid_apply]; rw [← vHalf_apply (ix2 r d)]; pointwise [vErr]

theorem vDOut_apply (r : Fin 4096) (d : Fin 1024) :
    vDOut x t g wi wo (ix2 r d) = dOut (row x r) (row t r) (gn g) (row wi) (row wo) d := by
  have e : vDOut x t g wi wo (ix2 r d) = vShare (ix2 r d) * (((2 : ℝ) : EReal) * vErr x t g wi wo (ix2 r d)) := by
    pointwise [vDOut, two_word]
  unfold dOut
  rw [e, vShare_apply, vErr_apply, ← mul_assoc, ← EReal.coe_mul, mul_comm]
  exact congrArg (fun s : ℝ => _ * (s : EReal)) (by norm_num)

theorem vDY_apply (r : Fin 4096) (d : Fin 1024) :
    vDY x t g wi wo (ix2 r d) = dY (row x r) (row t r) (gn g) (row wi) (row wo) d := by
  unfold dY; rw [← vDOut_apply, ← vHalf_apply (ix2 r d)]; pointwise [vDY]

theorem vDHid_apply (r : Fin 4096) (f : Fin 2816) :
    vDHid x t g wi wo (ix2 r f) = dHid (row x r) (row t r) (gn g) (row wi) (row wo) f := by
  unfold dHid lin; simp only [← vDY_apply]; pointwise [vDHid]

theorem vSq_apply (z : Fin 1) (d : Fin 1024) :
    vSq x t g wi wo (ix2 z d) = ∑ R : Fin 4096, sq (row x R) (row t R) (gn g) (row wi) (row wo) d := by
  unfold sq; simp only [← vErr_apply]; pointwise [vSq]

theorem vDRight_apply (r : Fin 4096) (f : Fin 2816) :
    vDRight x t g wi wo (ix2 r f) = dUp (row x r) (row t r) (gn g) (row wi) (row wo) (right f) := by
  unfold dUp; rw [actGrad_right, ← vDHid_apply, ← vSilu_apply, mul_comm]; pointwise [vDRight]

/-! ### At finite arguments -/

section Real
variable (hx : ∀ i, IsReal (x i)) (ht : ∀ i, IsReal (t i)) (hg : ∀ i, IsReal (g i)) (hwi : ∀ i, IsReal (wi i))
  (hwo : ∀ i, IsReal (wo i))

include hx hg hwi in
theorem real_up (r : Fin 4096) (q : Fin 5632) : IsReal (up (row x r) (gn g) (row wi) q) :=
  IsReal.lin (IsReal.normed (fun _ => hx _) fun _ => hg _) (fun _ _ => hwi _) q

include hx ht hg hwi hwo in
theorem real_dHid (r : Fin 4096) (f : Fin 2816) : IsReal (dHid (row x r) (row t r) (gn g) (row wi) (row wo) f) := by
  refine IsReal.lin (fun d => fin_half.mul (IsReal.mul ?_ ⟨_, rfl⟩)) (fun _ _ => hwo _) f
  exact ((hx _).add (fin_half.mul (IsReal.lin (IsReal.act (real_up x g wi hx hg hwi r)) (fun _ _ => hwo _) d))).sub (ht _)

include hx ht hg hwi hwo in
theorem real_dNormed (r : Fin 4096) (k : Fin 1024) : IsReal (dNormed (row x r) (row t r) (gn g) (row wi) (row wo) k) :=
  IsReal.lin (IsReal.actGrad (real_dHid x t g wi wo hx ht hg hwi hwo r) (real_up x g wi hx hg hwi r)) (fun _ _ => hwi _) k

include hx ht hg hwi hwo in
theorem vDLeft_apply (r : Fin 4096) (f : Fin 2816) :
    vDLeft x t g wi wo (ix2 r f) = dUp (row x r) (row t r) (gn g) (row wi) (row wo) (left f) := by
  unfold dUp
  rw [actGrad_left, ← actLeft_eq (real_dHid x t g wi wo hx ht hg hwi hwo r f) (real_up x g wi hx hg hwi r _)
    (real_up x g wi hx hg hwi r _), ← vDHid_apply, ← vSig_apply, ← vA_apply, ← vB_apply, ← vOne_apply (ix2 r f)]
  pointwise [vDLeft, vDB]

include hx ht hg hwi hwo in
theorem vDUp_apply (r : Fin 4096) (q : Fin 5632) :
    vDUp x t g wi wo (ix2 r q) = dUp (row x r) (row t r) (gn g) (row wi) (row wo) q := by
  have hc : ∀ a b : FVec Ideal S4096x2816 .f32,
      concatenate S4096x5632 1 [⟨S4096x2816, a⟩, ⟨S4096x2816, b⟩] concatenates_S4096x2816_S4096x2816_S4096x5632_d1 (ix2 r q)
        = if h : q.val < 2816 then a (ix2 r ⟨q.val, h⟩) else b (ix2 r ⟨q.val - 2816, by omega⟩) := fun a b => by pointwise
  unfold vDUp
  rw [hc]
  split
  · next h => exact (vDLeft_apply x t g wi wo hx ht hg hwi hwo r ⟨q.val, h⟩).trans rfl
  · next h =>
    refine (vDRight_apply x t g wi wo r ⟨q.val - 2816, by omega⟩).trans (congrArg _ (Fin.ext ?_))
    show 2816 + (q.val - 2816) = q.val
    omega

include hx ht hg hwi hwo in
theorem vDNorm_apply (r : Fin 4096) (k : Fin 1024) :
    vDNorm x t g wi wo (ix2 r k) = dNormed (row x r) (row t r) (gn g) (row wi) (row wo) k := by
  unfold dNormed lin; simp only [← vDUp_apply x t g wi wo hx ht hg hwi hwo]; pointwise [vDNorm]

include hx ht hg hwi hwo in
theorem vDHat_apply (r : Fin 4096) (k : Fin 1024) :
    vDHat x t g wi wo (ix2 r k) = dNormed (row x r) (row t r) (gn g) (row wi) (row wo) k * gn g k := by
  rw [← vDNorm_apply x t g wi wo hx ht hg hwi hwo, ← vGain_apply g r k]; pointwise [vDHat]

include hx ht hg hwi hwo in
theorem vBackB_apply (r : Fin 4096) (k : Fin 1024) :
    vBackB x t g wi wo (ix2 r k) = Ideal.div ((∑ j : Fin 1024, row x r j
        * (dNormed (row x r) (row t r) (gn g) (row wi) (row wo) j * gn g j))
      * (((-(1 / 2) : ℝ) : EReal) * Ideal.div (rstd (row x r)) (msq (row x r)))) width := by
  simp only [← vDHat_apply x t g wi wo hx ht hg hwi hwo]
  rw [← vRstd_apply x r 0, ← vMsq_apply x r 0, ← minusHalf_word, ← vWidth_apply (ix2 r 0)]
  pointwise [vBackB, vBack]
  exact Fin.sum_univ_one _

include hx ht hg hwi hwo in
theorem vDX_apply (r : Fin 4096) (k : Fin 1024) :
    vDX x t g wi wo (ix2 r k) = dX (row x r) (row t r) (gn g) (row wi) (row wo) k := by
  unfold dX
  rw [← normGrad_eq (real_dNormed x t g wi wo hx ht hg hwi hwo r) (fun _ => hx _) (fun _ => hg _),
    ← vBackB_apply x t g wi wo hx ht hg hwi hwo r k, ← vDHat_apply x t g wi wo hx ht hg hwi hwo, ← vDOut_apply,
    ← vRstdB_apply x r k]
  pointwise [vDX]

include hx ht hg hwi hwo in
theorem vDGain_apply (z : Fin 1) (k : Fin 1024) :
    vDGain x t g wi wo (ix2 z k) = ∑ R : Fin 4096, dGain (row x R) (row t R) (gn g) (row wi) (row wo) k := by
  unfold dGain gainGrad
  simp only [← vDNorm_apply x t g wi wo hx ht hg hwi hwo, ← vHat_apply, mul_comm (vDNorm x t g wi wo _)]
  pointwise [vDGain]
  exact Fin.sum_univ_one _
end Real

/-! ### The printed results are these stages -/

section Results
variable (m : (ℓ : Loc nD τ sig) → Buf (Elt Ideal) ℓ) (c : Dev nD)

abbrev inX : FVec Ideal S4096x1024 .f32 := m ((c.tc : Thread nD τ).loc main_arg0)
abbrev inT : FVec Ideal S4096x1024 .f32 := m ((c.tc : Thread nD τ).loc main_arg1)
abbrev inG : FVec Ideal S1024 .f32 := m ((c.tc : Thread nD τ).loc main_arg2)
abbrev inWi : FVec Ideal S1024x5632 .f32 := m ((c.tc : Thread nD τ).loc main_arg3)
abbrev inWo : FVec Ideal S2816x1024 .f32 := m ((c.tc : Thread nD τ).loc main_arg4)

theorem result_du : Value.res_main_v76 m c = vDUp (inX m c) (inT m c) (inG m c) (inWi m c) (inWo m c) := by
  unfold Value.res_main_v76; rfl
theorem result_dx : Value.res_main_v79 m c = vDX (inX m c) (inT m c) (inG m c) (inWi m c) (inWo m c) := by
  unfold Value.res_main_v79; rfl
theorem result_sq : Value.res_main_v74 m c = vSq (inX m c) (inT m c) (inG m c) (inWi m c) (inWo m c) := by
  unfold Value.res_main_v74; rfl
theorem result_dg : Value.res_main_v80 m c = vDGain (inX m c) (inT m c) (inG m c) (inWi m c) (inWo m c) := by
  unfold Value.res_main_v80; rfl

/-- The reference's run, its results named by the stages. -/
theorem run_stages (ρ : Dev nD → PrngReg) :
    θ_run (defs (F := Ideal)) (onTc (τ := τ) (main (F := Ideal))) ⟨m, fun _ => 0, ρ⟩ (fun r => ∀ c : Dev nD,
      r.2.mem ((c.tc : Thread nD τ).loc main_v75) = vNorm (inX m c) (inG m c)
      ∧ r.2.mem ((c.tc : Thread nD τ).loc main_v76) = vDUp (inX m c) (inT m c) (inG m c) (inWi m c) (inWo m c)
      ∧ r.2.mem ((c.tc : Thread nD τ).loc main_v77) = vHid (inX m c) (inG m c) (inWi m c)
      ∧ r.2.mem ((c.tc : Thread nD τ).loc main_v78) = vDY (inX m c) (inT m c) (inG m c) (inWi m c) (inWo m c)
      ∧ r.2.mem ((c.tc : Thread nD τ).loc main_v79) = vDX (inX m c) (inT m c) (inG m c) (inWi m c) (inWo m c)
      ∧ r.2.mem ((c.tc : Thread nD τ).loc main_v74) = vSq (inX m c) (inT m c) (inG m c) (inWi m c) (inWo m c)
      ∧ r.2.mem ((c.tc : Thread nD τ).loc main_v80) = vDGain (inX m c) (inT m c) (inG m c) (inWi m c) (inWo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ?_) (Value.run (F := Ideal) m ρ)
  obtain ⟨h0, h1, h2, h3, h4, h5, h6, hk⟩ := h c
  exact ⟨h0, h1.trans (result_du m c), h2, h3, h4.trans (result_dx m c), h5.trans (result_sq m c), h6.trans (result_dg m c), hk⟩
end Results

end Cert.Last.Reference

end
-- ==== Proof.Ffn.All.lean ====
/- A PRECONDITION'S `jnp.all(jnp.abs(a) < jnp.inf)` READ BACK: every element of the array is a real number. -/
module

public import proofs.«01_k».proof.Proof.Ffn.Finite
public import Idealize.ShloMosaic.Lib.ReduceAll

@[expose] public section

noncomputable section

namespace Cert.Ffn

open Idealize.ShloMosaic

theorem inf_word : Ideal.ofBits .f32 0x7F800000#32 = ⊤ := by simp [Ideal.ofBits, Ideal.ieee]

/-- An extended real whose absolute value is below ⊤ is a real number. -/
theorem isReal_of_abs (x : EReal) (h : max x (-x) < ⊤) : IsReal x := by
  induction x using EReal.rec with
  | bot => simp at h
  | coe a => exact ⟨a, rfl⟩
  | top => simp at h

/-- The test is 1 at the one index of its result: every element is a real number. -/
theorem real_of_all {s u : Shape} [Subsingleton u.Idx] {axes : List (Fin s.rank)} {d : Fin u.rank → Fin s.rank}
    (a : FVec Ideal s .f32) (hb : u.BroadcastsInDim s d)
    (hr : s.ReducesTo axes u) (hu : 0 < u.numel) (j : u.Idx)
    (h : Host.reduce IntOp.andi (cmpf .olt (Host.absf a) (broadcastInDim s d hb (constant u .f32 0x7F800000#32)))
      (constantI u 1 1#1) hr hu j = 1#1) (i : s.Idx) : IsReal (a i) := by
  have e := Host.reduce_andi_all _ _ hr hu j h i
  refine isReal_of_abs (a i) ?_
  have e' : BitVec.ofBool (decide (max (a i) (-(a i)) < Ideal.ofBits .f32 0x7F800000#32)) = 1#1 := e
  rw [inf_word] at e'
  by_contra hn
  rw [decide_eq_false hn] at e'
  exact absurd e' (by decide)

/-- Both of two conditions hold where their conjunction does. -/
theorem both {u : Shape} {p q : IVec u 1} {j : u.Idx} (h : andi p q j = 1#1) : p j = 1#1 ∧ q j = 1#1 := by
  have e : p j &&& q j = 1#1 := h
  revert e; generalize p j = a; generalize q j = b
  revert a b; decide

end Cert.Ffn

end
-- ==== Proof.Last.Given.lean ====
/- THE PRECONDITION of the call `ffn2` READ BACK: where `finite` holds, every element of the five arguments is a real
   number. -/
module

public import proofs.«01_k».proof.Pre_finite
public import proofs.«01_k».proof.Proof.Ffn.All

@[expose] public section

noncomputable section

namespace Cert.Last

open Idealize.ShloMosaic Cert.Ffn Cert.Pre_finite

/-- The side conditions the precondition's text states. -/
theorem given_facts : Cert.Pre_finite.Facts where
  bcast_S_S4096x1024 := by decide
  reducesTo_S4096x1024_S_d0_1 := by decide
  h_S_ := by decide
  bcast_S_S1024 := by decide
  reducesTo_S1024_S_d0 := by decide
  bcast_S_S1024x5632 := by decide
  reducesTo_S1024x5632_S_d0_1 := by decide
  bcast_S_S2816x1024 := by decide
  reducesTo_S2816x1024_S_d0_1 := by decide

instance : Subsingleton S_.Idx := ⟨fun a b => funext fun k => absurd k.isLt (Nat.not_lt_zero _)⟩

theorem real_args [Cert.Pre_finite.Facts] (x t : FVec Ideal S4096x1024 .f32) (g : FVec Ideal S1024 .f32)
    (wi : FVec Ideal S1024x5632 .f32) (wo : FVec Ideal S2816x1024 .f32)
    (h : Cert.Pre_finite.fn (F := Ideal) x t g wi wo = fun _ => 1#1) :
    (∀ i, IsReal (x i)) ∧ (∀ i, IsReal (t i)) ∧ (∀ i, IsReal (g i)) ∧ (∀ i, IsReal (wi i)) ∧ ∀ i, IsReal (wo i) := by
  have e := congrFun h (Shape.Idx.first Facts.h_S_)
  unfold fn fn_part1 at e
  dsimp only at e
  obtain ⟨e, e5⟩ := both e
  obtain ⟨e, e4⟩ := both e
  obtain ⟨e, e3⟩ := both e
  obtain ⟨e1, e2⟩ := both e
  exact ⟨real_of_all _ _ _ _ _ e1, real_of_all _ _ _ _ _ e2, real_of_all _ _ _ _ _ e3, real_of_all _ _ _ _ _ e4,
    real_of_all _ _ _ _ _ e5⟩

end Cert.Last

end
-- ==== Proof.Last.Claim.lean ====
/- THE VALUE CLAIM of the call `ffn2`: the kernel's seven result arrays (`Arrays.lean`) beside the reference's seven terms
   read at an index (`Reference.lean`), at arguments that the precondition makes finite (`Given.lean`). -/
module

public import proofs.«01_k».proof.Defs
public import proofs.«01_k».proof.Proof.Last.Arrays
public import proofs.«01_k».proof.Proof.Last.Reference
public import proofs.«01_k».proof.Proof.Last.Given
public import Idealize.ShloMosaic.Adequacy
public import Idealize.ShloMosaic.Init

@[expose] public section

noncomputable section

namespace Cert.Last

open Idealize.ShloMosaic Idealize.SL.Sem Cert.Last.Reference

attribute [local instance] Cert.LastKernelIdeal.Gen.facts Cert.LastReferenceIdeal.Gen.facts given_facts

/-- The kernel and the reference end with the same seven arrays. -/
theorem algebraic : Cert.algebraic_LastKernelIdeal_LastReferenceIdeal_pre_finite := by
  intro m g m' g' hp hargs
  refine ⟨fun c => G5 m c, fun c => G6 m c, fun c => G7 m c, fun c => G8 m c, fun c => G9 m c, fun c => G10 m c,
    fun c => G11 m c, ?_, ?_⟩
  · refine (θ_run _ _ _).mono (fun r h c => ?_) (Cert.LastKernelIdeal.Value.run_blocks m g)
    obtain ⟨h5, h6, h7, h8, h9, h10, h11, hk⟩ := h c
    exact ⟨h5.trans (final5 m c), h6.trans (final6 m c), h7.trans (final7 m c), h8.trans (final8 m c), h9.trans (final9 m c),
      h10.trans (final10 m c), h11.trans (final11 m c), hk⟩
  · refine (θ_run _ _ _).mono (fun r h c => ?_) (run_stages m' g')
    obtain ⟨a0, a1, a2, a3, a4⟩ := hargs c
    obtain ⟨h5, h6, h7, h8, h9, h10, h11, hk⟩ := h c
    obtain ⟨hx, ht, hg, hwi, hwo⟩ := real_args (argX m c) (argT m c) (argG m c) (argWi m c) (argWo m c) (hp c)
    have b0 : inX m' c = argX m c := a0
    have b1 : inT m' c = argT m c := a1
    have b2 : inG m' c = argG m c := a2
    have b3 : inWi m' c = argWi m c := a3
    have b4 : inWo m' c = argWo m c := a4
    rw [b0, b2] at h5
    rw [b0, b2, b3] at h7
    rw [b0, b1, b2, b3, b4] at h6 h8 h9 h10 h11
    exact ⟨h5.trans (funext fun i => (congrArg _ (eq_ix2 i)).trans (vNorm_apply (argX m c) (argG m c) (i 0) (i 1))),
      h6.trans (funext fun i => (congrArg _ (eq_ix2 i)).trans
        (vDUp_apply (argX m c) (argT m c) (argG m c) (argWi m c) (argWo m c) hx ht hg hwi hwo (i 0) (i 1))),
      h7.trans (funext fun i => (congrArg _ (eq_ix2 i)).trans (vHid_apply (argX m c) (argG m c) (argWi m c) (i 0) (i 1))),
      h8.trans (funext fun i => (congrArg _ (eq_ix2 i)).trans
        (vDY_apply (argX m c) (argT m c) (argG m c) (argWi m c) (argWo m c) (i 0) (i 1))),
      h9.trans (funext fun i => (congrArg _ (eq_ix2 i)).trans
        (vDX_apply (argX m c) (argT m c) (argG m c) (argWi m c) (argWo m c) hx ht hg hwi hwo (i 0) (i 1))),
      h10.trans (funext fun i => (congrArg _ (eq_ix2 i)).trans
        (vSq_apply (argX m c) (argT m c) (argG m c) (argWi m c) (argWo m c) (i 0) (i 1))),
      h11.trans (funext fun i => (congrArg _ (eq_ix2 i)).trans
        (vDGain_apply (argX m c) (argT m c) (argG m c) (argWi m c) (argWo m c) hx ht hg hwi hwo (i 0) (i 1))), hk⟩

/-- The reference's frame: its run leaves the arguments unchanged, and it declares no semaphore. -/
theorem reference_frame : Cert.quiescent_LastReferenceIdeal := fun m ρ _ =>
  (θ_run Cert.LastReferenceIdeal.defs _ _).mono
    (fun r h => ⟨fun c => (h c).2.2.2.2.2.2.2, sem_eq_zero_of_no_sems (by decide) r.2⟩)
    (Cert.LastReferenceIdeal.Value.run (F := Ideal) m ρ)

end Cert.Last

end
-- ==== Proof.Back.KernelIdealFrame.lean ====
/- The launch of the feed-forward gradient kernel as `BackKernelIdeal` prints it: what each output's buffer holds after the body,
   case by case and point by point, the body's obligation, the run (`run_main`) and the frame.  It follows the launch
   set-up written for the program; the one theorem over the body's three cases (`sound_body`) has a larger budget. -/
module

public import proofs.«01_k».proof.Proof.Gen.BackKernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.BackKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section CaseA
variable (c : Dev nD) (t : Fin cfg0.N) (arg1 : Memref sig .tc .vmem S256x1024 .f32) (harg1 : arg1.IsWhole)
    (arg2 : Memref sig .tc .vmem S256x1024 .f32) (harg2 : arg2.IsWhole) (arg3 : Memref sig .tc .vmem S1x1024 .f32)
    (harg3 : arg3.IsWhole) (arg5 : Memref sig .tc .vmem S5632x1024 .bf16) (harg5 : arg5.IsWhole)
    (arg6 : Memref sig .tc .vmem S2816x1024 .bf16) (harg6 : arg6.IsWhole) (arg7 : Memref sig .tc .vmem S256x1024 .f32)
    (harg7 : arg7.IsWhole) (arg8 : Memref sig .tc .vmem S256x5632 .bf16) (harg8 : arg8.IsWhole)
    (arg9 : Memref sig .tc .vmem S256x2816 .bf16) (harg9 : arg9.IsWhole) (arg10 : Memref sig .tc .vmem S256x1024 .bf16)
    (harg10 : arg10.IsWhole) (arg11 : Memref sig .tc .vmem S1x1024 .f32) (harg11 : arg11.IsWhole)
    (hc0 : cond0_0 (grid0.coords t)) (hc1 : cond0_1 (grid0.coords t)) (hc2 : cond0_2 (grid0.coords t))
    (x0 : Vec F S256x1024 .f32) (x1 : Vec F S256x1024 .f32) (x2 : Vec F S1x1024 .f32) (x3 : Vec F S5632x1024 .bf16) (x4 : Vec F S2816x1024 .bf16) (fh0 : HbBuf0 (F := F) c hbM0_0)

/-- Case A's pieces for output 5 tile its block (1 store of `S256x1024`), so they cover it. -/
theorem cover0_A_5 (y : S256x1024.Idx) :
    ∃ pc ∈ (kernelRun0_A c t arg1 harg1 arg2 harg2 arg3 harg3 arg5 harg5 arg6 harg6 arg7 harg7 arg8 harg8 arg9 harg9 arg10 harg10 arg11 harg11 hc0 hc1 hc2 x0 x1 x2 x3 x4 fh0).1, y ∈ pc.1.set :=
  View.cover_of_tiledL (kernelRun0_A c t arg1 harg1 arg2 harg2 arg3 harg3 arg5 harg5 arg6 harg6 arg7 harg7 arg8 harg8 arg9 harg9 arg10 harg10 arg11 harg11 hc0 hc1 hc2 x0 x1 x2 x3 x4 fh0).1 S256x1024.size (by sl_kernel_rfl) y

/-- What case A leaves in output 5's staging buffer: its pieces read back over junk. -/
def out0_A_5 : Vec F S256x1024 .f32 :=
  VO0_5.read (Elt F) (VO0_5.writes (Elt F) VO0_5.junk (kernelRun0_A c t arg1 harg1 arg2 harg2 arg3 harg3 arg5 harg5 arg6 harg6 arg7 harg7 arg8 harg8 arg9 harg9 arg10 harg10 arg11 harg11 hc0 hc1 hc2 x0 x1 x2 x3 x4 fh0).1)

/-- Case A's pieces for output 6 tile its block (2 stores of `S256x2816`), so they cover it. -/
theorem cover0_A_6 (y : S256x5632.Idx) :
    ∃ pc ∈ (kernelRun0_A c t arg1 harg1 arg2 harg2 arg3 harg3 arg5 harg5 arg6 harg6 arg7 harg7 arg8 harg8 arg9 harg9 arg10 harg10 arg11 harg11 hc0 hc1 hc2 x0 x1 x2 x3 x4 fh0).2.1, y ∈ pc.1.set :=
  View.cover_of_tiledL (kernelRun0_A c t arg1 harg1 arg2 harg2 arg3 harg3 arg5 harg5 arg6 harg6 arg7 harg7 arg8 harg8 arg9 harg9 arg10 harg10 arg11 harg11 hc0 hc1 hc2 x0 x1 x2 x3 x4 fh0).2.1 S256x2816.size (by sl_kernel_rfl) y

/-- What case A leaves in output 6's staging buffer: its pieces read back over junk. -/
def out0_A_6 : Vec F S256x5632 .bf16 :=
  VO0_6.read (Elt F) (VO0_6.writes (Elt F) VO0_6.junk (kernelRun0_A c t arg1 harg1 arg2 harg2 arg3 harg3 arg5 harg5 arg6 harg6 arg7 harg7 arg8 harg8 arg9 harg9 arg10 harg10 arg11 harg11 hc0 hc1 hc2 x0 x1 x2 x3 x4 fh0).2.1)

/-- Case A's pieces for output 7 tile its block (1 store of `S256x2816`), so they cover it. -/
theorem cover0_A_7 (y : S256x2816.Idx) :
    ∃ pc ∈ (kernelRun0_A c t arg1 harg1 arg2 harg2 arg3 harg3 arg5 harg5 arg6 harg6 arg7 harg7 arg8 harg8 arg9 harg9 arg10 harg10 arg11 harg11 hc0 hc1 hc2 x0 x1 x2 x3 x4 fh0).2.2.1, y ∈ pc.1.set :=
  View.cover_of_tiledL (kernelRun0_A c t arg1 harg1 arg2 harg2 arg3 harg3 arg5 harg5 arg6 harg6 arg7 harg7 arg8 harg8 arg9 harg9 arg10 harg10 arg11 harg11 hc0 hc1 hc2 x0 x1 x2 x3 x4 fh0).2.2.1 S256x2816.size (by sl_kernel_rfl) y

/-- What case A leaves in output 7's staging buffer: its pieces read back over junk. -/
def out0_A_7 : Vec F S256x2816 .bf16 :=
  VO0_7.read (Elt F) (VO0_7.writes (Elt F) VO0_7.junk (kernelRun0_A c t arg1 harg1 arg2 harg2 arg3 harg3 arg5 harg5 arg6 harg6 arg7 harg7 arg8 harg8 arg9 harg9 arg10 harg10 arg11 harg11 hc0 hc1 hc2 x0 x1 x2 x3 x4 fh0).2.2.1)

/-- Case A's pieces for output 8 tile its block (1 store of `S256x1024`), so they cover it. -/
theorem cover0_A_8 (y : S256x1024.Idx) :
    ∃ pc ∈ (kernelRun0_A c t arg1 harg1 arg2 harg2 arg3 harg3 arg5 harg5 arg6 harg6 arg7 harg7 arg8 harg8 arg9 harg9 arg10 harg10 arg11 harg11 hc0 hc1 hc2 x0 x1 x2 x3 x4 fh0).2.2.2.1, y ∈ pc.1.set :=
  View.cover_of_tiledL (kernelRun0_A c t arg1 harg1 arg2 harg2 arg3 harg3 arg5 harg5 arg6 harg6 arg7 harg7 arg8 harg8 arg9 harg9 arg10 harg10 arg11 harg11 hc0 hc1 hc2 x0 x1 x2 x3 x4 fh0).2.2.2.1 S256x1024.size (by sl_kernel_rfl) y

/-- What case A leaves in output 8's staging buffer: its pieces read back over junk. -/
def out0_A_8 : Vec F S256x1024 .bf16 :=
  VO0_8.read (Elt F) (VO0_8.writes (Elt F) VO0_8.junk (kernelRun0_A c t arg1 harg1 arg2 harg2 arg3 harg3 arg5 harg5 arg6 harg6 arg7 harg7 arg8 harg8 arg9 harg9 arg10 harg10 arg11 harg11 hc0 hc1 hc2 x0 x1 x2 x3 x4 fh0).2.2.2.1)

/-- Case A's pieces for output 9 tile its block (2 stores of `S1x1024`), so they cover it. -/
theorem cover0_A_9 (y : S1x1024.Idx) :
    ∃ pc ∈ (kernelRun0_A c t arg1 harg1 arg2 harg2 arg3 harg3 arg5 harg5 arg6 harg6 arg7 harg7 arg8 harg8 arg9 harg9 arg10 harg10 arg11 harg11 hc0 hc1 hc2 x0 x1 x2 x3 x4 fh0).2.2.2.2.1, y ∈ pc.1.set :=
  View.cover_of_tiledL (kernelRun0_A c t arg1 harg1 arg2 harg2 arg3 harg3 arg5 harg5 arg6 harg6 arg7 harg7 arg8 harg8 arg9 harg9 arg10 harg10 arg11 harg11 hc0 hc1 hc2 x0 x1 x2 x3 x4 fh0).2.2.2.2.1 S1x1024.size (by sl_kernel_rfl) y

/-- What case A leaves in output 9's staging buffer: its pieces read back over junk. -/
def out0_A_9 : Vec F S1x1024 .f32 :=
  VO0_9.read (Elt F) (VO0_9.writes (Elt F) VO0_9.junk (kernelRun0_A c t arg1 harg1 arg2 harg2 arg3 harg3 arg5 harg5 arg6 harg6 arg7 harg7 arg8 harg8 arg9 harg9 arg10 harg10 arg11 harg11 hc0 hc1 hc2 x0 x1 x2 x3 x4 fh0).2.2.2.2.1)

end CaseA

section CaseB
variable (c : Dev nD) (t : Fin cfg0.N) (arg1 : Memref sig .tc .vmem S256x1024 .f32) (harg1 : arg1.IsWhole)
    (arg2 : Memref sig .tc .vmem S256x1024 .f32) (harg2 : arg2.IsWhole) (arg3 : Memref sig .tc .vmem S1x1024 .f32)
    (harg3 : arg3.IsWhole) (arg5 : Memref sig .tc .vmem S5632x1024 .bf16) (harg5 : arg5.IsWhole)
    (arg6 : Memref sig .tc .vmem S2816x1024 .bf16) (harg6 : arg6.IsWhole) (arg7 : Memref sig .tc .vmem S256x1024 .f32)
    (harg7 : arg7.IsWhole) (arg8 : Memref sig .tc .vmem S256x5632 .bf16) (harg8 : arg8.IsWhole)
    (arg9 : Memref sig .tc .vmem S256x2816 .bf16) (harg9 : arg9.IsWhole) (arg10 : Memref sig .tc .vmem S256x1024 .bf16)
    (harg10 : arg10.IsWhole) (arg11 : Memref sig .tc .vmem S1x1024 .f32) (harg11 : arg11.IsWhole)
    (hc0 : ¬cond0_0 (grid0.coords t)) (hc1 : cond0_1 (grid0.coords t)) (hc2 : ¬cond0_2 (grid0.coords t))
    (x0 : Vec F S256x1024 .f32) (x1 : Vec F S256x1024 .f32) (x2 : Vec F S1x1024 .f32) (x3 : Vec F S5632x1024 .bf16) (x4 : Vec F S2816x1024 .bf16) (xo9 : Vec F S1x1024 .f32) (fh0 : HbBuf0 (F := F) c hbM0_0)

/-- Case B's pieces for output 5 tile its block (1 store of `S256x1024`), so they cover it. -/
theorem cover0_B_5 (y : S256x1024.Idx) :
    ∃ pc ∈ (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).1, y ∈ pc.1.set :=
  View.cover_of_tiledL (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).1 S256x1024.size (by sl_kernel_rfl) y

/-- What case B leaves in output 5's staging buffer: its pieces read back over junk. -/
def out0_B_5 : Vec F S256x1024 .f32 :=
  VO0_5.read (Elt F) (VO0_5.writes (Elt F) VO0_5.junk (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).1)

/-- Case B's pieces for output 6 tile its block (2 stores of `S256x2816`), so they cover it. -/
theorem cover0_B_6 (y : S256x5632.Idx) :
    ∃ pc ∈ (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.1, y ∈ pc.1.set :=
  View.cover_of_tiledL (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.1 S256x2816.size (by sl_kernel_rfl) y

/-- What case B leaves in output 6's staging buffer: its pieces read back over junk. -/
def out0_B_6 : Vec F S256x5632 .bf16 :=
  VO0_6.read (Elt F) (VO0_6.writes (Elt F) VO0_6.junk (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.1)

/-- Case B's pieces for output 7 tile its block (1 store of `S256x2816`), so they cover it. -/
theorem cover0_B_7 (y : S256x2816.Idx) :
    ∃ pc ∈ (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.2.1, y ∈ pc.1.set :=
  View.cover_of_tiledL (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.2.1 S256x2816.size (by sl_kernel_rfl) y

/-- What case B leaves in output 7's staging buffer: its pieces read back over junk. -/
def out0_B_7 : Vec F S256x2816 .bf16 :=
  VO0_7.read (Elt F) (VO0_7.writes (Elt F) VO0_7.junk (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.2.1)

/-- Case B's pieces for output 8 tile its block (1 store of `S256x1024`), so they cover it. -/
theorem cover0_B_8 (y : S256x1024.Idx) :
    ∃ pc ∈ (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.2.2.1, y ∈ pc.1.set :=
  View.cover_of_tiledL (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.2.2.1 S256x1024.size (by sl_kernel_rfl) y

/-- What case B leaves in output 8's staging buffer: its pieces read back over junk. -/
def out0_B_8 : Vec F S256x1024 .bf16 :=
  VO0_8.read (Elt F) (VO0_8.writes (Elt F) VO0_8.junk (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.2.2.1)

/-- Case B's pieces for output 9 tile its block (1 store of `S1x1024`), so they cover it. -/
theorem cover0_B_9 (y : S1x1024.Idx) :
    ∃ pc ∈ (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.2.2.2.1, y ∈ pc.1.set :=
  View.cover_of_tiledL (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.2.2.2.1 S1x1024.size (by sl_kernel_rfl) y

/-- What case B leaves in output 9's staging buffer: its pieces read back over junk. -/
def out0_B_9 : Vec F S1x1024 .f32 :=
  VO0_9.read (Elt F) (VO0_9.writes (Elt F) VO0_9.junk (kernelRun0_B c t arg1 harg1 arg2 harg2 arg3 harg3 arg5 harg5 arg6 harg6 arg7 harg7 arg8 harg8 arg9 harg9 arg10 harg10 arg11 harg11 hc0 hc1 hc2 x0 x1 x2 x3 x4 xo9 fh0).2.2.2.2.1)

end CaseB

section CaseC
variable (c : Dev nD) (t : Fin cfg0.N) (arg1 : Memref sig .tc .vmem S256x1024 .f32) (harg1 : arg1.IsWhole)
    (arg2 : Memref sig .tc .vmem S256x1024 .f32) (harg2 : arg2.IsWhole) (arg3 : Memref sig .tc .vmem S1x1024 .f32)
    (harg3 : arg3.IsWhole) (arg5 : Memref sig .tc .vmem S5632x1024 .bf16) (harg5 : arg5.IsWhole)
    (arg6 : Memref sig .tc .vmem S2816x1024 .bf16) (harg6 : arg6.IsWhole) (arg7 : Memref sig .tc .vmem S256x1024 .f32)
    (harg7 : arg7.IsWhole) (arg8 : Memref sig .tc .vmem S256x5632 .bf16) (harg8 : arg8.IsWhole)
    (arg9 : Memref sig .tc .vmem S256x2816 .bf16) (harg9 : arg9.IsWhole) (arg10 : Memref sig .tc .vmem S256x1024 .bf16)
    (harg10 : arg10.IsWhole) (arg11 : Memref sig .tc .vmem S1x1024 .f32) (harg11 : arg11.IsWhole)
    (hc0 : ¬cond0_0 (grid0.coords t)) (hc1 : ¬cond0_1 (grid0.coords t)) (hc2 : ¬cond0_2 (grid0.coords t))
    (x0 : Vec F S256x1024 .f32) (x1 : Vec F S256x1024 .f32) (x2 : Vec F S1x1024 .f32) (x3 : Vec F S5632x1024 .bf16) (x4 : Vec F S2816x1024 .bf16) (xo9 : Vec F S1x1024 .f32) (fh0 : HbBuf0 (F := F) c hbM0_0)

/-- Case C's pieces for output 5 tile its block (1 store of `S256x1024`), so they cover it. -/
theorem cover0_C_5 (y : S256x1024.Idx) :
    ∃ pc ∈ (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).1, y ∈ pc.1.set :=
  View.cover_of_tiledL (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).1 S256x1024.size (by sl_kernel_rfl) y

/-- What case C leaves in output 5's staging buffer: its pieces read back over junk. -/
def out0_C_5 : Vec F S256x1024 .f32 :=
  VO0_5.read (Elt F) (VO0_5.writes (Elt F) VO0_5.junk (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).1)

/-- Case C's pieces for output 6 tile its block (2 stores of `S256x2816`), so they cover it. -/
theorem cover0_C_6 (y : S256x5632.Idx) :
    ∃ pc ∈ (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.1, y ∈ pc.1.set :=
  View.cover_of_tiledL (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.1 S256x2816.size (by sl_kernel_rfl) y

/-- What case C leaves in output 6's staging buffer: its pieces read back over junk. -/
def out0_C_6 : Vec F S256x5632 .bf16 :=
  VO0_6.read (Elt F) (VO0_6.writes (Elt F) VO0_6.junk (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.1)

/-- Case C's pieces for output 7 tile its block (1 store of `S256x2816`), so they cover it. -/
theorem cover0_C_7 (y : S256x2816.Idx) :
    ∃ pc ∈ (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.2.1, y ∈ pc.1.set :=
  View.cover_of_tiledL (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.2.1 S256x2816.size (by sl_kernel_rfl) y

/-- What case C leaves in output 7's staging buffer: its pieces read back over junk. -/
def out0_C_7 : Vec F S256x2816 .bf16 :=
  VO0_7.read (Elt F) (VO0_7.writes (Elt F) VO0_7.junk (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.2.1)

/-- Case C's pieces for output 8 tile its block (1 store of `S256x1024`), so they cover it. -/
theorem cover0_C_8 (y : S256x1024.Idx) :
    ∃ pc ∈ (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.2.2.1, y ∈ pc.1.set :=
  View.cover_of_tiledL (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.2.2.1 S256x1024.size (by sl_kernel_rfl) y

/-- What case C leaves in output 8's staging buffer: its pieces read back over junk. -/
def out0_C_8 : Vec F S256x1024 .bf16 :=
  VO0_8.read (Elt F) (VO0_8.writes (Elt F) VO0_8.junk (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.2.2.1)

/-- Case C's pieces for output 9 tile its block (1 store of `S1x1024`), so they cover it. -/
theorem cover0_C_9 (y : S1x1024.Idx) :
    ∃ pc ∈ (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.2.2.2.1, y ∈ pc.1.set :=
  View.cover_of_tiledL (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.2.2.2.1 S1x1024.size (by sl_kernel_rfl) y

/-- What case C leaves in output 9's staging buffer: its pieces read back over junk. -/
def out0_C_9 : Vec F S1x1024 .f32 :=
  VO0_9.read (Elt F) (VO0_9.writes (Elt F) VO0_9.junk (kernelRun0_C c t arg1 harg1 arg2 harg2 arg3 harg3 arg5 harg5 arg6 harg6 arg7 harg7 arg8 harg8 arg9 harg9 arg10 harg10 arg11 harg11 hc0 hc1 hc2 x0 x1 x2 x3 x4 xo9 fh0).2.2.2.2.1)

/-! ## What the outputs hold after each point -/

end CaseC

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .f32 × Vec F S256x5632 .bf16 × Vec F S256x2816 .bf16 × Vec F S256x1024 .bf16 × Vec F S1x1024 .f32
  | 0, hn => (out0_A_5 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) ((hcond0_1 ⟨0, hn⟩).mpr (by (try dsimp only); omega)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v14), out0_A_6 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) ((hcond0_1 ⟨0, hn⟩).mpr (by (try dsimp only); omega)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v14), out0_A_7 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) ((hcond0_1 ⟨0, hn⟩).mpr (by (try dsimp only); omega)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v14), out0_A_8 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) ((hcond0_1 ⟨0, hn⟩).mpr (by (try dsimp only); omega)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v14), out0_A_9 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) ((hcond0_1 ⟨0, hn⟩).mpr (by (try dsimp only); omega)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (V m c main_v14))
  | n + 1, hn =>
    if h0 : (n + 1) % 16 = 0 then
      if h1 : (n + 1) < 14 then
        if h2 : (n + 1) % 16 = 0 then
          (out0_A_5 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v14), out0_A_6 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v14), out0_A_7 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v14), out0_A_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v14), out0_A_9 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v14))
        else
          False.elim (by have hN : n + 1 < 16 := lt_of_lt_of_eq hn (show cfg0.N = 16 from N_0); omega)
      else
        False.elim (by have hN : n + 1 < 16 := lt_of_lt_of_eq hn (show cfg0.N = 16 from N_0); omega)
    else
      if h1 : (n + 1) < 14 then
        if h2 : (n + 1) % 16 = 0 then
          False.elim (by have hN : n + 1 < 16 := lt_of_lt_of_eq hn (show cfg0.N = 16 from N_0); omega)
        else
          (out0_B_5 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (V m c main_v14), out0_B_6 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (V m c main_v14), out0_B_7 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (V m c main_v14), out0_B_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (V m c main_v14), out0_B_9 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (V m c main_v14))
      else
        if h2 : (n + 1) % 16 = 0 then
          False.elim (by have hN : n + 1 < 16 := lt_of_lt_of_eq hn (show cfg0.N = 16 from N_0); omega)
        else
          (out0_C_5 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (V m c main_v14), out0_C_6 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (V m c main_v14), out0_C_7 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (V m c main_v14), out0_C_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (V m c main_v14), out0_C_9 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2 (V m c main_v14))

/-- `outsAt0` at a point of case A: that case's contents. -/
theorem outsAt0_A (c : Dev nD) (t : Fin cfg0.N) (h0 : t.val % 16 = 0) (h1 : t.val < 14) (h2 : t.val % 16 = 0) :
    outsAt0 m c t.val t.isLt = (out0_A_5 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) ((hcond0_1 t).mpr h1) ((hcond0_2 t).mpr h2) (iblk m c 0 t) (iblk m c 1 t) (iblk m c 2 t) (iblk m c 3 t) (iblk m c 4 t) (V m c main_v14), out0_A_6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) ((hcond0_1 t).mpr h1) ((hcond0_2 t).mpr h2) (iblk m c 0 t) (iblk m c 1 t) (iblk m c 2 t) (iblk m c 3 t) (iblk m c 4 t) (V m c main_v14), out0_A_7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) ((hcond0_1 t).mpr h1) ((hcond0_2 t).mpr h2) (iblk m c 0 t) (iblk m c 1 t) (iblk m c 2 t) (iblk m c 3 t) (iblk m c 4 t) (V m c main_v14), out0_A_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) ((hcond0_1 t).mpr h1) ((hcond0_2 t).mpr h2) (iblk m c 0 t) (iblk m c 1 t) (iblk m c 2 t) (iblk m c 3 t) (iblk m c 4 t) (V m c main_v14), out0_A_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) ((hcond0_1 t).mpr h1) ((hcond0_2 t).mpr h2) (iblk m c 0 t) (iblk m c 1 t) (iblk m c 2 t) (iblk m c 3 t) (iblk m c 4 t) (V m c main_v14)) := by
  obtain ⟨n, hn⟩ := t
  cases n with
  | zero => exact rfl
  | succ n => exact (dif_pos h0).trans ((dif_pos h1).trans ((dif_pos h2).trans rfl))

/-- `outsAt0` at a point of case B: that case's contents, over what the point before left. -/
theorem outsAt0_B (c : Dev nD) (t : Fin cfg0.N) (h0 : ¬t.val % 16 = 0) (h1 : t.val < 14) (h2 : ¬t.val % 16 = 0) :
    outsAt0 m c t.val t.isLt = (out0_B_5 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14), out0_B_6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14), out0_B_7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14), out0_B_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14), out0_B_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 16 = 0) (h1 : ¬t.val < 14) (h2 : ¬t.val % 16 = 0) :
    outsAt0 m c t.val t.isLt = (out0_C_5 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14), out0_C_6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14), out0_C_7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14), out0_C_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14), out0_C_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-! ## The pipeline's proof data -/

/-- The region invariant before point `k`: the generator register at some state, and each ring
    before point `k`. -/
def PhiR (c : Dev nD) (k : ℕ) : sProp 𝕄 := iprop((∃ r, prngReg c r) ∗ ringAt0_0 c (V m c main_v14) k)

/-- The proof data of the one pipeline on core `c`: the arrays as the region finds them (`V`); after the body at
    point `t` each input's buffer at its block and the outputs' at `outsAt0`; the invariant
    (`PhiR`: each ring's Lib/Ring.lean `Ring.At` before the point, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 16 = 0) (h1 : t.val < 14) (h2 : ¬t.val % 16 = 0) (d) :
    (dats m 0 c).before 9 t d = (outsAt0 m c (t.val - 1) (Nat.lt_of_le_of_lt (Nat.sub_le _ _) t.isLt)).2.2.2.2 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case C output 9's current staging buffer holds what the body left at the point before: the point is
    not the first, the buffer was not written back between (`flush0_9`), the window is live and uncut (Lib/Pipeline/Frame.lean
    `Dat.before_out_kept`). -/
theorem before0_9_C (c : Dev nD) (t : Fin cfg0.N) (h0 : ¬t.val % 16 = 0) (h1 : ¬t.val < 14) (h2 : ¬t.val % 16 = 0) (d) :
    (dats m 0 c).before 9 t d = (outsAt0 m c (t.val - 1) (Nat.lt_of_le_of_lt (Nat.sub_le _ _) t.isLt)).2.2.2.2 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 24000000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (Lib/Ring.lean `AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [after0_0, after0_1, after0_2, after0_3, after0_4, after0_5, after0_6, after0_7, after0_8, after0_9]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 16 := N_0
  have hN : t.val < 16 := lt_of_lt_of_eq t.isLt (show cfg0.N = 16 from N_0)
  by_cases h0 : t.val % 16 = 0
  · by_cases h1 : t.val < 14
    · by_cases h2 : t.val % 16 = 0
      · rw [outsAt0_A m c t h0 h1 h2]
        unfold out0_A_5 out0_A_6 out0_A_7 out0_A_8 out0_A_9; (try dsimp only)
        have hr0 := rstep0_0_A t ((hcond0_0 t).mpr h0) ((hcond0_1 t).mpr h1) ((hcond0_2 t).mpr h2)
        obtain ⟨hK00, hK10⟩ := hr0
        rw [if_pos hK00, if_neg (show ¬t.val + 1 = 0 by omega)]
        rw [Ring.At₀_eq3' _ _ _ t.val hK00 (by decide : 3 ≤ 16), Ring.At3_one' _ _ _ _ t.val hK00 (by decide : 3 ≤ 16)]
        iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c t _ _ _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t) (V m c main_v14)).2.2.2.2.2 W _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, H2, H3, H4, ⟨%e5, H5⟩, ⟨%e6, H6⟩, ⟨%e7, H7⟩, ⟨%e8, H8⟩, ⟨%e9, H9⟩, Hfa0_0', Hfb0_0', Hfc0_0', ⟨%W', HW'⟩⟩
        isplitl [Hg Hfa0_0' Hfb0_0' Hfc0_0']
        · isplitl [Hg]; · iexact Hg
          iapply (Ring.with_homes (Idealize.SL.BI.Entails.refl _))
          isplitl [Hfa0_0']; · iexact Hfa0_0'
          isplitl [Hfb0_0']; · iexact Hfb0_0'
          iexact Hfc0_0'
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _)
      · exfalso; omega
    · exfalso; omega
  · by_cases h1 : t.val < 14
    · by_cases h2 : t.val % 16 = 0
      · exfalso; omega
      · rw [outsAt0_B m c t h0 h1 h2]
        simp only [before0_9_B m c t h0 h1 h2]
        unfold out0_B_5 out0_B_6 out0_B_7 out0_B_8 out0_B_9; (try dsimp only)
        have hr0 := rstep0_0_B t (fun h => h0 ((hcond0_0 t).mp h)) ((hcond0_1 t).mpr h1) (fun h => h2 ((hcond0_2 t).mp h))
        obtain ⟨hK10, hKB0, hKs0⟩ := hr0
        rw [if_neg (show ¬t.val = 0 by omega), if_neg (show ¬t.val + 1 = 0 by omega)]
        rw [Ring.At3_here _ _ _ _ t.val hKB0, Ring.At3_next _ _ _ _ t.val hKB0, Ring.slotAt3_next0 _ _ _ t.val (by omega), Ring.slotAt3_next1 _ _ _ t.val hKB0]
        iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c t _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _ (V m c main_v14)).2.2.2.2.2 W _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexact H9
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, H2, H3, H4, ⟨%e5, H5⟩, ⟨%e6, H6⟩, ⟨%e7, H7⟩, ⟨%e8, H8⟩, ⟨%e9, H9⟩, Hfa0_0', Hfb0_0', Hfc0_0', ⟨%W', HW'⟩⟩
        isplitl [Hg Hfa0_0' Hfb0_0' Hfc0_0']
        · isplitl [Hg]; · iexact Hg
          iapply (Ring.with_homes (Idealize.SL.BI.Entails.refl _))
          isplitl [Hfa0_0']; · iexact Hfa0_0'
          isplitl [Hfb0_0']; · iexact Hfb0_0'
          iexact Hfc0_0'
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _)
    · by_cases h2 : t.val % 16 = 0
      · exfalso; omega
      · rw [outsAt0_C m c t h0 h1 h2]
        simp only [before0_9_C m c t h0 h1 h2]
        unfold out0_C_5 out0_C_6 out0_C_7 out0_C_8 out0_C_9; (try dsimp only)
        have hr0 := rstep0_0_C t (fun h => h0 ((hcond0_0 t).mp h)) (fun h => h1 ((hcond0_1 t).mp h)) (fun h => h2 ((hcond0_2 t).mp h))
        obtain ⟨hK10, hKB0, hKlt0, hKs0⟩ := hr0
        rw [if_neg (show ¬t.val = 0 by omega), if_neg (show ¬t.val + 1 = 0 by omega)]
        rw [Ring.At3_here_tail _ _ _ _ t.val hKlt0, Ring.At3_next_tail _ _ _ _ t.val hKB0 hKlt0, Ring.slotAt3_tail_role _ _ _ t.val]
        iintro ⟨⟨Hg, ⟨-, Hfr0_0_0, Hfr0_0_1, Hfr0_0_2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c t _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) _ (V m c main_v14)).2.2.2.2.2 W _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexact H9
        isplitl [Hfr0_0_0]; · iexact Hfr0_0_0
        isplitl [Hfr0_0_1]; · iexact Hfr0_0_1
        isplitl [Hfr0_0_2]; · iexact Hfr0_0_2
        isplitl [HW]; · iexact HW
        iintro ⟨H0, H1, H2, H3, H4, ⟨%e5, H5⟩, ⟨%e6, H6⟩, ⟨%e7, H7⟩, ⟨%e8, H8⟩, ⟨%e9, H9⟩, Hfa0_0', Hfb0_0', Hfc0_0', ⟨%W', HW'⟩⟩
        isplitl [Hg Hfa0_0' Hfb0_0' Hfc0_0']
        · isplitl [Hg]; · iexact Hg
          iapply (Ring.with_homes (Idealize.SL.BI.Entails.refl _))
          isplitl [Hfa0_0']; · iexact Hfa0_0'
          isplitl [Hfb0_0']; · iexact Hfb0_0'
          iexact Hfc0_0'
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨HR0_0, Hg, ⟨Hq0, Hq1, Hq2⟩, Hh0⟩
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 16 by rw [N_0]]
  iintro ⟨Hg, HR0_0⟩
  ihave HX0_0 := (ring0_0_out (F := F) m c) $$ HR0_0
  icases HX0_0 with ⟨HR0_0, ⟨Hq0, Hq1, Hq2⟩, Hh0⟩
  isplitl [HR0_0]
  · iexact HR0_0
  isplitl [Hg]
  · iexact Hg
  isplitl [Hq0 Hq1 Hq2]
  · isplitl [Hq0]; · iexact Hq0
    isplitl [Hq1]; · iexact Hq1
    iexact Hq2
  iexact Hh0

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame at any `F`: every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.BackKernelIdeal.Gen

end
-- ==== Proof.Back.Frame.lean ====
/- THE FRAME OF `ffn1_bwd`'s KERNEL. The program and its ideal form have the same text, so the run written over any float values
   (`Proof/Back/KernelIdealFrame.lean`) is the run of both. -/
module

public import proofs.«01_k».proof.Defs
public import proofs.«01_k».proof.Proof.Gen.BackKernel
public import proofs.«01_k».proof.Proof.Back.KernelIdealFrame

@[expose] public section

namespace Cert.Back

open Idealize.ShloMosaic Idealize.SL.Sem

attribute [local instance] Cert.BackKernel.Gen.facts Cert.BackKernelIdeal.Gen.facts

/-- The two programs' bodies are the same, label by label. -/
theorem bodies_eq : Cert.BackKernelIdeal.defs₀ (F := Bits) = Cert.BackKernel.defs₀ (F := Bits) :=
  congrArg Defs.onTc (funext fun l => match l with
    | 0 => funext fun _ => rfl
    | ⟨_ + 1, h⟩ => absurd h (Nat.not_lt.2 (Nat.le_add_left _ _)))

theorem defs_eq : Cert.BackKernelIdeal.defs (F := Bits) = Cert.BackKernel.defs (F := Bits) :=
  congrArg (Pipeline.defs (Cert.BackKernelIdeal.pcfgs (F := Bits))) bodies_eq

/-- The kernel's frame, from the run of the ideal kernel's text at bit patterns. -/
theorem kernel_frame : Cert.quiescent_BackKernel := fun m ρ _ => by
  have h := Cert.BackKernelIdeal.Gen.frame (F := Bits) m ρ
  rw [defs_eq] at h
  exact h

end Cert.Back
-- ==== Proof.Back.KernelIdealValue.lean ====
/- What each array of the feed-forward gradient kernel holds after the run, block by block: the block that the point's
   body left in the window, or what the array held.  It follows the launch set-up of `Proof.Back.KernelIdealFrame`. -/
module

public import proofs.«01_k».proof.Proof.Back.KernelIdealFrame
public import Idealize.ShloMosaic.Lib.Pipeline.Value

@[expose] public section

noncomputable section

namespace Cert.BackKernelIdeal.Value

open Cert.BackKernelIdeal Cert.BackKernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 16 = 0) (h1 : t.val < 14) (h2 : t.val % 16 = 0) :
    (dats m 0 c).flushed 5 t = (cfg0.win 5).cut (grid0.coords t) (out0_A_5 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) ((hcond0_1 t).mpr h1) ((hcond0_2 t).mpr h2) (iblk m c 0 t) (iblk m c 1 t) (iblk m c 2 t) (iblk m c 3 t) (iblk m c 4 t) (V m c main_v14)) := by
  simp only [flushed5, outsAt0_A m c t h0 h1 h2]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 16 = 0) (h1 : t.val < 14) (h2 : ¬t.val % 16 = 0) :
    (dats m 0 c).flushed 5 t = (cfg0.win 5).cut (grid0.coords t) (out0_B_5 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  simp only [flushed5, outsAt0_B m c t h0 h1 h2]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 16 = 0) (h1 : ¬t.val < 14) (h2 : ¬t.val % 16 = 0) :
    (dats m 0 c).flushed 5 t = (cfg0.win 5).cut (grid0.coords t) (out0_C_5 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  simp only [flushed5, outsAt0_C m c t h0 h1 h2]

/-- The index map sends distinct grid points to distinct block indices (decided over the 16 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4096x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 16 = 0) (h1 : t.val < 14) (h2 : t.val % 16 = 0) :
    (dats m 0 c).flushed 6 t = (cfg0.win 6).cut (grid0.coords t) (out0_A_6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) ((hcond0_1 t).mpr h1) ((hcond0_2 t).mpr h2) (iblk m c 0 t) (iblk m c 1 t) (iblk m c 2 t) (iblk m c 3 t) (iblk m c 4 t) (V m c main_v14)) := by
  simp only [flushed6, outsAt0_A m c t h0 h1 h2]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 16 = 0) (h1 : t.val < 14) (h2 : ¬t.val % 16 = 0) :
    (dats m 0 c).flushed 6 t = (cfg0.win 6).cut (grid0.coords t) (out0_B_6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  simp only [flushed6, outsAt0_B m c t h0 h1 h2]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 16 = 0) (h1 : ¬t.val < 14) (h2 : ¬t.val % 16 = 0) :
    (dats m 0 c).flushed 6 t = (cfg0.win 6).cut (grid0.coords t) (out0_C_6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  simp only [flushed6, outsAt0_C m c t h0 h1 h2]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4096x5632.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 16 = 0) (h1 : t.val < 14) (h2 : t.val % 16 = 0) :
    (dats m 0 c).flushed 7 t = (cfg0.win 7).cut (grid0.coords t) (out0_A_7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) ((hcond0_1 t).mpr h1) ((hcond0_2 t).mpr h2) (iblk m c 0 t) (iblk m c 1 t) (iblk m c 2 t) (iblk m c 3 t) (iblk m c 4 t) (V m c main_v14)) := by
  simp only [flushed7, outsAt0_A m c t h0 h1 h2]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 16 = 0) (h1 : t.val < 14) (h2 : ¬t.val % 16 = 0) :
    (dats m 0 c).flushed 7 t = (cfg0.win 7).cut (grid0.coords t) (out0_B_7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  simp only [flushed7, outsAt0_B m c t h0 h1 h2]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 16 = 0) (h1 : ¬t.val < 14) (h2 : ¬t.val % 16 = 0) :
    (dats m 0 c).flushed 7 t = (cfg0.win 7).cut (grid0.coords t) (out0_C_7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  simp only [flushed7, outsAt0_C m c t h0 h1 h2]

/-- The index map sends distinct grid points to distinct block indices (decided over the 16 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4096x2816.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 3), read through the window's block. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 16 = 0) (h1 : t.val < 14) (h2 : t.val % 16 = 0) :
    (dats m 0 c).flushed 8 t = (cfg0.win 8).cut (grid0.coords t) (out0_A_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) ((hcond0_1 t).mpr h1) ((hcond0_2 t).mpr h2) (iblk m c 0 t) (iblk m c 1 t) (iblk m c 2 t) (iblk m c 3 t) (iblk m c 4 t) (V m c main_v14)) := by
  simp only [flushed8, outsAt0_A m c t h0 h1 h2]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 16 = 0) (h1 : t.val < 14) (h2 : ¬t.val % 16 = 0) :
    (dats m 0 c).flushed 8 t = (cfg0.win 8).cut (grid0.coords t) (out0_B_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  simp only [flushed8, outsAt0_B m c t h0 h1 h2]

/-- … so at a point where case C runs, what its write-back would write is that case's NAMED TERM for the window (`Gen.out0_C_8`: the pieces
    its run found, read back) at the point's memrefs and input blocks, and for an output the case reads back what the point before left (`Gen.outsAt0` at `t - 1`) — by the frame's rewriting lemma for the case. -/
theorem flushed8_C (c : Dev nD) (t : Fin cfg0.N) (h0 : ¬t.val % 16 = 0) (h1 : ¬t.val < 14) (h2 : ¬t.val % 16 = 0) :
    (dats m 0 c).flushed 8 t = (cfg0.win 8).cut (grid0.coords t) (out0_C_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  simp only [flushed8, outsAt0_C m c t h0 h1 h2]

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4096x1024.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 4), read through the window's block. -/
theorem flushed9 (c : Dev nD) (t : Fin cfg0.N) :
    (dats m 0 c).flushed 9 t = (cfg0.win 9).cut (grid0.coords t) ((outsAt0 m c t.val t.isLt).2.2.2.2) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 16 = 0) (h1 : t.val < 14) (h2 : t.val % 16 = 0) :
    (dats m 0 c).flushed 9 t = (cfg0.win 9).cut (grid0.coords t) (out0_A_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) ((hcond0_1 t).mpr h1) ((hcond0_2 t).mpr h2) (iblk m c 0 t) (iblk m c 1 t) (iblk m c 2 t) (iblk m c 3 t) (iblk m c 4 t) (V m c main_v14)) := by
  simp only [flushed9, outsAt0_A m c t h0 h1 h2]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 16 = 0) (h1 : t.val < 14) (h2 : ¬t.val % 16 = 0) :
    (dats m 0 c).flushed 9 t = (cfg0.win 9).cut (grid0.coords t) (out0_B_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  simp only [flushed9, outsAt0_B m c t h0 h1 h2]

/-- … so at a point where case C runs, what its write-back would write is that case's NAMED TERM for the window (`Gen.out0_C_9`: the pieces
    its run found, read back) at the point's memrefs and input blocks, and for an output the case reads back what the point before left (`Gen.outsAt0` at `t - 1`) — by the frame's rewriting lemma for the case. -/
theorem flushed9_C (c : Dev nD) (t : Fin cfg0.N) (h0 : ¬t.val % 16 = 0) (h1 : ¬t.val < 14) (h2 : ¬t.val % 16 = 0) :
    (dats m 0 c).flushed 9 t = (cfg0.win 9).cut (grid0.coords t) (out0_C_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.2.2 (V m c main_v14)) := by
  simp only [flushed9, outsAt0_C m c t h0 h1 h2]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S1x1024.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v19_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v19_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v19_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v19_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v19_4) = (dats m 0 c).arrAt 9 cfg0.N :=
  (h c).1 9

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: input window 0 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v19_0) = (dats m 0 c).arrAt 5 cfg0.N
      ∧ r.2.mem ((c : Thread nD τ).loc main_v19_1) = (dats m 0 c).arrAt 6 cfg0.N
      ∧ r.2.mem ((c : Thread nD τ).loc main_v19_2) = (dats m 0 c).arrAt 7 cfg0.N
      ∧ r.2.mem ((c : Thread nD τ).loc main_v19_3) = (dats m 0 c).arrAt 8 cfg0.N
      ∧ r.2.mem ((c : Thread nD τ).loc main_v19_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.BackKernelIdeal.Value

end
-- ==== Proof.Back.Rows.lean ====
/- THE GRADIENT OF A FEED-FORWARD HALF-STEP, row by row: from the gradient `e` of the half-step's output row, the gradients of
   the second product's result, of the hidden row before the activation, of the input row, and the row's part of the gradient of
   the gain (the call `ffn1_bwd`). -/
module

public import proofs.«01_k».proof.Proof.Last.Rows

@[expose] public section

noncomputable section

namespace Cert.Back

open Idealize.ShloMosaic Cert.Ffn
open Cert.Last (up hid)

variable (x e g : Fin 1024 → EReal) (wi : Fin 1024 → Fin 5632 → EReal) (wo : Fin 2816 → Fin 1024 → EReal)

/-- The gradient of the second product's result. -/
def dY (d : Fin 1024) : EReal := half * e d
/-- The gradient of the hidden row. -/
def dHid : Fin 2816 → EReal := lin (dY e) (fun d f => wo f d)
/-- The gradient of the hidden row before the activation. -/
def dUp : Fin 5632 → EReal := actGrad (dHid e wo) (up x g wi)
/-- The gradient of the normalised row. -/
def dNormed : Fin 1024 → EReal := lin (dUp x e g wi wo) (fun q k => wi k q)
/-- The gradient of the row. -/
def dX (k : Fin 1024) : EReal := e k + normGrad (dNormed x e g wi wo) x g k
/-- The row's part of the gradient of the gain. -/
def dGain : Fin 1024 → EReal := gainGrad (dNormed x e g wi wo) x

end Cert.Back

end
-- ==== Proof.Back.Block.lean ====
/- WHAT ONE BLOCK'S ARITHMETIC COMPUTES in the gradient of the half step, at an index: the functions of a row of
   Proof/Back/Rows.lean. -/
module

public import proofs.«01_k».proof.Proof.Back.Rows
public import proofs.«01_k».proof.Proof.Gen.BackKernelIdeal.Skeleton
public import Idealize.ShloMosaic.Lib.Pointwise

@[expose] public section

noncomputable section

namespace Cert.Back

open Idealize.ShloMosaic Cert.BackKernelIdeal Cert.BackKernelIdeal.Gen Cert.Ffn Cert.Gate
open Cert.Last (row up hid)

section Block
variable (x0 x1 : Vec Ideal S256x1024 .f32) (x2 : Vec Ideal S1x1024 .f32) (x3 : Vec Ideal S5632x1024 .bf16)
  (x4 : Vec Ideal S2816x1024 .bf16) (va vb : Vec Ideal S256x2816 .bf16)

/-- The first matrix of a block, which the block holds transposed. -/
abbrev wIn (k : Fin 1024) (q : Fin 5632) : EReal := x3 (ix2 q k)

theorem pay4_apply (r : Fin 256) (d : Fin 1024) : k0_pay4 x0 (ix2 r d) = dY (row x0 r) d := by
  unfold dY
  rw [show half = _ from half_word.symm]
  pointwise [k0_pay4]

theorem pay5_apply (r : Fin 256) (f : Fin 2816) : k0_pay5 x0 x4 (ix2 r f) = dHid (row x0 r) (row x4) f := by
  unfold dHid lin
  simp only [← pay4_apply]
  pointwise [k0_pay5]

section Act
variable (ha : ∀ (r : Fin 256) (f : Fin 2816), va (ix2 r f) = up (row x1 r) (row x2 0) (wIn x3) (left f))
  (hb : ∀ (r : Fin 256) (f : Fin 2816), vb (ix2 r f) = up (row x1 r) (row x2 0) (wIn x3) (right f))

include ha in
theorem pay6_apply (r : Fin 256) (f : Fin 2816) :
    k0_pay6 va (ix2 r f) = up (row x1 r) (row x2 0) (wIn x3) (left f) := by
  rw [← ha]
  pointwise [k0_pay6]

include hb in
theorem pay7_apply (r : Fin 256) (f : Fin 2816) :
    k0_pay7 vb (ix2 r f) = up (row x1 r) (row x2 0) (wIn x3) (right f) := by
  rw [← hb]
  pointwise [k0_pay7]

include ha in
theorem pay8_apply (r : Fin 256) (f : Fin 2816) :
    k0_pay8 va (ix2 r f) = Ideal.logistic (up (row x1 r) (row x2 0) (wIn x3) (left f)) := by
  rw [← pay6_apply x1 x2 x3 va ha, ← halfTanh_eq, ← half_word]
  pointwise [k0_pay8]

include ha in
theorem pay9_apply (r : Fin 256) (f : Fin 2816) :
    k0_pay9 (k0_pay6 va) (k0_pay8 va) (ix2 r f) = up (row x1 r) (row x2 0) (wIn x3) (left f)
      * Ideal.logistic (up (row x1 r) (row x2 0) (wIn x3) (left f)) := by
  rw [← pay8_apply x1 x2 x3 va ha, ← pay6_apply x1 x2 x3 va ha]
  pointwise [k0_pay9]

include ha hb in
theorem pay10_apply (r : Fin 256) (f : Fin 2816) :
    k0_pay10 (k0_pay6 va) (k0_pay7 vb) (k0_pay8 va) (ix2 r f) = hid (row x1 r) (row x2 0) (wIn x3) f := by
  unfold hid act
  rw [← pay9_apply x1 x2 x3 va ha, ← pay7_apply x1 x2 x3 vb hb]
  pointwise [k0_pay10]

include ha hb in
theorem pay11_apply (r : Fin 256) (f : Fin 2816) :
    k0_pay11 (k0_pay5 x0 x4) (k0_pay6 va) (k0_pay7 vb) (k0_pay8 va) (ix2 r f)
      = dUp (row x1 r) (row x0 r) (row x2 0) (wIn x3) (row x4) (left f) := by
  unfold dUp
  rw [actGrad_left]
  unfold actLeft
  rw [← pay5_apply, ← pay8_apply x1 x2 x3 va ha, ← pay7_apply x1 x2 x3 vb hb, ← pay6_apply x1 x2 x3 va ha, ← one_word]
  pointwise [k0_pay11]

include ha in
theorem pay12_apply (r : Fin 256) (f : Fin 2816) :
    k0_pay12 (k0_pay5 x0 x4) (k0_pay6 va) (k0_pay8 va) (ix2 r f)
      = dUp (row x1 r) (row x0 r) (row x2 0) (wIn x3) (row x4) (right f) := by
  unfold dUp
  rw [actGrad_right, ← pay5_apply, ← pay9_apply x1 x2 x3 va ha]
  pointwise [k0_pay12]
end Act

theorem pay14_apply (r : Fin 256) (z : Fin 1) : k0_pay14 x1 (ix2 r z) = rstd (row x1 r) := by
  pointwise [k0_pay14, rstd, msq, width_word]

theorem pay15_apply (r : Fin 256) (k : Fin 1024) : k0_pay15 x1 (ix2 r k) = row x1 r k * rstd (row x1 r) := by
  rw [← pay14_apply x1 r 0]
  pointwise [k0_pay15]

section Down
variable (du : Vec Ideal S256x5632 .bf16)
  (hdu : ∀ (r : Fin 256) (q : Fin 5632), du (ix2 r q) = dUp (row x1 r) (row x0 r) (row x2 0) (wIn x3) (row x4) q)

include hdu in
theorem pay13_apply (r : Fin 256) (k : Fin 1024) :
    k0_pay13 du x3 (ix2 r k) = dNormed (row x1 r) (row x0 r) (row x2 0) (wIn x3) (row x4) k := by
  unfold dNormed lin
  simp only [← hdu]
  pointwise [k0_pay13]

include hdu in
theorem pay16_apply (r : Fin 256) (k : Fin 1024) :
    k0_pay16 du x3 x2 (ix2 r k)
      = dNormed (row x1 r) (row x0 r) (row x2 0) (wIn x3) (row x4) k * row x2 0 k := by
  rw [← pay13_apply x0 x1 x2 x3 x4 du hdu]
  pointwise [k0_pay16]

include hdu in
theorem pay1_apply (r : Fin 256) (k : Fin 1024) :
    k0_pay1 x0 (k0_pay14 x1) (k0_pay15 x1) (k0_pay16 du x3 x2) (ix2 r k)
      = dX (row x1 r) (row x0 r) (row x2 0) (wIn x3) (row x4) k := by
  unfold dX normGrad
  simp only [← pay16_apply x0 x1 x2 x3 x4 du hdu]
  simp only [← pay15_apply]
  rw [← pay14_apply x1 r 0, show width = _ from width_word.symm]
  pointwise [k0_pay1]

include hdu in
/-- The gain's gradient, summed over the block's rows on top of `acc`. -/
theorem pay3_apply (acc : Vec Ideal S1x1024 .f32) (z : Fin 1) (k : Fin 1024) :
    k0_pay3 (k0_pay13 du x3) (k0_pay15 x1) acc (ix2 z k)
      = acc (ix2 0 k) + ∑ r : Fin 256, dGain (row x1 r) (row x0 r) (row x2 0) (wIn x3) (row x4) k := by
  obtain rfl : z = 0 := Subsingleton.elim _ _
  unfold dGain gainGrad
  simp only [← pay13_apply x0 x1 x2 x3 x4 du hdu, ← pay15_apply]
  pointwise [k0_pay3]

theorem pay2_apply (z : Fin 1) (k : Fin 1024) : k0_pay2 (F := Ideal) (ix2 z k) = 0 := by
  pointwise [k0_pay2]
end Down

end Block

end Cert.Back

end
-- ==== Proof.Back.Ring.lean ====
/- WHAT A POINT READS OF THE SAVED PRODUCT: the transfer that the point waits for has brought in the point's own rows of
   it. -/
module
public import proofs.«01_k».proof.Proof.Back.Block
public import proofs.«01_k».proof.Proof.Gen.BackKernelIdeal.Frame.Runs
@[expose] public section
noncomputable section
namespace Cert.Back
open Idealize.ShloMosaic Idealize Cert.BackKernelIdeal Cert.BackKernelIdeal.Gen Cert.Ffn Cert.Gate
/-- The origin of a whole block. -/
theorem hz : (![0, 0] : Fin 2 → Nat) = fun _ => 0 := funext fun a => by fin_cases a <;> rfl

variable (c : Dev nD) (t : Fin cfg0.N) (fh : HbBuf0 (F := Ideal) c hbM0_0)

/-- The rows of the saved product that point `t` takes. -/
def uRow (r : Fin 256) (q : Fin 5632) : EReal := fh (ix2 ⟨256 * t.val + r.val, by
  have hN : t.val < 16 := lt_of_lt_of_eq t.isLt (show cfg0.N = 16 from N_0); omega⟩ q)

/-- The slot holds the rows once the transfer has landed. -/
theorem landed_apply (r : Fin 256) (q : Fin 5632) :
    View.canon (Val := Elt Ideal) [⟨Rect.whole S256x5632, ReadAs.same.apply ((srcB0_0 (Ring.bk 16 t.val)).view.read (Elt Ideal) fh)⟩] (ix2 r q)
      = uRow c t fh r q := by
  have hN : t.val < 16 := lt_of_lt_of_eq t.isLt (show cfg0.N = 16 from N_0)
  refine View.canon_apply_of_pieces (Val := Elt Ideal) (e := .bf16)
    (fun y : S256x5632.Idx => uRow c t fh (y 0) (y 1)) _ ?_ (ix2 r q) ?_
  · intro p hp
    rcases List.mem_cons.mp hp with rfl | hp
    · intro x
      unfold uRow
      show fh _ = fh _
      refine congrArg fh ?_
      funext a
      match a with
      | ⟨0, _⟩ =>
        refine Fin.ext ?_
        show 256 * (Ring.bk 16 t.val).val + 1 * (x 0).val = 256 * t.val + (0 + 1 * (x 0).val)
        rw [Ring.bk_val hN]; omega
      | ⟨1, _⟩ =>
        refine Fin.ext ?_
        show 0 + 1 * (x 1).val = 0 + 1 * (x 1).val
        rfl
    nomatch hp
  · exact ⟨_, List.mem_cons_self .., by
      show ix2 r q ∈ (Rect.whole S256x5632).set; rw [Rect.set_whole]; exact Finset.mem_univ _⟩

/-- The left half of the point's rows. -/
def uLeft : Vec Ideal S256x2816 .bf16 := fun j => uRow c t fh (j 0) (left (j 1))
/-- The right half of the point's rows. -/
def uRight : Vec Ideal S256x2816 .bf16 := fun j => uRow c t fh (j 0) (right (j 1))

/-- What a point loads of the left half. -/
theorem readLeft (v : View sig .tc .vmem S256x5632 .bf16) :
    v.readCov (Val := Elt Ideal)
      [⟨Rect.whole S256x5632, ReadAs.same.apply ((srcB0_0 (Ring.bk 16 t.val)).view.read (Elt Ideal) fh)⟩]
      (Rect.unit ![0, 0] ![256, 2816] inb_S256x5632_S256x2816_0_0).toLoadRect = uLeft c t fh := by
  rw [View.readCov_eq_canon']
  funext j
  rw [eq_ix2 j]
  refine Eq.trans ?_ (landed_apply c t fh (j 0) (left (j 1)))
  refine congrArg _ (funext fun a => ?_)
  match a with
  | ⟨0, _⟩ => exact Fin.ext (by show 0 + 1 * (j 0).val = (j 0).val; omega)
  | ⟨1, _⟩ => exact Fin.ext (by show 0 + 1 * (j 1).val = (j 1).val; omega)

/-- What a point loads of the right half. -/
theorem readRight (v : View sig .tc .vmem S256x5632 .bf16) :
    v.readCov (Val := Elt Ideal)
      [⟨Rect.whole S256x5632, ReadAs.same.apply ((srcB0_0 (Ring.bk 16 t.val)).view.read (Elt Ideal) fh)⟩]
      (Rect.unit ![0, 2816] ![256, 2816] inb_S256x5632_S256x2816_0_2816).toLoadRect = uRight c t fh := by
  rw [View.readCov_eq_canon']
  funext j
  rw [eq_ix2 j]
  refine Eq.trans ?_ (landed_apply c t fh (j 0) (right (j 1)))
  refine congrArg _ (funext fun a => ?_)
  match a with
  | ⟨0, _⟩ => exact Fin.ext (by show 0 + 1 * (j 0).val = (j 0).val; omega)
  | ⟨1, _⟩ => exact Fin.ext (by show 2816 + 1 * (j 1).val = 2816 + (j 1).val; omega)

end Cert.Back

end
-- ==== Proof.Back.Out.lean ====
/- WHAT A POINT OF THE GRID LEAVES in each output's buffer in the gradient of the half step, as the arithmetic of
   Proof/Back/Block.lean: at the first point (case A), where the gain's gradient starts from zero, at the later ones
   (case B) and at the last two, which start no transfer (case C). -/
module

public import proofs.«01_k».proof.Proof.Back.Ring
public import proofs.«01_k».proof.Proof.Back.KernelIdealFrame

@[expose] public section

set_option maxRecDepth 4096

noncomputable section

namespace Cert.Back

open Idealize.ShloMosaic Idealize Cert.BackKernelIdeal Cert.BackKernelIdeal.Gen Cert.Ffn Cert.Gate
open Cert.Last (row up hid)

section Hidden
variable (x0 x1 : Vec Ideal S256x1024 .f32) (x2 : Vec Ideal S1x1024 .f32) (x3 : Vec Ideal S5632x1024 .bf16)
  (x4 : Vec Ideal S2816x1024 .bf16) (va vb : Vec Ideal S256x2816 .bf16)

/-- The two stores that make up the block of the hidden row's gradient, the later first. -/
abbrev duPieces : List (View.Piece (Elt Ideal) S256x5632 .bf16) :=
  [⟨Rect.unit ![0, 2816] ![256, 2816] inb_S256x5632_S256x2816_0_2816,
      k0_pay12 (k0_pay5 x0 x4) (k0_pay6 va) (k0_pay8 va)⟩,
    ⟨Rect.unit ![0, 0] ![256, 2816] inb_S256x5632_S256x2816_0_0,
      k0_pay11 (k0_pay5 x0 x4) (k0_pay6 va) (k0_pay7 vb) (k0_pay8 va)⟩]

/-- The block of the hidden row's gradient. -/
def duBlock : Vec Ideal S256x5632 .bf16 := View.canon (duPieces x0 x4 va vb)

/-- The block of the row's gradient. -/
def dxBlock : Vec Ideal S256x1024 .f32 :=
  k0_pay1 x0 (k0_pay14 x1) (k0_pay15 x1) (k0_pay16 (duBlock x0 x4 va vb) x3 x2)

/-- The block, read back whole after its two stores. -/
theorem reload (a8 : Memref sig .tc .vmem S256x5632 .bf16) :
    a8.view.readCov (duPieces x0 x4 va vb) (Rect.unit ![0, 0] ![256, 5632] inb_S256x5632_S256x5632_0_0).toLoadRect
      = duBlock x0 x4 va vb := by
  rw [View.readCov_eq_canon']
  exact View.ld_unit_zero (S := S256x5632) hz _ _

variable (ha : ∀ (r : Fin 256) (f : Fin 2816), va (ix2 r f) = up (row x1 r) (row x2 0) (wIn x3) (left f))
  (hb : ∀ (r : Fin 256) (f : Fin 2816), vb (ix2 r f) = up (row x1 r) (row x2 0) (wIn x3) (right f))

include ha hb in
theorem duBlock_apply (r : Fin 256) (q : Fin 5632) :
    duBlock x0 x4 va vb (ix2 r q) = dUp (row x1 r) (row x0 r) (row x2 0) (wIn x3) (row x4) q := by
  unfold duBlock
  refine View.canon_apply_of_pieces (Val := Elt Ideal) (e := .bf16)
    (fun y : S256x5632.Idx => dUp (row x1 (y 0)) (row x0 (y 0)) (row x2 0) (wIn x3) (row x4) (y 1)) _ ?_ (ix2 r q) ?_
  · intro p hp
    rcases List.mem_cons.mp hp with rfl | hp
    · intro x
      rw [eq_ix2 x]
      refine (pay12_apply x0 x1 x2 x3 x4 va ha (x 0) (x 1)).trans ?_
      refine congrArg₂ (fun (r : Fin 256) q => dUp (row x1 r) (row x0 r) (row x2 0) (wIn x3) (row x4) q)
        (Fin.ext ?_) (Fin.ext ?_)
      · show (x 0).val = 0 + 1 * (x 0).val; omega
      · show 2816 + (x 1).val = 2816 + 1 * (x 1).val; omega
    rcases List.mem_cons.mp hp with rfl | hp
    · intro x
      rw [eq_ix2 x]
      refine (pay11_apply x0 x1 x2 x3 x4 va vb ha hb (x 0) (x 1)).trans ?_
      refine congrArg₂ (fun (r : Fin 256) q => dUp (row x1 r) (row x0 r) (row x2 0) (wIn x3) (row x4) q)
        (Fin.ext ?_) (Fin.ext ?_)
      · show (x 0).val = 0 + 1 * (x 0).val; omega
      · show (x 1).val = 0 + 1 * (x 1).val; omega
    nomatch hp
  · by_cases hq : q.val < 2816
    · refine ⟨_, List.mem_cons_of_mem _ (List.mem_cons_self ..), ?_⟩
      rw [Rect.mem_set_unit]
      intro a
      match a with
      | ⟨0, _⟩ => exact ⟨Nat.zero_le _, by show r.val < 0 + 256; omega⟩
      | ⟨1, _⟩ => exact ⟨Nat.zero_le _, by show q.val < 0 + 2816; omega⟩
    · refine ⟨_, List.mem_cons_self .., ?_⟩
      rw [Rect.mem_set_unit]
      intro a
      match a with
      | ⟨0, _⟩ => exact ⟨Nat.zero_le _, by show r.val < 0 + 256; omega⟩
      | ⟨1, _⟩ => exact ⟨by show 2816 ≤ q.val; omega, by show q.val < 2816 + 2816; omega⟩

include ha hb in
theorem dxBlock_apply (r : Fin 256) (k : Fin 1024) :
    dxBlock x0 x1 x2 x3 x4 va vb (ix2 r k) = dX (row x1 r) (row x0 r) (row x2 0) (wIn x3) (row x4) k :=
  pay1_apply x0 x1 x2 x3 x4 _ (duBlock_apply x0 x1 x2 x3 x4 va vb ha hb) r k

end Hidden

variable (c : Dev nD) (t : Fin cfg0.N)
  (a1 : Memref sig .tc .vmem S256x1024 .f32) (h1 : a1.IsWhole)
  (a2 : Memref sig .tc .vmem S256x1024 .f32) (h2 : a2.IsWhole)
  (a3 : Memref sig .tc .vmem S1x1024 .f32) (h3 : a3.IsWhole)
  (a5 : Memref sig .tc .vmem S5632x1024 .bf16) (h5 : a5.IsWhole)
  (a6 : Memref sig .tc .vmem S2816x1024 .bf16) (h6 : a6.IsWhole)
  (a7 : Memref sig .tc .vmem S256x1024 .f32) (h7 : a7.IsWhole)
  (a8 : Memref sig .tc .vmem S256x5632 .bf16) (h8 : a8.IsWhole)
  (a9 : Memref sig .tc .vmem S256x2816 .bf16) (h9 : a9.IsWhole)
  (a10 : Memref sig .tc .vmem S256x1024 .bf16) (h10 : a10.IsWhole)
  (a11 : Memref sig .tc .vmem S1x1024 .f32) (h11 : a11.IsWhole)
  (x0 x1 : Vec Ideal S256x1024 .f32) (x2 : Vec Ideal S1x1024 .f32) (x3 : Vec Ideal S5632x1024 .bf16) (x4 : Vec Ideal S2816x1024 .bf16)
  (p9 : Vec Ideal S1x1024 .f32) (fh : HbBuf0 (F := Ideal) c hbM0_0)

theorem out5_A (hc0 : cond0_0 (grid0.coords t)) (hc1 : cond0_1 (grid0.coords t)) (hc2 : cond0_2 (grid0.coords t)) :
    out0_A_5 c t a1 h1 a2 h2 a3 h3 a5 h5 a6 h6 a7 h7 a8 h8 a9 h9 a10 h10 a11 h11 hc0 hc1 hc2 x0 x1 x2 x3 x4 fh = dxBlock x0 x1 x2 x3 x4 (uLeft c t fh) (uRight c t fh) := by
  unfold out0_A_5
  rw [View.read_writes_eq_canon _ _ _ (cover0_A_5 c t a1 h1 a2 h2 a3 h3 a5 h5 a6 h6 a7 h7 a8 h8 a9 h9 a10 h10 a11 h11 hc0 hc1 hc2 x0 x1 x2 x3 x4 fh)]
  unfold kernelRun0_A
  dsimp only
  sl_unfold_words
  rw [View.canon_unit_zero hz]
  simp only [View.readAt_eq_ld, h1.read_unread, h2.read_unread, h3.read_unread, h5.read_unread, h6.read_unread,
    View.ld_unit_zero (S := S256x1024) hz, View.ld_unit_zero (S := S1x1024) hz, View.ld_unit_zero (S := S5632x1024) hz, View.ld_unit_zero (S := S2816x1024) hz]
  rw [readLeft, readRight]
  rw [reload]
  rfl

theorem out6_A (hc0 : cond0_0 (grid0.coords t)) (hc1 : cond0_1 (grid0.coords t)) (hc2 : cond0_2 (grid0.coords t)) :
    out0_A_6 c t a1 h1 a2 h2 a3 h3 a5 h5 a6 h6 a7 h7 a8 h8 a9 h9 a10 h10 a11 h11 hc0 hc1 hc2 x0 x1 x2 x3 x4 fh = duBlock x0 x4 (uLeft c t fh) (uRight c t fh) := by
  unfold out0_A_6
  rw [View.read_writes_eq_canon _ _ _ (cover0_A_6 c t a1 h1 a2 h2 a3 h3 a5 h5 a6 h6 a7 h7 a8 h8 a9 h9 a10 h10 a11 h11 hc0 hc1 hc2 x0 x1 x2 x3 x4 fh)]
  unfold kernelRun0_A
  dsimp only
  sl_unfold_words
  simp only [View.readAt_eq_ld, h1.read_unread, h2.read_unread, h3.read_unread, h5.read_unread, h6.read_unread,
    View.ld_unit_zero (S := S256x1024) hz, View.ld_unit_zero (S := S1x1024) hz, View.ld_unit_zero (S := S5632x1024) hz, View.ld_unit_zero (S := S2816x1024) hz]
  rw [readLeft, readRight]
  rfl

theorem out7_A (hc0 : cond0_0 (grid0.coords t)) (hc1 : cond0_1 (grid0.coords t)) (hc2 : cond0_2 (grid0.coords t)) :
    out0_A_7 c t a1 h1 a2 h2 a3 h3 a5 h5 a6 h6 a7 h7 a8 h8 a9 h9 a10 h10 a11 h11 hc0 hc1 hc2 x0 x1 x2 x3 x4 fh = k0_pay10 (k0_pay6 (uLeft c t fh)) (k0_pay7 (uRight c t fh)) (k0_pay8 (uLeft c t fh)) := by
  unfold out0_A_7
  rw [View.read_writes_eq_canon _ _ _ (cover0_A_7 c t a1 h1 a2 h2 a3 h3 a5 h5 a6 h6 a7 h7 a8 h8 a9 h9 a10 h10 a11 h11 hc0 hc1 hc2 x0 x1 x2 x3 x4 fh)]
  unfold kernelRun0_A
  dsimp only
  sl_unfold_words
  rw [View.canon_unit_zero hz]
  simp only [View.readAt_eq_ld, h1.read_unread, h2.read_unread, h3.read_unread, h5.read_unread, h6.read_unread,
    View.ld_unit_zero (S := S256x1024) hz, View.ld_unit_zero (S := S1x1024) hz, View.ld_unit_zero (S := S5632x1024) hz, View.ld_unit_zero (S := S2816x1024) hz]
  rw [readLeft, readRight]

theorem out8_A (hc0 : cond0_0 (grid0.coords t)) (hc1 : cond0_1 (grid0.coords t)) (hc2 : cond0_2 (grid0.coords t)) :
    out0_A_8 c t a1 h1 a2 h2 a3 h3 a5 h5 a6 h6 a7 h7 a8 h8 a9 h9 a10 h10 a11 h11 hc0 hc1 hc2 x0 x1 x2 x3 x4 fh = k0_pay4 x0 := by
  unfold out0_A_8
  rw [View.read_writes_eq_canon _ _ _ (cover0_A_8 c t a1 h1 a2 h2 a3 h3 a5 h5 a6 h6 a7 h7 a8 h8 a9 h9 a10 h10 a11 h11 hc0 hc1 hc2 x0 x1 x2 x3 x4 fh)]
  unfold kernelRun0_A
  dsimp only
  sl_unfold_words
  rw [View.canon_unit_zero hz]
  simp only [View.readAt_eq_ld, h1.read_unread, h2.read_unread, h3.read_unread, h5.read_unread, h6.read_unread,
    View.ld_unit_zero (S := S256x1024) hz, View.ld_unit_zero (S := S1x1024) hz, View.ld_unit_zero (S := S5632x1024) hz, View.ld_unit_zero (S := S2816x1024) hz]

theorem out9_A (hc0 : cond0_0 (grid0.coords t)) (hc1 : cond0_1 (grid0.coords t)) (hc2 : cond0_2 (grid0.coords t)) :
    out0_A_9 c t a1 h1 a2 h2 a3 h3 a5 h5 a6 h6 a7 h7 a8 h8 a9 h9 a10 h10 a11 h11 hc0 hc1 hc2 x0 x1 x2 x3 x4 fh = k0_pay3 (k0_pay13 (duBlock x0 x4 (uLeft c t fh) (uRight c t fh)) x3) (k0_pay15 x1) (k0_pay2 (F := Ideal)) := by
  unfold out0_A_9
  rw [View.read_writes_eq_canon _ _ _ (cover0_A_9 c t a1 h1 a2 h2 a3 h3 a5 h5 a6 h6 a7 h7 a8 h8 a9 h9 a10 h10 a11 h11 hc0 hc1 hc2 x0 x1 x2 x3 x4 fh)]
  unfold kernelRun0_A
  dsimp only
  sl_unfold_words
  rw [View.canon_cons_unit_zero (S := S1x1024) hz]
  rw [View.readCov_unit_zero (S := S1x1024) _ hz]
  simp only [View.readAt_eq_ld, h1.read_unread, h2.read_unread, h3.read_unread, h5.read_unread, h6.read_unread,
    View.ld_unit_zero (S := S256x1024) hz, View.ld_unit_zero (S := S1x1024) hz, View.ld_unit_zero (S := S5632x1024) hz, View.ld_unit_zero (S := S2816x1024) hz]
  rw [readLeft, readRight]
  rw [reload]

theorem out5_B (hc0 : ¬cond0_0 (grid0.coords t)) (hc1 : cond0_1 (grid0.coords t)) (hc2 : ¬cond0_2 (grid0.coords t)) :
    out0_B_5 c t a1 h1 a2 h2 a3 h3 a5 h5 a6 h6 a7 h7 a8 h8 a9 h9 a10 h10 a11 h11 hc0 hc1 hc2 x0 x1 x2 x3 x4 p9 fh = dxBlock x0 x1 x2 x3 x4 (uLeft c t fh) (uRight c t fh) := by
  unfold out0_B_5
  rw [View.read_writes_eq_canon _ _ _ (cover0_B_5 c t a1 h1 a2 h2 a3 h3 a5 h5 a6 h6 a7 h7 a8 h8 a9 h9 a10 h10 a11 h11 hc0 hc1 hc2 x0 x1 x2 x3 x4 p9 fh)]
  unfold kernelRun0_B
  dsimp only
  sl_unfold_words
  rw [View.canon_unit_zero hz]
  simp only [View.readAt_eq_ld, h1.read_unread, h2.read_unread, h3.read_unread, h5.read_unread, h6.read_unread, h11.read_unread,
    View.ld_unit_zero (S := S256x1024) hz, View.ld_unit_zero (S := S1x1024) hz, View.ld_unit_zero (S := S5632x1024) hz, View.ld_unit_zero (S := S2816x1024) hz]
  rw [readLeft, readRight]
  rw [reload]
  rfl

theorem out6_B (hc0 : ¬cond0_0 (grid0.coords t)) (hc1 : cond0_1 (grid0.coords t)) (hc2 : ¬cond0_2 (grid0.coords t)) :
    out0_B_6 c t a1 h1 a2 h2 a3 h3 a5 h5 a6 h6 a7 h7 a8 h8 a9 h9 a10 h10 a11 h11 hc0 hc1 hc2 x0 x1 x2 x3 x4 p9 fh = duBlock x0 x4 (uLeft c t fh) (uRight c t fh) := by
  unfold out0_B_6
  rw [View.read_writes_eq_canon _ _ _ (cover0_B_6 c t a1 h1 a2 h2 a3 h3 a5 h5 a6 h6 a7 h7 a8 h8 a9 h9 a10 h10 a11 h11 hc0 hc1 hc2 x0 x1 x2 x3 x4 p9 fh)]
  unfold kernelRun0_B
  dsimp only
  sl_unfold_words
  simp only [View.readAt_eq_ld, h1.read_unread, h2.read_unread, h3.read_unread, h5.read_unread, h6.read_unread, h11.read_unread,
    View.ld_unit_zero (S := S256x1024) hz, View.ld_unit_zero (S := S1x1024) hz, View.ld_unit_zero (S := S5632x1024) hz, View.ld_unit_zero (S := S2816x1024) hz]
  rw [readLeft, readRight]
  rfl

theorem out7_B (hc0 : ¬cond0_0 (grid0.coords t)) (hc1 : cond0_1 (grid0.coords t)) (hc2 : ¬cond0_2 (grid0.coords t)) :
    out0_B_7 c t a1 h1 a2 h2 a3 h3 a5 h5 a6 h6 a7 h7 a8 h8 a9 h9 a10 h10 a11 h11 hc0 hc1 hc2 x0 x1 x2 x3 x4 p9 fh = k0_pay10 (k0_pay6 (uLeft c t fh)) (k0_pay7 (uRight c t fh)) (k0_pay8 (uLeft c t fh)) := by
  unfold out0_B_7
  rw [View.read_writes_eq_canon _ _ _ (cover0_B_7 c t a1 h1 a2 h2 a3 h3 a5 h5 a6 h6 a7 h7 a8 h8 a9 h9 a10 h10 a11 h11 hc0 hc1 hc2 x0 x1 x2 x3 x4 p9 fh)]
  unfold kernelRun0_B
  dsimp only
  sl_unfold_words
  rw [View.canon_unit_zero hz]
  simp only [View.readAt_eq_ld, h1.read_unread, h2.read_unread, h3.read_unread, h5.read_unread, h6.read_unread, h11.read_unread,
    View.ld_unit_zero (S := S256x1024) hz, View.ld_unit_zero (S := S1x1024) hz, View.ld_unit_zero (S := S5632x1024) hz, View.ld_unit_zero (S := S2816x1024) hz]
  rw [readLeft, readRight]

theorem out8_B (hc0 : ¬cond0_0 (grid0.coords t)) (hc1 : cond0_1 (grid0.coords t)) (hc2 : ¬cond0_2 (grid0.coords t)) :
    out0_B_8 c t a1 h1 a2 h2 a3 h3 a5 h5 a6 h6 a7 h7 a8 h8 a9 h9 a10 h10 a11 h11 hc0 hc1 hc2 x0 x1 x2 x3 x4 p9 fh = k0_pay4 x0 := by
  unfold out0_B_8
  rw [View.read_writes_eq_canon _ _ _ (cover0_B_8 c t a1 h1 a2 h2 a3 h3 a5 h5 a6 h6 a7 h7 a8 h8 a9 h9 a10 h10 a11 h11 hc0 hc1 hc2 x0 x1 x2 x3 x4 p9 fh)]
  unfold kernelRun0_B
  dsimp only
  sl_unfold_words
  rw [View.canon_unit_zero hz]
  simp only [View.readAt_eq_ld, h1.read_unread, h2.read_unread, h3.read_unread, h5.read_unread, h6.read_unread, h11.read_unread,
    View.ld_unit_zero (S := S256x1024) hz, View.ld_unit_zero (S := S1x1024) hz, View.ld_unit_zero (S := S5632x1024) hz, View.ld_unit_zero (S := S2816x1024) hz]

theorem out9_B (hc0 : ¬cond0_0 (grid0.coords t)) (hc1 : cond0_1 (grid0.coords t)) (hc2 : ¬cond0_2 (grid0.coords t)) :
    out0_B_9 c t a1 h1 a2 h2 a3 h3 a5 h5 a6 h6 a7 h7 a8 h8 a9 h9 a10 h10 a11 h11 hc0 hc1 hc2 x0 x1 x2 x3 x4 p9 fh = k0_pay3 (k0_pay13 (duBlock x0 x4 (uLeft c t fh) (uRight c t fh)) x3) (k0_pay15 x1) p9 := by
  unfold out0_B_9
  rw [View.read_writes_eq_canon _ _ _ (cover0_B_9 c t a1 h1 a2 h2 a3 h3 a5 h5 a6 h6 a7 h7 a8 h8 a9 h9 a10 h10 a11 h11 hc0 hc1 hc2 x0 x1 x2 x3 x4 p9 fh)]
  unfold kernelRun0_B
  dsimp only
  sl_unfold_words
  rw [View.canon_unit_zero hz]
  simp only [View.readAt_eq_ld, h1.read_unread, h2.read_unread, h3.read_unread, h5.read_unread, h6.read_unread, h11.read_unread,
    View.ld_unit_zero (S := S256x1024) hz, View.ld_unit_zero (S := S1x1024) hz, View.ld_unit_zero (S := S5632x1024) hz, View.ld_unit_zero (S := S2816x1024) hz]
  rw [readLeft, readRight]
  rw [reload]

theorem out5_C (hc0 : ¬cond0_0 (grid0.coords t)) (hc1 : ¬cond0_1 (grid0.coords t)) (hc2 : ¬cond0_2 (grid0.coords t)) :
    out0_C_5 c t a1 h1 a2 h2 a3 h3 a5 h5 a6 h6 a7 h7 a8 h8 a9 h9 a10 h10 a11 h11 hc0 hc1 hc2 x0 x1 x2 x3 x4 p9 fh = dxBlock x0 x1 x2 x3 x4 (uLeft c t fh) (uRight c t fh) := by
  unfold out0_C_5
  rw [View.read_writes_eq_canon _ _ _ (cover0_C_5 c t a1 h1 a2 h2 a3 h3 a5 h5 a6 h6 a7 h7 a8 h8 a9 h9 a10 h10 a11 h11 hc0 hc1 hc2 x0 x1 x2 x3 x4 p9 fh)]
  unfold kernelRun0_C
  dsimp only
  sl_unfold_words
  rw [View.canon_unit_zero hz]
  simp only [View.readAt_eq_ld, h1.read_unread, h2.read_unread, h3.read_unread, h5.read_unread, h6.read_unread, h11.read_unread,
    View.ld_unit_zero (S := S256x1024) hz, View.ld_unit_zero (S := S1x1024) hz, View.ld_unit_zero (S := S5632x1024) hz, View.ld_unit_zero (S := S2816x1024) hz]
  rw [readLeft, readRight]
  rw [reload]
  rfl

theorem out6_C (hc0 : ¬cond0_0 (grid0.coords t)) (hc1 : ¬cond0_1 (grid0.coords t)) (hc2 : ¬cond0_2 (grid0.coords t)) :
    out0_C_6 c t a1 h1 a2 h2 a3 h3 a5 h5 a6 h6 a7 h7 a8 h8 a9 h9 a10 h10 a11 h11 hc0 hc1 hc2 x0 x1 x2 x3 x4 p9 fh = duBlock x0 x4 (uLeft c t fh) (uRight c t fh) := by
  unfold out0_C_6
  rw [View.read_writes_eq_canon _ _ _ (cover0_C_6 c t a1 h1 a2 h2 a3 h3 a5 h5 a6 h6 a7 h7 a8 h8 a9 h9 a10 h10 a11 h11 hc0 hc1 hc2 x0 x1 x2 x3 x4 p9 fh)]
  unfold kernelRun0_C
  dsimp only
  sl_unfold_words
  simp only [View.readAt_eq_ld, h1.read_unread, h2.read_unread, h3.read_unread, h5.read_unread, h6.read_unread, h11.read_unread,
    View.ld_unit_zero (S := S256x1024) hz, View.ld_unit_zero (S := S1x1024) hz, View.ld_unit_zero (S := S5632x1024) hz, View.ld_unit_zero (S := S2816x1024) hz]
  rw [readLeft, readRight]
  rfl

theorem out7_C (hc0 : ¬cond0_0 (grid0.coords t)) (hc1 : ¬cond0_1 (grid0.coords t)) (hc2 : ¬cond0_2 (grid0.coords t)) :
    out0_C_7 c t a1 h1 a2 h2 a3 h3 a5 h5 a6 h6 a7 h7 a8 h8 a9 h9 a10 h10 a11 h11 hc0 hc1 hc2 x0 x1 x2 x3 x4 p9 fh = k0_pay10 (k0_pay6 (uLeft c t fh)) (k0_pay7 (uRight c t fh)) (k0_pay8 (uLeft c t fh)) := by
  unfold out0_C_7
  rw [View.read_writes_eq_canon _ _ _ (cover0_C_7 c t a1 h1 a2 h2 a3 h3 a5 h5 a6 h6 a7 h7 a8 h8 a9 h9 a10 h10 a11 h11 hc0 hc1 hc2 x0 x1 x2 x3 x4 p9 fh)]
  unfold kernelRun0_C
  dsimp only
  sl_unfold_words
  rw [View.canon_unit_zero hz]
  simp only [View.readAt_eq_ld, h1.read_unread, h2.read_unread, h3.read_unread, h5.read_unread, h6.read_unread, h11.read_unread,
    View.ld_unit_zero (S := S256x1024) hz, View.ld_unit_zero (S := S1x1024) hz, View.ld_unit_zero (S := S5632x1024) hz, View.ld_unit_zero (S := S2816x1024) hz]
  rw [readLeft, readRight]

theorem out8_C (hc0 : ¬cond0_0 (grid0.coords t)) (hc1 : ¬cond0_1 (grid0.coords t)) (hc2 : ¬cond0_2 (grid0.coords t)) :
    out0_C_8 c t a1 h1 a2 h2 a3 h3 a5 h5 a6 h6 a7 h7 a8 h8 a9 h9 a10 h10 a11 h11 hc0 hc1 hc2 x0 x1 x2 x3 x4 p9 fh = k0_pay4 x0 := by
  unfold out0_C_8
  rw [View.read_writes_eq_canon _ _ _ (cover0_C_8 c t a1 h1 a2 h2 a3 h3 a5 h5 a6 h6 a7 h7 a8 h8 a9 h9 a10 h10 a11 h11 hc0 hc1 hc2 x0 x1 x2 x3 x4 p9 fh)]
  unfold kernelRun0_C
  dsimp only
  sl_unfold_words
  rw [View.canon_unit_zero hz]
  simp only [View.readAt_eq_ld, h1.read_unread, h2.read_unread, h3.read_unread, h5.read_unread, h6.read_unread, h11.read_unread,
    View.ld_unit_zero (S := S256x1024) hz, View.ld_unit_zero (S := S1x1024) hz, View.ld_unit_zero (S := S5632x1024) hz, View.ld_unit_zero (S := S2816x1024) hz]

theorem out9_C (hc0 : ¬cond0_0 (grid0.coords t)) (hc1 : ¬cond0_1 (grid0.coords t)) (hc2 : ¬cond0_2 (grid0.coords t)) :
    out0_C_9 c t a1 h1 a2 h2 a3 h3 a5 h5 a6 h6 a7 h7 a8 h8 a9 h9 a10 h10 a11 h11 hc0 hc1 hc2 x0 x1 x2 x3 x4 p9 fh = k0_pay3 (k0_pay13 (duBlock x0 x4 (uLeft c t fh) (uRight c t fh)) x3) (k0_pay15 x1) p9 := by
  unfold out0_C_9
  rw [View.read_writes_eq_canon _ _ _ (cover0_C_9 c t a1 h1 a2 h2 a3 h3 a5 h5 a6 h6 a7 h7 a8 h8 a9 h9 a10 h10 a11 h11 hc0 hc1 hc2 x0 x1 x2 x3 x4 p9 fh)]
  unfold kernelRun0_C
  dsimp only
  sl_unfold_words
  rw [View.canon_unit_zero hz]
  simp only [View.readAt_eq_ld, h1.read_unread, h2.read_unread, h3.read_unread, h5.read_unread, h6.read_unread, h11.read_unread,
    View.ld_unit_zero (S := S256x1024) hz, View.ld_unit_zero (S := S1x1024) hz, View.ld_unit_zero (S := S5632x1024) hz, View.ld_unit_zero (S := S2816x1024) hz]
  rw [readLeft, readRight]
  rw [reload]

end Cert.Back

end
-- ==== Proof.Back.Reference.lean ====
/- WHAT THE REFERENCE of the call `ffn1_bwd` COMPUTES, stage by stage and read at an index: the functions of a row of
   Proof/Back/Rows.lean. Where the gradient's form differs from the block's (the gated half of the hidden row's gradient, and
   the gradient through the normalisation) the two agree at finite arguments. -/
module

public import proofs.«01_k».proof.Proof.Back.Rows
public import proofs.«01_k».proof.Proof.Ffn.Finite
public import proofs.«01_k».proof.Proof.Gen.BackReferenceIdeal.Run
public import Idealize.ShloMosaic.Lib.Pointwise

@[expose] public section

noncomputable section

namespace Cert.Back.Reference

open Idealize.ShloMosaic Idealize.SL.Sem Cert.BackReferenceIdeal Cert.BackReferenceIdeal.Facts₀ Cert.Ffn Cert.Back
open Cert.Last (row up hid)

variable (x e : FVec Ideal S4096x1024 .f32) (g : FVec Ideal S1024 .f32) (wi : FVec Ideal S1024x5632 .f32)
  (wo : FVec Ideal S2816x1024 .f32)

/-- The gain, column by column. -/
abbrev gn (k : Fin 1024) : EReal := g (ix1 k)

/-! ### The stages -/

def vWidth : FVec Ideal S4096x1 .f32 := broadcastInDim S4096x1 ![] bcast_S_S4096x1 (constant S_ .f32 0x44800000#32)
def vMsq : FVec Ideal S4096x1 .f32 :=
  addf (Host.divf (broadcastInDim S4096x1 ![0] bcast_S4096_S4096x1_0
    (Host.reduceAdd (mulf x x) (constant S_ .f32 0x00000000#32) reducesTo_S4096x1024_S4096_d1 h_S_)) vWidth)
    (broadcastInDim S4096x1 ![] bcast_S_S4096x1 (constant S_ .f32 0x358637BD#32))
def vRstd : FVec Ideal S4096x1 .f32 := Host.rsqrt (vMsq x)
def vRstdB : FVec Ideal S4096x1024 .f32 := broadcastInDim S4096x1024 ![0, 1] bcast_S4096x1_S4096x1024_0_1 (vRstd x)
def vHat : FVec Ideal S4096x1024 .f32 := mulf x (vRstdB x)
def vGain : FVec Ideal S4096x1024 .f32 :=
  broadcastInDim S4096x1024 ![0, 1] bcast_S1x1024_S4096x1024_0_1 (broadcastInDim S1x1024 ![1] bcast_S1024_S1x1024_1 g)
def vNorm : FVec Ideal S4096x1024 .f32 := mulf (vHat x) (vGain g)
def vHalf : FVec Ideal S4096x1024 .f32 := broadcastInDim S4096x1024 ![] bcast_S_S4096x1024 (constant S_ .f32 0x3F000000#32)
def vUp : FVec Ideal S4096x5632 .f32 :=
  Host.dotGeneral dot_S4096x1024_S1024x5632_S4096x5632_1_0_0_1_n_n none (vNorm x g) wi
def vA : FVec Ideal S4096x2816 .f32 := extractStridedSlice S4096x2816 ![0, 0] (vUp x g wi) slices_S4096x5632_S4096x2816_0_0
def vOne : FVec Ideal S4096x2816 .f32 := broadcastInDim S4096x2816 ![] bcast_S_S4096x2816 (constant S_ .f32 0x3F800000#32)
def vSig : FVec Ideal S4096x2816 .f32 := Host.divf vOne (addf vOne (Host.exp (Host.negf (vA x g wi))))
def vSilu : FVec Ideal S4096x2816 .f32 := mulf (vA x g wi) (vSig x g wi)
def vB : FVec Ideal S4096x2816 .f32 := extractStridedSlice S4096x2816 ![0, 2816] (vUp x g wi) slices_S4096x5632_S4096x2816_0_2816
def vHid : FVec Ideal S4096x2816 .f32 := mulf (vSilu x g wi) (vB x g wi)
def vDY : FVec Ideal S4096x1024 .f32 := mulf vHalf (shapeCast S4096x1024 e shapeCasts_S4096x1024_S4096x1024)
def vDHid : FVec Ideal S4096x2816 .f32 :=
  Host.dotGeneral dot_S4096x1024_S2816x1024_S4096x2816_1_1_0_0_n_n none (vDY e) wo
def vDB : FVec Ideal S4096x2816 .f32 := mulf (vDHid e wo) (vB x g wi)
def vDLeft : FVec Ideal S4096x2816 .f32 :=
  addf (mulf (vDB x e g wi wo) (vSig x g wi))
    (mulf (mulf (vA x g wi) (vDB x e g wi wo)) (mulf (vSig x g wi) (subf vOne (vSig x g wi))))
def vDRight : FVec Ideal S4096x2816 .f32 := mulf (vSilu x g wi) (vDHid e wo)
def vDUp : FVec Ideal S4096x5632 .f32 :=
  concatenate S4096x5632 1 [⟨S4096x2816, vDLeft x e g wi wo⟩, ⟨S4096x2816, vDRight x e g wi wo⟩]
    concatenates_S4096x2816_S4096x2816_S4096x5632_d1
def vDNorm : FVec Ideal S4096x1024 .f32 :=
  Host.dotGeneral dot_S4096x5632_S1024x5632_S4096x1024_1_1_0_0_n_n none (vDUp x e g wi wo) wi
def vDHat : FVec Ideal S4096x1024 .f32 := mulf (vDNorm x e g wi wo) (vGain g)
def vBack : FVec Ideal S4096x1 .f32 :=
  Host.divf (mulf (shapeCast S4096x1 (Host.reduceAdd (mulf x (vDHat x e g wi wo)) (constant S_ .f32 0x00000000#32)
      reducesTo_S4096x1024_S4096_d1 h_S_) shapeCasts_S4096_S4096x1)
    (mulf (broadcastInDim S4096x1 ![] bcast_S_S4096x1 (constant S_ .f32 0xBF000000#32)) (Host.divf (vRstd x) (vMsq x)))) vWidth
def vBackB : FVec Ideal S4096x1024 .f32 :=
  broadcastInDim S4096x1024 ![0] bcast_S4096_S4096x1024_0
    (Host.reduceAdd (vBack x e g wi wo) (constant S_ .f32 0x00000000#32) reducesTo_S4096x1_S4096_d1 h_S_)
def vDX : FVec Ideal S4096x1024 .f32 :=
  addf e (addf (addf (mulf (vDHat x e g wi wo) (vRstdB x)) (mulf x (vBackB x e g wi wo)))
    (mulf (vBackB x e g wi wo) x))
def vDGain : FVec Ideal S1x1024 .f32 :=
  shapeCast S1x1024 (Host.reduceAdd (shapeCast S1x1024
      (Host.reduceAdd (mulf (vHat x) (vDNorm x e g wi wo)) (constant S_ .f32 0x00000000#32) reducesTo_S4096x1024_S1024_d0 h_S_)
      shapeCasts_S1024_S1x1024) (constant S_ .f32 0x00000000#32) reducesTo_S1x1024_S1024_d0 h_S_) shapeCasts_S1024_S1x1024

/-! ### Each stage at an index -/

theorem minusHalf_word : Ideal.ofBits .f32 0xBF000000#32 = ((-(1 / 2) : ℝ) : EReal) := by
  simp [Ideal.ofBits, Ideal.ieee, -EReal.coe_mul, -EReal.coe_neg]; norm_num

open Cert.Gate (half_word one_word oneOver_eq)

theorem vWidth_apply (i : S4096x1.Idx) : vWidth i = width := by pointwise [vWidth, width_word]

theorem vMsq_apply (r : Fin 4096) (z : Fin 1) : vMsq x (ix2 r z) = msq (row x r) := by
  unfold msq
  rw [← vWidth_apply (ix2 r z)]
  pointwise [vMsq]

theorem vRstd_apply (r : Fin 4096) (z : Fin 1) : vRstd x (ix2 r z) = rstd (row x r) := by
  unfold rstd; rw [← vMsq_apply x r z]; pointwise [vRstd]

theorem vRstdB_apply (r : Fin 4096) (k : Fin 1024) : vRstdB x (ix2 r k) = rstd (row x r) := by
  rw [← vRstd_apply x r 0]; pointwise [vRstdB]

theorem vHat_apply (r : Fin 4096) (k : Fin 1024) : vHat x (ix2 r k) = row x r k * rstd (row x r) := by
  rw [← vRstdB_apply x r k]; pointwise [vHat]

theorem vGain_apply (r : Fin 4096) (k : Fin 1024) : vGain g (ix2 r k) = gn g k := by pointwise [vGain]

theorem vNorm_apply (r : Fin 4096) (k : Fin 1024) : vNorm x g (ix2 r k) = normed (row x r) (gn g) k := by
  unfold normed; rw [← vHat_apply, ← vGain_apply g r k]; pointwise [vNorm]

theorem vHalf_apply (i : S4096x1024.Idx) : vHalf i = half := by pointwise [vHalf, half_word]

theorem vUp_apply (r : Fin 4096) (q : Fin 5632) : vUp x g wi (ix2 r q) = up (row x r) (gn g) (row wi) q := by
  unfold up lin; simp only [← vNorm_apply]; pointwise [vUp]

theorem vA_apply (r : Fin 4096) (f : Fin 2816) : vA x g wi (ix2 r f) = up (row x r) (gn g) (row wi) (left f) := by
  rw [← vUp_apply]; pointwise [vA, left]

theorem vB_apply (r : Fin 4096) (f : Fin 2816) : vB x g wi (ix2 r f) = up (row x r) (gn g) (row wi) (right f) := by
  rw [← vUp_apply]; pointwise [vB, right]

theorem vOne_apply (i : S4096x2816.Idx) : vOne i = 1 := by pointwise [vOne, one_word]

theorem vSig_apply (r : Fin 4096) (f : Fin 2816) :
    vSig x g wi (ix2 r f) = Ideal.logistic (up (row x r) (gn g) (row wi) (left f)) := by
  rw [← vA_apply, ← oneOver_eq, ← vOne_apply (ix2 r f)]; pointwise [vSig]

theorem vSilu_apply (r : Fin 4096) (f : Fin 2816) :
    vSilu x g wi (ix2 r f) = up (row x r) (gn g) (row wi) (left f) * Ideal.logistic (up (row x r) (gn g) (row wi) (left f)) := by
  rw [← vSig_apply, ← vA_apply]; pointwise [vSilu]

theorem vHid_apply (r : Fin 4096) (f : Fin 2816) : vHid x g wi (ix2 r f) = hid (row x r) (gn g) (row wi) f := by
  unfold hid act; rw [← vSilu_apply, ← vB_apply]; pointwise [vHid]

theorem vDY_apply (r : Fin 4096) (d : Fin 1024) :
    vDY e (ix2 r d) = dY (row e r) d := by
  unfold dY; rw [← vHalf_apply (ix2 r d)]; pointwise [vDY]

theorem vDHid_apply (r : Fin 4096) (f : Fin 2816) :
    vDHid e wo (ix2 r f) = dHid (row e r) (row wo) f := by
  unfold dHid lin; simp only [← vDY_apply]; pointwise [vDHid]

theorem vDRight_apply (r : Fin 4096) (f : Fin 2816) :
    vDRight x e g wi wo (ix2 r f) = dUp (row x r) (row e r) (gn g) (row wi) (row wo) (right f) := by
  unfold dUp; rw [actGrad_right, ← vDHid_apply, ← vSilu_apply, mul_comm]; pointwise [vDRight]

/-! ### At finite arguments -/

section Real
variable (hx : ∀ i, IsReal (x i)) (he : ∀ i, IsReal (e i)) (hg : ∀ i, IsReal (g i)) (hwi : ∀ i, IsReal (wi i))
  (hwo : ∀ i, IsReal (wo i))

include hx hg hwi in
theorem real_up (r : Fin 4096) (q : Fin 5632) : IsReal (up (row x r) (gn g) (row wi) q) :=
  IsReal.lin (IsReal.normed (fun _ => hx _) fun _ => hg _) (fun _ _ => hwi _) q

include he hwo in
theorem real_dHid (r : Fin 4096) (f : Fin 2816) : IsReal (dHid (row e r) (row wo) f) :=
  IsReal.lin (fun d => fin_half.mul (he _)) (fun _ _ => hwo _) f

include hx he hg hwi hwo in
theorem real_dNormed (r : Fin 4096) (k : Fin 1024) : IsReal (dNormed (row x r) (row e r) (gn g) (row wi) (row wo) k) :=
  IsReal.lin (IsReal.actGrad (real_dHid e wo he hwo r) (real_up x g wi hx hg hwi r)) (fun _ _ => hwi _) k

include hx he hg hwi hwo in
theorem vDLeft_apply (r : Fin 4096) (f : Fin 2816) :
    vDLeft x e g wi wo (ix2 r f) = dUp (row x r) (row e r) (gn g) (row wi) (row wo) (left f) := by
  unfold dUp
  rw [actGrad_left, ← actLeft_eq (real_dHid e wo he hwo r f) (real_up x g wi hx hg hwi r _)
    (real_up x g wi hx hg hwi r _), ← vDHid_apply, ← vSig_apply, ← vA_apply, ← vB_apply, ← vOne_apply (ix2 r f)]
  pointwise [vDLeft, vDB]

include hx he hg hwi hwo in
theorem vDUp_apply (r : Fin 4096) (q : Fin 5632) :
    vDUp x e g wi wo (ix2 r q) = dUp (row x r) (row e r) (gn g) (row wi) (row wo) q := by
  have hc : ∀ a b : FVec Ideal S4096x2816 .f32,
      concatenate S4096x5632 1 [⟨S4096x2816, a⟩, ⟨S4096x2816, b⟩] concatenates_S4096x2816_S4096x2816_S4096x5632_d1 (ix2 r q)
        = if h : q.val < 2816 then a (ix2 r ⟨q.val, h⟩) else b (ix2 r ⟨q.val - 2816, by omega⟩) := fun a b => by pointwise
  unfold vDUp
  rw [hc]
  split
  · next h => exact (vDLeft_apply x e g wi wo hx he hg hwi hwo r ⟨q.val, h⟩).trans rfl
  · next h =>
    refine (vDRight_apply x e g wi wo r ⟨q.val - 2816, by omega⟩).trans (congrArg _ (Fin.ext ?_))
    show 2816 + (q.val - 2816) = q.val
    omega

include hx he hg hwi hwo in
theorem vDNorm_apply (r : Fin 4096) (k : Fin 1024) :
    vDNorm x e g wi wo (ix2 r k) = dNormed (row x r) (row e r) (gn g) (row wi) (row wo) k := by
  unfold dNormed lin; simp only [← vDUp_apply x e g wi wo hx he hg hwi hwo]; pointwise [vDNorm]

include hx he hg hwi hwo in
theorem vDHat_apply (r : Fin 4096) (k : Fin 1024) :
    vDHat x e g wi wo (ix2 r k) = dNormed (row x r) (row e r) (gn g) (row wi) (row wo) k * gn g k := by
  rw [← vDNorm_apply x e g wi wo hx he hg hwi hwo, ← vGain_apply g r k]; pointwise [vDHat]

include hx he hg hwi hwo in
theorem vBackB_apply (r : Fin 4096) (k : Fin 1024) :
    vBackB x e g wi wo (ix2 r k) = Ideal.div ((∑ j : Fin 1024, row x r j
        * (dNormed (row x r) (row e r) (gn g) (row wi) (row wo) j * gn g j))
      * (((-(1 / 2) : ℝ) : EReal) * Ideal.div (rstd (row x r)) (msq (row x r)))) width := by
  simp only [← vDHat_apply x e g wi wo hx he hg hwi hwo]
  rw [← vRstd_apply x r 0, ← vMsq_apply x r 0, ← minusHalf_word, ← vWidth_apply (ix2 r 0)]
  pointwise [vBackB, vBack]
  exact Fin.sum_univ_one _

include hx he hg hwi hwo in
theorem vDX_apply (r : Fin 4096) (k : Fin 1024) :
    vDX x e g wi wo (ix2 r k) = dX (row x r) (row e r) (gn g) (row wi) (row wo) k := by
  unfold dX
  rw [← normGrad_eq (real_dNormed x e g wi wo hx he hg hwi hwo r) (fun _ => hx _) (fun _ => hg _),
    ← vBackB_apply x e g wi wo hx he hg hwi hwo r k, ← vDHat_apply x e g wi wo hx he hg hwi hwo,
    ← vRstdB_apply x r k]
  pointwise [vDX]

include hx he hg hwi hwo in
theorem vDGain_apply (z : Fin 1) (k : Fin 1024) :
    vDGain x e g wi wo (ix2 z k) = ∑ R : Fin 4096, dGain (row x R) (row e R) (gn g) (row wi) (row wo) k := by
  unfold dGain gainGrad
  simp only [← vDNorm_apply x e g wi wo hx he hg hwi hwo, ← vHat_apply, mul_comm (vDNorm x e g wi wo _)]
  pointwise [vDGain]
  exact Fin.sum_univ_one _
end Real

/-! ### The printed results are these stages -/

section Results
variable (m : (ℓ : Loc nD τ sig) → Buf (Elt Ideal) ℓ) (c : Dev nD)

abbrev inX : FVec Ideal S4096x1024 .f32 := m ((c.tc : Thread nD τ).loc main_arg0)
abbrev inE : FVec Ideal S4096x1024 .f32 := m ((c.tc : Thread nD τ).loc main_arg1)
abbrev inG : FVec Ideal S1024 .f32 := m ((c.tc : Thread nD τ).loc main_arg2)
abbrev inWi : FVec Ideal S1024x5632 .f32 := m ((c.tc : Thread nD τ).loc main_arg3)
abbrev inWo : FVec Ideal S2816x1024 .f32 := m ((c.tc : Thread nD τ).loc main_arg4)

theorem result_dx : Value.res_out0 m c = vDX (inX m c) (inE m c) (inG m c) (inWi m c) (inWo m c) := by
  show Value.res_main_v54 m c = _; unfold Value.res_main_v54; rfl
theorem result_du : Value.res_out1 m c = vDUp (inX m c) (inE m c) (inG m c) (inWi m c) (inWo m c) := by
  show Value.res_main_v55 m c = _; unfold Value.res_main_v55; rfl
theorem result_dg : Value.res_out4 m c = vDGain (inX m c) (inE m c) (inG m c) (inWi m c) (inWo m c) := by
  show Value.res_main_v58 m c = _; unfold Value.res_main_v58; rfl

/-- The reference's run, its results named by the stages. -/
theorem run_stages (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54) = vDX (inX m c) (inE m c) (inG m c) (inWi m c) (inWo m c)
      ∧ r.2.mem ((c.tc : Thread nD τ).loc main_v55) = vDUp (inX m c) (inE m c) (inG m c) (inWi m c) (inWo m c)
      ∧ r.2.mem ((c.tc : Thread nD τ).loc main_v56) = vHid (inX m c) (inG m c) (inWi m c)
      ∧ r.2.mem ((c.tc : Thread nD τ).loc main_v57) = vDY (inE m c)
      ∧ r.2.mem ((c.tc : Thread nD τ).loc main_v58) = vDGain (inX m c) (inE m c) (inG m c) (inWi m c) (inWo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ?_) (Value.run (F := Ideal) m ρ)
  obtain ⟨h0, h1, h2, h3, h4, hk⟩ := h c
  exact ⟨h0.trans (result_dx m c), h1.trans (result_du m c), h2, h3, h4.trans (result_dg m c), hk⟩
end Results

end Cert.Back.Reference

end
-- ==== Proof.Back.Arrays.lean ====
/- WHAT THE FIVE RESULT ARRAYS of the gradient of the half step HOLD after the kernel's run, index by index, as functions of
   the arguments. Grid point `t` reads rows `256 t … 256 t + 255` of the tokens, of the incoming gradient and of the saved
   product, and the gain and the two matrices whole; it writes the same rows of four results and adds the block's rows to
   the gain's gradient. -/
module

public import proofs.«01_k».proof.Proof.Back.Out
public import proofs.«01_k».proof.Proof.Back.Reference
public import proofs.«01_k».proof.Proof.Back.KernelIdealValue

@[expose] public section

noncomputable section

namespace Cert.Back

open Idealize.ShloMosaic Idealize.ShloMosaic.TcCoe Idealize.SL.Sem Cert.BackKernelIdeal Cert.BackKernelIdeal.Gen
  Cert.BackKernelIdeal.Value Cert.Ffn
open Cert.Last (row up hid)

attribute [local instance] Cert.BackReferenceIdeal.Gen.facts

variable (m : (ℓ : Loc nD τ sig) → Buf (Elt Ideal) ℓ) (c : Dev nD)

/-! ### The arguments -/

abbrev argX : Vec Ideal S4096x1024 .f32 := m ((c : Thread nD τ).loc main_arg0)
abbrev argE : Vec Ideal S4096x1024 .f32 := m ((c : Thread nD τ).loc main_arg1)
abbrev argG : Vec Ideal S1024 .f32 := m ((c : Thread nD τ).loc main_arg2)
abbrev argWi : Vec Ideal S1024x5632 .f32 := m ((c : Thread nD τ).loc main_arg3)
abbrev argWo : Vec Ideal S2816x1024 .f32 := m ((c : Thread nD τ).loc main_arg4)

/-- The gain, column by column. -/
def gain (k : Fin 1024) : EReal := argG m c (ix1 k)

/-- The saved product, which the host computes from the arguments. -/
theorem V_v14 (R : Fin 4096) (q : Fin 5632) :
    (V m c main_v14 : S4096x5632.Idx → EReal) (ix2 R q) = up (row (argX m c) R) (gain m c) (row (argWi m c)) q := by
  have e : (V m c main_v14 : S4096x5632.Idx → EReal) = Reference.vUp (argX m c) (argG m c) (argWi m c) := by
    unfold V; after_results_simp; rfl
  rw [e]
  exact Reference.vUp_apply (argX m c) (argG m c) (argWi m c) R q

theorem V_v15 (k : Fin 1024) : (V m c main_v15 : S1x1024.Idx → EReal) (ix2 0 k) = gain m c k := by
  have e : V m c main_v15 = (shapeCast S1x1024 (argG m c) shapeCasts_S1024_S1x1024 : FVec Ideal S1x1024 .f32) := by
    unfold V; after_results_simp; rfl
  rw [e]; pointwise [gain]

theorem V_v17 (q : Fin 5632) (k : Fin 1024) : (V m c main_v17 : S5632x1024.Idx → EReal) (ix2 q k) = argWi m c (ix2 k q) := by
  have e : V m c main_v17 = (truncf .bf16 (transpose S5632x1024 [1, 0] (argWi m c) transposes_S1024x5632_S5632x1024_1_0 : FVec Ideal S5632x1024 .f32)
      bitsLt_bf16_f32 : FVec Ideal S5632x1024 .bf16) := by
    unfold V; after_results_simp
  rw [e]; pointwise

theorem V_v18 : V m c main_v18 = argWo m c := by
  have e : V m c main_v18 = (truncf .bf16 (argWo m c) bitsLt_bf16_f32 : FVec Ideal S2816x1024 .bf16) := by
    unfold V; after_results_simp
  exact e.trans rfl

/-! ### Which rows a grid point's blocks are -/

/-- Row `r` of grid point `t`'s block. -/
def at_ (t : Fin cfg0.N) (r : Fin 256) : Fin 4096 :=
  ⟨256 * t.val + r.val, by have := t.isLt; have hN : cfg0.N = 16 := N_0; omega⟩

theorem ix_r0 : ∀ t : Fin cfg0.N, win0_0.index t (0 : Fin 2) = t.val ∧ win0_0.index t (1 : Fin 2) = 0 :=
  (by decide +kernel : ∀ t : Fin grid0.N, _)
theorem ix_r1 : ∀ t : Fin cfg0.N, win0_1.index t (0 : Fin 2) = t.val ∧ win0_1.index t (1 : Fin 2) = 0 :=
  (by decide +kernel : ∀ t : Fin grid0.N, _)
theorem ix_r2 : ∀ t : Fin cfg0.N, win0_2.index t (0 : Fin 2) = 0 ∧ win0_2.index t (1 : Fin 2) = 0 :=
  (by decide +kernel : ∀ t : Fin grid0.N, _)
theorem ix_r3 : ∀ t : Fin cfg0.N, win0_3.index t (0 : Fin 2) = 0 ∧ win0_3.index t (1 : Fin 2) = 0 :=
  (by decide +kernel : ∀ t : Fin grid0.N, _)
theorem ix_r4 : ∀ t : Fin cfg0.N, win0_4.index t (0 : Fin 2) = 0 ∧ win0_4.index t (1 : Fin 2) = 0 :=
  (by decide +kernel : ∀ t : Fin grid0.N, _)
theorem ix_r5 : ∀ t : Fin cfg0.N, win0_5.index t (0 : Fin 2) = t.val ∧ win0_5.index t (1 : Fin 2) = 0 :=
  (by decide +kernel : ∀ t : Fin grid0.N, _)
theorem ix_r6 : ∀ t : Fin cfg0.N, win0_6.index t (0 : Fin 2) = t.val ∧ win0_6.index t (1 : Fin 2) = 0 :=
  (by decide +kernel : ∀ t : Fin grid0.N, _)
theorem ix_r7 : ∀ t : Fin cfg0.N, win0_7.index t (0 : Fin 2) = t.val ∧ win0_7.index t (1 : Fin 2) = 0 :=
  (by decide +kernel : ∀ t : Fin grid0.N, _)
theorem ix_r8 : ∀ t : Fin cfg0.N, win0_8.index t (0 : Fin 2) = t.val ∧ win0_8.index t (1 : Fin 2) = 0 :=
  (by decide +kernel : ∀ t : Fin grid0.N, _)
theorem ix_r9 : ∀ t : Fin cfg0.N, win0_9.index t (0 : Fin 2) = 0 ∧ win0_9.index t (1 : Fin 2) = 0 :=
  (by decide +kernel : ∀ t : Fin grid0.N, _)

/-! ### The input blocks -/

variable (t : Fin cfg0.N)

theorem blk0 (r : Fin 256) : row (iblk m c 0 t : S256x1024.Idx → EReal) r = row (argE m c) (at_ t r) := by
  obtain ⟨e0, e1⟩ := ix_r0 t
  funext k
  show V m c main_arg1 (((cfg0.win 0).blk t).view.emb (ix2 r k)) = _
  rw [V_main_arg1]
  refine congrArg (argE m c) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * k.val = k.val; omega

theorem blk1 (r : Fin 256) : row (iblk m c 1 t : S256x1024.Idx → EReal) r = row (argX m c) (at_ t r) := by
  obtain ⟨e0, e1⟩ := ix_r1 t
  funext k
  show V m c main_arg0 (((cfg0.win 1).blk t).view.emb (ix2 r k)) = _
  rw [V_main_arg0]
  refine congrArg (argX m c) (funext fun a => Fin.ext ?_)
  match a with
  | ⟨0, _⟩ => show win0_1.index t (0 : Fin 2) * 256 + 1 * r.val = 256 * t.val + r.val; omega
  | ⟨1, _⟩ => show win0_1.index t (1 : Fin 2) * 1024 + 1 * k.val = k.val; omega

theorem blk2 : row (iblk m c 2 t : S1x1024.Idx → EReal) 0 = gain m c := by
  obtain ⟨e0, e1⟩ := ix_r2 t
  funext k
  refine Eq.trans ?_ (V_v15 m c k)
  show V m c main_v15 (((cfg0.win 2).blk t).view.emb (ix2 0 k)) = _
  refine congrArg (V m c main_v15) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

theorem blk3 : wIn (iblk m c 3 t : S5632x1024.Idx → EReal) = row (argWi m c) := by
  obtain ⟨e0, e1⟩ := ix_r3 t
  funext k q
  refine Eq.trans ?_ (V_v17 m c q k)
  show V m c main_v17 (((cfg0.win 3).blk t).view.emb (ix2 q k)) = _
  refine congrArg (V m c main_v17) (funext fun a => Fin.ext ?_)
  match a with
  | ⟨0, _⟩ => show win0_3.index t (0 : Fin 2) * 5632 + 1 * q.val = q.val; omega
  | ⟨1, _⟩ => show win0_3.index t (1 : Fin 2) * 1024 + 1 * k.val = k.val; omega

theorem blk4 : row (iblk m c 4 t : S2816x1024.Idx → EReal) = row (argWo m c) := by
  obtain ⟨e0, e1⟩ := ix_r4 t
  funext f d
  show V m c main_v18 (((cfg0.win 4).blk t).view.emb (ix2 f d)) = _
  rw [V_v18]
  refine congrArg (argWo m c) (funext fun a => Fin.ext ?_)
  match a with
  | ⟨0, _⟩ => show win0_4.index t (0 : Fin 2) * 2816 + 1 * f.val = f.val; omega
  | ⟨1, _⟩ => show win0_4.index t (1 : Fin 2) * 1024 + 1 * d.val = d.val; omega

theorem blkU (r : Fin 256) (q : Fin 5632) : uRow c t (V m c main_v14) r q
    = up (row (iblk m c 1 t : S256x1024.Idx → EReal) r) (row (iblk m c 2 t : S1x1024.Idx → EReal) 0)
      (wIn (iblk m c 3 t : S5632x1024.Idx → EReal)) q := by
  rw [blk1, blk2, blk3]
  exact V_v14 m c (at_ t r) q

theorem blkL (r : Fin 256) (f : Fin 2816) : uLeft c t (V m c main_v14) (ix2 r f)
    = up (row (iblk m c 1 t : S256x1024.Idx → EReal) r) (row (iblk m c 2 t : S1x1024.Idx → EReal) 0)
      (wIn (iblk m c 3 t : S5632x1024.Idx → EReal)) (left f) := blkU m c t r (left f)

theorem blkR (r : Fin 256) (f : Fin 2816) : uRight c t (V m c main_v14) (ix2 r f)
    = up (row (iblk m c 1 t : S256x1024.Idx → EReal) r) (row (iblk m c 2 t : S1x1024.Idx → EReal) 0)
      (wIn (iblk m c 3 t : S5632x1024.Idx → EReal)) (right f) := blkU m c t r (right f)

/-! ### The result arrays -/

/-- The gradient of the rows. -/
def G5 : S4096x1024.Idx → EReal := fun i => dX (row (argX m c) (i 0)) (row (argE m c) (i 0)) (gain m c) (row (argWi m c)) (row (argWo m c)) (i 1)
/-- The gradient of the hidden rows before the activation. -/
def G6 : S4096x5632.Idx → EReal := fun i => dUp (row (argX m c) (i 0)) (row (argE m c) (i 0)) (gain m c) (row (argWi m c)) (row (argWo m c)) (i 1)
/-- The hidden rows. -/
def G7 : S4096x2816.Idx → EReal := fun i => hid (row (argX m c) (i 0)) (gain m c) (row (argWi m c)) (i 1)
/-- The gradient of the second product's result. -/
def G8 : S4096x1024.Idx → EReal := fun i => dY (row (argE m c) (i 0)) (i 1)
/-- The gradient of the gain. -/
def G9 : S1x1024.Idx → EReal := fun i => ∑ R : Fin 4096,
  dGain (row (argX m c) R) (row (argE m c) R) (gain m c) (row (argWi m c)) (row (argWo m c)) (i 1)

/-- Every row is a row of some grid point's block. -/
theorem exists_row (R : Fin 4096) : ∃ (t : Fin cfg0.N) (r : Fin 256), at_ t r = R :=
  ⟨⟨R.val / 256, by have hN : cfg0.N = 16 := N_0; omega⟩, ⟨R.val % 256, by omega⟩,
    Fin.ext (by show 256 * (R.val / 256) + R.val % 256 = R.val; omega)⟩

theorem left5 : (outsAt0 m c t.val t.isLt).1 = dxBlock (iblk m c 0 t) (iblk m c 1 t) (iblk m c 2 t) (iblk m c 3 t) (iblk m c 4 t) (uLeft c t (V m c main_v14)) (uRight c t (V m c main_v14)) := by
  have hN : t.val < 16 := lt_of_lt_of_eq t.isLt (show cfg0.N = 16 from N_0)
  by_cases h : t.val % 16 = 0
  · rw [outsAt0_A m c t h (by omega) h]; dsimp only; rw [out5_A]
  · by_cases h1 : t.val < 14
    · rw [outsAt0_B m c t h h1 h]; dsimp only; rw [out5_B]
    · rw [outsAt0_C m c t h h1 h]; dsimp only; rw [out5_C]

theorem blkOut5 (r : Fin 256) (k : Fin 1024) :
    dxBlock (iblk m c 0 t) (iblk m c 1 t) (iblk m c 2 t) (iblk m c 3 t) (iblk m c 4 t) (uLeft c t (V m c main_v14)) (uRight c t (V m c main_v14)) (ix2 r k) = G5 m c (ix2 (at_ t r) k) :=
  (dxBlock_apply _ _ _ _ _ _ _ (blkL m c t) (blkR m c t) r k).trans (by rw [blk0, blk1, blk2, blk3, blk4]; rfl)

theorem emb5 (r : Fin 256) (k : Fin 1024) : ((cfg0.win 5).blk t).view.emb (ix2 r k) = (ix2 (at_ t r) k : S4096x1024.Idx) := by
  obtain ⟨e0, e1⟩ := ix_r5 t
  refine funext fun a => Fin.ext ?_
  match a with
  | ⟨0, _⟩ => show win0_5.index t (0 : Fin 2) * 256 + 1 * r.val = 256 * t.val + r.val; omega
  | ⟨1, _⟩ => show win0_5.index t (1 : Fin 2) * 1024 + 1 * k.val = k.val; omega

theorem final5 : (dats m 0 c).arrAt 5 cfg0.N = G5 m c := by
  refine (dats m 0 c).arrAt_eq_of_cover 5 (G5 m c) (fun t _ => ?_) (fun (i : S4096x1024.Idx) => ?_)
  · rw [flushed5, left5]
    funext j
    have e : j = ix2 (n0 := 256) (n1 := 1024) (j 0) (j 1) := eq_ix2 j
    rw [e]
    exact (blkOut5 m c t (j 0) (j 1)).trans (congrArg (G5 m c) (emb5 t (j 0) (j 1)).symm)
  · obtain ⟨t, r, h⟩ := exists_row (i 0)
    have e : ((cfg0.win 5).blk t).view.emb (ix2 r (i 1)) = i :=
      (emb5 t r (i 1)).trans (by rw [h]; exact (eq_ix2 i).symm)
    exact ⟨t, flush0_5 t, e ▸ View.emb_mem_set _ _⟩

theorem left6 : (outsAt0 m c t.val t.isLt).2.1 = duBlock (iblk m c 0 t) (iblk m c 4 t) (uLeft c t (V m c main_v14)) (uRight c t (V m c main_v14)) := by
  have hN : t.val < 16 := lt_of_lt_of_eq t.isLt (show cfg0.N = 16 from N_0)
  by_cases h : t.val % 16 = 0
  · rw [outsAt0_A m c t h (by omega) h]; dsimp only; rw [out6_A]
  · by_cases h1 : t.val < 14
    · rw [outsAt0_B m c t h h1 h]; dsimp only; rw [out6_B]
    · rw [outsAt0_C m c t h h1 h]; dsimp only; rw [out6_C]

theorem blkOut6 (r : Fin 256) (k : Fin 5632) :
    duBlock (iblk m c 0 t) (iblk m c 4 t) (uLeft c t (V m c main_v14)) (uRight c t (V m c main_v14)) (ix2 r k) = G6 m c (ix2 (at_ t r) k) :=
  (duBlock_apply _ _ _ _ _ _ _ (blkL m c t) (blkR m c t) r k).trans (by rw [blk0, blk1, blk2, blk3, blk4]; rfl)

theorem emb6 (r : Fin 256) (k : Fin 5632) : ((cfg0.win 6).blk t).view.emb (ix2 r k) = (ix2 (at_ t r) k : S4096x5632.Idx) := by
  obtain ⟨e0, e1⟩ := ix_r6 t
  refine funext fun a => Fin.ext ?_
  match a with
  | ⟨0, _⟩ => show win0_6.index t (0 : Fin 2) * 256 + 1 * r.val = 256 * t.val + r.val; omega
  | ⟨1, _⟩ => show win0_6.index t (1 : Fin 2) * 5632 + 1 * k.val = k.val; omega

theorem final6 : (dats m 0 c).arrAt 6 cfg0.N = G6 m c := by
  refine (dats m 0 c).arrAt_eq_of_cover 6 (G6 m c) (fun t _ => ?_) (fun (i : S4096x5632.Idx) => ?_)
  · rw [flushed6, left6]
    funext j
    have e : j = ix2 (n0 := 256) (n1 := 5632) (j 0) (j 1) := eq_ix2 j
    rw [e]
    exact (blkOut6 m c t (j 0) (j 1)).trans (congrArg (G6 m c) (emb6 t (j 0) (j 1)).symm)
  · obtain ⟨t, r, h⟩ := exists_row (i 0)
    have e : ((cfg0.win 6).blk t).view.emb (ix2 r (i 1)) = i :=
      (emb6 t r (i 1)).trans (by rw [h]; exact (eq_ix2 i).symm)
    exact ⟨t, flush0_6 t, e ▸ View.emb_mem_set _ _⟩

theorem left7 : (outsAt0 m c t.val t.isLt).2.2.1 = k0_pay10 (k0_pay6 (uLeft c t (V m c main_v14))) (k0_pay7 (uRight c t (V m c main_v14))) (k0_pay8 (uLeft c t (V m c main_v14))) := by
  have hN : t.val < 16 := lt_of_lt_of_eq t.isLt (show cfg0.N = 16 from N_0)
  by_cases h : t.val % 16 = 0
  · rw [outsAt0_A m c t h (by omega) h]; dsimp only; rw [out7_A]
  · by_cases h1 : t.val < 14
    · rw [outsAt0_B m c t h h1 h]; dsimp only; rw [out7_B]
    · rw [outsAt0_C m c t h h1 h]; dsimp only; rw [out7_C]

theorem blkOut7 (r : Fin 256) (k : Fin 2816) :
    k0_pay10 (k0_pay6 (uLeft c t (V m c main_v14))) (k0_pay7 (uRight c t (V m c main_v14))) (k0_pay8 (uLeft c t (V m c main_v14))) (ix2 r k) = G7 m c (ix2 (at_ t r) k) :=
  (pay10_apply _ _ _ _ _ (blkL m c t) (blkR m c t) r k).trans (by rw [blk1, blk2, blk3]; rfl)

theorem emb7 (r : Fin 256) (k : Fin 2816) : ((cfg0.win 7).blk t).view.emb (ix2 r k) = (ix2 (at_ t r) k : S4096x2816.Idx) := by
  obtain ⟨e0, e1⟩ := ix_r7 t
  refine funext fun a => Fin.ext ?_
  match a with
  | ⟨0, _⟩ => show win0_7.index t (0 : Fin 2) * 256 + 1 * r.val = 256 * t.val + r.val; omega
  | ⟨1, _⟩ => show win0_7.index t (1 : Fin 2) * 2816 + 1 * k.val = k.val; omega

theorem final7 : (dats m 0 c).arrAt 7 cfg0.N = G7 m c := by
  refine (dats m 0 c).arrAt_eq_of_cover 7 (G7 m c) (fun t _ => ?_) (fun (i : S4096x2816.Idx) => ?_)
  · rw [flushed7, left7]
    funext j
    have e : j = ix2 (n0 := 256) (n1 := 2816) (j 0) (j 1) := eq_ix2 j
    rw [e]
    exact (blkOut7 m c t (j 0) (j 1)).trans (congrArg (G7 m c) (emb7 t (j 0) (j 1)).symm)
  · obtain ⟨t, r, h⟩ := exists_row (i 0)
    have e : ((cfg0.win 7).blk t).view.emb (ix2 r (i 1)) = i :=
      (emb7 t r (i 1)).trans (by rw [h]; exact (eq_ix2 i).symm)
    exact ⟨t, flush0_7 t, e ▸ View.emb_mem_set _ _⟩

theorem left8 : (outsAt0 m c t.val t.isLt).2.2.2.1 = k0_pay4 (iblk m c 0 t) := by
  have hN : t.val < 16 := lt_of_lt_of_eq t.isLt (show cfg0.N = 16 from N_0)
  by_cases h : t.val % 16 = 0
  · rw [outsAt0_A m c t h (by omega) h]; dsimp only; rw [out8_A]
  · by_cases h1 : t.val < 14
    · rw [outsAt0_B m c t h h1 h]; dsimp only; rw [out8_B]
    · rw [outsAt0_C m c t h h1 h]; dsimp only; rw [out8_C]

theorem blkOut8 (r : Fin 256) (k : Fin 1024) :
    k0_pay4 (iblk m c 0 t) (ix2 r k) = G8 m c (ix2 (at_ t r) k) :=
  (pay4_apply _ r k).trans (by rw [blk0]; rfl)

theorem emb8 (r : Fin 256) (k : Fin 1024) : ((cfg0.win 8).blk t).view.emb (ix2 r k) = (ix2 (at_ t r) k : S4096x1024.Idx) := by
  obtain ⟨e0, e1⟩ := ix_r8 t
  refine funext fun a => Fin.ext ?_
  match a with
  | ⟨0, _⟩ => show win0_8.index t (0 : Fin 2) * 256 + 1 * r.val = 256 * t.val + r.val; omega
  | ⟨1, _⟩ => show win0_8.index t (1 : Fin 2) * 1024 + 1 * k.val = k.val; omega

theorem final8 : (dats m 0 c).arrAt 8 cfg0.N = G8 m c := by
  refine (dats m 0 c).arrAt_eq_of_cover 8 (G8 m c) (fun t _ => ?_) (fun (i : S4096x1024.Idx) => ?_)
  · rw [flushed8, left8]
    funext j
    have e : j = ix2 (n0 := 256) (n1 := 1024) (j 0) (j 1) := eq_ix2 j
    rw [e]
    exact (blkOut8 m c t (j 0) (j 1)).trans (congrArg (G8 m c) (emb8 t (j 0) (j 1)).symm)
  · obtain ⟨t, r, h⟩ := exists_row (i 0)
    have e : ((cfg0.win 8).blk t).view.emb (ix2 r (i 1)) = i :=
      (emb8 t r (i 1)).trans (by rw [h]; exact (eq_ix2 i).symm)
    exact ⟨t, flush0_8 t, e ▸ View.emb_mem_set _ _⟩

/-! ### The sum over the rows -/

theorem eq_row (i : S1x1024.Idx) : i = ix2 0 (i 1) :=
  (eq_ix2 i).trans (congrArg (fun z : Fin 1 => (ix2 z (i 1) : S1x1024.Idx)) (Subsingleton.elim (α := Fin 1) (i 0) 0))

/-- The last point. -/
abbrev t15 : Fin cfg0.N := ⟨15, by rw [show cfg0.N = 16 from N_0]; decide⟩

/-- A sum over the points' blocks is the sum over all rows. -/
theorem sum_blocks (f : Fin 4096 → EReal) :
    ∑ s : Fin 16, ∑ r : Fin 256, f ⟨256 * s.val + r.val, by omega⟩ = ∑ R : Fin 4096, f R := by
  rw [← (finProdFinEquiv (m := 16) (n := 256)).sum_comp, Fintype.sum_prod_type]
  refine Finset.sum_congr rfl fun s _ => Finset.sum_congr rfl fun r _ => congrArg f (Fin.ext ?_)
  show 256 * s.val + r.val = r.val + 256 * s.val
  omega

/-- What point `t` adds to the sum. -/
def part9 (k : Fin 1024) : EReal := ∑ r : Fin 256, dGain (row (argX m c) (at_ t r)) (row (argE m c) (at_ t r)) (gain m c) (row (argWi m c)) (row (argWo m c)) k

theorem step9 (acc : Vec Ideal S1x1024 .f32) (k : Fin 1024) :
    k0_pay3 (k0_pay13 (duBlock (iblk m c 0 t) (iblk m c 4 t) (uLeft c t (V m c main_v14)) (uRight c t (V m c main_v14))) (iblk m c 3 t)) (k0_pay15 (iblk m c 1 t)) acc (ix2 0 k)
      = acc (ix2 0 k) + part9 m c t k :=
  (pay3_apply _ _ _ _ _ _ (duBlock_apply _ _ _ _ _ _ _ (blkL m c t) (blkR m c t)) acc 0 k).trans (by simp only [blk0, blk1, blk2, blk3, blk4]; rfl)

/-- After point `n` the sum holds what the points up to `n` added. -/
theorem sum9 (k : Fin 1024) : ∀ (n : ℕ) (h : n < cfg0.N), (outsAt0 m c n h).2.2.2.2 (ix2 0 k)
    = ∑ s : Fin (n + 1), part9 m c ⟨s.val, by omega⟩ k
  | 0, h => by
    rw [outsAt0_A m c ⟨0, h⟩ rfl (by show 0 < 14; omega) rfl]; dsimp only; rw [out9_A, step9, Fin.sum_univ_one, pay2_apply, zero_add]; rfl
  | n + 1, h => by
    have hN : cfg0.N = 16 := N_0
    have hB : ¬(⟨n + 1, h⟩ : Fin cfg0.N).val % 16 = 0 := by dsimp only; omega
    by_cases h1 : (⟨n + 1, h⟩ : Fin cfg0.N).val < 14
    · rw [outsAt0_B m c ⟨n + 1, h⟩ hB h1 hB]; dsimp only; rw [out9_B, step9, Fin.sum_univ_castSucc]
      exact congrArg (· + part9 m c ⟨n + 1, h⟩ k) (sum9 k n (Nat.lt_of_succ_lt h))
    · rw [outsAt0_C m c ⟨n + 1, h⟩ hB h1 hB]; dsimp only; rw [out9_C, step9, Fin.sum_univ_castSucc]
      exact congrArg (· + part9 m c ⟨n + 1, h⟩ k) (sum9 k n (Nat.lt_of_succ_lt h))

theorem emb9 (k : Fin 1024) : ((cfg0.win 9).blk t).view.emb (ix2 0 k) = (ix2 0 k : S1x1024.Idx) := by
  obtain ⟨e0, e1⟩ := ix_r9 t
  refine funext fun a => Fin.ext ?_
  match a with
  | ⟨0, _⟩ => show win0_9.index t (0 : Fin 2) * 1 + 1 * 0 = 0; omega
  | ⟨1, _⟩ => show win0_9.index t (1 : Fin 2) * 1024 + 1 * k.val = k.val; omega

theorem total9 (t : Fin cfg0.N) (ht : t.val = 15) (k : Fin 1024) :
    (outsAt0 m c t.val t.isLt).2.2.2.2 (ix2 0 k) = G9 m c (ix2 0 k) := by
  obtain ⟨n, hn⟩ := t
  obtain rfl : n = 15 := ht
  rw [sum9]
  exact sum_blocks fun R => dGain (row (argX m c) R) (row (argE m c) R) (gain m c) (row (argWi m c)) (row (argWo m c)) k

theorem final9 : (dats m 0 c).arrAt 9 cfg0.N = G9 m c := by
  have hN : cfg0.N = 16 := N_0
  refine (dats m 0 c).arrAt_eq_of_cover 9 (G9 m c) (fun t hf => ?_) (fun (i : S1x1024.Idx) => ?_)
  · have ht : t.val = 15 := by have := (flush0_9 t).mp hf; have := t.isLt; omega
    rw [flushed9]
    funext j
    have e : j = ix2 (n0 := 1) (n1 := 1024) 0 (j 1) := eq_row j
    rw [e]
    exact (total9 m c t ht (j 1)).trans (congrArg (G9 m c) (emb9 t (j 1)).symm)
  · have e : ((cfg0.win 9).blk t15).view.emb (ix2 0 (i 1)) = i :=
      (emb9 t15 (i 1)).trans (eq_row i).symm
    exact ⟨t15, (flush0_9 _).mpr rfl, e ▸ View.emb_mem_set _ _⟩

end Cert.Back

end
-- ==== Proof.Back.Claim.lean ====
/- THE CALL `ffn1_bwd`: the kernel and the reference agree. -/
module

public import proofs.«01_k».proof.Defs
public import proofs.«01_k».proof.Proof.Back.Arrays
public import proofs.«01_k».proof.Proof.Last.Given
public import Idealize.ShloMosaic.Adequacy
public import Idealize.ShloMosaic.Init

@[expose] public section

noncomputable section

namespace Cert.Back

open Idealize.ShloMosaic Idealize.SL.Sem Cert.Back.Reference

attribute [local instance] Cert.BackKernelIdeal.Gen.facts Cert.BackReferenceIdeal.Gen.facts Cert.Last.given_facts

/-- The kernel and the reference end with the same five arrays. -/
theorem algebraic : Cert.algebraic_BackKernelIdeal_BackReferenceIdeal_pre_finite := by
  intro m g m' g' hp hargs
  refine ⟨fun c => G5 m c, fun c => G6 m c, fun c => G7 m c, fun c => G8 m c, fun c => G9 m c, ?_, ?_⟩
  · refine (θ_run _ _ _).mono (fun r h c => ?_) (Cert.BackKernelIdeal.Value.run_blocks m g)
    obtain ⟨h5, h6, h7, h8, h9, hk⟩ := h c
    exact ⟨h5.trans (final5 m c), h6.trans (final6 m c), h7.trans (final7 m c), h8.trans (final8 m c), h9.trans (final9 m c), hk⟩
  · refine (θ_run _ _ _).mono (fun r h c => ?_) (run_stages m' g')
    obtain ⟨a0, a1, a2, a3, a4⟩ := hargs c
    obtain ⟨h5, h6, h7, h8, h9, hk⟩ := h c
    obtain ⟨hx, he, hg, hwi, hwo⟩ := Cert.Last.real_args (argX m c) (argE m c) (argG m c) (argWi m c) (argWo m c) (hp c)
    have b0 : inX m' c = argX m c := a0
    have b1 : inE m' c = argE m c := a1
    have b2 : inG m' c = argG m c := a2
    have b3 : inWi m' c = argWi m c := a3
    have b4 : inWo m' c = argWo m c := a4
    rw [b1] at h8
    rw [b0, b2, b3] at h7
    rw [b0, b1, b2, b3, b4] at h5 h6 h9
    exact ⟨h5.trans (funext fun i => (congrArg _ (eq_ix2 i)).trans
        (vDX_apply (argX m c) (argE m c) (argG m c) (argWi m c) (argWo m c) hx he hg hwi hwo (i 0) (i 1))),
      h6.trans (funext fun i => (congrArg _ (eq_ix2 i)).trans
        (vDUp_apply (argX m c) (argE m c) (argG m c) (argWi m c) (argWo m c) hx he hg hwi hwo (i 0) (i 1))),
      h7.trans (funext fun i => (congrArg _ (eq_ix2 i)).trans (vHid_apply (argX m c) (argG m c) (argWi m c) (i 0) (i 1))),
      h8.trans (funext fun i => (congrArg _ (eq_ix2 i)).trans (vDY_apply (argE m c) (i 0) (i 1))),
      h9.trans (funext fun i => (congrArg _ (eq_ix2 i)).trans
        (vDGain_apply (argX m c) (argE m c) (argG m c) (argWi m c) (argWo m c) hx he hg hwi hwo (i 0) (i 1))), hk⟩

/-- The reference's frame: its run leaves the arguments unchanged, and it declares no semaphore. -/
theorem reference_frame : Cert.quiescent_BackReferenceIdeal := fun m ρ _ =>
  (θ_run Cert.BackReferenceIdeal.defs _ _).mono
    (fun r h => ⟨fun c => (h c).2.2.2.2.2, sem_eq_zero_of_no_sems (by decide) r.2⟩)
    (Cert.BackReferenceIdeal.Value.run (F := Ideal) m ρ)

end Cert.Back

end
-- ==== Proof.Proj.Block.lean ====
/- WHAT ONE BLOCK OF 512 ROWS of the mixing step's projection COMPUTES: the normalised rows and their product with the matrix,
   in three parts of its columns, the middle part transposed. -/
module

public import proofs.«01_k».proof.Proof.Last.Rows
public import proofs.«01_k».proof.Proof.Gen.ProjKernelIdeal.Frame
public import Idealize.ShloMosaic.Lib.Pipeline.Value
public import Idealize.ShloMosaic.Lib.Pipeline.ValueKit.Tiles

@[expose] public section

noncomputable section

namespace Cert.Proj

open Idealize.ShloMosaic Cert.ProjKernelIdeal Cert.ProjKernelIdeal.Gen Cert.Ffn
open Cert.Last (row up)

/-- The columns of the convolution branch. -/
def conv (q : Fin 2048) : Fin 5632 := ⟨q.val, by omega⟩
/-- The columns of the attention's queries, keys and values. -/
def attn (q : Fin 1536) : Fin 5632 := ⟨2048 + q.val, by omega⟩
/-- The columns of the gates. -/
def gate (q : Fin 2048) : Fin 5632 := ⟨3584 + q.val, by omega⟩

theorem hz : (![0, 0] : Fin 2 → Nat) = fun _ => 0 := funext fun a => by fin_cases a <;> rfl

section Block
variable (x0 : Vec Ideal S512x1024 .f32) (x1 : Vec Ideal S1x1024 .f32) (x2 : Vec Ideal S5632x1024 .bf16)

/-- The matrix of a block, which the block holds transposed. -/
abbrev wIn (k : Fin 1024) (q : Fin 5632) : EReal := x2 (ix2 q k)

theorem pay1_apply (r : Fin 512) (k : Fin 1024) : k0_pay1 x0 x1 (ix2 r k) = normed (row x0 r) (row x1 0) k := by
  pointwise [k0_pay1, normed, rstd, msq, width_word]

/-- A load of the convolution branch's rows of the matrix. -/
theorem ld_conv (q : Fin 2048) (k : Fin 1024) : View.ld x2 r0_2 (ix2 q k) = x2 (ix2 (conv q) k) :=
  View.ld_unit_apply_of _ _ _ _ _ _ fun a => by
    match a with
    | ⟨0, _⟩ => show q.val = 0 + q.val; omega
    | ⟨1, _⟩ => show k.val = 0 + k.val; omega

/-- A load of the gates' rows of the matrix. -/
theorem ld_gate (q : Fin 2048) (k : Fin 1024) : View.ld x2 r0_4 (ix2 q k) = x2 (ix2 (gate q) k) :=
  View.ld_unit_apply_of _ _ _ _ _ _ fun a => by
    match a with
    | ⟨0, _⟩ => show 3584 + q.val = 3584 + q.val; rfl
    | ⟨1, _⟩ => show k.val = 0 + k.val; omega

/-- A load of the attention's rows of the matrix. -/
theorem ld_attn (q : Fin 1536) (k : Fin 1024) : View.ld x2 r0_5 (ix2 q k) = x2 (ix2 (attn q) k) :=
  View.ld_unit_apply_of _ _ _ _ _ _ fun a => by
    match a with
    | ⟨0, _⟩ => show 2048 + q.val = 2048 + q.val; rfl
    | ⟨1, _⟩ => show k.val = 0 + k.val; omega

theorem out3_apply (r : Fin 512) (k : Fin 1024) : out0_3 x0 x1 x2 (ix2 r k) = normed (row x0 r) (row x1 0) k := by
  unfold out0_3
  rw [View.canon_unit_zero hz, View.ld_unit_zero hz, View.ld_unit_zero hz, pay1_apply]

theorem out4_apply (r : Fin 512) (q : Fin 2048) : out0_4 x0 x1 x2 (ix2 r q) = up (row x0 r) (row x1 0) (wIn x2) (conv q) := by
  unfold out0_4 up lin
  rw [View.canon_unit_zero hz, View.ld_unit_zero hz, View.ld_unit_zero hz]
  simp only [← pay1_apply, ← ld_conv]
  pointwise [k0_pay2]

theorem out5_apply (r : Fin 512) (q : Fin 2048) : out0_5 x0 x1 x2 (ix2 r q) = up (row x0 r) (row x1 0) (wIn x2) (gate q) := by
  unfold out0_5 up lin
  rw [View.canon_unit_zero hz, View.ld_unit_zero hz, View.ld_unit_zero hz]
  simp only [← pay1_apply, ← ld_gate]
  pointwise [k0_pay3]

theorem out6_apply (q : Fin 1536) (r : Fin 512) : out0_6 x0 x1 x2 (ix2 q r) = up (row x0 r) (row x1 0) (wIn x2) (attn q) := by
  unfold out0_6 up lin
  rw [View.canon_unit_zero hz, View.ld_unit_zero hz, View.ld_unit_zero hz]
  simp only [← pay1_apply, ← ld_attn, mul_comm (k0_pay1 x0 x1 _)]
  pointwise [k0_pay4]

end Block

end Cert.Proj

end
-- ==== Proof.Proj.Arrays.lean ====
/- WHAT THE FOUR RESULT ARRAYS of the mixing step's projection HOLD after the kernel's run, index by index, as functions of the
   arguments. Grid point `t` reads rows `512 t … 512 t + 511` of the tokens, and the gain and the matrix whole; it writes the same
   rows of three results and the same columns of the one transposed. -/
module

public import proofs.«01_k».proof.Proof.Proj.Block
public import proofs.«01_k».proof.Proof.Gen.ProjKernelIdeal.Value

@[expose] public section

noncomputable section

namespace Cert.Proj

open Idealize.ShloMosaic Idealize.ShloMosaic.TcCoe Idealize.SL.Sem Cert.ProjKernelIdeal Cert.ProjKernelIdeal.Gen
  Cert.ProjKernelIdeal.Value Cert.Ffn
open Cert.Last (row up)

variable (m : (ℓ : Loc nD τ sig) → Buf (Elt Ideal) ℓ) (c : Dev nD)

/-! ### The arguments -/

abbrev argX : Vec Ideal S4096x1024 .f32 := m ((c : Thread nD τ).loc main_arg0)
abbrev argG : Vec Ideal S1024 .f32 := m ((c : Thread nD τ).loc main_arg1)
abbrev argW : Vec Ideal S1024x5632 .f32 := m ((c : Thread nD τ).loc main_arg2)

/-- The gain, column by column. -/
def gain (k : Fin 1024) : EReal := argG m c (ix1 k)

theorem V_v0 (k : Fin 1024) : (V m c main_v0 : S1x1024.Idx → EReal) (ix2 0 k) = gain m c k := by
  have e : V m c main_v0 = (shapeCast S1x1024 (argG m c) shapeCasts_S1024_S1x1024 : FVec Ideal S1x1024 .f32) := by
    unfold V; after_results_simp; rfl
  rw [e]; pointwise [gain]

theorem V_v2 (q : Fin 5632) (k : Fin 1024) : (V m c main_v2 : S5632x1024.Idx → EReal) (ix2 q k) = argW m c (ix2 k q) := by
  have e : V m c main_v2 = (truncf .bf16 (transpose S5632x1024 [1, 0] (argW m c) transposes_S1024x5632_S5632x1024_1_0 : FVec Ideal S5632x1024 .f32)
      bitsLt_bf16_f32 : FVec Ideal S5632x1024 .bf16) := by
    unfold V; after_results_simp
  rw [e]; pointwise

/-! ### Which rows a grid point's blocks are -/

/-- Row `r` of grid point `t`'s block. -/
def at_ (t : Fin cfg0.N) (r : Fin 512) : Fin 4096 :=
  ⟨512 * t.val + r.val, by have := t.isLt; have hN : cfg0.N = 8 := N_0; omega⟩

theorem ix_r0 : ∀ t : Fin cfg0.N, win0_0.index t (0 : Fin 2) = t.val ∧ win0_0.index t (1 : Fin 2) = 0 :=
  (by decide +kernel : ∀ t : Fin grid0.N, _)
theorem ix_r1 : ∀ t : Fin cfg0.N, win0_1.index t (0 : Fin 2) = 0 ∧ win0_1.index t (1 : Fin 2) = 0 :=
  (by decide +kernel : ∀ t : Fin grid0.N, _)
theorem ix_r2 : ∀ t : Fin cfg0.N, win0_2.index t (0 : Fin 2) = 0 ∧ win0_2.index t (1 : Fin 2) = 0 :=
  (by decide +kernel : ∀ t : Fin grid0.N, _)
theorem ix_r3 : ∀ t : Fin cfg0.N, win0_3.index t (0 : Fin 2) = t.val ∧ win0_3.index t (1 : Fin 2) = 0 :=
  (by decide +kernel : ∀ t : Fin grid0.N, _)
theorem ix_r4 : ∀ t : Fin cfg0.N, win0_4.index t (0 : Fin 2) = t.val ∧ win0_4.index t (1 : Fin 2) = 0 :=
  (by decide +kernel : ∀ t : Fin grid0.N, _)
theorem ix_r5 : ∀ t : Fin cfg0.N, win0_5.index t (0 : Fin 2) = t.val ∧ win0_5.index t (1 : Fin 2) = 0 :=
  (by decide +kernel : ∀ t : Fin grid0.N, _)
theorem ix_r6 : ∀ t : Fin cfg0.N, win0_6.index t (0 : Fin 2) = 0 ∧ win0_6.index t (1 : Fin 2) = t.val :=
  (by decide +kernel : ∀ t : Fin grid0.N, _)

/-! ### The input blocks -/

variable (t : Fin cfg0.N)

theorem blk0 (r : Fin 512) : row (iblk m c 0 t : S512x1024.Idx → EReal) r = row (argX m c) (at_ t r) := by
  obtain ⟨e0, e1⟩ := ix_r0 t
  funext k
  show V m c main_arg0 (((cfg0.win 0).blk t).view.emb (ix2 r k)) = _
  rw [V_main_arg0]
  refine congrArg (argX m c) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

theorem blk1 : row (iblk m c 1 t : S1x1024.Idx → EReal) 0 = gain m c := by
  obtain ⟨e0, e1⟩ := ix_r1 t
  funext k
  refine Eq.trans ?_ (V_v0 m c k)
  show V m c main_v0 (((cfg0.win 1).blk t).view.emb (ix2 0 k)) = _
  refine congrArg (V m c main_v0) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem blk2 : wIn (iblk m c 2 t : S5632x1024.Idx → EReal) = row (argW m c) := by
  obtain ⟨e0, e1⟩ := ix_r2 t
  funext k q
  refine Eq.trans ?_ (V_v2 m c q k)
  show V m c main_v2 (((cfg0.win 2).blk t).view.emb (ix2 q k)) = _
  refine congrArg (V m c main_v2) (funext fun a => Fin.ext ?_)
  match a with
  | ⟨0, _⟩ => show win0_2.index t (0 : Fin 2) * 5632 + 1 * q.val = q.val; omega
  | ⟨1, _⟩ => show win0_2.index t (1 : Fin 2) * 1024 + 1 * k.val = k.val; omega

/-! ### The result arrays -/

/-- The normalised rows. -/
def G3 : S4096x1024.Idx → EReal := fun i => normed (row (argX m c) (i 0)) (gain m c) (i 1)
/-- The convolution branch's rows. -/
def G4 : S4096x2048.Idx → EReal := fun i => up (row (argX m c) (i 0)) (gain m c) (row (argW m c)) (conv (i 1))
/-- The gates' rows. -/
def G5 : S4096x2048.Idx → EReal := fun i => up (row (argX m c) (i 0)) (gain m c) (row (argW m c)) (gate (i 1))
/-- The attention's rows, transposed. -/
def G6 : S1536x4096.Idx → EReal := fun i => up (row (argX m c) (i 1)) (gain m c) (row (argW m c)) (attn (i 0))

/-- Every row is a row of some grid point's block. -/
theorem exists_row (R : Fin 4096) : ∃ (t : Fin cfg0.N) (r : Fin 512), at_ t r = R :=
  ⟨⟨R.val / 512, by have hN : cfg0.N = 8 := N_0; omega⟩, ⟨R.val % 512, by omega⟩,
    Fin.ext (by show 512 * (R.val / 512) + R.val % 512 = R.val; omega)⟩

theorem blkOut3 (r : Fin 512) (k : Fin 1024) :
    out0_3 (iblk m c 0 t) (iblk m c 1 t) (iblk m c 2 t) (ix2 r k) = G3 m c (ix2 (at_ t r) k) :=
  (out3_apply _ _ _ r k).trans (by rw [blk0, blk1]; rfl)

theorem emb3 (r : Fin 512) (k : Fin 1024) : ((cfg0.win 3).blk t).view.emb (ix2 r k) = (ix2 (at_ t r) k : S4096x1024.Idx) := by
  obtain ⟨e0, e1⟩ := ix_r3 t
  refine funext fun a => Fin.ext ?_
  match a with
  | ⟨0, _⟩ => show win0_3.index t (0 : Fin 2) * 512 + 1 * r.val = 512 * t.val + r.val; omega
  | ⟨1, _⟩ => show win0_3.index t (1 : Fin 2) * 1024 + 1 * k.val = k.val; omega

theorem final3 : (dats m 0 c).arrAt 3 cfg0.N = G3 m c := by
  refine (dats m 0 c).arrAt_eq_of_cover 3 (G3 m c) (fun t _ => ?_) (fun (i : S4096x1024.Idx) => ?_)
  · rw [flushed3]
    funext j
    have e : j = ix2 (n0 := 512) (n1 := 1024) (j 0) (j 1) := eq_ix2 j
    rw [e]
    exact (blkOut3 m c t (j 0) (j 1)).trans (congrArg (G3 m c) (emb3 t (j 0) (j 1)).symm)
  · obtain ⟨t, r, h⟩ := exists_row (i 0)
    have e : ((cfg0.win 3).blk t).view.emb (ix2 r (i 1)) = i :=
      (emb3 t r (i 1)).trans (by rw [h]; exact (eq_ix2 i).symm)
    exact ⟨t, flush0_3 t, e ▸ View.emb_mem_set _ _⟩

theorem blkOut4 (r : Fin 512) (k : Fin 2048) :
    out0_4 (iblk m c 0 t) (iblk m c 1 t) (iblk m c 2 t) (ix2 r k) = G4 m c (ix2 (at_ t r) k) :=
  (out4_apply _ _ _ r k).trans (by rw [blk0, blk1, blk2]; rfl)

theorem emb4 (r : Fin 512) (k : Fin 2048) : ((cfg0.win 4).blk t).view.emb (ix2 r k) = (ix2 (at_ t r) k : S4096x2048.Idx) := by
  obtain ⟨e0, e1⟩ := ix_r4 t
  refine funext fun a => Fin.ext ?_
  match a with
  | ⟨0, _⟩ => show win0_4.index t (0 : Fin 2) * 512 + 1 * r.val = 512 * t.val + r.val; omega
  | ⟨1, _⟩ => show win0_4.index t (1 : Fin 2) * 2048 + 1 * k.val = k.val; omega

theorem final4 : (dats m 0 c).arrAt 4 cfg0.N = G4 m c := by
  refine (dats m 0 c).arrAt_eq_of_cover 4 (G4 m c) (fun t _ => ?_) (fun (i : S4096x2048.Idx) => ?_)
  · rw [flushed4]
    funext j
    have e : j = ix2 (n0 := 512) (n1 := 2048) (j 0) (j 1) := eq_ix2 j
    rw [e]
    exact (blkOut4 m c t (j 0) (j 1)).trans (congrArg (G4 m c) (emb4 t (j 0) (j 1)).symm)
  · obtain ⟨t, r, h⟩ := exists_row (i 0)
    have e : ((cfg0.win 4).blk t).view.emb (ix2 r (i 1)) = i :=
      (emb4 t r (i 1)).trans (by rw [h]; exact (eq_ix2 i).symm)
    exact ⟨t, flush0_4 t, e ▸ View.emb_mem_set _ _⟩

theorem blkOut5 (r : Fin 512) (k : Fin 2048) :
    out0_5 (iblk m c 0 t) (iblk m c 1 t) (iblk m c 2 t) (ix2 r k) = G5 m c (ix2 (at_ t r) k) :=
  (out5_apply _ _ _ r k).trans (by rw [blk0, blk1, blk2]; rfl)

theorem emb5 (r : Fin 512) (k : Fin 2048) : ((cfg0.win 5).blk t).view.emb (ix2 r k) = (ix2 (at_ t r) k : S4096x2048.Idx) := by
  obtain ⟨e0, e1⟩ := ix_r5 t
  refine funext fun a => Fin.ext ?_
  match a with
  | ⟨0, _⟩ => show win0_5.index t (0 : Fin 2) * 512 + 1 * r.val = 512 * t.val + r.val; omega
  | ⟨1, _⟩ => show win0_5.index t (1 : Fin 2) * 2048 + 1 * k.val = k.val; omega

theorem final5 : (dats m 0 c).arrAt 5 cfg0.N = G5 m c := by
  refine (dats m 0 c).arrAt_eq_of_cover 5 (G5 m c) (fun t _ => ?_) (fun (i : S4096x2048.Idx) => ?_)
  · rw [flushed5]
    funext j
    have e : j = ix2 (n0 := 512) (n1 := 2048) (j 0) (j 1) := eq_ix2 j
    rw [e]
    exact (blkOut5 m c t (j 0) (j 1)).trans (congrArg (G5 m c) (emb5 t (j 0) (j 1)).symm)
  · obtain ⟨t, r, h⟩ := exists_row (i 0)
    have e : ((cfg0.win 5).blk t).view.emb (ix2 r (i 1)) = i :=
      (emb5 t r (i 1)).trans (by rw [h]; exact (eq_ix2 i).symm)
    exact ⟨t, flush0_5 t, e ▸ View.emb_mem_set _ _⟩

theorem blkOut6 (q : Fin 1536) (r : Fin 512) :
    out0_6 (iblk m c 0 t) (iblk m c 1 t) (iblk m c 2 t) (ix2 q r) = G6 m c (ix2 q (at_ t r)) :=
  (out6_apply _ _ _ q r).trans (by rw [blk0, blk1, blk2]; rfl)

theorem emb6 (q : Fin 1536) (r : Fin 512) : ((cfg0.win 6).blk t).view.emb (ix2 q r) = (ix2 q (at_ t r) : S1536x4096.Idx) := by
  obtain ⟨e0, e1⟩ := ix_r6 t
  refine funext fun a => Fin.ext ?_
  match a with
  | ⟨0, _⟩ => show win0_6.index t (0 : Fin 2) * 1536 + 1 * q.val = q.val; omega
  | ⟨1, _⟩ => show win0_6.index t (1 : Fin 2) * 512 + 1 * r.val = 512 * t.val + r.val; omega

theorem final6 : (dats m 0 c).arrAt 6 cfg0.N = G6 m c := by
  refine (dats m 0 c).arrAt_eq_of_cover 6 (G6 m c) (fun t _ => ?_) (fun (i : S1536x4096.Idx) => ?_)
  · rw [flushed6]
    funext j
    have e : j = ix2 (n0 := 1536) (n1 := 512) (j 0) (j 1) := eq_ix2 j
    rw [e]
    exact (blkOut6 m c t (j 0) (j 1)).trans (congrArg (G6 m c) (emb6 t (j 0) (j 1)).symm)
  · obtain ⟨t, r, h⟩ := exists_row (i 1)
    have e : ((cfg0.win 6).blk t).view.emb (ix2 (i 0) r) = i :=
      (emb6 t (i 0) r).trans (by rw [h]; exact (eq_ix2 i).symm)
    exact ⟨t, flush0_6 t, e ▸ View.emb_mem_set _ _⟩

end Cert.Proj

end
-- ==== Proof.Proj.Claim.lean ====
/- THE CALL `mix_proj`: what the reference computes, read at an index, and that the kernel and the reference agree. -/
module

public import proofs.«01_k».proof.Defs
public import proofs.«01_k».proof.Proof.Proj.Arrays
public import proofs.«01_k».proof.Proof.Last.Reference
public import proofs.«01_k».proof.Proof.Gen.ProjReferenceIdeal.Run
public import Idealize.ShloMosaic.Adequacy
public import Idealize.ShloMosaic.Init

@[expose] public section

noncomputable section

namespace Cert.Proj

open Idealize.ShloMosaic Idealize.SL.Sem Cert.Ffn
open Cert.Last (row up)
open Cert.Last.Reference (gn vNorm vUp vNorm_apply vUp_apply)

attribute [local instance] Cert.ProjKernelIdeal.Gen.facts Cert.ProjReferenceIdeal.Gen.facts Cert.LastReferenceIdeal.Gen.facts

section Reference
open Cert.ProjReferenceIdeal Cert.ProjReferenceIdeal.Facts₀

variable (x : FVec Ideal S4096x1024 .f32) (g : FVec Ideal S1024 .f32) (w : FVec Ideal S1024x5632 .f32)

def vConv : FVec Ideal S4096x2048 .f32 := extractStridedSlice S4096x2048 ![0, 0] (vUp x g w) slices_S4096x5632_S4096x2048_0_0
def vGates : FVec Ideal S4096x2048 .f32 := concatenate S4096x2048 1
  [⟨S4096x1024, extractStridedSlice S4096x1024 ![0, 3584] (vUp x g w) slices_S4096x5632_S4096x1024_0_3584⟩,
    ⟨S4096x1024, extractStridedSlice S4096x1024 ![0, 4608] (vUp x g w) slices_S4096x5632_S4096x1024_0_4608⟩]
  concatenates_S4096x1024_S4096x1024_S4096x2048_d1
def vQkv : FVec Ideal S4096x1536 .f32 := concatenate S4096x1536 1
  [⟨S4096x1024, extractStridedSlice S4096x1024 ![0, 2048] (vUp x g w) slices_S4096x5632_S4096x1024_0_2048⟩,
    ⟨S4096x256, extractStridedSlice S4096x256 ![0, 3072] (vUp x g w) slices_S4096x5632_S4096x256_0_3072⟩,
    ⟨S4096x256, extractStridedSlice S4096x256 ![0, 3328] (vUp x g w) slices_S4096x5632_S4096x256_0_3328⟩]
  concatenates_S4096x1024_S4096x256_S4096x256_S4096x1536_d1
def vQkvT : FVec Ideal S1536x4096 .f32 := transpose S1536x4096 [1, 0] (vQkv x g w) transposes_S4096x1536_S1536x4096_1_0

theorem vConv_apply (r : Fin 4096) (q : Fin 2048) : vConv x g w (ix2 r q) = up (row x r) (gn g) (row w) (conv q) := by
  rw [← vUp_apply]; pointwise [vConv, conv]

theorem vGates_apply (r : Fin 4096) (q : Fin 2048) : vGates x g w (ix2 r q) = up (row x r) (gn g) (row w) (gate q) := by
  rw [← vUp_apply]
  generalize hu : vUp x g w = u
  have h : vGates x g w (ix2 r q) = if h : q.val < 1024 then u (ix2 r ⟨3584 + q.val, by omega⟩)
      else u (ix2 r ⟨4608 + (q.val - 1024), by omega⟩) := by
    unfold vGates; rw [hu]; pointwise
  rw [h]
  split
  · rfl
  · exact congrArg (fun p => u (ix2 r p)) (Fin.ext (by show 4608 + (q.val - 1024) = 3584 + q.val; omega))

theorem vQkv_apply (r : Fin 4096) (q : Fin 1536) : vQkv x g w (ix2 r q) = up (row x r) (gn g) (row w) (attn q) := by
  rw [← vUp_apply]
  generalize hu : vUp x g w = u
  have h : vQkv x g w (ix2 r q) = if h : q.val < 1024 then u (ix2 r ⟨2048 + q.val, by omega⟩)
      else if h : q.val - 1024 < 256 then u (ix2 r ⟨3072 + (q.val - 1024), by omega⟩)
      else u (ix2 r ⟨3328 + (q.val - 1024 - 256), by omega⟩) := by
    unfold vQkv; rw [hu]; pointwise
  rw [h]
  split
  · rfl
  split
  · exact congrArg (fun p => u (ix2 r p)) (Fin.ext (by show 3072 + (q.val - 1024) = 2048 + q.val; omega))
  · exact congrArg (fun p => u (ix2 r p)) (Fin.ext (by show 3328 + (q.val - 1024 - 256) = 2048 + q.val; omega))

theorem vQkvT_apply (q : Fin 1536) (r : Fin 4096) : vQkvT x g w (ix2 q r) = up (row x r) (gn g) (row w) (attn q) := by
  rw [← vQkv_apply]; pointwise [vQkvT]

variable (m : (ℓ : Loc nD τ sig) → Buf (Elt Ideal) ℓ) (c : Dev nD)

abbrev inX : FVec Ideal S4096x1024 .f32 := m ((c.tc : Thread nD τ).loc main_arg0)
abbrev inG : FVec Ideal S1024 .f32 := m ((c.tc : Thread nD τ).loc main_arg1)
abbrev inW : FVec Ideal S1024x5632 .f32 := m ((c.tc : Thread nD τ).loc main_arg2)

/-- The reference's run, its results named by the stages. -/
theorem run_stages (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = vNorm (inX m c) (inG m c)
      ∧ r.2.mem ((c.tc : Thread nD τ).loc main_v23) = vConv (inX m c) (inG m c) (inW m c)
      ∧ r.2.mem ((c.tc : Thread nD τ).loc main_v24) = vGates (inX m c) (inG m c) (inW m c)
      ∧ r.2.mem ((c.tc : Thread nD τ).loc main_v26) = vQkvT (inX m c) (inG m c) (inW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (Value.run (F := Ideal) m ρ)
  obtain ⟨h0, h1, h2, h3, hk⟩ := h c
  exact ⟨h0.trans rfl, h1.trans rfl, h2.trans rfl, h3.trans rfl, hk⟩

end Reference

/-- The kernel and the reference end with the same four arrays. -/
theorem algebraic : Cert.algebraic_ProjKernelIdeal_ProjReferenceIdeal := by
  intro m g m' g' _ hargs
  refine ⟨fun c => G3 m c, fun c => G4 m c, fun c => G5 m c, fun c => G6 m c, ?_, ?_⟩
  · refine (θ_run _ _ _).mono (fun r h c => ?_) (Cert.ProjKernelIdeal.Value.run_blocks m g)
    obtain ⟨h3, h4, h5, h6, hk⟩ := h c
    exact ⟨h3.trans (final3 m c), h4.trans (final4 m c), h5.trans (final5 m c), h6.trans (final6 m c), hk⟩
  · refine (θ_run _ _ _).mono (fun r h c => ?_) (run_stages m' g')
    obtain ⟨a0, a1, a2⟩ := hargs c
    obtain ⟨h3, h4, h5, h6, hk⟩ := h c
    have b0 : inX m' c = argX m c := a0
    have b1 : inG m' c = argG m c := a1
    have b2 : inW m' c = argW m c := a2
    rw [b0, b1] at h3
    rw [b0, b1, b2] at h4 h5 h6
    exact ⟨h3.trans (funext fun i => (congrArg _ (eq_ix2 i)).trans (vNorm_apply (argX m c) (argG m c) (i 0) (i 1))),
      h4.trans (funext fun i => (congrArg _ (eq_ix2 i)).trans (vConv_apply (argX m c) (argG m c) (argW m c) (i 0) (i 1))),
      h5.trans (funext fun i => (congrArg _ (eq_ix2 i)).trans (vGates_apply (argX m c) (argG m c) (argW m c) (i 0) (i 1))),
      h6.trans (funext fun i => (congrArg _ (eq_ix2 i)).trans (vQkvT_apply (argX m c) (argG m c) (argW m c) (i 0) (i 1))), hk⟩

/-- The reference's frame: its run leaves the arguments unchanged, and it declares no semaphore. -/
theorem reference_frame : Cert.quiescent_ProjReferenceIdeal := fun m ρ _ =>
  (θ_run Cert.ProjReferenceIdeal.defs _ _).mono
    (fun r h => ⟨fun c => (h c).2.2.2.2, sem_eq_zero_of_no_sems (by decide) r.2⟩)
    (Cert.ProjReferenceIdeal.Value.run (F := Ideal) m ρ)

end Cert.Proj

end
-- ==== Proof.Grad.Block.lean ====
/- WHAT ONE BLOCK OF 512 ROWS of the weights' gradient IS in each of the kernel's four cases: a product over all tokens of 512
   columns of one of the gradients with the columns of the layer's input. -/
module

public import proofs.«01_k».proof.Proof.Last.Rows
public import proofs.«01_k».proof.Proof.Gen.GradKernelIdeal.Frame
public import Idealize.ShloMosaic.Lib.Pipeline.Value
public import Idealize.ShloMosaic.Lib.Pipeline.ValueKit.Tiles

@[expose] public section

set_option maxRecDepth 4096

noncomputable section

namespace Cert.Grad

open Idealize.ShloMosaic Cert.GradKernelIdeal Cert.GradKernelIdeal.Gen

theorem hz : (![0, 0] : Fin 2 → Nat) = fun _ => 0 := funext fun a => by fin_cases a <;> rfl

theorem pay1_apply (x : Vec Ideal S4096x512 .bf16) (y : Vec Ideal S4096x1024 .bf16) (r : Fin 512) (k : Fin 1024) :
    k0_pay1 x y (ix2 r k) = ∑ R : Fin 4096, x (ix2 R r) * y (ix2 R k) := by pointwise [k0_pay1]
theorem pay2_apply (x : Vec Ideal S512x4096 .bf16) (y : Vec Ideal S4096x1024 .bf16) (r : Fin 512) (k : Fin 1024) :
    k0_pay2 x y (ix2 r k) = ∑ R : Fin 4096, x (ix2 r R) * y (ix2 R k) := by pointwise [k0_pay2]
theorem pay3_apply (x : Vec Ideal S512x4096 .bf16) (y : Vec Ideal S4096x1024 .bf16) (r : Fin 512) (k : Fin 1024) :
    k0_pay3 x y (ix2 r k) = ∑ R : Fin 4096, x (ix2 r R) * y (ix2 R k) := by pointwise [k0_pay3]
theorem pay4_apply (x : Vec Ideal S4096x512 .bf16) (y : Vec Ideal S4096x1024 .bf16) (r : Fin 512) (k : Fin 1024) :
    k0_pay4 x y (ix2 r k) = ∑ R : Fin 4096, x (ix2 R r) * y (ix2 R k) := by pointwise [k0_pay4]

section Out
variable (c : Dev nD) (i : grid0.Coords) (a1 : Memref sig .tc .vmem S4096x512 .bf16) (h1 : a1.IsWhole)
  (a2 : Memref sig .tc .vmem S512x4096 .bf16) (h2 : a2.IsWhole) (a3 : Memref sig .tc .vmem S512x4096 .bf16) (h3 : a3.IsWhole)
  (a4 : Memref sig .tc .vmem S4096x512 .bf16) (h4 : a4.IsWhole) (a5 : Memref sig .tc .vmem S4096x1024 .bf16) (h5 : a5.IsWhole)
  (a6 : Memref sig .tc .vmem S512x1024 .bf16) (h6 : a6.IsWhole)
  (x0 : Vec Ideal S4096x512 .bf16) (x1 x2 : Vec Ideal S512x4096 .bf16) (x3 : Vec Ideal S4096x512 .bf16) (x4 : Vec Ideal S4096x1024 .bf16)

theorem out_A (hc0 : cond0_0 i) (hc1 : ¬cond0_1 i) (hc2 : ¬cond0_2 i) (hc3 : ¬cond0_3 i) :
    out0_A_5 c i a1 h1 a2 h2 a3 h3 a4 h4 a5 h5 a6 h6 hc0 hc1 hc2 hc3 x0 x1 x2 x3 x4 = k0_pay1 x0 x4 := by
  unfold out0_A_5
  rw [View.read_writes_eq_canon _ _ _ (cover0_A_5 c i a1 h1 a2 h2 a3 h3 a4 h4 a5 h5 a6 h6 hc0 hc1 hc2 hc3 x0 x1 x2 x3 x4)]
  unfold kernelRun0_A
  dsimp only
  sl_unfold_words
  rw [View.canon_unit_zero hz]
  simp only [View.readAt_eq_ld, h1.read_unread, h5.read_unread, View.ld_unit_zero (S := S4096x512) hz,
    View.ld_unit_zero (S := S4096x1024) hz]

theorem out_B (hc0 : ¬cond0_0 i) (hc1 : cond0_1 i) (hc2 : ¬cond0_2 i) (hc3 : ¬cond0_3 i) :
    out0_B_5 c i a1 h1 a2 h2 a3 h3 a4 h4 a5 h5 a6 h6 hc0 hc1 hc2 hc3 x0 x1 x2 x3 x4 = k0_pay2 x1 x4 := by
  unfold out0_B_5
  rw [View.read_writes_eq_canon _ _ _ (cover0_B_5 c i a1 h1 a2 h2 a3 h3 a4 h4 a5 h5 a6 h6 hc0 hc1 hc2 hc3 x0 x1 x2 x3 x4)]
  unfold kernelRun0_B
  dsimp only
  sl_unfold_words
  rw [View.canon_unit_zero hz]
  simp only [View.readAt_eq_ld, h2.read_unread, h5.read_unread, View.ld_unit_zero (S := S512x4096) hz,
    View.ld_unit_zero (S := S4096x1024) hz]

theorem out_C (hc0 : ¬cond0_0 i) (hc1 : ¬cond0_1 i) (hc2 : cond0_2 i) (hc3 : ¬cond0_3 i) :
    out0_C_5 c i a1 h1 a2 h2 a3 h3 a4 h4 a5 h5 a6 h6 hc0 hc1 hc2 hc3 x0 x1 x2 x3 x4 = k0_pay3 x2 x4 := by
  unfold out0_C_5
  rw [View.read_writes_eq_canon _ _ _ (cover0_C_5 c i a1 h1 a2 h2 a3 h3 a4 h4 a5 h5 a6 h6 hc0 hc1 hc2 hc3 x0 x1 x2 x3 x4)]
  unfold kernelRun0_C
  dsimp only
  sl_unfold_words
  rw [View.canon_unit_zero hz]
  simp only [View.readAt_eq_ld, h3.read_unread, h5.read_unread, View.ld_unit_zero (S := S512x4096) hz,
    View.ld_unit_zero (S := S4096x1024) hz]

theorem out_D (hc0 : ¬cond0_0 i) (hc1 : ¬cond0_1 i) (hc2 : ¬cond0_2 i) (hc3 : cond0_3 i) :
    out0_D_5 c i a1 h1 a2 h2 a3 h3 a4 h4 a5 h5 a6 h6 hc0 hc1 hc2 hc3 x0 x1 x2 x3 x4 = k0_pay4 x3 x4 := by
  unfold out0_D_5
  rw [View.read_writes_eq_canon _ _ _ (cover0_D_5 c i a1 h1 a2 h2 a3 h3 a4 h4 a5 h5 a6 h6 hc0 hc1 hc2 hc3 x0 x1 x2 x3 x4)]
  unfold kernelRun0_D
  dsimp only
  sl_unfold_words
  rw [View.canon_unit_zero hz]
  simp only [View.readAt_eq_ld, h4.read_unread, h5.read_unread, View.ld_unit_zero (S := S4096x512) hz,
    View.ld_unit_zero (S := S4096x1024) hz]

end Out

end Cert.Grad

end
-- ==== Proof.Grad.Arrays.lean ====
/- WHAT THE RESULT ARRAY of the weights' gradient HOLDS after the kernel's run, index by index, as a function of the arguments. Grid
   point `t` writes rows `512 t … 512 t + 511`; the gradient whose columns they are changes with `t`, and the windows of the other
   gradients stay where they are. -/
module

public import proofs.«01_k».proof.Proof.Grad.Block
public import proofs.«01_k».proof.Proof.Last.Reference
public import proofs.«01_k».proof.Proof.Gen.GradKernelIdeal.Value

@[expose] public section

set_option maxRecDepth 8192

noncomputable section

namespace Cert.Grad

open Idealize.ShloMosaic Idealize.ShloMosaic.TcCoe Idealize.SL.Sem Cert.GradKernelIdeal Cert.GradKernelIdeal.Gen
  Cert.GradKernelIdeal.Value

/-- The columns of the six gradients side by side. -/
def cols (a2 : S4096x2048.Idx → EReal) (a3 : S4096x1024.Idx → EReal) (a4 a5 : S4096x256.Idx → EReal) (a6 a7 : S4096x1024.Idx → EReal)
    (R : Fin 4096) (q : Fin 5632) : EReal :=
  if h : q.val < 2048 then a2 (ix2 R ⟨q.val, h⟩)
  else if h : q.val - 2048 < 1024 then a3 (ix2 R ⟨q.val - 2048, h⟩)
  else if h : q.val - 2048 - 1024 < 256 then a4 (ix2 R ⟨q.val - 2048 - 1024, h⟩)
  else if h : q.val - 2048 - 1024 - 256 < 256 then a5 (ix2 R ⟨q.val - 2048 - 1024 - 256, h⟩)
  else if h : q.val - 2048 - 1024 - 256 - 256 < 1024 then a6 (ix2 R ⟨q.val - 2048 - 1024 - 256 - 256, h⟩)
  else a7 (ix2 R ⟨q.val - 2048 - 1024 - 256 - 256 - 1024, by omega⟩)

/-- The gradient of the weights. -/
def grad (a0 : S4096x1024.Idx → EReal) (a2 : S4096x2048.Idx → EReal) (a3 : S4096x1024.Idx → EReal) (a4 a5 : S4096x256.Idx → EReal)
    (a6 a7 : S4096x1024.Idx → EReal) (q : Fin 5632) (k : Fin 1024) : EReal :=
  ∑ R : Fin 4096, cols a2 a3 a4 a5 a6 a7 R q * a0 (ix2 R k)

variable (m : (ℓ : Loc nD τ sig) → Buf (Elt Ideal) ℓ) (c : Dev nD)

/-! ### The arguments -/

abbrev argX : Vec Ideal S4096x1024 .f32 := m ((c : Thread nD τ).loc main_arg0)
abbrev argG : Vec Ideal S1024 .f32 := m ((c : Thread nD τ).loc main_arg1)
abbrev arg2 : Vec Ideal S4096x2048 .f32 := m ((c : Thread nD τ).loc main_arg3)
abbrev arg3 : Vec Ideal S4096x1024 .f32 := m ((c : Thread nD τ).loc main_arg4)
abbrev arg4 : Vec Ideal S4096x256 .f32 := m ((c : Thread nD τ).loc main_arg5)
abbrev arg5 : Vec Ideal S4096x256 .f32 := m ((c : Thread nD τ).loc main_arg6)
abbrev arg6 : Vec Ideal S4096x1024 .f32 := m ((c : Thread nD τ).loc main_arg7)
abbrev arg7 : Vec Ideal S4096x1024 .f32 := m ((c : Thread nD τ).loc main_arg8)

attribute [local instance] Cert.LastReferenceIdeal.Gen.facts

/-- The normalised rows the forward call saves. -/
def saved : FVec Ideal S4096x1024 .f32 := Cert.Last.Reference.vNorm (argX m c) (argG m c)

/-- The six gradients' columns. -/
abbrev colsOf (R : Fin 4096) (q : Fin 5632) : EReal := cols (arg2 m c) (arg3 m c) (arg4 m c) (arg5 m c) (arg6 m c) (arg7 m c) R q

theorem V_v21 (R : Fin 4096) (k : Fin 1024) : (V m c main_v21 : S4096x1024.Idx → EReal) (ix2 R k) = saved m c (ix2 R k) := by
  have e : V m c main_v21 = (truncf .bf16 (saved m c) bitsLt_bf16_f32 : FVec Ideal S4096x1024 .bf16) := by
    unfold V; after_results_simp; try rfl
  rw [e]; rfl

theorem V_v15 (R : Fin 4096) (q : Fin 2048) : (V m c main_v15 : S4096x2048.Idx → EReal) (ix2 R q) = arg2 m c (ix2 R q) := by
  have e : V m c main_v15 = (truncf .bf16 (arg2 m c) bitsLt_bf16_f32 : FVec Ideal S4096x2048 .bf16) := by
    unfold V; after_results_simp; try rfl
  rw [e]; rfl

theorem V_v17 (q : Fin 1024) (R : Fin 4096) : (V m c main_v17 : S1024x4096.Idx → EReal) (ix2 q R) = arg3 m c (ix2 R q) := by
  have e : V m c main_v17 = (truncf .bf16 (transpose S1024x4096 [1, 0] (arg3 m c) transposes_S4096x1024_S1024x4096_1_0 : FVec Ideal S1024x4096 .f32)
      bitsLt_bf16_f32 : FVec Ideal S1024x4096 .bf16) := by
    unfold V; after_results_simp; try rfl
  rw [e]; pointwise

theorem V_v19 (q : Fin 512) (R : Fin 4096) : (V m c main_v19 : S512x4096.Idx → EReal) (ix2 q R)
    = if h : q.val < 256 then arg4 m c (ix2 R ⟨q.val, h⟩) else arg5 m c (ix2 R ⟨q.val - 256, by omega⟩) := by
  have e : V m c main_v19 = (truncf .bf16 (transpose S512x4096 [1, 0] (concatenate S4096x512 1 [⟨S4096x256, arg4 m c⟩, ⟨S4096x256, arg5 m c⟩]
      concatenates_S4096x256_S4096x256_S4096x512_d1 : FVec Ideal S4096x512 .f32) transposes_S4096x512_S512x4096_1_0 : FVec Ideal S512x4096 .f32)
      bitsLt_bf16_f32 : FVec Ideal S512x4096 .bf16) := by
    unfold V; after_results_simp; try rfl
  rw [e]; pointwise

theorem V_v20 (R : Fin 4096) (q : Fin 2048) : (V m c main_v20 : S4096x2048.Idx → EReal) (ix2 R q)
    = if h : q.val < 1024 then arg6 m c (ix2 R ⟨q.val, h⟩) else arg7 m c (ix2 R ⟨q.val - 1024, by omega⟩) := by
  have e : V m c main_v20 = (truncf .bf16 (concatenate S4096x2048 1 [⟨S4096x1024, arg6 m c⟩, ⟨S4096x1024, arg7 m c⟩]
      concatenates_S4096x1024_S4096x1024_S4096x2048_d1 : FVec Ideal S4096x2048 .f32) bitsLt_bf16_f32 : FVec Ideal S4096x2048 .bf16) := by
    unfold V; after_results_simp; try rfl
  rw [e]; pointwise

/-! ### Which rows a grid point's block is, and where its windows stand -/

/-- Row `r` of grid point `t`'s block. -/
def at_ (t : Fin cfg0.N) (r : Fin 512) : Fin 5632 :=
  ⟨512 * t.val + r.val, by have := t.isLt; have hN : cfg0.N = 11 := N_0; omega⟩

theorem ix_r0 : ∀ t : Fin cfg0.N, win0_0.index t (0 : Fin 2) = 0 ∧ (t.val < 4 → win0_0.index t (1 : Fin 2) = t.val) :=
  (by decide +kernel : ∀ t : Fin grid0.N, _)
theorem ix_r1 : ∀ t : Fin cfg0.N, (4 ≤ t.val ∧ t.val ≤ 5 → win0_1.index t (0 : Fin 2) = t.val - 4) ∧ win0_1.index t (1 : Fin 2) = 0 :=
  (by decide +kernel : ∀ t : Fin grid0.N, _)
theorem ix_r2 : ∀ t : Fin cfg0.N, win0_2.index t (0 : Fin 2) = 0 ∧ win0_2.index t (1 : Fin 2) = 0 :=
  (by decide +kernel : ∀ t : Fin grid0.N, _)
theorem ix_r3 : ∀ t : Fin cfg0.N, win0_3.index t (0 : Fin 2) = 0 ∧ (7 ≤ t.val → win0_3.index t (1 : Fin 2) = t.val - 7) :=
  (by decide +kernel : ∀ t : Fin grid0.N, _)
theorem ix_r4 : ∀ t : Fin cfg0.N, win0_4.index t (0 : Fin 2) = 0 ∧ win0_4.index t (1 : Fin 2) = 0 :=
  (by decide +kernel : ∀ t : Fin grid0.N, _)
theorem ix_r5 : ∀ t : Fin cfg0.N, win0_5.index t (0 : Fin 2) = t.val ∧ win0_5.index t (1 : Fin 2) = 0 :=
  (by decide +kernel : ∀ t : Fin grid0.N, _)

/-! ### The input blocks -/

variable (t : Fin cfg0.N)

theorem blk4 (R : Fin 4096) (k : Fin 1024) : (iblk m c 4 t : S4096x1024.Idx → EReal) (ix2 R k) = saved m c (ix2 R k) := by
  obtain ⟨e0, e1⟩ := ix_r4 t
  refine Eq.trans ?_ (V_v21 m c R k)
  show V m c main_v21 (((cfg0.win 4).blk t).view.emb (ix2 R k)) = _
  refine congrArg (V m c main_v21) (funext fun a => Fin.ext ?_)
  match a with
  | ⟨0, _⟩ => show win0_4.index t (0 : Fin 2) * 4096 + 1 * R.val = R.val; omega
  | ⟨1, _⟩ => show win0_4.index t (1 : Fin 2) * 1024 + 1 * k.val = k.val; omega

theorem blk0 (ht : t.val < 4) (R : Fin 4096) (r : Fin 512) :
    (iblk m c 0 t : S4096x512.Idx → EReal) (ix2 R r) = colsOf m c R (at_ t r) := by
  obtain ⟨e0, e1⟩ := ix_r0 t
  have e1 := e1 ht
  have hq : (at_ t r).val < 2048 := by show 512 * t.val + r.val < 2048; omega
  unfold colsOf cols
  rw [dif_pos hq]
  refine Eq.trans ?_ (V_v15 m c R _)
  show V m c main_v15 (((cfg0.win 0).blk t).view.emb (ix2 R r)) = _
  refine congrArg (V m c main_v15) (funext fun a => Fin.ext ?_)
  match a with
  | ⟨0, _⟩ => show win0_0.index t (0 : Fin 2) * 4096 + 1 * R.val = R.val; omega
  | ⟨1, _⟩ => show win0_0.index t (1 : Fin 2) * 512 + 1 * r.val = 512 * t.val + r.val; omega

theorem blk1 (ht : 4 ≤ t.val ∧ t.val ≤ 5) (r : Fin 512) (R : Fin 4096) :
    (iblk m c 1 t : S512x4096.Idx → EReal) (ix2 r R) = colsOf m c R (at_ t r) := by
  obtain ⟨e0, e1⟩ := ix_r1 t
  have e0 := e0 ht
  have ha : (at_ t r).val = 512 * t.val + r.val := rfl
  unfold colsOf cols
  rw [dif_neg (by omega), dif_pos (show (at_ t r).val - 2048 < 1024 by omega)]
  refine Eq.trans ?_ (V_v17 m c _ R)
  show V m c main_v17 (((cfg0.win 1).blk t).view.emb (ix2 r R)) = _
  refine congrArg (V m c main_v17) (funext fun a => Fin.ext ?_)
  match a with
  | ⟨0, _⟩ => show win0_1.index t (0 : Fin 2) * 512 + 1 * r.val = 512 * t.val + r.val - 2048; omega
  | ⟨1, _⟩ => show win0_1.index t (1 : Fin 2) * 4096 + 1 * R.val = R.val; omega

theorem blk2 (ht : t.val = 6) (r : Fin 512) (R : Fin 4096) :
    (iblk m c 2 t : S512x4096.Idx → EReal) (ix2 r R) = colsOf m c R (at_ t r) := by
  obtain ⟨e0, e1⟩ := ix_r2 t
  have ha : (at_ t r).val = 512 * t.val + r.val := rfl
  have e : (iblk m c 2 t : S512x4096.Idx → EReal) (ix2 r R) = V m c main_v19 (ix2 r R : S512x4096.Idx) := by
    show V m c main_v19 (((cfg0.win 2).blk t).view.emb (ix2 r R)) = _
    refine congrArg (V m c main_v19) (funext fun a => Fin.ext ?_)
    match a with
    | ⟨0, _⟩ => show win0_2.index t (0 : Fin 2) * 512 + 1 * r.val = r.val; omega
    | ⟨1, _⟩ => show win0_2.index t (1 : Fin 2) * 4096 + 1 * R.val = R.val; omega
  refine e.trans ((V_v19 m c r R).trans ?_)
  unfold colsOf cols
  rw [dif_neg (show ¬(at_ t r).val < 2048 by omega), dif_neg (show ¬(at_ t r).val - 2048 < 1024 by omega)]
  by_cases h : r.val < 256
  · rw [dif_pos h, dif_pos (show (at_ t r).val - 2048 - 1024 < 256 by omega)]
    exact congrArg (fun p => arg4 m c (ix2 R p)) (Fin.ext (by show r.val = 512 * t.val + r.val - 2048 - 1024; omega))
  · rw [dif_neg h, dif_neg (by omega), dif_pos (show (at_ t r).val - 2048 - 1024 - 256 < 256 by omega)]
    exact congrArg (fun p => arg5 m c (ix2 R p)) (Fin.ext (by show r.val - 256 = 512 * t.val + r.val - 2048 - 1024 - 256; omega))

theorem blk3 (ht : 7 ≤ t.val) (R : Fin 4096) (r : Fin 512) :
    (iblk m c 3 t : S4096x512.Idx → EReal) (ix2 R r) = colsOf m c R (at_ t r) := by
  obtain ⟨e0, e1⟩ := ix_r3 t
  have e1 := e1 ht
  have hN : t.val < 11 := lt_of_lt_of_eq t.isLt (show cfg0.N = 11 from N_0)
  have ha : (at_ t r).val = 512 * t.val + r.val := rfl
  have e : (iblk m c 3 t : S4096x512.Idx → EReal) (ix2 R r)
      = V m c main_v20 (ix2 R ⟨512 * t.val + r.val - 3584, by omega⟩ : S4096x2048.Idx) := by
    show V m c main_v20 (((cfg0.win 3).blk t).view.emb (ix2 R r)) = _
    refine congrArg (V m c main_v20) (funext fun a => Fin.ext ?_)
    match a with
    | ⟨0, _⟩ => show win0_3.index t (0 : Fin 2) * 4096 + 1 * R.val = R.val; omega
    | ⟨1, _⟩ => show win0_3.index t (1 : Fin 2) * 512 + 1 * r.val = 512 * t.val + r.val - 3584; omega
  refine e.trans ((V_v20 m c R _).trans ?_)
  clear e
  unfold colsOf cols
  rw [dif_neg (show ¬(at_ t r).val < 2048 by omega), dif_neg (show ¬(at_ t r).val - 2048 < 1024 by omega),
    dif_neg (show ¬(at_ t r).val - 2048 - 1024 < 256 by omega), dif_neg (show ¬(at_ t r).val - 2048 - 1024 - 256 < 256 by omega)]
  by_cases h : 512 * t.val + r.val - 3584 < 1024
  · rw [dif_pos h, dif_pos (show (at_ t r).val - 2048 - 1024 - 256 - 256 < 1024 by omega)]
    refine congrArg (fun p => arg6 m c (ix2 R p)) (Fin.ext ?_)
    dsimp only
    omega
  · rw [dif_neg h, dif_neg (by omega)]
    refine congrArg (fun p => arg7 m c (ix2 R p)) (Fin.ext ?_)
    dsimp only
    omega

/-! ### The result array -/

/-- The gradient of the weights. -/
def G5 : S5632x1024.Idx → EReal := fun i =>
  grad (saved m c) (arg2 m c) (arg3 m c) (arg4 m c) (arg5 m c) (arg6 m c) (arg7 m c) (i 0) (i 1)

/-- Every row is a row of some grid point's block. -/
theorem exists_row (q : Fin 5632) : ∃ (t : Fin cfg0.N) (r : Fin 512), at_ t r = q :=
  ⟨⟨q.val / 512, by have hN : cfg0.N = 11 := N_0; omega⟩, ⟨q.val % 512, by omega⟩,
    Fin.ext (by show 512 * (q.val / 512) + q.val % 512 = q.val; omega)⟩

theorem left5 (r : Fin 512) (k : Fin 1024) : outsAt0 m c t.val t.isLt (ix2 r k) = G5 m c (ix2 (at_ t r) k) := by
  have hN : t.val < 11 := lt_of_lt_of_eq t.isLt (show cfg0.N = 11 from N_0)
  show _ = ∑ R : Fin 4096, colsOf m c R (at_ t r) * saved m c (ix2 R k)
  rcases (by omega : t.val < 4 ∨ (4 ≤ t.val ∧ t.val ≤ 5) ∨ t.val = 6 ∨ 7 ≤ t.val) with h | h | h | h
  · rw [outsAt0_A m c t (by omega) (by omega) (by omega) (by omega), out_A]
    refine (pay1_apply _ _ r k).trans (Finset.sum_congr rfl fun R _ => ?_)
    rw [blk0 m c t h, blk4]
  · rw [outsAt0_B m c t (by omega) (by omega) (by omega) (by omega), out_B]
    refine (pay2_apply _ _ r k).trans (Finset.sum_congr rfl fun R _ => ?_)
    rw [blk1 m c t h, blk4]
  · rw [outsAt0_C m c t (by omega) (by omega) (by omega) (by omega), out_C]
    refine (pay3_apply _ _ r k).trans (Finset.sum_congr rfl fun R _ => ?_)
    rw [blk2 m c t h, blk4]
  · rw [outsAt0_D m c t (by omega) (by omega) (by omega) (by omega), out_D]
    refine (pay4_apply _ _ r k).trans (Finset.sum_congr rfl fun R _ => ?_)
    rw [blk3 m c t h, blk4]

theorem emb5 (r : Fin 512) (k : Fin 1024) : ((cfg0.win 5).blk t).view.emb (ix2 r k) = (ix2 (at_ t r) k : S5632x1024.Idx) := by
  obtain ⟨e0, e1⟩ := ix_r5 t
  refine funext fun a => Fin.ext ?_
  match a with
  | ⟨0, _⟩ => show win0_5.index t (0 : Fin 2) * 512 + 1 * r.val = 512 * t.val + r.val; omega
  | ⟨1, _⟩ => show win0_5.index t (1 : Fin 2) * 1024 + 1 * k.val = k.val; omega

theorem final5 : (dats m 0 c).arrAt 5 cfg0.N = G5 m c := by
  refine (dats m 0 c).arrAt_eq_of_cover 5 (G5 m c) (fun t _ => ?_) (fun (i : S5632x1024.Idx) => ?_)
  · rw [flushed5]
    funext j
    have e : j = ix2 (n0 := 512) (n1 := 1024) (j 0) (j 1) := eq_ix2 j
    rw [e]
    exact (left5 m c t (j 0) (j 1)).trans (congrArg (G5 m c) (emb5 t (j 0) (j 1)).symm)
  · obtain ⟨t, r, h⟩ := exists_row (i 0)
    have e : ((cfg0.win 5).blk t).view.emb (ix2 r (i 1)) = i :=
      (emb5 t r (i 1)).trans (by rw [h]; exact (eq_ix2 i).symm)
    exact ⟨t, flush0_5 t, e ▸ View.emb_mem_set _ _⟩

end Cert.Grad

end
-- ==== Proof.Grad.Claim.lean ====
/- THE CALL `mix_dw_in`: what the reference computes, read at an index, and that the kernel and the reference agree. -/
module

public import proofs.«01_k».proof.Defs
public import proofs.«01_k».proof.Proof.Grad.Arrays
public import proofs.«01_k».proof.Proof.Gen.GradReferenceIdeal.Run
public import Idealize.ShloMosaic.Adequacy
public import Idealize.ShloMosaic.Init

@[expose] public section

noncomputable section

namespace Cert.Grad

open Idealize.ShloMosaic Idealize.SL.Sem

attribute [local instance] Cert.GradKernelIdeal.Gen.facts Cert.GradReferenceIdeal.Gen.facts

section Reference
open Cert.GradReferenceIdeal Cert.GradReferenceIdeal.Facts₀

variable (a0 : FVec Ideal S4096x1024 .f32) (a2 : FVec Ideal S4096x2048 .f32) (a3 : FVec Ideal S4096x1024 .f32)
  (a4 a5 : FVec Ideal S4096x256 .f32) (a6 a7 : FVec Ideal S4096x1024 .f32)

def vCols : FVec Ideal S4096x5632 .f32 := concatenate S4096x5632 1
  [⟨S4096x2048, a2⟩, ⟨S4096x1024, a3⟩, ⟨S4096x256, a4⟩, ⟨S4096x256, a5⟩, ⟨S4096x1024, a6⟩, ⟨S4096x1024, a7⟩]
  concatenates_S4096x2048_S4096x1024_S4096x256_S4096x256_S4096x1024_S4096x1024_S4096x5632_d1
def vGrad : FVec Ideal S5632x1024 .f32 :=
  Host.dotGeneral dot_S4096x5632_S4096x1024_S5632x1024_0_0_1_1_n_n none (vCols a2 a3 a4 a5 a6 a7) a0
def vOut : FVec Ideal S5632x1024 .bf16 := truncf .bf16 (transpose S5632x1024 [1, 0] (transpose S1024x5632 [1, 0] (vGrad a0 a2 a3 a4 a5 a6 a7)
  transposes_S5632x1024_S1024x5632_1_0 : FVec Ideal S1024x5632 .f32) transposes_S1024x5632_S5632x1024_1_0 : FVec Ideal S5632x1024 .f32) bitsLt_bf16_f32

theorem vCols_apply (R : Fin 4096) (q : Fin 5632) : vCols a2 a3 a4 a5 a6 a7 (ix2 R q) = cols a2 a3 a4 a5 a6 a7 R q := by
  pointwise [vCols, cols]

theorem vGrad_apply (q : Fin 5632) (k : Fin 1024) :
    vGrad a0 a2 a3 a4 a5 a6 a7 (ix2 q k) = grad a0 a2 a3 a4 a5 a6 a7 q k := by
  unfold grad
  simp only [← vCols_apply]
  pointwise [vGrad]

theorem vOut_apply (q : Fin 5632) (k : Fin 1024) :
    vOut a0 a2 a3 a4 a5 a6 a7 (ix2 q k) = grad a0 a2 a3 a4 a5 a6 a7 q k := by
  rw [← vGrad_apply]
  pointwise [vOut]

variable (m : (ℓ : Loc nD τ sig) → Buf (Elt Ideal) ℓ) (c : Dev nD)

abbrev inX : FVec Ideal S4096x1024 .f32 := m ((c.tc : Thread nD τ).loc main_arg0)
abbrev inG : FVec Ideal S1024 .f32 := m ((c.tc : Thread nD τ).loc main_arg1)
abbrev in2 : FVec Ideal S4096x2048 .f32 := m ((c.tc : Thread nD τ).loc main_arg3)
abbrev in3 : FVec Ideal S4096x1024 .f32 := m ((c.tc : Thread nD τ).loc main_arg4)
abbrev in4 : FVec Ideal S4096x256 .f32 := m ((c.tc : Thread nD τ).loc main_arg5)
abbrev in5 : FVec Ideal S4096x256 .f32 := m ((c.tc : Thread nD τ).loc main_arg6)
abbrev in6 : FVec Ideal S4096x1024 .f32 := m ((c.tc : Thread nD τ).loc main_arg7)
abbrev in7 : FVec Ideal S4096x1024 .f32 := m ((c.tc : Thread nD τ).loc main_arg8)

attribute [local instance] Cert.LastReferenceIdeal.Gen.facts

/-- The normalised rows. -/
abbrev inS : FVec Ideal S4096x1024 .f32 := Cert.Last.Reference.vNorm (inX m c) (inG m c)

/-- The reference's run, its result named by the stages. -/
theorem run_stages (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24) = vOut (inS m c) (in2 m c) (in3 m c) (in4 m c) (in5 m c) (in6 m c) (in7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run _ _ _).mono (fun r h c => ?_) (Value.run (F := Ideal) m ρ)
  obtain ⟨h0, hk⟩ := h c
  exact ⟨h0.trans rfl, hk⟩

end Reference

/-- The kernel and the reference end with the same array. -/
theorem algebraic : Cert.algebraic_GradKernelIdeal_GradReferenceIdeal := by
  intro m g m' g' _ hargs
  refine ⟨fun c => G5 m c, ?_, ?_⟩
  · refine (θ_run _ _ _).mono (fun r h c => ?_) (Cert.GradKernelIdeal.Value.run_blocks m g)
    obtain ⟨h5, hk⟩ := h c
    exact ⟨h5.trans (final5 m c), hk⟩
  · refine (θ_run _ _ _).mono (fun r h c => ?_) (run_stages m' g')
    obtain ⟨a0, a1, a2, a3, a4, a5, a6, a7, a8⟩ := hargs c
    obtain ⟨h5, hk⟩ := h c
    have bX : inX m' c = argX m c := a0
    have bG : inG m' c = argG m c := a1
    have b0 : inS m' c = saved m c := by show Cert.Last.Reference.vNorm _ _ = _; rw [bX, bG]; rfl
    have b2 : in2 m' c = arg2 m c := a3
    have b3 : in3 m' c = arg3 m c := a4
    have b4 : in4 m' c = arg4 m c := a5
    have b5 : in5 m' c = arg5 m c := a6
    have b6 : in6 m' c = arg6 m c := a7
    have b7 : in7 m' c = arg7 m c := a8
    rw [b0, b2, b3, b4, b5, b6, b7] at h5
    exact ⟨h5.trans (funext fun i => (congrArg _ (eq_ix2 i)).trans
      (vOut_apply (saved m c) (arg2 m c) (arg3 m c) (arg4 m c) (arg5 m c) (arg6 m c) (arg7 m c) (i 0) (i 1))), hk⟩

/-- The reference's frame: its run leaves the arguments unchanged, and it declares no semaphore. -/
theorem reference_frame : Cert.quiescent_GradReferenceIdeal := fun m ρ _ =>
  (θ_run Cert.GradReferenceIdeal.defs _ _).mono
    (fun r h => ⟨fun c => (h c).2, sem_eq_zero_of_no_sems (by decide) r.2⟩)
    (Cert.GradReferenceIdeal.Value.run (F := Ideal) m ρ)

end Cert.Grad

end
-- ==== Proof.Merge.Block.lean ====
/- WHAT ONE BLOCK OF 512 ROWS of the merge COMPUTES: the two branches' projections, the second from a block that is held
   transposed, their sum weighted by the logistic function of the gates, and the residual rows plus the sum's projection. -/
module

public import proofs.«01_k».proof.Proof.Gate.Block
public import proofs.«01_k».proof.Proof.Last.Rows
public import proofs.«01_k».proof.Proof.Gen.MergeKernelIdeal.Frame
public import Idealize.ShloMosaic.Lib.Pipeline.Value
public import Idealize.ShloMosaic.Lib.Pipeline.ValueKit.Tiles

@[expose] public section

noncomputable section

namespace Cert.Merge

open Idealize.ShloMosaic Cert.MergeKernelIdeal Cert.MergeKernelIdeal.Gen Cert.Ffn
open Cert.Last (row)
open Cert.Gate (lo hi hz half_word halfTanh_eq)

/-- One row of the merged branches. -/
def mix (z o : Fin 1024 → EReal) (g : Fin 2048 → EReal) (wp wo : Fin 1024 → Fin 1024 → EReal) (k : Fin 1024) : EReal :=
  Ideal.logistic (g (lo k)) * lin z wp k + Ideal.logistic (g (hi k)) * lin o wo k

/-- One row of the residual stream after the merge. -/
def next (z o : Fin 1024 → EReal) (g : Fin 2048 → EReal) (x : Fin 1024 → EReal) (wp wo wout : Fin 1024 → Fin 1024 → EReal)
    (k : Fin 1024) : EReal :=
  x k + lin (mix z o g wp wo) wout k

section Block
variable (x0 : Vec Ideal S512x1024 .bf16) (x1 : Vec Ideal S1024x512 .bf16) (x2 : Vec Ideal S512x2048 .bf16)
  (x3 : Vec Ideal S512x1024 .f32) (x4 x5 x6 : Vec Ideal S1024x1024 .bf16)

/-- A row of the second branch, a column of its block. -/
abbrev col (r : Fin 512) (k : Fin 1024) : EReal := x1 (ix2 k r)

theorem pay3_apply (r : Fin 512) (k : Fin 1024) : k0_pay3 x0 x4 (ix2 r k) = lin (row x0 r) (row x4) k := by
  pointwise [k0_pay3, lin, row]

theorem pay4_apply (r : Fin 512) (k : Fin 1024) : k0_pay4 x1 x5 (ix2 r k) = lin (col x1 r) (row x5) k := by
  pointwise [k0_pay4, lin, row, col]

/-- A load of the left half of the gates' block. -/
theorem ld_lo (r : Fin 512) (k : Fin 1024) : View.ld x2 r0_3 (ix2 r k) = x2 (ix2 r (lo k)) :=
  View.ld_unit_apply_of _ _ _ _ _ _ fun a => by
    match a with
    | ⟨0, _⟩ => show r.val = 0 + r.val; omega
    | ⟨1, _⟩ => show k.val = 0 + k.val; omega

/-- A load of the right half of the gates' block. -/
theorem ld_hi (r : Fin 512) (k : Fin 1024) : View.ld x2 r0_4 (ix2 r k) = x2 (ix2 r (hi k)) :=
  View.ld_unit_apply_of _ _ _ _ _ _ fun a => by
    match a with
    | ⟨0, _⟩ => show r.val = 0 + r.val; omega
    | ⟨1, _⟩ => show 1024 + k.val = 1024 + k.val; rfl

theorem pay7_apply (v : Vec Ideal S512x1024 .bf16) (r : Fin 512) (k : Fin 1024) :
    k0_pay7 x0 x4 v (ix2 r k) = Ideal.logistic (v (ix2 r k)) * lin (row x0 r) (row x4) k := by
  rw [← pay3_apply, ← halfTanh_eq]; pointwise [k0_pay7, half_word]

/-- The merged rows, from the values that the body has named. -/
theorem mix_apply (r : Fin 512) (k : Fin 1024) :
    k0_pay1 (k0_pay9 x0 x1 x2 x3 x4 x5 x6) (k0_pay10 x0 x1 x2 x3 x4 x5 x6) (k0_pay11 x0 x1 x2 x3 x4 x5 x6)
      (Scalar.ofBits .f32 0x3F000000#32) (ix2 r k) = mix (row x0 r) (col x1 r) (row x2 r) (row x4) (row x5) k := by
  unfold k0_pay9 k0_pay10 k0_pay11 mix
  rw [View.ld_unit_zero hz, View.ld_unit_zero hz, View.ld_unit_zero hz, View.ld_unit_zero hz]
  rw [show row x2 r (lo k) = View.ld x2 r0_3 (ix2 r k) from (ld_lo x2 r k).symm,
    show row x2 r (hi k) = View.ld x2 r0_4 (ix2 r k) from (ld_hi x2 r k).symm, ← pay7_apply, ← pay4_apply, ← halfTanh_eq]
  pointwise [k0_pay1, k0_pay8, half_word]

theorem out7_apply (r : Fin 512) (k : Fin 1024) : out0_7 x0 x1 x2 x3 x4 x5 x6 (ix2 r k)
    = next (row x0 r) (col x1 r) (row x2 r) (row x3 r) (row x4) (row x5) (row x6) k := by
  unfold out0_7 next lin
  rw [View.canon_unit_zero hz, View.ld_unit_zero (S := S512x1024) hz, View.ld_unit_zero (S := S1024x1024) hz]
  simp only [← mix_apply x0 x1 x2 x3 x4 x5 x6]
  pointwise [k0_pay2, row]

theorem out8_apply (r : Fin 512) (k : Fin 1024) :
    out0_8 x0 x1 x2 x3 x4 x5 x6 (ix2 r k) = lin (row x0 r) (row x4) k := by
  unfold out0_8
  rw [View.canon_unit_zero hz, View.ld_unit_zero hz, View.ld_unit_zero hz, ← pay3_apply]
  pointwise [k0_pay5]

theorem out9_apply (r : Fin 512) (k : Fin 1024) :
    out0_9 x0 x1 x2 x3 x4 x5 x6 (ix2 r k) = lin (col x1 r) (row x5) k := by
  unfold out0_9
  rw [View.canon_unit_zero hz, View.ld_unit_zero hz, View.ld_unit_zero hz, ← pay4_apply]
  pointwise [k0_pay6]

theorem out10_apply (r : Fin 512) (k : Fin 1024) : out0_10 x0 x1 x2 x3 x4 x5 x6 (ix2 r k)
    = mix (row x0 r) (col x1 r) (row x2 r) (row x4) (row x5) k := by
  unfold out0_10
  rw [View.canon_unit_zero hz, mix_apply]

end Block

end Cert.Merge

end
-- ==== Proof.Merge.Arrays.lean ====
/- WHAT THE FOUR RESULT ARRAYS of the merge HOLD after the kernel's run, index by index, as functions of the arguments. Grid point
   `t` reads rows `512 t … 512 t + 511` of the convolution branch, of the gates and of the residual stream, the same columns of the
   attention branch transposed, and the three matrices whole; it writes the same rows of every result. -/
module

public import proofs.«01_k».proof.Proof.Merge.Block
public import proofs.«01_k».proof.Proof.Gen.MergeKernelIdeal.Value

@[expose] public section

noncomputable section

namespace Cert.Merge

open Idealize.ShloMosaic Idealize.ShloMosaic.TcCoe Idealize.SL.Sem Cert.MergeKernelIdeal Cert.MergeKernelIdeal.Gen
  Cert.MergeKernelIdeal.Value Cert.Ffn
open Cert.Last (row)

variable (m : (ℓ : Loc nD τ sig) → Buf (Elt Ideal) ℓ) (c : Dev nD)

/-! ### The arguments -/

abbrev argZ : Vec Ideal S4096x1024 .f32 := m ((c : Thread nD τ).loc main_arg0)
abbrev argO : Vec Ideal S4096x1024 .f32 := m ((c : Thread nD τ).loc main_arg1)
abbrev argG : Vec Ideal S4096x2048 .f32 := m ((c : Thread nD τ).loc main_arg2)
abbrev argX : Vec Ideal S4096x1024 .f32 := m ((c : Thread nD τ).loc main_arg3)
abbrev argWp : Vec Ideal S1024x1024 .f32 := m ((c : Thread nD τ).loc main_arg4)
abbrev argWo : Vec Ideal S1024x1024 .f32 := m ((c : Thread nD τ).loc main_arg5)
abbrev argWout : Vec Ideal S1024x1024 .f32 := m ((c : Thread nD τ).loc main_arg6)

theorem V_v0 (r : Fin 4096) (k : Fin 1024) : (V m c main_v0 : S4096x1024.Idx → EReal) (ix2 r k) = argZ m c (ix2 r k) := by
  have e : V m c main_v0 = (truncf .bf16 (argZ m c) bitsLt_bf16_f32 : FVec Ideal S4096x1024 .bf16) := by
    unfold V; after_results_simp
  rw [e]; rfl

theorem V_v3 (r : Fin 4096) (k : Fin 2048) : (V m c main_v3 : S4096x2048.Idx → EReal) (ix2 r k) = argG m c (ix2 r k) := by
  have e : V m c main_v3 = (truncf .bf16 (argG m c) bitsLt_bf16_f32 : FVec Ideal S4096x2048 .bf16) := by
    unfold V; after_results_simp
  rw [e]; rfl

theorem V_v4 (r : Fin 1024) (k : Fin 1024) : (V m c main_v4 : S1024x1024.Idx → EReal) (ix2 r k) = argWp m c (ix2 r k) := by
  have e : V m c main_v4 = (truncf .bf16 (argWp m c) bitsLt_bf16_f32 : FVec Ideal S1024x1024 .bf16) := by
    unfold V; after_results_simp
  rw [e]; rfl

theorem V_v5 (r : Fin 1024) (k : Fin 1024) : (V m c main_v5 : S1024x1024.Idx → EReal) (ix2 r k) = argWo m c (ix2 r k) := by
  have e : V m c main_v5 = (truncf .bf16 (argWo m c) bitsLt_bf16_f32 : FVec Ideal S1024x1024 .bf16) := by
    unfold V; after_results_simp
  rw [e]; rfl

theorem V_v6 (r : Fin 1024) (k : Fin 1024) : (V m c main_v6 : S1024x1024.Idx → EReal) (ix2 r k) = argWout m c (ix2 r k) := by
  have e : V m c main_v6 = (truncf .bf16 (argWout m c) bitsLt_bf16_f32 : FVec Ideal S1024x1024 .bf16) := by
    unfold V; after_results_simp
  rw [e]; rfl

theorem V_v2 (k : Fin 1024) (r : Fin 4096) : (V m c main_v2 : S1024x4096.Idx → EReal) (ix2 k r) = argO m c (ix2 r k) := by
  have e : V m c main_v2 = (truncf .bf16 (transpose S1024x4096 [1, 0] (argO m c) transposes_S4096x1024_S1024x4096_1_0 : FVec Ideal S1024x4096 .f32)
      bitsLt_bf16_f32 : FVec Ideal S1024x4096 .bf16) := by
    unfold V; after_results_simp
  rw [e]; pointwise

/-! ### Which rows a grid point's blocks are -/

/-- Row `r` of grid point `t`'s block. -/
def at_ (t : Fin cfg0.N) (r : Fin 512) : Fin 4096 :=
  ⟨512 * t.val + r.val, by have := t.isLt; have hN : cfg0.N = 8 := N_0; omega⟩

theorem ix_r0 : ∀ t : Fin cfg0.N, win0_0.index t (0 : Fin 2) = t.val ∧ win0_0.index t (1 : Fin 2) = 0 :=
  (by decide +kernel : ∀ t : Fin grid0.N, _)
theorem ix_r1 : ∀ t : Fin cfg0.N, win0_1.index t (0 : Fin 2) = 0 ∧ win0_1.index t (1 : Fin 2) = t.val :=
  (by decide +kernel : ∀ t : Fin grid0.N, _)
theorem ix_r2 : ∀ t : Fin cfg0.N, win0_2.index t (0 : Fin 2) = t.val ∧ win0_2.index t (1 : Fin 2) = 0 :=
  (by decide +kernel : ∀ t : Fin grid0.N, _)
theorem ix_r3 : ∀ t : Fin cfg0.N, win0_3.index t (0 : Fin 2) = t.val ∧ win0_3.index t (1 : Fin 2) = 0 :=
  (by decide +kernel : ∀ t : Fin grid0.N, _)
theorem ix_r4 : ∀ t : Fin cfg0.N, win0_4.index t (0 : Fin 2) = 0 ∧ win0_4.index t (1 : Fin 2) = 0 :=
  (by decide +kernel : ∀ t : Fin grid0.N, _)
theorem ix_r5 : ∀ t : Fin cfg0.N, win0_5.index t (0 : Fin 2) = 0 ∧ win0_5.index t (1 : Fin 2) = 0 :=
  (by decide +kernel : ∀ t : Fin grid0.N, _)
theorem ix_r6 : ∀ t : Fin cfg0.N, win0_6.index t (0 : Fin 2) = 0 ∧ win0_6.index t (1 : Fin 2) = 0 :=
  (by decide +kernel : ∀ t : Fin grid0.N, _)
theorem ix_r7 : ∀ t : Fin cfg0.N, win0_7.index t (0 : Fin 2) = t.val ∧ win0_7.index t (1 : Fin 2) = 0 :=
  (by decide +kernel : ∀ t : Fin grid0.N, _)
theorem ix_r8 : ∀ t : Fin cfg0.N, win0_8.index t (0 : Fin 2) = t.val ∧ win0_8.index t (1 : Fin 2) = 0 :=
  (by decide +kernel : ∀ t : Fin grid0.N, _)
theorem ix_r9 : ∀ t : Fin cfg0.N, win0_9.index t (0 : Fin 2) = t.val ∧ win0_9.index t (1 : Fin 2) = 0 :=
  (by decide +kernel : ∀ t : Fin grid0.N, _)
theorem ix_r10 : ∀ t : Fin cfg0.N, win0_10.index t (0 : Fin 2) = t.val ∧ win0_10.index t (1 : Fin 2) = 0 :=
  (by decide +kernel : ∀ t : Fin grid0.N, _)

/-! ### The input blocks -/

variable (t : Fin cfg0.N)

theorem blk0 (r : Fin 512) : row (iblk m c 0 t : S512x1024.Idx → EReal) r = row (argZ m c) (at_ t r) := by
  obtain ⟨e0, e1⟩ := ix_r0 t
  funext k
  refine Eq.trans ?_ (V_v0 m c (at_ t r) k)
  show V m c main_v0 (((cfg0.win 0).blk t).view.emb (ix2 r k)) = _
  refine congrArg (V m c main_v0) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

theorem blk2 (r : Fin 512) : row (iblk m c 2 t : S512x2048.Idx → EReal) r = row (argG m c) (at_ t r) := by
  obtain ⟨e0, e1⟩ := ix_r2 t
  funext k
  refine Eq.trans ?_ (V_v3 m c (at_ t r) k)
  show V m c main_v3 (((cfg0.win 2).blk t).view.emb (ix2 r k)) = _
  refine congrArg (V m c main_v3) (funext fun a => Fin.ext ?_)
  match a with
  | ⟨0, _⟩ => show win0_2.index t (0 : Fin 2) * 512 + 1 * r.val = 512 * t.val + r.val; omega
  | ⟨1, _⟩ => show win0_2.index t (1 : Fin 2) * 2048 + 1 * k.val = k.val; omega

theorem blk1 (r : Fin 512) : col (iblk m c 1 t : S1024x512.Idx → EReal) r = row (argO m c) (at_ t r) := by
  obtain ⟨e0, e1⟩ := ix_r1 t
  funext k
  refine Eq.trans ?_ (V_v2 m c k (at_ t r))
  show V m c main_v2 (((cfg0.win 1).blk t).view.emb (ix2 k r)) = _
  refine congrArg (V m c main_v2) (funext fun a => Fin.ext ?_)
  match a with
  | ⟨0, _⟩ => show win0_1.index t (0 : Fin 2) * 1024 + 1 * k.val = k.val; omega
  | ⟨1, _⟩ => show win0_1.index t (1 : Fin 2) * 512 + 1 * r.val = 512 * t.val + r.val; omega

theorem blk3 (r : Fin 512) : row (iblk m c 3 t : S512x1024.Idx → EReal) r = row (argX m c) (at_ t r) := by
  obtain ⟨e0, e1⟩ := ix_r3 t
  funext k
  show V m c main_arg3 (((cfg0.win 3).blk t).view.emb (ix2 r k)) = _
  rw [V_main_arg3]
  refine congrArg (argX m c) (funext fun a => Fin.ext ?_)
  match a with
  | ⟨0, _⟩ => show win0_3.index t (0 : Fin 2) * 512 + 1 * r.val = 512 * t.val + r.val; omega
  | ⟨1, _⟩ => show win0_3.index t (1 : Fin 2) * 1024 + 1 * k.val = k.val; omega

theorem blk4 : row (iblk m c 4 t : S1024x1024.Idx → EReal) = row (argWp m c) := by
  obtain ⟨e0, e1⟩ := ix_r4 t
  funext r k
  refine Eq.trans ?_ (V_v4 m c r k)
  show V m c main_v4 (((cfg0.win 4).blk t).view.emb (ix2 r k)) = _
  refine congrArg (V m c main_v4) (funext fun a => Fin.ext ?_)
  match a with
  | ⟨0, _⟩ => show win0_4.index t (0 : Fin 2) * 1024 + 1 * r.val = r.val; omega
  | ⟨1, _⟩ => show win0_4.index t (1 : Fin 2) * 1024 + 1 * k.val = k.val; omega

theorem blk5 : row (iblk m c 5 t : S1024x1024.Idx → EReal) = row (argWo m c) := by
  obtain ⟨e0, e1⟩ := ix_r5 t
  funext r k
  refine Eq.trans ?_ (V_v5 m c r k)
  show V m c main_v5 (((cfg0.win 5).blk t).view.emb (ix2 r k)) = _
  refine congrArg (V m c main_v5) (funext fun a => Fin.ext ?_)
  match a with
  | ⟨0, _⟩ => show win0_5.index t (0 : Fin 2) * 1024 + 1 * r.val = r.val; omega
  | ⟨1, _⟩ => show win0_5.index t (1 : Fin 2) * 1024 + 1 * k.val = k.val; omega

theorem blk6 : row (iblk m c 6 t : S1024x1024.Idx → EReal) = row (argWout m c) := by
  obtain ⟨e0, e1⟩ := ix_r6 t
  funext r k
  refine Eq.trans ?_ (V_v6 m c r k)
  show V m c main_v6 (((cfg0.win 6).blk t).view.emb (ix2 r k)) = _
  refine congrArg (V m c main_v6) (funext fun a => Fin.ext ?_)
  match a with
  | ⟨0, _⟩ => show win0_6.index t (0 : Fin 2) * 1024 + 1 * r.val = r.val; omega
  | ⟨1, _⟩ => show win0_6.index t (1 : Fin 2) * 1024 + 1 * k.val = k.val; omega

/-! ### The result arrays -/

/-- The residual stream after the merge. -/
def G7 : S4096x1024.Idx → EReal := fun i => next (row (argZ m c) (i 0)) (row (argO m c) (i 0)) (row (argG m c) (i 0))
  (row (argX m c) (i 0)) (row (argWp m c)) (row (argWo m c)) (row (argWout m c)) (i 1)
/-- The convolution branch. -/
def G8 : S4096x1024.Idx → EReal := fun i => lin (row (argZ m c) (i 0)) (row (argWp m c)) (i 1)
/-- The attention branch. -/
def G9 : S4096x1024.Idx → EReal := fun i => lin (row (argO m c) (i 0)) (row (argWo m c)) (i 1)
/-- The merged branches. -/
def G10 : S4096x1024.Idx → EReal := fun i => mix (row (argZ m c) (i 0)) (row (argO m c) (i 0)) (row (argG m c) (i 0))
  (row (argWp m c)) (row (argWo m c)) (i 1)

/-- Every row is a row of some grid point's block. -/
theorem exists_row (R : Fin 4096) : ∃ (t : Fin cfg0.N) (r : Fin 512), at_ t r = R :=
  ⟨⟨R.val / 512, by have hN : cfg0.N = 8 := N_0; omega⟩, ⟨R.val % 512, by omega⟩,
    Fin.ext (by show 512 * (R.val / 512) + R.val % 512 = R.val; omega)⟩

theorem blkOut7 (r : Fin 512) (k : Fin 1024) :
    out0_7 (iblk m c 0 t) (iblk m c 1 t) (iblk m c 2 t) (iblk m c 3 t) (iblk m c 4 t) (iblk m c 5 t) (iblk m c 6 t) (ix2 r k) = G7 m c (ix2 (at_ t r) k) :=
  (out7_apply _ _ _ _ _ _ _ r k).trans (by rw [blk0, blk1, blk2, blk3, blk4, blk5, blk6]; rfl)

theorem emb7 (r : Fin 512) (k : Fin 1024) : ((cfg0.win 7).blk t).view.emb (ix2 r k) = (ix2 (at_ t r) k : S4096x1024.Idx) := by
  obtain ⟨e0, e1⟩ := ix_r7 t
  refine funext fun a => Fin.ext ?_
  match a with
  | ⟨0, _⟩ => show win0_7.index t (0 : Fin 2) * 512 + 1 * r.val = 512 * t.val + r.val; omega
  | ⟨1, _⟩ => show win0_7.index t (1 : Fin 2) * 1024 + 1 * k.val = k.val; omega

theorem final7 : (dats m 0 c).arrAt 7 cfg0.N = G7 m c := by
  refine (dats m 0 c).arrAt_eq_of_cover 7 (G7 m c) (fun t _ => ?_) (fun (i : S4096x1024.Idx) => ?_)
  · rw [flushed7]
    funext j
    have e : j = ix2 (n0 := 512) (n1 := 1024) (j 0) (j 1) := eq_ix2 j
    rw [e]
    exact (blkOut7 m c t (j 0) (j 1)).trans (congrArg (G7 m c) (emb7 t (j 0) (j 1)).symm)
  · obtain ⟨t, r, h⟩ := exists_row (i 0)
    have e : ((cfg0.win 7).blk t).view.emb (ix2 r (i 1)) = i :=
      (emb7 t r (i 1)).trans (by rw [h]; exact (eq_ix2 i).symm)
    exact ⟨t, flush0_7 t, e ▸ View.emb_mem_set _ _⟩

theorem blkOut8 (r : Fin 512) (k : Fin 1024) :
    out0_8 (iblk m c 0 t) (iblk m c 1 t) (iblk m c 2 t) (iblk m c 3 t) (iblk m c 4 t) (iblk m c 5 t) (iblk m c 6 t) (ix2 r k) = G8 m c (ix2 (at_ t r) k) :=
  (out8_apply _ _ _ _ _ _ _ r k).trans (by rw [blk0, blk4]; rfl)

theorem emb8 (r : Fin 512) (k : Fin 1024) : ((cfg0.win 8).blk t).view.emb (ix2 r k) = (ix2 (at_ t r) k : S4096x1024.Idx) := by
  obtain ⟨e0, e1⟩ := ix_r8 t
  refine funext fun a => Fin.ext ?_
  match a with
  | ⟨0, _⟩ => show win0_8.index t (0 : Fin 2) * 512 + 1 * r.val = 512 * t.val + r.val; omega
  | ⟨1, _⟩ => show win0_8.index t (1 : Fin 2) * 1024 + 1 * k.val = k.val; omega

theorem final8 : (dats m 0 c).arrAt 8 cfg0.N = G8 m c := by
  refine (dats m 0 c).arrAt_eq_of_cover 8 (G8 m c) (fun t _ => ?_) (fun (i : S4096x1024.Idx) => ?_)
  · rw [flushed8]
    funext j
    have e : j = ix2 (n0 := 512) (n1 := 1024) (j 0) (j 1) := eq_ix2 j
    rw [e]
    exact (blkOut8 m c t (j 0) (j 1)).trans (congrArg (G8 m c) (emb8 t (j 0) (j 1)).symm)
  · obtain ⟨t, r, h⟩ := exists_row (i 0)
    have e : ((cfg0.win 8).blk t).view.emb (ix2 r (i 1)) = i :=
      (emb8 t r (i 1)).trans (by rw [h]; exact (eq_ix2 i).symm)
    exact ⟨t, flush0_8 t, e ▸ View.emb_mem_set _ _⟩

theorem blkOut9 (r : Fin 512) (k : Fin 1024) :
    out0_9 (iblk m c 0 t) (iblk m c 1 t) (iblk m c 2 t) (iblk m c 3 t) (iblk m c 4 t) (iblk m c 5 t) (iblk m c 6 t) (ix2 r k) = G9 m c (ix2 (at_ t r) k) :=
  (out9_apply _ _ _ _ _ _ _ r k).trans (by rw [blk1, blk5]; rfl)

theorem emb9 (r : Fin 512) (k : Fin 1024) : ((cfg0.win 9).blk t).view.emb (ix2 r k) = (ix2 (at_ t r) k : S4096x1024.Idx) := by
  obtain ⟨e0, e1⟩ := ix_r9 t
  refine funext fun a => Fin.ext ?_
  match a with
  | ⟨0, _⟩ => show win0_9.index t (0 : Fin 2) * 512 + 1 * r.val = 512 * t.val + r.val; omega
  | ⟨1, _⟩ => show win0_9.index t (1 : Fin 2) * 1024 + 1 * k.val = k.val; omega

theorem final9 : (dats m 0 c).arrAt 9 cfg0.N = G9 m c := by
  refine (dats m 0 c).arrAt_eq_of_cover 9 (G9 m c) (fun t _ => ?_) (fun (i : S4096x1024.Idx) => ?_)
  · rw [flushed9]
    funext j
    have e : j = ix2 (n0 := 512) (n1 := 1024) (j 0) (j 1) := eq_ix2 j
    rw [e]
    exact (blkOut9 m c t (j 0) (j 1)).trans (congrArg (G9 m c) (emb9 t (j 0) (j 1)).symm)
  · obtain ⟨t, r, h⟩ := exists_row (i 0)
    have e : ((cfg0.win 9).blk t).view.emb (ix2 r (i 1)) = i :=
      (emb9 t r (i 1)).trans (by rw [h]; exact (eq_ix2 i).symm)
    exact ⟨t, flush0_9 t, e ▸ View.emb_mem_set _ _⟩

theorem blkOut10 (r : Fin 512) (k : Fin 1024) :
    out0_10 (iblk m c 0 t) (iblk m c 1 t) (iblk m c 2 t) (iblk m c 3 t) (iblk m c 4 t) (iblk m c 5 t) (iblk m c 6 t) (ix2 r k) = G10 m c (ix2 (at_ t r) k) :=
  (out10_apply _ _ _ _ _ _ _ r k).trans (by rw [blk0, blk1, blk2, blk4, blk5]; rfl)

theorem emb10 (r : Fin 512) (k : Fin 1024) : ((cfg0.win 10).blk t).view.emb (ix2 r k) = (ix2 (at_ t r) k : S4096x1024.Idx) := by
  obtain ⟨e0, e1⟩ := ix_r10 t
  refine funext fun a => Fin.ext ?_
  match a with
  | ⟨0, _⟩ => show win0_10.index t (0 : Fin 2) * 512 + 1 * r.val = 512 * t.val + r.val; omega
  | ⟨1, _⟩ => show win0_10.index t (1 : Fin 2) * 1024 + 1 * k.val = k.val; omega

theorem final10 : (dats m 0 c).arrAt 10 cfg0.N = G10 m c := by
  refine (dats m 0 c).arrAt_eq_of_cover 10 (G10 m c) (fun t _ => ?_) (fun (i : S4096x1024.Idx) => ?_)
  · rw [flushed10]
    funext j
    have e : j = ix2 (n0 := 512) (n1 := 1024) (j 0) (j 1) := eq_ix2 j
    rw [e]
    exact (blkOut10 m c t (j 0) (j 1)).trans (congrArg (G10 m c) (emb10 t (j 0) (j 1)).symm)
  · obtain ⟨t, r, h⟩ := exists_row (i 0)
    have e : ((cfg0.win 10).blk t).view.emb (ix2 r (i 1)) = i :=
      (emb10 t r (i 1)).trans (by rw [h]; exact (eq_ix2 i).symm)
    exact ⟨t, flush0_10 t, e ▸ View.emb_mem_set _ _⟩

end Cert.Merge

end
-- ==== Proof.Merge.Claim.lean ====
/- THE CALL `mix_out`: what the reference computes, read at an index, and that the kernel and the reference agree. -/
module

public import proofs.«01_k».proof.Defs
public import proofs.«01_k».proof.Proof.Merge.Arrays
public import proofs.«01_k».proof.Proof.Gate.Reference
public import proofs.«01_k».proof.Proof.Gen.MergeReferenceIdeal.Run
public import Idealize.ShloMosaic.Adequacy
public import Idealize.ShloMosaic.Init

@[expose] public section

noncomputable section

namespace Cert.Merge

open Idealize.ShloMosaic Idealize.SL.Sem Cert.Ffn
open Cert.Last (row)
open Cert.Gate.Reference (sigLo sigHi proj sigLo_apply sigHi_apply)

attribute [local instance] Cert.MergeKernelIdeal.Gen.facts Cert.MergeReferenceIdeal.Gen.facts Cert.GateReferenceIdeal.Gen.facts

section Reference
open Cert.MergeReferenceIdeal Cert.MergeReferenceIdeal.Facts₀

variable (z o x : FVec Ideal S4096x1024 .f32) (g : FVec Ideal S4096x2048 .f32) (wp wo wout : FVec Ideal S1024x1024 .f32)

def vMix : FVec Ideal S4096x1024 .f32 := addf (mulf (sigLo g) (proj z wp)) (mulf (sigHi g) (proj o wo))
def vNext : FVec Ideal S4096x1024 .f32 := addf x (proj (vMix z o g wp wo) wout)

theorem proj_apply (v : FVec Ideal S4096x1024 .f32) (w : FVec Ideal S1024x1024 .f32) (r : Fin 4096) (k : Fin 1024) :
    proj v w (ix2 r k) = lin (row v r) (row w) k := by
  pointwise [proj, lin, row]

theorem vMix_apply (r : Fin 4096) (k : Fin 1024) :
    vMix z o g wp wo (ix2 r k) = mix (row z r) (row o r) (row g r) (row wp) (row wo) k := by
  unfold mix
  rw [← proj_apply, ← proj_apply, show row g r (Cert.Gate.lo k) = g (ix2 r (Cert.Gate.lo k)) from rfl,
    show row g r (Cert.Gate.hi k) = g (ix2 r (Cert.Gate.hi k)) from rfl, ← sigLo_apply, ← sigHi_apply]
  unfold vMix
  generalize proj z wp = a
  generalize proj o wo = b
  generalize sigLo g = s
  generalize sigHi g = s'
  rfl

theorem vNext_apply (r : Fin 4096) (k : Fin 1024) :
    vNext z o x g wp wo wout (ix2 r k) = next (row z r) (row o r) (row g r) (row x r) (row wp) (row wo) (row wout) k := by
  have h : row (vMix z o g wp wo) r = mix (row z r) (row o r) (row g r) (row wp) (row wo) := funext fun j => vMix_apply z o g wp wo r j
  unfold next
  rw [← h, ← proj_apply]
  rfl

variable (m : (ℓ : Loc nD τ sig) → Buf (Elt Ideal) ℓ) (c : Dev nD)

abbrev inZ : FVec Ideal S4096x1024 .f32 := m ((c.tc : Thread nD τ).loc main_arg0)
abbrev inO : FVec Ideal S4096x1024 .f32 := m ((c.tc : Thread nD τ).loc main_arg1)
abbrev inG : FVec Ideal S4096x2048 .f32 := m ((c.tc : Thread nD τ).loc main_arg2)
abbrev inX : FVec Ideal S4096x1024 .f32 := m ((c.tc : Thread nD τ).loc main_arg3)
abbrev inWp : FVec Ideal S1024x1024 .f32 := m ((c.tc : Thread nD τ).loc main_arg4)
abbrev inWo : FVec Ideal S1024x1024 .f32 := m ((c.tc : Thread nD τ).loc main_arg5)
abbrev inWout : FVec Ideal S1024x1024 .f32 := m ((c.tc : Thread nD τ).loc main_arg6)

/-- The reference's run, its results named by the stages. -/
theorem run_stages (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20)
        = vNext (inZ m c) (inO m c) (inX m c) (inG m c) (inWp m c) (inWo m c) (inWout m c)
      ∧ r.2.mem ((c.tc : Thread nD τ).loc main_v21) = proj (inZ m c) (inWp m c)
      ∧ r.2.mem ((c.tc : Thread nD τ).loc main_v22) = proj (inO m c) (inWo m c)
      ∧ r.2.mem ((c.tc : Thread nD τ).loc main_v23) = vMix (inZ m c) (inO m c) (inG m c) (inWp m c) (inWo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r h c => ?_) (Value.run (F := Ideal) m ρ)
  obtain ⟨h0, h1, h2, h3, hk⟩ := h c
  exact ⟨h0.trans rfl, h1.trans rfl, h2.trans rfl, h3.trans rfl, hk⟩

end Reference

/-- The kernel and the reference end with the same four arrays. -/
theorem algebraic : Cert.algebraic_MergeKernelIdeal_MergeReferenceIdeal := by
  intro m g m' g' _ hargs
  refine ⟨fun c => G7 m c, fun c => G8 m c, fun c => G9 m c, fun c => G10 m c, ?_, ?_⟩
  · refine (θ_run _ _ _).mono (fun r h c => ?_) (Cert.MergeKernelIdeal.Value.run_blocks m g)
    obtain ⟨h7, h8, h9, h10, hk⟩ := h c
    exact ⟨h7.trans (final7 m c), h8.trans (final8 m c), h9.trans (final9 m c), h10.trans (final10 m c), hk⟩
  · refine (θ_run _ _ _).mono (fun r h c => ?_) (run_stages m' g')
    obtain ⟨a0, a1, a2, a3, a4, a5, a6⟩ := hargs c
    obtain ⟨h7, h8, h9, h10, hk⟩ := h c
    have b0 : inZ m' c = argZ m c := a0
    have b1 : inO m' c = argO m c := a1
    have b2 : inG m' c = argG m c := a2
    have b3 : inX m' c = argX m c := a3
    have b4 : inWp m' c = argWp m c := a4
    have b5 : inWo m' c = argWo m c := a5
    have b6 : inWout m' c = argWout m c := a6
    rw [b0, b1, b2, b3, b4, b5, b6] at h7
    rw [b0, b4] at h8
    rw [b1, b5] at h9
    rw [b0, b1, b2, b4, b5] at h10
    exact ⟨h7.trans (funext fun i => (congrArg _ (eq_ix2 i)).trans (vNext_apply (argZ m c) (argO m c) (argX m c) (argG m c) (argWp m c) (argWo m c) (argWout m c) (i 0) (i 1))),
      h8.trans (funext fun i => (congrArg _ (eq_ix2 i)).trans (proj_apply (argZ m c) (argWp m c) (i 0) (i 1))),
      h9.trans (funext fun i => (congrArg _ (eq_ix2 i)).trans (proj_apply (argO m c) (argWo m c) (i 0) (i 1))),
      h10.trans (funext fun i => (congrArg _ (eq_ix2 i)).trans (vMix_apply (argZ m c) (argO m c) (argG m c) (argWp m c) (argWo m c) (i 0) (i 1))), hk⟩

/-- The reference's frame: its run leaves the arguments unchanged, and it declares no semaphore. -/
theorem reference_frame : Cert.quiescent_MergeReferenceIdeal := fun m ρ _ =>
  (θ_run Cert.MergeReferenceIdeal.defs _ _).mono
    (fun r h => ⟨fun c => (h c).2.2.2.2, sem_eq_zero_of_no_sems (by decide) r.2⟩)
    (Cert.MergeReferenceIdeal.Value.run (F := Ideal) m ρ)

end Cert.Merge

end
-- ==== Proof.Mix.Rows.lean ====
/- ONE HEAD'S KEY AND ITS GRADIENT: the 64 features of a key, their mean square and its reciprocal root, and the gradient that
   passes through the key's normalisation, in the form a block computes and in the form the derivative gives; they agree at
   all values (`headGrad_eq`; `rowGrad_eq` says it of a token's row). -/
module

public import proofs.«01_k».proof.Proof.Ffn.Finite

@[expose] public section

noncomputable section

namespace Cert.Mix

open Idealize.ShloMosaic Cert.Ffn

/-- The number of a head's features, 64, as the literal that means divide by. -/
abbrev hWidth : EReal := ((64 : ℝ) : EReal)

theorem hWidth_word : Ideal.ofBits .f32 0x42800000#32 = hWidth := by
  simp [Ideal.ofBits, Ideal.ieee, -EReal.coe_mul]; norm_num

/-- A key's mean square, on top of the small literal. -/
def hMsq (x : Fin 64 → EReal) : EReal := Ideal.div (∑ k : Fin 64, x k * x k) hWidth + eps

/-- The reciprocal root of a key's mean square. -/
def hRstd (x : Fin 64 → EReal) : EReal := Ideal.rsqrt (hMsq x)

/-- The gradient that passes through a key's normalisation, from the gradient `dn` of the normalised key. -/
def headGrad (dn x g : Fin 64 → EReal) (k : Fin 64) : EReal :=
  hRstd x * (dn k * g k - x k * hRstd x * Ideal.div (∑ j : Fin 64, dn j * g j * (x j * hRstd x)) hWidth)

/-- The reciprocal root of a positive number, infinite or not: a real number, and its cube is its quotient by the number. -/
theorem rsqrt_pos {m : EReal} (hm : 0 < m) :
    ∃ ρ : ℝ, 0 ≤ ρ ∧ Ideal.rsqrt m = (ρ : EReal) ∧ Ideal.div (Ideal.rsqrt m) m = ((ρ * ρ * ρ : ℝ) : EReal) := by
  induction m with
  | bot => exact absurd hm (not_lt.mpr bot_le)
  | top =>
    refine ⟨0, le_refl _, EReal.coe_zero.symm, ?_⟩
    show Ideal.div 0 ⊤ = _
    unfold Ideal.div
    rw [if_neg EReal.top_ne_zero, zero_mul]
    simp
  | coe r =>
    have hr : 0 < r := by exact_mod_cast hm
    have e : Ideal.rsqrt (r : EReal) = (((Real.sqrt r)⁻¹ : ℝ) : EReal) := by
      show (if _ then ⊥ else if _ then ⊤ else _) = _
      rw [if_neg (not_lt.mpr hr.le), if_neg hr.ne']
    refine ⟨(Real.sqrt r)⁻¹, inv_nonneg.mpr (Real.sqrt_nonneg r), e, ?_⟩
    rw [e, div_coe _ hr.ne', ← mul_inv, Real.mul_self_sqrt hr.le, div_eq_mul_inv, mul_comm]

theorem div_real (a : EReal) {w : ℝ} (hw : w ≠ 0) : Ideal.div a (w : EReal) = a * ((w⁻¹ : ℝ) : EReal) := by
  unfold Ideal.div
  rw [if_neg (by exact_mod_cast hw), ← EReal.coe_inv]

theorem sum_scale {n : ℕ} (f : Fin n → EReal) {ρ : ℝ} (h : 0 ≤ ρ) : ∑ j, f j * (ρ : EReal) = (∑ j, f j) * (ρ : EReal) := by
  induction n with
  | zero => simp
  | succ n ih =>
    rw [Fin.sum_univ_succ, Fin.sum_univ_succ, ih,
      EReal.right_distrib_of_nonneg_of_ne_top (EReal.coe_nonneg.mpr h) (EReal.coe_ne_top ρ)]

/-- A number taken twice with a factor of minus one half. -/
theorem minus_halves (u : EReal) {d : ℝ} (h : 0 ≤ d) :
    u * (((-(1 / 2) * d : ℝ)) : EReal) + u * (((-(1 / 2) * d : ℝ)) : EReal) = -(u * (d : EReal)) := by
  have e : (((-(1 / 2) * d : ℝ)) : EReal) = -((d / 2 : ℝ) : EReal) := by
    rw [← EReal.coe_neg]; exact congrArg _ (by ring)
  have hd : (0 : EReal) ≤ ((d / 2 : ℝ) : EReal) := EReal.coe_nonneg.mpr (by linarith)
  rw [e, mul_neg, ← neg_mul, ← EReal.left_distrib_of_nonneg hd hd, ← EReal.coe_add, add_halves, neg_mul]

/-- The gradient through a normalisation, in the form the derivative of the reciprocal root gives and in the form a block computes:
    they agree at all values, infinite ones too. `dh` is the gradient of the row times the reciprocal root `rsqrt m`. -/
theorem back_eq {n : ℕ} {w : ℝ} (hw : 0 < w) (dh x : Fin n → EReal) {m : EReal} (hm : 0 < m) (k : Fin n) :
    dh k * Ideal.rsqrt m
      + x k * Ideal.div ((∑ j, x j * dh j) * (((-(1 / 2) : ℝ) : EReal) * Ideal.div (Ideal.rsqrt m) m)) (w : EReal)
      + Ideal.div ((∑ j, x j * dh j) * (((-(1 / 2) : ℝ) : EReal) * Ideal.div (Ideal.rsqrt m) m)) (w : EReal) * x k
    = Ideal.rsqrt m * (dh k - x k * Ideal.rsqrt m * Ideal.div (∑ j, dh j * (x j * Ideal.rsqrt m)) (w : EReal)) := by
  obtain ⟨ρ, h0, e1, e2⟩ := rsqrt_pos hm
  rw [e2, e1]
  have hs : ∑ j, dh j * (x j * (ρ : EReal)) = (∑ j, x j * dh j) * (ρ : EReal) := by
    rw [← sum_scale _ h0]
    exact Finset.sum_congr rfl fun j _ => by rw [← mul_assoc, mul_comm (dh j)]
  rw [hs]
  generalize ∑ j, x j * dh j = S
  rw [div_real _ hw.ne', div_real _ hw.ne', sub_eq_add_neg,
    EReal.left_distrib_of_nonneg_of_ne_top (EReal.coe_nonneg.mpr h0) (EReal.coe_ne_top ρ), add_assoc, mul_comm (dh k)]
  refine congrArg ((ρ : EReal) * dh k + ·) ?_
  have hd : (0 : ℝ) ≤ ρ * ρ * ρ * w⁻¹ := by positivity
  have e3 : S * (((-(1 / 2) : ℝ) : EReal) * ((ρ * ρ * ρ : ℝ) : EReal)) * ((w⁻¹ : ℝ) : EReal)
      = S * ((-(1 / 2) * (ρ * ρ * ρ * w⁻¹) : ℝ) : EReal) := by
    rw [mul_assoc, ← EReal.coe_mul, ← EReal.coe_mul]; exact congrArg (fun r : ℝ => S * (r : EReal)) (by ring)
  rw [e3, mul_comm _ (x k), ← mul_assoc, minus_halves _ hd, mul_neg]
  refine congrArg (-·) ?_
  simp only [EReal.coe_mul]
  ac_rfl

theorem square_nonneg (a : EReal) : 0 ≤ a * a := by
  rcases le_total 0 a with h | h
  · exact mul_nonneg h h
  · rw [← neg_mul_neg]
    have h' : 0 ≤ -a := EReal.neg_nonneg.mpr h
    exact mul_nonneg h' h'

/-- A mean square on top of the small literal is positive. -/
theorem msq_pos {n : ℕ} {w : ℝ} (hw : 0 < w) (x : Fin n → EReal) : 0 < Ideal.div (∑ k, x k * x k) (w : EReal) + eps := by
  obtain ⟨e, he, hE⟩ := eps_pos
  rw [hE, div_real _ hw.ne']
  have hs : 0 ≤ (∑ k, x k * x k) * ((w⁻¹ : ℝ) : EReal) :=
    mul_nonneg (Finset.sum_nonneg fun k _ => square_nonneg _) (EReal.coe_nonneg.mpr (inv_nonneg.mpr hw.le))
  exact lt_of_lt_of_le (EReal.coe_pos.mpr he) (le_add_of_nonneg_left hs)

/-- The normalisation's gradient as the derivative of the reciprocal root gives it: of a key. -/
theorem headGrad_eq (dn x g : Fin 64 → EReal) (k : Fin 64) :
    dn k * g k * hRstd x
      + x k * Ideal.div ((∑ j : Fin 64, x j * (dn j * g j)) * (((-(1 / 2) : ℝ) : EReal) * Ideal.div (hRstd x) (hMsq x))) hWidth
      + Ideal.div ((∑ j : Fin 64, x j * (dn j * g j)) * (((-(1 / 2) : ℝ) : EReal) * Ideal.div (hRstd x) (hMsq x))) hWidth * x k
    = headGrad dn x g k :=
  back_eq (by norm_num) (fun j => dn j * g j) x (msq_pos (by norm_num) x) k

/-- The same of a row. -/
theorem rowGrad_eq (dn x g : Fin 1024 → EReal) (k : Fin 1024) :
    dn k * g k * rstd x
      + x k * Ideal.div ((∑ j : Fin 1024, x j * (dn j * g j)) * (((-(1 / 2) : ℝ) : EReal) * Ideal.div (rstd x) (msq x))) width
      + Ideal.div ((∑ j : Fin 1024, x j * (dn j * g j)) * (((-(1 / 2) : ℝ) : EReal) * Ideal.div (rstd x) (msq x))) width * x k
    = normGrad dn x g k :=
  back_eq (by norm_num) (fun j => dn j * g j) x (msq_pos (by norm_num) x) k

end Cert.Mix

end
-- ==== Proof.Mix.Spec.lean ====
/- THE CALL `mix_proj_bwd`, ROW BY ROW: what its four results are as functions of the arguments. Token `R` lies in block
   `R / 128`; a block's keys and values are read by its own window (the second half) and by the next block's (the first half),
   so their gradients are the sums of the two windows' gradients (`dWin`). -/
module

public import proofs.«01_k».proof.Proof.Mix.Rows
public import proofs.«01_k».proof.Proof.Last.Rows

@[expose] public section

noncomputable section

namespace Cert.Mix

open Idealize.ShloMosaic Cert.Ffn Cert.Last

/-- The ten arguments. -/
structure Args where
  /-- the gradient of the rows, to which the call adds -/
  e : FVec Ideal ⟨2, ![4096, 1024]⟩ .f32
  /-- the gradient of the convolution's columns -/
  du : FVec Ideal ⟨2, ![4096, 2048]⟩ .f32
  /-- the gradient of the queries -/
  dq : FVec Ideal ⟨2, ![4096, 1024]⟩ .f32
  /-- the gradient of the keys' windows -/
  dkw : FVec Ideal ⟨3, ![32, 256, 256]⟩ .f32
  /-- the gradient of the values' windows -/
  dvw : FVec Ideal ⟨3, ![32, 256, 256]⟩ .f32
  /-- the gradient of the gates -/
  dgt : FVec Ideal ⟨2, ![4096, 2048]⟩ .f32
  /-- the rows -/
  x : FVec Ideal ⟨2, ![4096, 1024]⟩ .f32
  /-- the gain -/
  g : FVec Ideal ⟨1, ![1024]⟩ .f32
  /-- the projection's matrix -/
  wi : FVec Ideal ⟨2, ![1024, 5632]⟩ .f32
  /-- the keys' gain -/
  kn : FVec Ideal ⟨1, ![64]⟩ .f32

variable (A : Args)

/-- The gain, column by column. -/
abbrev gain (k : Fin 1024) : EReal := A.g (ix1 k)
/-- The keys' gain, feature by feature. -/
abbrev kGain (f : Fin 64) : EReal := A.kn (ix1 f)

/-- Feature `f` of head `h` among the columns of the keys. -/
def col (h : Fin 4) (f : Fin 64) : Fin 256 := ⟨h.val * 64 + f.val, by omega⟩

/-- Column `j` of the keys among the columns of the projection. -/
def keyCol (j : Fin 256) : Fin 5632 := ⟨3072 + j.val, by omega⟩

/-- The keys before their normalisation. -/
def key (R : Fin 4096) (h : Fin 4) (f : Fin 64) : EReal := up (row A.x R) (gain A) (row A.wi) (keyCol (col h f))

/-- The gradient of token `R`'s key or value, from the gradient of the windows: its own block's, and the next block's if there is one. -/
def dWin (w : FVec Ideal ⟨3, ![32, 256, 256]⟩ .f32) (R : Fin 4096) (j : Fin 256) : EReal :=
  w (ix3 ⟨R.val / 128, by omega⟩ ⟨128 + R.val % 128, by omega⟩ j)
    + if h : R.val / 128 < 31 then w (ix3 ⟨R.val / 128 + 1, by omega⟩ ⟨R.val % 128, by omega⟩ j) else 0

/-- The gradient of the keys before their normalisation. -/
def dKey (R : Fin 4096) (h : Fin 4) (f : Fin 64) : EReal :=
  headGrad (fun j => dWin A.dkw R (col h j)) (key A R h) (kGain A) f

/-- The gradient of a token's keys and values, side by side. -/
def dKV (R : Fin 4096) (q : Fin 512) : EReal :=
  if h : q.val < 256 then dKey A R ⟨q.val / 64, by omega⟩ ⟨q.val % 64, by omega⟩ else dWin A.dvw R ⟨q.val - 256, by omega⟩

/-- The gradient of a token's projected row. -/
def dRow (R : Fin 4096) (q : Fin 5632) : EReal :=
  if h0 : q.val < 2048 then A.du (ix2 R ⟨q.val, h0⟩)
  else if h1 : q.val < 3072 then A.dq (ix2 R ⟨q.val - 2048, by omega⟩)
  else if h2 : q.val < 3584 then dKV A R ⟨q.val - 3072, by omega⟩
  else A.dgt (ix2 R ⟨q.val - 3584, by omega⟩)

/-- The gradient of a token's normalised row. -/
def dNorm (R : Fin 4096) : Fin 1024 → EReal := lin (dRow A R) (fun q k => A.wi (ix2 k q))

/-- The gradient of the rows. -/
def dX (R : Fin 4096) (k : Fin 1024) : EReal := A.e (ix2 R k) + normGrad (dNorm A R) (row A.x R) (gain A) k

/-- The gradient of the gain. -/
def dG (k : Fin 1024) : EReal := ∑ R : Fin 4096, gainGrad (dNorm A R) (row A.x R) k

/-- A token's and a head's part of the gradient of the keys' gain. -/
def dKGPart (R : Fin 4096) (h : Fin 4) (f : Fin 64) : EReal := dWin A.dkw R (col h f) * (key A R h f * hRstd (key A R h))

/-- The gradient of the keys' gain. -/
def dKG (f : Fin 64) : EReal := ∑ R : Fin 4096, ∑ h : Fin 4, dKGPart A R h f

end Cert.Mix

end
-- ==== Proof.Mix.KernelIdealValue.lean ====
/- What each array of the call `mix_proj_bwd` holds after the run, block by block: the block that the point's body left in the
   window, or what the array held.  It follows the launch set-up written for the program. -/
module

public import proofs.«01_k».proof.Proof.Gen.MixKernelIdeal.Frame
public import Idealize.ShloMosaic.Lib.Pipeline.Value

@[expose] public section

noncomputable section

namespace Cert.MixKernelIdeal.Value

open Cert.MixKernelIdeal Cert.MixKernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 11's array: the run's contents for that window after the body (`Gen.outsAt0`: its component 0), read through the window's block. -/
theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 8 = 0) (h1 : ¬t.val % 8 = 7) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed11, outsAt0_A m c t h0 h1]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 8 = 0) (h1 : ¬t.val % 8 = 7) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed11, outsAt0_B m c t h0 h1]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 8 = 0) (h1 : t.val % 8 = 7) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed11, outsAt0_C m c t h0 h1]

/-- The index map sends distinct grid points to distinct block indices (decided over the 8 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S4096x1024.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 1), read through the window's block. -/
theorem flushed12 (c : Dev nD) (t : Fin cfg0.N) :
    (dats m 0 c).flushed 12 t = (cfg0.win 12).cut (grid0.coords t) ((outsAt0 m c t.val t.isLt).2.1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 8 = 0) (h1 : ¬t.val % 8 = 7) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed12, outsAt0_A m c t h0 h1]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 8 = 0) (h1 : ¬t.val % 8 = 7) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed12, outsAt0_B m c t h0 h1]

/-- … so at a point where case C runs, what its write-back would write is that case's NAMED TERM for the window (`Gen.out0_C_12`: the pieces
    its run found, read back) at the point's memrefs and input blocks, and for an output the case reads back what the point before left (`Gen.outsAt0` at `t - 1`) — by the frame's rewriting lemma for the case. -/
theorem flushed12_C (c : Dev nD) (t : Fin cfg0.N) (h0 : ¬t.val % 8 = 0) (h1 : t.val % 8 = 7) :
    (dats m 0 c).flushed 12 t = (cfg0.win 12).cut (grid0.coords t) (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed12, outsAt0_C m c t h0 h1]

-- no `blocks12`: window 12's index map revisits a block index, or its points could not be enumerated here;
-- the final array is still the frame's `arrAt`, to read with Lib/Pipeline/Value.lean's lemmas by hand

/-- An index that no flushing point's block covers keeps output window 12's array contents at region entry. -/
theorem entry12 (c : Dev nD) (i : S1x1024.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 2), read through the window's block. -/
theorem flushed13 (c : Dev nD) (t : Fin cfg0.N) :
    (dats m 0 c).flushed 13 t = (cfg0.win 13).cut (grid0.coords t) ((outsAt0 m c t.val t.isLt).2.2.1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 8 = 0) (h1 : ¬t.val % 8 = 7) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed13, outsAt0_A m c t h0 h1]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 8 = 0) (h1 : ¬t.val % 8 = 7) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed13, outsAt0_B m c t h0 h1]

/-- … so at a point where case C runs, what its write-back would write is that case's NAMED TERM for the window (`Gen.out0_C_13`: the pieces
    its run found, read back) at the point's memrefs and input blocks, and for an output the case reads back what the point before left (`Gen.outsAt0` at `t - 1`) — by the frame's rewriting lemma for the case. -/
theorem flushed13_C (c : Dev nD) (t : Fin cfg0.N) (h0 : ¬t.val % 8 = 0) (h1 : t.val % 8 = 7) :
    (dats m 0 c).flushed 13 t = (cfg0.win 13).cut (grid0.coords t) (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed13, outsAt0_C m c t h0 h1]

/-- The index map sends distinct grid points to distinct block indices (decided over the 8 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S512x4096.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 3), read through the window's block. -/
theorem flushed14 (c : Dev nD) (t : Fin cfg0.N) :
    (dats m 0 c).flushed 14 t = (cfg0.win 14).cut (grid0.coords t) ((outsAt0 m c t.val t.isLt).2.2.2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — by the frame's rewriting lemma for the case. -/
theorem flushed14_A (c : Dev nD) (t : Fin cfg0.N) (h0 : t.val % 8 = 0) (h1 : ¬t.val % 8 = 7) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed14, outsAt0_A m c t h0 h1]

/-- … so at a point where case B runs, what its write-back would write is that case's NAMED TERM for the window (`Gen.out0_B_14`: the pieces
    its run found, read back) at the point's memrefs and input blocks, and for an output the case reads back what the point before left (`Gen.outsAt0` at `t - 1`) — by the frame's rewriting lemma for the case. -/
theorem flushed14_B (c : Dev nD) (t : Fin cfg0.N) (h0 : ¬t.val % 8 = 0) (h1 : ¬t.val % 8 = 7) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed14, outsAt0_B m c t h0 h1]

/-- … so at a point where case C runs, what its write-back would write is that case's NAMED TERM for the window (`Gen.out0_C_14`: the pieces
    its run found, read back) at the point's memrefs and input blocks, and for an output the case reads back what the point before left (`Gen.outsAt0` at `t - 1`) — by the frame's rewriting lemma for the case. -/
theorem flushed14_C (c : Dev nD) (t : Fin cfg0.N) (h0 : ¬t.val % 8 = 0) (h1 : t.val % 8 = 7) :
    (dats m 0 c).flushed 14 t = (cfg0.win 14).cut (grid0.coords t) (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.2.2) := by
  simp only [flushed14, outsAt0_C m c t h0 h1]

-- no `blocks14`: window 14's index map revisits a block index, or its points could not be enumerated here;
-- the final array is still the frame's `arrAt`, to read with Lib/Pipeline/Value.lean's lemmas by hand

/-- An index that no flushing point's block covers keeps output window 14's array contents at region entry. -/
theorem entry14 (c : Dev nD) (i : S64x1.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v27_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v27_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v27_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v27_3) = (dats m 0 c).arrAt 14 cfg0.N :=
  (h c).1 14

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 8 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 8).trans (((dats m 0 c).arrAt_in 8 rfl _).trans ((A_eq m c 8).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v27_0) = (dats m 0 c).arrAt 11 cfg0.N
      ∧ r.2.mem ((c : Thread nD τ).loc main_v27_1) = (dats m 0 c).arrAt 12 cfg0.N
      ∧ r.2.mem ((c : Thread nD τ).loc main_v27_2) = (dats m 0 c).arrAt 13 cfg0.N
      ∧ r.2.mem ((c : Thread nD τ).loc main_v27_3) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post11 m r h c,
      post12 m r h c,
      post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.MixKernelIdeal.Value

end
-- ==== Proof.Mix.Block.lean ====
/- WHAT ONE BLOCK'S ARITHMETIC COMPUTES in the call `mix_proj_bwd`, at an index: the functions of a token of Proof/Mix/Spec.lean.
   A block holds 512 tokens, four blocks of 128; the keys' and values' windows, and the keys themselves, lie transposed, one lane
   a token. The window of the block's last 128 tokens is continued by the next block's (`x4`), masked at the last point. -/
module

public import proofs.«01_k».proof.Proof.Mix.Spec
public import proofs.«01_k».proof.Proof.Mix.KernelIdealValue
public import Idealize.ShloMosaic.Lib.Pointwise
public import Idealize.ShloMosaic.Lib.Pipeline.ValueKit.Tiles

@[expose] public section

set_option maxRecDepth 16384

noncomputable section

namespace Cert.Mix

open Idealize.ShloMosaic Cert.MixKernelIdeal Cert.MixKernelIdeal.Gen Cert.Ffn Cert.Last

/-- Token `p` of block `t`. -/
def tok (t : Fin 8) (p : Fin 512) : Fin 4096 := ⟨512 * t.val + p.val, by omega⟩

/-- Lane `l` of the `s`-th 128 tokens of a block. -/
def lane (s : Fin 4) (l : Fin 128) : Fin 512 := ⟨128 * s.val + l.val, by omega⟩

/-- The `f`-th row of head `h` among a block's transposed keys and values. -/
def kRow (h : Fin 4) (f : Fin 64) : Fin 512 := ⟨h.val * 64 + f.val, by omega⟩

/-- The gradient of column `q` of the keys and values side by side, before the keys' normalisation. -/
def dCol (A : Args) (R : Fin 4096) (q : Fin 512) : EReal :=
  if h : q.val < 256 then dWin A.dkw R ⟨q.val, h⟩ else dWin A.dvw R ⟨q.val - 256, by omega⟩

/-- A window's two gradients, keys and values, as one. -/
def win (A : Args) (b : Fin 32) (q : Fin 512) (j : Fin 256) : EReal :=
  if h : q.val < 256 then A.dkw (ix3 b j ⟨q.val, h⟩) else A.dvw (ix3 b j ⟨q.val - 256, by omega⟩)

/-- What the windows of grid point `t` hold of the arguments. -/
structure Fed (A : Args) (t : Fin 8) (i : grid0.Coords) (x0 : Vec Ideal S512x1024 .f32) (x1 : Vec Ideal S512x2048 .bf16)
    (x2 : Vec Ideal S1024x512 .bf16) (x3 : Vec Ideal S4x512x256 .f32) (x4 : Vec Ideal S1x512x256 .f32)
    (x5 : Vec Ideal S256x512 .bf16) (x6 : Vec Ideal S64x1 .f32) (x7 : Vec Ideal S512x2048 .bf16) (x8 : Vec Ideal S512x1024 .f32)
    (x9 : Vec Ideal S1x1024 .f32) (x10 : Vec Ideal S5632x1024 .bf16) : Prop where
  e : ∀ r k, x0 (ix2 r k) = A.e (ix2 (tok t r) k)
  du : ∀ r k, x1 (ix2 r k) = A.du (ix2 (tok t r) k)
  dq : ∀ k r, x2 (ix2 k r) = A.dq (ix2 (tok t r) k)
  own : ∀ (s : Fin 4) q j, x3 (ix3 s q j) = win A ⟨4 * t.val + s.val, by omega⟩ q j
  next : ∀ (h : t.val < 7) (z : Fin 1) q j, x4 (ix3 z q j) = win A ⟨4 * t.val + 4, by omega⟩ q j
  mask : k0_pay4 (F := Ideal) i = if t.val < 7 then 1 else 0
  key : ∀ h f r, x5 (ix2 (col h f) r) = key A (tok t r) h f
  kn : ∀ f z, x6 (ix2 f z) = A.kn (ix1 f)
  dgt : ∀ r k, x7 (ix2 r k) = A.dgt (ix2 (tok t r) k)
  x : ∀ r k, x8 (ix2 r k) = A.x (ix2 (tok t r) k)
  g : ∀ z k, x9 (ix2 z k) = A.g (ix1 k)
  wi : ∀ q k, x10 (ix2 q k) = A.wi (ix2 k q)

/-! ### The windows' gradients -/

theorem dWin_tok (w : FVec Ideal ⟨3, ![32, 256, 256]⟩ .f32) (t : Fin 8) (s : Fin 4) (l : Fin 128) (j : Fin 256) :
    dWin w (tok t (lane s l)) j = w (ix3 ⟨4 * t.val + s.val, by omega⟩ ⟨128 + l.val, by omega⟩ j)
      + if h : 4 * t.val + s.val < 31 then w (ix3 ⟨4 * t.val + s.val + 1, by omega⟩ ⟨l.val, by omega⟩ j) else 0 := by
  have e1 : (tok t (lane s l)).val / 128 = 4 * t.val + s.val := by
    show (512 * t.val + (128 * s.val + l.val)) / 128 = _
    omega
  have e2 : (tok t (lane s l)).val % 128 = l.val := by
    show (512 * t.val + (128 * s.val + l.val)) % 128 = _
    omega
  unfold dWin
  simp only [e1, e2]

theorem dCol_tok (A : Args) (t : Fin 8) (s : Fin 4) (l : Fin 128) (q : Fin 512) :
    dCol A (tok t (lane s l)) q = win A ⟨4 * t.val + s.val, by omega⟩ q ⟨128 + l.val, by omega⟩
      + if h : 4 * t.val + s.val < 31 then win A ⟨4 * t.val + s.val + 1, by omega⟩ q ⟨l.val, by omega⟩ else 0 := by
  unfold dCol win
  by_cases hq : q.val < 256
  · simp only [dif_pos hq, dWin_tok]
  · simp only [dif_neg hq, dWin_tok]

theorem pay7_apply (v10 v12 : Vec Ideal S1x512x128 .f32) (q : Fin 512) (l : Fin 128) :
    k0_pay7 v10 v12 (ix2 q l) = v12 (ix3 0 q l) + v10 (ix3 0 q l) := by
  pointwise [k0_pay7]

theorem pay96_apply (v6 : EReal) (v10 v12 : Vec Ideal S1x512x128 .f32) (q : Fin 512) (l : Fin 128) :
    k0_pay96 (F := Ideal) v6 v10 v12 (ix2 q l) = v12 (ix3 0 q l) + v10 (ix3 0 q l) * v6 := by
  pointwise [k0_pay96]

section Windows
variable (i : grid0.Coords) (x3 : Vec Ideal S4x512x256 .f32) (x4 : Vec Ideal S1x512x256 .f32)

/-- The gradient of the keys and values of the block's first 128 tokens. -/
abbrev D0 : FVec Ideal S512x128 .f32 :=
  k0_pay7 (View.ld x3 (Rect.unit ![1, 0, 0] ![1, 512, 128] inb_S4x512x256_S1x512x128_1_0_0))
    (View.ld x3 (Rect.unit ![0, 0, 128] ![1, 512, 128] inb_S4x512x256_S1x512x128_0_0_128))

/-- The gradient of the keys and values of the block's second 128 tokens. -/
abbrev D1 : FVec Ideal S512x128 .f32 :=
  k0_pay7 (View.ld x3 (Rect.unit ![2, 0, 0] ![1, 512, 128] inb_S4x512x256_S1x512x128_2_0_0))
    (View.ld x3 (Rect.unit ![1, 0, 128] ![1, 512, 128] inb_S4x512x256_S1x512x128_1_0_128))

/-- The gradient of the keys and values of the block's third 128 tokens. -/
abbrev D2 : FVec Ideal S512x128 .f32 :=
  k0_pay7 (View.ld x3 (Rect.unit ![3, 0, 0] ![1, 512, 128] inb_S4x512x256_S1x512x128_3_0_0))
    (View.ld x3 (Rect.unit ![2, 0, 128] ![1, 512, 128] inb_S4x512x256_S1x512x128_2_0_128))

/-- The gradient of the keys and values of the block's last 128 tokens. -/
abbrev D3 : FVec Ideal S512x128 .f32 :=
  k0_pay96 (k0_pay4 i) (View.ld x4 (Rect.unit ![0, 0, 0] ![1, 512, 128] inb_S1x512x256_S1x512x128_0_0_0))
    (View.ld x3 (Rect.unit ![3, 0, 128] ![1, 512, 128] inb_S4x512x256_S1x512x128_3_0_128))

variable {A : Args} {t : Fin 8} (own : ∀ (s : Fin 4) q j, x3 (ix3 s q j) = win A ⟨4 * t.val + s.val, by omega⟩ q j)

include own in
theorem D_lo (s : Fin 4) (h : s.val < 3) (v10 v12 : Vec Ideal S1x512x128 .f32)
    (h10 : ∀ q (l : Fin 128), v10 (ix3 0 q l) = x3 (ix3 ⟨s.val + 1, by omega⟩ q ⟨l.val, by omega⟩))
    (h12 : ∀ q (l : Fin 128), v12 (ix3 0 q l) = x3 (ix3 s q ⟨128 + l.val, by omega⟩)) (q : Fin 512) (l : Fin 128) :
    k0_pay7 v10 v12 (ix2 q l) = dCol A (tok t (lane s l)) q := by
  rw [pay7_apply, h10, h12, dCol_tok, own, own, dif_pos (by omega)]
  rfl

include own in
theorem D0_apply (q : Fin 512) (l : Fin 128) : D0 x3 (ix2 q l) = dCol A (tok t (lane 0 l)) q :=
  D_lo x3 own 0 (by decide) _ _
    (fun q l => View.ld_unit_apply_of _ _ _ _ _ _ fun a => by
      match a with
      | ⟨0, _⟩ => show 1 = 1 + 0; rfl
      | ⟨1, _⟩ => show q.val = 0 + q.val; omega
      | ⟨2, _⟩ => show l.val = 0 + l.val; omega)
    (fun q l => View.ld_unit_apply_of _ _ _ _ _ _ fun a => by
      match a with
      | ⟨0, _⟩ => show 0 = 0 + 0; rfl
      | ⟨1, _⟩ => show q.val = 0 + q.val; omega
      | ⟨2, _⟩ => show 128 + l.val = 128 + l.val; rfl) q l

include own in
theorem D1_apply (q : Fin 512) (l : Fin 128) : D1 x3 (ix2 q l) = dCol A (tok t (lane 1 l)) q :=
  D_lo x3 own 1 (by decide) _ _
    (fun q l => View.ld_unit_apply_of _ _ _ _ _ _ fun a => by
      match a with
      | ⟨0, _⟩ => show 2 = 2 + 0; rfl
      | ⟨1, _⟩ => show q.val = 0 + q.val; omega
      | ⟨2, _⟩ => show l.val = 0 + l.val; omega)
    (fun q l => View.ld_unit_apply_of _ _ _ _ _ _ fun a => by
      match a with
      | ⟨0, _⟩ => show 1 = 1 + 0; rfl
      | ⟨1, _⟩ => show q.val = 0 + q.val; omega
      | ⟨2, _⟩ => show 128 + l.val = 128 + l.val; rfl) q l

include own in
theorem D2_apply (q : Fin 512) (l : Fin 128) : D2 x3 (ix2 q l) = dCol A (tok t (lane 2 l)) q :=
  D_lo x3 own 2 (by decide) _ _
    (fun q l => View.ld_unit_apply_of _ _ _ _ _ _ fun a => by
      match a with
      | ⟨0, _⟩ => show 3 = 3 + 0; rfl
      | ⟨1, _⟩ => show q.val = 0 + q.val; omega
      | ⟨2, _⟩ => show l.val = 0 + l.val; omega)
    (fun q l => View.ld_unit_apply_of _ _ _ _ _ _ fun a => by
      match a with
      | ⟨0, _⟩ => show 2 = 2 + 0; rfl
      | ⟨1, _⟩ => show q.val = 0 + q.val; omega
      | ⟨2, _⟩ => show 128 + l.val = 128 + l.val; rfl) q l

include own in
theorem D3_apply (next : ∀ (h : t.val < 7) (z : Fin 1) q j, x4 (ix3 z q j) = win A ⟨4 * t.val + 4, by omega⟩ q j)
    (mask : k0_pay4 (F := Ideal) i = if t.val < 7 then 1 else 0) (q : Fin 512) (l : Fin 128) :
    D3 i x3 x4 (ix2 q l) = dCol A (tok t (lane 3 l)) q := by
  have e3 : View.ld x3 (Rect.unit ![3, 0, 128] ![1, 512, 128] inb_S4x512x256_S1x512x128_3_0_128) (ix3 0 q l)
      = x3 (ix3 3 q ⟨128 + l.val, by omega⟩) := View.ld_unit_apply_of _ _ _ _ _ _ fun a => by
    match a with
    | ⟨0, _⟩ => show 3 = 3 + 0; rfl
    | ⟨1, _⟩ => show q.val = 0 + q.val; omega
    | ⟨2, _⟩ => show 128 + l.val = 128 + l.val; rfl
  have e4 : View.ld x4 (Rect.unit ![0, 0, 0] ![1, 512, 128] inb_S1x512x256_S1x512x128_0_0_0) (ix3 0 q l)
      = x4 (ix3 0 q ⟨l.val, by omega⟩) := View.ld_unit_apply_of _ _ _ _ _ _ fun a => by
    match a with
    | ⟨0, _⟩ => show 0 = 0 + 0; rfl
    | ⟨1, _⟩ => show q.val = 0 + q.val; omega
    | ⟨2, _⟩ => show l.val = 0 + l.val; omega
  refine (pay96_apply _ _ _ q l).trans ?_
  rw [e3, e4, dCol_tok, own, mask]
  refine congrArg (win A _ q _ + ·) ?_
  by_cases h : t.val < 7
  · rw [if_pos h, mul_one, next h]
    split
    · rfl
    · exact absurd (show 4 * t.val + 3 < 31 by omega) ‹_›
  · rw [if_neg h, mul_zero]
    split
    · exact absurd ‹_› (show ¬4 * t.val + 3 < 31 by omega)
    · rfl

end Windows

/-! ### A head's keys -/

section Head
variable (S : FVec Ideal S64x128 .f32) (K : Vec Ideal S64x128 .bf16) (kg : FVec Ideal S64x1 .f32)

theorem pay10_apply (z : Fin 1) (l : Fin 128) : k0_pay10 K (ix2 z l) = hRstd (fun f => K (ix2 f l)) := by
  pointwise [k0_pay10, k0_pay9, hRstd, hMsq, hWidth_word]

theorem pay11_apply (f : Fin 64) (l : Fin 128) : k0_pay11 K (ix2 f l) = K (ix2 f l) * hRstd (fun f => K (ix2 f l)) := by
  rw [← pay10_apply K 0 l]
  pointwise [k0_pay11, k0_pay9]

/-- A head's gradient times the gain. -/
abbrev headHat : FVec Ideal S64x128 .f32 := mulf S (broadcastTo S64x128 kg broadcasts_S64x1_S64x128)

/-- The gradient of a head's keys, from the gradient `S` of the normalised keys. -/
abbrev headBlk : FVec Ideal S64x128 .bf16 :=
  k0_pay15 (k0_pay10 K) (k0_pay11 K) (headHat S kg) (mulf (headHat S kg) (k0_pay11 K))

theorem headHat_apply (f : Fin 64) (l : Fin 128) : headHat S kg (ix2 f l) = S (ix2 f l) * kg (ix2 f 0) := by
  pointwise [headHat]

theorem headProd_apply (f : Fin 64) (l : Fin 128) : (mulf (headHat S kg) (k0_pay11 K) : FVec Ideal S64x128 .f32) (ix2 f l)
    = S (ix2 f l) * kg (ix2 f 0) * (K (ix2 f l) * hRstd (fun f => K (ix2 f l))) := by
  rw [← pay11_apply, ← headHat_apply]
  rfl

theorem pay15_apply (a : FVec Ideal S1x128 .f32) (b c d : FVec Ideal S64x128 .f32) (f : Fin 64) (l : Fin 128) :
    k0_pay15 a b c d (ix2 f l) = a (ix2 0 l) * (c (ix2 f l) - b (ix2 f l) * Ideal.div (∑ f, d (ix2 f l)) hWidth) := by
  rw [show hWidth = _ from hWidth_word.symm]
  pointwise [k0_pay15]

theorem headBlk_apply (f : Fin 64) (l : Fin 128) :
    headBlk S K kg (ix2 f l) = headGrad (fun f => S (ix2 f l)) (fun f => K (ix2 f l)) (fun f => kg (ix2 f 0)) f := by
  refine (pay15_apply _ _ _ _ f l).trans ?_
  simp only [pay10_apply, pay11_apply, headHat_apply, headProd_apply]
  rfl

end Head

/-! ### The block of the keys' and values' gradients -/

section KV
variable (i : grid0.Coords) (x3 : Vec Ideal S4x512x256 .f32) (x4 : Vec Ideal S1x512x256 .f32) (x5 : Vec Ideal S256x512 .bf16)
  (x6 : Vec Ideal S64x1 .f32)

abbrev K00 : Vec Ideal S64x128 .bf16 := View.ld x5 (Rect.unit ![0, 0] ![64, 128] inb_S256x512_S64x128_0_0)
abbrev S00 : FVec Ideal S64x128 .f32 := extractStridedSlice S64x128 ![0, 0] (D0 x3) slices_S512x128_o0_0_S64x128
abbrev K01 : Vec Ideal S64x128 .bf16 := View.ld x5 (Rect.unit ![64, 0] ![64, 128] inb_S256x512_S64x128_64_0)
abbrev S01 : FVec Ideal S64x128 .f32 := extractStridedSlice S64x128 ![64, 0] (D0 x3) slices_S512x128_o64_0_S64x128
abbrev K02 : Vec Ideal S64x128 .bf16 := View.ld x5 (Rect.unit ![128, 0] ![64, 128] inb_S256x512_S64x128_128_0)
abbrev S02 : FVec Ideal S64x128 .f32 := extractStridedSlice S64x128 ![128, 0] (D0 x3) slices_S512x128_o128_0_S64x128
abbrev K03 : Vec Ideal S64x128 .bf16 := View.ld x5 (Rect.unit ![192, 0] ![64, 128] inb_S256x512_S64x128_192_0)
abbrev S03 : FVec Ideal S64x128 .f32 := extractStridedSlice S64x128 ![192, 0] (D0 x3) slices_S512x128_o192_0_S64x128
abbrev K10 : Vec Ideal S64x128 .bf16 := View.ld x5 (Rect.unit ![0, 128] ![64, 128] inb_S256x512_S64x128_0_128)
abbrev S10 : FVec Ideal S64x128 .f32 := extractStridedSlice S64x128 ![0, 0] (D1 x3) slices_S512x128_o0_0_S64x128
abbrev K11 : Vec Ideal S64x128 .bf16 := View.ld x5 (Rect.unit ![64, 128] ![64, 128] inb_S256x512_S64x128_64_128)
abbrev S11 : FVec Ideal S64x128 .f32 := extractStridedSlice S64x128 ![64, 0] (D1 x3) slices_S512x128_o64_0_S64x128
abbrev K12 : Vec Ideal S64x128 .bf16 := View.ld x5 (Rect.unit ![128, 128] ![64, 128] inb_S256x512_S64x128_128_128)
abbrev S12 : FVec Ideal S64x128 .f32 := extractStridedSlice S64x128 ![128, 0] (D1 x3) slices_S512x128_o128_0_S64x128
abbrev K13 : Vec Ideal S64x128 .bf16 := View.ld x5 (Rect.unit ![192, 128] ![64, 128] inb_S256x512_S64x128_192_128)
abbrev S13 : FVec Ideal S64x128 .f32 := extractStridedSlice S64x128 ![192, 0] (D1 x3) slices_S512x128_o192_0_S64x128
abbrev K20 : Vec Ideal S64x128 .bf16 := View.ld x5 (Rect.unit ![0, 256] ![64, 128] inb_S256x512_S64x128_0_256)
abbrev S20 : FVec Ideal S64x128 .f32 := extractStridedSlice S64x128 ![0, 0] (D2 x3) slices_S512x128_o0_0_S64x128
abbrev K21 : Vec Ideal S64x128 .bf16 := View.ld x5 (Rect.unit ![64, 256] ![64, 128] inb_S256x512_S64x128_64_256)
abbrev S21 : FVec Ideal S64x128 .f32 := extractStridedSlice S64x128 ![64, 0] (D2 x3) slices_S512x128_o64_0_S64x128
abbrev K22 : Vec Ideal S64x128 .bf16 := View.ld x5 (Rect.unit ![128, 256] ![64, 128] inb_S256x512_S64x128_128_256)
abbrev S22 : FVec Ideal S64x128 .f32 := extractStridedSlice S64x128 ![128, 0] (D2 x3) slices_S512x128_o128_0_S64x128
abbrev K23 : Vec Ideal S64x128 .bf16 := View.ld x5 (Rect.unit ![192, 256] ![64, 128] inb_S256x512_S64x128_192_256)
abbrev S23 : FVec Ideal S64x128 .f32 := extractStridedSlice S64x128 ![192, 0] (D2 x3) slices_S512x128_o192_0_S64x128
abbrev K30 : Vec Ideal S64x128 .bf16 := View.ld x5 (Rect.unit ![0, 384] ![64, 128] inb_S256x512_S64x128_0_384)
abbrev S30 : FVec Ideal S64x128 .f32 := extractStridedSlice S64x128 ![0, 0] (D3 i x3 x4) slices_S512x128_o0_0_S64x128
abbrev K31 : Vec Ideal S64x128 .bf16 := View.ld x5 (Rect.unit ![64, 384] ![64, 128] inb_S256x512_S64x128_64_384)
abbrev S31 : FVec Ideal S64x128 .f32 := extractStridedSlice S64x128 ![64, 0] (D3 i x3 x4) slices_S512x128_o64_0_S64x128
abbrev K32 : Vec Ideal S64x128 .bf16 := View.ld x5 (Rect.unit ![128, 384] ![64, 128] inb_S256x512_S64x128_128_384)
abbrev S32 : FVec Ideal S64x128 .f32 := extractStridedSlice S64x128 ![128, 0] (D3 i x3 x4) slices_S512x128_o128_0_S64x128
abbrev K33 : Vec Ideal S64x128 .bf16 := View.ld x5 (Rect.unit ![192, 384] ![64, 128] inb_S256x512_S64x128_192_384)
abbrev S33 : FVec Ideal S64x128 .f32 := extractStridedSlice S64x128 ![192, 0] (D3 i x3 x4) slices_S512x128_o192_0_S64x128

/-- The gradient of the values of 128 tokens. -/
abbrev valBlk (D : FVec Ideal S512x128 .f32) : FVec Ideal S256x128 .bf16 :=
  truncf .bf16 (extractStridedSlice S256x128 ![256, 0] D slices_S512x128_o256_0_S256x128 : FVec Ideal S256x128 .f32) bitsLt_bf16_f32

/-- The twenty stores that make up the block of the keys' and values' gradients, the last first. -/
abbrev kvPieces : List (View.Piece (Elt Ideal) S512x512 .bf16) :=
  [⟨Rect.unit ![192, 384] ![64, 128] inb_S512x512_S64x128_192_384, headBlk (S33 i x3 x4) (K33 x5) (k0_pay5 x6)⟩,
    ⟨Rect.unit ![128, 384] ![64, 128] inb_S512x512_S64x128_128_384, headBlk (S32 i x3 x4) (K32 x5) (k0_pay5 x6)⟩,
    ⟨Rect.unit ![64, 384] ![64, 128] inb_S512x512_S64x128_64_384, headBlk (S31 i x3 x4) (K31 x5) (k0_pay5 x6)⟩,
    ⟨Rect.unit ![0, 384] ![64, 128] inb_S512x512_S64x128_0_384, headBlk (S30 i x3 x4) (K30 x5) (k0_pay5 x6)⟩,
    ⟨Rect.unit ![256, 384] ![256, 128] inb_S512x512_S256x128_256_384, valBlk (D3 i x3 x4)⟩,
    ⟨Rect.unit ![192, 256] ![64, 128] inb_S512x512_S64x128_192_256, headBlk (S23 x3) (K23 x5) (k0_pay5 x6)⟩,
    ⟨Rect.unit ![128, 256] ![64, 128] inb_S512x512_S64x128_128_256, headBlk (S22 x3) (K22 x5) (k0_pay5 x6)⟩,
    ⟨Rect.unit ![64, 256] ![64, 128] inb_S512x512_S64x128_64_256, headBlk (S21 x3) (K21 x5) (k0_pay5 x6)⟩,
    ⟨Rect.unit ![0, 256] ![64, 128] inb_S512x512_S64x128_0_256, headBlk (S20 x3) (K20 x5) (k0_pay5 x6)⟩,
    ⟨Rect.unit ![256, 256] ![256, 128] inb_S512x512_S256x128_256_256, valBlk (D2 x3)⟩,
    ⟨Rect.unit ![192, 128] ![64, 128] inb_S512x512_S64x128_192_128, headBlk (S13 x3) (K13 x5) (k0_pay5 x6)⟩,
    ⟨Rect.unit ![128, 128] ![64, 128] inb_S512x512_S64x128_128_128, headBlk (S12 x3) (K12 x5) (k0_pay5 x6)⟩,
    ⟨Rect.unit ![64, 128] ![64, 128] inb_S512x512_S64x128_64_128, headBlk (S11 x3) (K11 x5) (k0_pay5 x6)⟩,
    ⟨Rect.unit ![0, 128] ![64, 128] inb_S512x512_S64x128_0_128, headBlk (S10 x3) (K10 x5) (k0_pay5 x6)⟩,
    ⟨Rect.unit ![256, 128] ![256, 128] inb_S512x512_S256x128_256_128, valBlk (D1 x3)⟩,
    ⟨Rect.unit ![192, 0] ![64, 128] inb_S512x512_S64x128_192_0, headBlk (S03 x3) (K03 x5) (k0_pay5 x6)⟩,
    ⟨Rect.unit ![128, 0] ![64, 128] inb_S512x512_S64x128_128_0, headBlk (S02 x3) (K02 x5) (k0_pay5 x6)⟩,
    ⟨Rect.unit ![64, 0] ![64, 128] inb_S512x512_S64x128_64_0, headBlk (S01 x3) (K01 x5) (k0_pay5 x6)⟩,
    ⟨Rect.unit ![0, 0] ![64, 128] inb_S512x512_S64x128_0_0, headBlk (S00 x3) (K00 x5) (k0_pay5 x6)⟩,
    ⟨Rect.unit ![256, 0] ![256, 128] inb_S512x512_S256x128_256_0, valBlk (D0 x3)⟩]

/-- The block of the keys' and values' gradients. -/
def kvBlock : Vec Ideal S512x512 .bf16 := View.canon (kvPieces i x3 x4 x5 x6)

/-- The block, read back whole after its stores. -/
theorem reload (hz : (![0, 0] : Fin 2 → Nat) = fun _ => 0) (a14 : Memref sig .tc .vmem S512x512 .bf16) :
    a14.view.readCov (kvPieces i x3 x4 x5 x6) (Rect.unit ![0, 0] ![512, 512] inb_S512x512_S512x512_0_0).toLoadRect
      = kvBlock i x3 x4 x5 x6 := by
  rw [View.readCov_eq_canon']
  exact View.ld_unit_zero (S := S512x512) hz _ _

variable {i x3 x4 x5 x6} {A : Args} {t : Fin 8}
  (key : ∀ h f r, x5 (ix2 (col h f) r) = key A (tok t r) h f) (kn : ∀ f z, x6 (ix2 f z) = A.kn (ix1 f))

include key kn in
theorem headPiece (s h : Fin 4) (D : FVec Ideal S512x128 .f32) (hD : ∀ q l, D (ix2 q l) = dCol A (tok t (lane s l)) q)
    (S : FVec Ideal S64x128 .f32) (hS : ∀ f l, S (ix2 f l) = D (ix2 (kRow h f) l))
    (K : Vec Ideal S64x128 .bf16) (hK : ∀ f l, K (ix2 f l) = x5 (ix2 (col h f) (lane s l))) (f : Fin 64) (l : Fin 128) :
    headBlk S K (k0_pay5 x6) (ix2 f l) = dKV A (tok t (lane s l)) (kRow h f) := by
  have e5 : ∀ f, k0_pay5 x6 (ix2 f 0) = kGain A f := fun f => (by pointwise [k0_pay5] : k0_pay5 x6 (ix2 f 0) = x6 (ix2 f 0)).trans (kn f 0)
  have eS : ∀ f, S (ix2 f l) = dWin A.dkw (tok t (lane s l)) (col h f) := fun f => by
    rw [hS, hD]; exact dif_pos (show h.val * 64 + f.val < 256 by omega)
  have eK : ∀ f, K (ix2 f l) = Cert.Mix.key A (tok t (lane s l)) h f := fun f => by rw [hK, key]
  rw [headBlk_apply]
  simp only [e5, eS, eK]
  have e : dKV A (tok t (lane s l)) (kRow h f) = dKey A (tok t (lane s l)) ⟨(h.val * 64 + f.val) / 64, by omega⟩
      ⟨(h.val * 64 + f.val) % 64, by omega⟩ := dif_pos (show h.val * 64 + f.val < 256 by omega)
  have e1 : (⟨(h.val * 64 + f.val) / 64, by omega⟩ : Fin 4) = h := Fin.ext (by show (h.val * 64 + f.val) / 64 = h.val; omega)
  have e2 : (⟨(h.val * 64 + f.val) % 64, by omega⟩ : Fin 64) = f := Fin.ext (by show (h.val * 64 + f.val) % 64 = f.val; omega)
  rw [e, e1, e2]
  rfl

theorem valPiece (s : Fin 4) (D : FVec Ideal S512x128 .f32) (hD : ∀ q l, D (ix2 q l) = dCol A (tok t (lane s l)) q)
    (r : Fin 256) (l : Fin 128) : valBlk D (ix2 r l) = dKV A (tok t (lane s l)) ⟨256 + r.val, by omega⟩ := by
  have e : valBlk D (ix2 r l) = D (ix2 ⟨256 + r.val, by omega⟩ l) := by pointwise [valBlk]
  rw [e, hD]
  have e1 : ¬256 + r.val < 256 := by omega
  unfold dCol dKV
  rw [dif_neg e1, dif_neg e1]

/-- A head's part of the sum of the keys' gain's gradient. -/
theorem gainPiece (key : ∀ h f r, x5 (ix2 (col h f) r) = Cert.Mix.key A (tok t r) h f) (s h : Fin 4) (D : FVec Ideal S512x128 .f32)
    (hD : ∀ q l, D (ix2 q l) = dCol A (tok t (lane s l)) q)
    (S : FVec Ideal S64x128 .f32) (hS : ∀ f l, S (ix2 f l) = D (ix2 (kRow h f) l))
    (K : Vec Ideal S64x128 .bf16) (hK : ∀ f l, K (ix2 f l) = x5 (ix2 (col h f) (lane s l))) (f : Fin 64) (l : Fin 128) :
    (mulf S (k0_pay11 K) : FVec Ideal S64x128 .f32) (ix2 f l) = dKGPart A (tok t (lane s l)) h f := by
  have eS : ∀ f, S (ix2 f l) = dWin A.dkw (tok t (lane s l)) (col h f) := fun f => by
    rw [hS, hD]; exact dif_pos (show h.val * 64 + f.val < 256 by omega)
  have eK : ∀ f, K (ix2 f l) = Cert.Mix.key A (tok t (lane s l)) h f := fun f => by rw [hK, key]
  show S (ix2 f l) * k0_pay11 K (ix2 f l) = _
  rw [pay11_apply, eS]
  simp only [eK]
  rfl

end KV

end Cert.Mix

end
-- ==== Proof.Mix.Sums.lean ====
/- THE BLOCK OF THE KEYS' AND VALUES' GRADIENTS AND THE SUMS over the tokens, in the call `mix_proj_bwd`, at an index. -/
module

public import proofs.«01_k».proof.Proof.Mix.Block

@[expose] public section

set_option maxRecDepth 16384

noncomputable section

namespace Cert.Mix

open Idealize.ShloMosaic Cert.MixKernelIdeal Cert.MixKernelIdeal.Gen Cert.Ffn Cert.Last

/-! ### The rows -/

section Rows
variable (dn x8 x0 : Vec Ideal S512x1024 .f32) (x9 : Vec Ideal S1x1024 .f32)

theorem pay127_apply (r : Fin 512) (z : Fin 1) : k0_pay127 x8 (ix2 r z) = rstd (row x8 r) := by
  pointwise [k0_pay127, rstd, msq, width_word]

theorem pay128_apply (r : Fin 512) (k : Fin 1024) : k0_pay128 x8 (ix2 r k) = row x8 r k * rstd (row x8 r) := by
  rw [← pay127_apply x8 r 0]
  pointwise [k0_pay128]

theorem pay129_apply (r : Fin 512) (k : Fin 1024) :
    k0_pay129 dn x8 x9 x0 (ix2 r k) = x0 (ix2 r k) + normGrad (row dn r) (row x8 r) (row x9 0) k := by
  unfold normGrad
  simp only [← pay128_apply]
  rw [← pay127_apply x8 r 0, show width = _ from width_word.symm]
  pointwise [k0_pay129]

/-- The gain's gradient, summed over the block's rows on top of `acc`. -/
theorem pay130_apply (acc : Vec Ideal S1x1024 .f32) (z : Fin 1) (k : Fin 1024) :
    k0_pay130 dn x8 acc (ix2 z k) = acc (ix2 0 k) + ∑ r : Fin 512, gainGrad (row dn r) (row x8 r) k := by
  obtain rfl : z = 0 := Subsingleton.elim _ _
  unfold gainGrad
  simp only [← pay128_apply]
  pointwise [k0_pay130]

theorem pay1_apply (v : Vec Ideal S64x128 .f32) (f : Fin 64) (z : Fin 1) :
    k0_pay1 v (ix2 f z) = ∑ l : Fin 128, v (ix2 f l) := by
  pointwise [k0_pay1]

theorem pay2_apply (z : Fin 1) (k : Fin 1024) : k0_pay2 (F := Ideal) (ix2 z k) = 0 := by
  pointwise [k0_pay2]

theorem pay3_apply (f : Fin 64) (l : Fin 128) : k0_pay3 (F := Ideal) (ix2 f l) = 0 := by
  pointwise [k0_pay3]

theorem chain_apply (ps a b m0 m1 m2 m3 m4 m5 m6 m7 m8 m9 m10 m11 m12 m13 m14 : FVec Ideal S64x128 .f32) (f : Fin 64) (l : Fin 128) :
    k0_pay125 ps
      (addf (addf (addf (addf (addf (addf (addf (addf (addf (addf (addf (addf (addf (addf (addf k0_pay6 m0) m1) m2) m3) m4) m5) m6) m7) m8) m9) m10) m11) m12) m13) m14)
      a b (ix2 f l)
      = ps (ix2 f l) + ((m0 (ix2 f l) + m1 (ix2 f l) + m2 (ix2 f l) + m3 (ix2 f l)) + (m4 (ix2 f l) + m5 (ix2 f l) + m6 (ix2 f l) + m7 (ix2 f l)) + (m8 (ix2 f l) + m9 (ix2 f l) + m10 (ix2 f l) + m11 (ix2 f l)) + (m12 (ix2 f l) + m13 (ix2 f l) + m14 (ix2 f l) + (mulf b a : FVec Ideal S64x128 .f32) (ix2 f l))) := by
  pointwise [k0_pay125, k0_pay6]
  abel

theorem pay126_apply (a b : Vec Ideal S512x2048 .bf16) (wa wb : Vec Ideal S2048x1024 .bf16) (c : Vec Ideal S1024x512 .bf16)
    (wc : Vec Ideal S1024x1024 .bf16) (d : Vec Ideal S512x512 .bf16) (wd : Vec Ideal S512x1024 .bf16) (r : Fin 512) (k : Fin 1024) :
    k0_pay126 a wa b wb c wc d wd (ix2 r k)
      = (∑ j : Fin 2048, a (ix2 r j) * wa (ix2 j k)) + (∑ j : Fin 2048, b (ix2 r j) * wb (ix2 j k))
        + (∑ j : Fin 1024, c (ix2 j r) * wc (ix2 j k)) + ∑ j : Fin 512, d (ix2 j r) * wd (ix2 j k) := by
  pointwise [k0_pay126]

/-- A sum over the 5632 columns, part by part. -/
theorem sum_parts (f : Fin 5632 → EReal) :
    ∑ q, f q = (∑ j : Fin 2048, f ⟨j.val, by omega⟩) + (∑ j : Fin 2048, f ⟨3584 + j.val, by omega⟩)
      + (∑ j : Fin 1024, f ⟨2048 + j.val, by omega⟩) + ∑ j : Fin 512, f ⟨3072 + j.val, by omega⟩ := by
  have e : ∑ q, f q = (∑ j : Fin 2048, f ⟨j.val, by omega⟩) + ((∑ j : Fin 1024, f ⟨2048 + j.val, by omega⟩)
      + ((∑ j : Fin 512, f ⟨3072 + j.val, by omega⟩) + ∑ j : Fin 2048, f ⟨3584 + j.val, by omega⟩)) := by
    refine (Fin.sum_univ_add (a := 2048) (b := 1024 + (512 + 2048)) f).trans (congrArg₂ _ rfl ?_)
    refine (Fin.sum_univ_add (a := 1024) (b := 512 + 2048) _).trans (congrArg₂ _ rfl ?_)
    refine (Fin.sum_univ_add (a := 512) (b := 2048) _).trans (congrArg₂ _ ?_ ?_)
    · exact Finset.sum_congr rfl fun j _ => congrArg f (Fin.ext (by show 2048 + (1024 + j.val) = 3072 + j.val; omega))
    · exact Finset.sum_congr rfl fun j _ => congrArg f (Fin.ext (by show 2048 + (1024 + (512 + j.val)) = 3584 + j.val; omega))
  rw [e]
  abel

end Rows

/-! ### One block -/

section Block
variable {A : Args} {t : Fin 8} {i : grid0.Coords} {x0 : Vec Ideal S512x1024 .f32} {x1 : Vec Ideal S512x2048 .bf16}
  {x2 : Vec Ideal S1024x512 .bf16} {x3 : Vec Ideal S4x512x256 .f32} {x4 : Vec Ideal S1x512x256 .f32}
  {x5 : Vec Ideal S256x512 .bf16} {x6 : Vec Ideal S64x1 .f32} {x7 : Vec Ideal S512x2048 .bf16} {x8 : Vec Ideal S512x1024 .f32}
  {x9 : Vec Ideal S1x1024 .f32} {x10 : Vec Ideal S5632x1024 .bf16} (F : Fed A t i x0 x1 x2 x3 x4 x5 x6 x7 x8 x9 x10)
include F

omit F in
/-- A head's rows among the keys' and values'. -/
theorem slice_apply (h : Fin 4) (D : FVec Ideal S512x128 .f32) {o : ℕ} (ho : o = h.val * 64) (hs) (f : Fin 64) (l : Fin 128) :
    extractStridedSlice S64x128 ![o, 0] D hs (ix2 f l) = D (ix2 (kRow h f) l) := by
  subst ho
  refine congrArg D (funext fun a => Fin.ext ?_)
  match a with
  | ⟨0, _⟩ => rfl
  | ⟨1, _⟩ => show 0 + l.val = l.val; omega

omit F in
/-- A head's keys. -/
theorem keys_apply (s h : Fin 4) {o p : ℕ} (ho : o = h.val * 64) (hp : p = 128 * s.val) (inb) (f : Fin 64) (l : Fin 128) :
    View.ld x5 (Rect.unit (s := S256x512) ![o, p] ![64, 128] inb) (ix2 f l) = x5 (ix2 (col h f) (lane s l)) := by
  subst ho hp
  exact View.ld_unit_apply_of _ _ _ _ _ _ fun a => by
    match a with
    | ⟨0, _⟩ => rfl
    | ⟨1, _⟩ => rfl

theorem kvBlock_apply (q p : Fin 512) : kvBlock i x3 x4 x5 x6 (ix2 q p) = dKV A (tok t p) q := by
  unfold kvBlock
  refine View.canon_apply_of_pieces (Val := Elt Ideal) (e := .bf16)
    (fun y : S512x512.Idx => dKV A (tok t (y 1)) (y 0)) _ ?_ (ix2 q p) ?_
  · intro p hp
    rcases List.mem_cons.mp hp with rfl | hp
    · intro x
      rw [eq_ix2 x]
      refine (headPiece F.key F.kn 3 3 _ (D3_apply i x3 x4 F.own F.next F.mask) _ (slice_apply 3 _ rfl _) _ (keys_apply 3 3 rfl rfl _) (x 0) (x 1)).trans ?_
      refine congrArg₂ (fun (p q : Fin 512) => dKV A (tok t p) q) (Fin.ext ?_) (Fin.ext ?_)
      · show 128 * 3 + (x 1).val = 384 + 1 * (x 1).val; omega
      · show 3 * 64 + (x 0).val = 192 + 1 * (x 0).val; omega
    rcases List.mem_cons.mp hp with rfl | hp
    · intro x
      rw [eq_ix2 x]
      refine (headPiece F.key F.kn 3 2 _ (D3_apply i x3 x4 F.own F.next F.mask) _ (slice_apply 2 _ rfl _) _ (keys_apply 3 2 rfl rfl _) (x 0) (x 1)).trans ?_
      refine congrArg₂ (fun (p q : Fin 512) => dKV A (tok t p) q) (Fin.ext ?_) (Fin.ext ?_)
      · show 128 * 3 + (x 1).val = 384 + 1 * (x 1).val; omega
      · show 2 * 64 + (x 0).val = 128 + 1 * (x 0).val; omega
    rcases List.mem_cons.mp hp with rfl | hp
    · intro x
      rw [eq_ix2 x]
      refine (headPiece F.key F.kn 3 1 _ (D3_apply i x3 x4 F.own F.next F.mask) _ (slice_apply 1 _ rfl _) _ (keys_apply 3 1 rfl rfl _) (x 0) (x 1)).trans ?_
      refine congrArg₂ (fun (p q : Fin 512) => dKV A (tok t p) q) (Fin.ext ?_) (Fin.ext ?_)
      · show 128 * 3 + (x 1).val = 384 + 1 * (x 1).val; omega
      · show 1 * 64 + (x 0).val = 64 + 1 * (x 0).val; omega
    rcases List.mem_cons.mp hp with rfl | hp
    · intro x
      rw [eq_ix2 x]
      refine (headPiece F.key F.kn 3 0 _ (D3_apply i x3 x4 F.own F.next F.mask) _ (slice_apply 0 _ rfl _) _ (keys_apply 3 0 rfl rfl _) (x 0) (x 1)).trans ?_
      refine congrArg₂ (fun (p q : Fin 512) => dKV A (tok t p) q) (Fin.ext ?_) (Fin.ext ?_)
      · show 128 * 3 + (x 1).val = 384 + 1 * (x 1).val; omega
      · show 0 * 64 + (x 0).val = 0 + 1 * (x 0).val; omega
    rcases List.mem_cons.mp hp with rfl | hp
    · intro x
      rw [eq_ix2 x]
      refine (valPiece 3 _ (D3_apply i x3 x4 F.own F.next F.mask) (x 0) (x 1)).trans ?_
      refine congrArg₂ (fun (p q : Fin 512) => dKV A (tok t p) q) (Fin.ext ?_) (Fin.ext ?_)
      · show 128 * 3 + (x 1).val = 384 + 1 * (x 1).val; omega
      · show 256 + (x 0).val = 256 + 1 * (x 0).val; omega
    rcases List.mem_cons.mp hp with rfl | hp
    · intro x
      rw [eq_ix2 x]
      refine (headPiece F.key F.kn 2 3 _ (D2_apply x3 F.own) _ (slice_apply 3 _ rfl _) _ (keys_apply 2 3 rfl rfl _) (x 0) (x 1)).trans ?_
      refine congrArg₂ (fun (p q : Fin 512) => dKV A (tok t p) q) (Fin.ext ?_) (Fin.ext ?_)
      · show 128 * 2 + (x 1).val = 256 + 1 * (x 1).val; omega
      · show 3 * 64 + (x 0).val = 192 + 1 * (x 0).val; omega
    rcases List.mem_cons.mp hp with rfl | hp
    · intro x
      rw [eq_ix2 x]
      refine (headPiece F.key F.kn 2 2 _ (D2_apply x3 F.own) _ (slice_apply 2 _ rfl _) _ (keys_apply 2 2 rfl rfl _) (x 0) (x 1)).trans ?_
      refine congrArg₂ (fun (p q : Fin 512) => dKV A (tok t p) q) (Fin.ext ?_) (Fin.ext ?_)
      · show 128 * 2 + (x 1).val = 256 + 1 * (x 1).val; omega
      · show 2 * 64 + (x 0).val = 128 + 1 * (x 0).val; omega
    rcases List.mem_cons.mp hp with rfl | hp
    · intro x
      rw [eq_ix2 x]
      refine (headPiece F.key F.kn 2 1 _ (D2_apply x3 F.own) _ (slice_apply 1 _ rfl _) _ (keys_apply 2 1 rfl rfl _) (x 0) (x 1)).trans ?_
      refine congrArg₂ (fun (p q : Fin 512) => dKV A (tok t p) q) (Fin.ext ?_) (Fin.ext ?_)
      · show 128 * 2 + (x 1).val = 256 + 1 * (x 1).val; omega
      · show 1 * 64 + (x 0).val = 64 + 1 * (x 0).val; omega
    rcases List.mem_cons.mp hp with rfl | hp
    · intro x
      rw [eq_ix2 x]
      refine (headPiece F.key F.kn 2 0 _ (D2_apply x3 F.own) _ (slice_apply 0 _ rfl _) _ (keys_apply 2 0 rfl rfl _) (x 0) (x 1)).trans ?_
      refine congrArg₂ (fun (p q : Fin 512) => dKV A (tok t p) q) (Fin.ext ?_) (Fin.ext ?_)
      · show 128 * 2 + (x 1).val = 256 + 1 * (x 1).val; omega
      · show 0 * 64 + (x 0).val = 0 + 1 * (x 0).val; omega
    rcases List.mem_cons.mp hp with rfl | hp
    · intro x
      rw [eq_ix2 x]
      refine (valPiece 2 _ (D2_apply x3 F.own) (x 0) (x 1)).trans ?_
      refine congrArg₂ (fun (p q : Fin 512) => dKV A (tok t p) q) (Fin.ext ?_) (Fin.ext ?_)
      · show 128 * 2 + (x 1).val = 256 + 1 * (x 1).val; omega
      · show 256 + (x 0).val = 256 + 1 * (x 0).val; omega
    rcases List.mem_cons.mp hp with rfl | hp
    · intro x
      rw [eq_ix2 x]
      refine (headPiece F.key F.kn 1 3 _ (D1_apply x3 F.own) _ (slice_apply 3 _ rfl _) _ (keys_apply 1 3 rfl rfl _) (x 0) (x 1)).trans ?_
      refine congrArg₂ (fun (p q : Fin 512) => dKV A (tok t p) q) (Fin.ext ?_) (Fin.ext ?_)
      · show 128 * 1 + (x 1).val = 128 + 1 * (x 1).val; omega
      · show 3 * 64 + (x 0).val = 192 + 1 * (x 0).val; omega
    rcases List.mem_cons.mp hp with rfl | hp
    · intro x
      rw [eq_ix2 x]
      refine (headPiece F.key F.kn 1 2 _ (D1_apply x3 F.own) _ (slice_apply 2 _ rfl _) _ (keys_apply 1 2 rfl rfl _) (x 0) (x 1)).trans ?_
      refine congrArg₂ (fun (p q : Fin 512) => dKV A (tok t p) q) (Fin.ext ?_) (Fin.ext ?_)
      · show 128 * 1 + (x 1).val = 128 + 1 * (x 1).val; omega
      · show 2 * 64 + (x 0).val = 128 + 1 * (x 0).val; omega
    rcases List.mem_cons.mp hp with rfl | hp
    · intro x
      rw [eq_ix2 x]
      refine (headPiece F.key F.kn 1 1 _ (D1_apply x3 F.own) _ (slice_apply 1 _ rfl _) _ (keys_apply 1 1 rfl rfl _) (x 0) (x 1)).trans ?_
      refine congrArg₂ (fun (p q : Fin 512) => dKV A (tok t p) q) (Fin.ext ?_) (Fin.ext ?_)
      · show 128 * 1 + (x 1).val = 128 + 1 * (x 1).val; omega
      · show 1 * 64 + (x 0).val = 64 + 1 * (x 0).val; omega
    rcases List.mem_cons.mp hp with rfl | hp
    · intro x
      rw [eq_ix2 x]
      refine (headPiece F.key F.kn 1 0 _ (D1_apply x3 F.own) _ (slice_apply 0 _ rfl _) _ (keys_apply 1 0 rfl rfl _) (x 0) (x 1)).trans ?_
      refine congrArg₂ (fun (p q : Fin 512) => dKV A (tok t p) q) (Fin.ext ?_) (Fin.ext ?_)
      · show 128 * 1 + (x 1).val = 128 + 1 * (x 1).val; omega
      · show 0 * 64 + (x 0).val = 0 + 1 * (x 0).val; omega
    rcases List.mem_cons.mp hp with rfl | hp
    · intro x
      rw [eq_ix2 x]
      refine (valPiece 1 _ (D1_apply x3 F.own) (x 0) (x 1)).trans ?_
      refine congrArg₂ (fun (p q : Fin 512) => dKV A (tok t p) q) (Fin.ext ?_) (Fin.ext ?_)
      · show 128 * 1 + (x 1).val = 128 + 1 * (x 1).val; omega
      · show 256 + (x 0).val = 256 + 1 * (x 0).val; omega
    rcases List.mem_cons.mp hp with rfl | hp
    · intro x
      rw [eq_ix2 x]
      refine (headPiece F.key F.kn 0 3 _ (D0_apply x3 F.own) _ (slice_apply 3 _ rfl _) _ (keys_apply 0 3 rfl rfl _) (x 0) (x 1)).trans ?_
      refine congrArg₂ (fun (p q : Fin 512) => dKV A (tok t p) q) (Fin.ext ?_) (Fin.ext ?_)
      · show 128 * 0 + (x 1).val = 0 + 1 * (x 1).val; omega
      · show 3 * 64 + (x 0).val = 192 + 1 * (x 0).val; omega
    rcases List.mem_cons.mp hp with rfl | hp
    · intro x
      rw [eq_ix2 x]
      refine (headPiece F.key F.kn 0 2 _ (D0_apply x3 F.own) _ (slice_apply 2 _ rfl _) _ (keys_apply 0 2 rfl rfl _) (x 0) (x 1)).trans ?_
      refine congrArg₂ (fun (p q : Fin 512) => dKV A (tok t p) q) (Fin.ext ?_) (Fin.ext ?_)
      · show 128 * 0 + (x 1).val = 0 + 1 * (x 1).val; omega
      · show 2 * 64 + (x 0).val = 128 + 1 * (x 0).val; omega
    rcases List.mem_cons.mp hp with rfl | hp
    · intro x
      rw [eq_ix2 x]
      refine (headPiece F.key F.kn 0 1 _ (D0_apply x3 F.own) _ (slice_apply 1 _ rfl _) _ (keys_apply 0 1 rfl rfl _) (x 0) (x 1)).trans ?_
      refine congrArg₂ (fun (p q : Fin 512) => dKV A (tok t p) q) (Fin.ext ?_) (Fin.ext ?_)
      · show 128 * 0 + (x 1).val = 0 + 1 * (x 1).val; omega
      · show 1 * 64 + (x 0).val = 64 + 1 * (x 0).val; omega
    rcases List.mem_cons.mp hp with rfl | hp
    · intro x
      rw [eq_ix2 x]
      refine (headPiece F.key F.kn 0 0 _ (D0_apply x3 F.own) _ (slice_apply 0 _ rfl _) _ (keys_apply 0 0 rfl rfl _) (x 0) (x 1)).trans ?_
      refine congrArg₂ (fun (p q : Fin 512) => dKV A (tok t p) q) (Fin.ext ?_) (Fin.ext ?_)
      · show 128 * 0 + (x 1).val = 0 + 1 * (x 1).val; omega
      · show 0 * 64 + (x 0).val = 0 + 1 * (x 0).val; omega
    rcases List.mem_cons.mp hp with rfl | hp
    · intro x
      rw [eq_ix2 x]
      refine (valPiece 0 _ (D0_apply x3 F.own) (x 0) (x 1)).trans ?_
      refine congrArg₂ (fun (p q : Fin 512) => dKV A (tok t p) q) (Fin.ext ?_) (Fin.ext ?_)
      · show 128 * 0 + (x 1).val = 0 + 1 * (x 1).val; omega
      · show 256 + (x 0).val = 256 + 1 * (x 0).val; omega
    nomatch hp
  · have hq : q.val < 512 := q.isLt
    have hp : p.val < 512 := p.isLt
    by_cases hp0 : p.val < 128
    · skip
      by_cases hq0 : q.val < 64
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))), by
          rw [Rect.mem_set_unit]
          intro a
          match a with
          | ⟨0, _⟩ => show 0 ≤ q.val ∧ q.val < 0 + 64; omega
          | ⟨1, _⟩ => show 0 ≤ p.val ∧ p.val < 0 + 128; omega⟩
      by_cases hq1 : q.val < 128
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))), by
          rw [Rect.mem_set_unit]
          intro a
          match a with
          | ⟨0, _⟩ => show 64 ≤ q.val ∧ q.val < 64 + 64; omega
          | ⟨1, _⟩ => show 0 ≤ p.val ∧ p.val < 0 + 128; omega⟩
      by_cases hq2 : q.val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))), by
          rw [Rect.mem_set_unit]
          intro a
          match a with
          | ⟨0, _⟩ => show 128 ≤ q.val ∧ q.val < 128 + 64; omega
          | ⟨1, _⟩ => show 0 ≤ p.val ∧ p.val < 0 + 128; omega⟩
      by_cases hq3 : q.val < 256
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))), by
          rw [Rect.mem_set_unit]
          intro a
          match a with
          | ⟨0, _⟩ => show 192 ≤ q.val ∧ q.val < 192 + 64; omega
          | ⟨1, _⟩ => show 0 ≤ p.val ∧ p.val < 0 + 128; omega⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))), by
          rw [Rect.mem_set_unit]
          intro a
          match a with
          | ⟨0, _⟩ => show 256 ≤ q.val ∧ q.val < 256 + 256; omega
          | ⟨1, _⟩ => show 0 ≤ p.val ∧ p.val < 0 + 128; omega⟩
    by_cases hp1 : p.val < 256
    · skip
      by_cases hq0 : q.val < 64
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))), by
          rw [Rect.mem_set_unit]
          intro a
          match a with
          | ⟨0, _⟩ => show 0 ≤ q.val ∧ q.val < 0 + 64; omega
          | ⟨1, _⟩ => show 128 ≤ p.val ∧ p.val < 128 + 128; omega⟩
      by_cases hq1 : q.val < 128
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))), by
          rw [Rect.mem_set_unit]
          intro a
          match a with
          | ⟨0, _⟩ => show 64 ≤ q.val ∧ q.val < 64 + 64; omega
          | ⟨1, _⟩ => show 128 ≤ p.val ∧ p.val < 128 + 128; omega⟩
      by_cases hq2 : q.val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), by
          rw [Rect.mem_set_unit]
          intro a
          match a with
          | ⟨0, _⟩ => show 128 ≤ q.val ∧ q.val < 128 + 64; omega
          | ⟨1, _⟩ => show 128 ≤ p.val ∧ p.val < 128 + 128; omega⟩
      by_cases hq3 : q.val < 256
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), by
          rw [Rect.mem_set_unit]
          intro a
          match a with
          | ⟨0, _⟩ => show 192 ≤ q.val ∧ q.val < 192 + 64; omega
          | ⟨1, _⟩ => show 128 ≤ p.val ∧ p.val < 128 + 128; omega⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))), by
          rw [Rect.mem_set_unit]
          intro a
          match a with
          | ⟨0, _⟩ => show 256 ≤ q.val ∧ q.val < 256 + 256; omega
          | ⟨1, _⟩ => show 128 ≤ p.val ∧ p.val < 128 + 128; omega⟩
    by_cases hp2 : p.val < 384
    · skip
      by_cases hq0 : q.val < 64
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), by
          rw [Rect.mem_set_unit]
          intro a
          match a with
          | ⟨0, _⟩ => show 0 ≤ q.val ∧ q.val < 0 + 64; omega
          | ⟨1, _⟩ => show 256 ≤ p.val ∧ p.val < 256 + 128; omega⟩
      by_cases hq1 : q.val < 128
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), by
          rw [Rect.mem_set_unit]
          intro a
          match a with
          | ⟨0, _⟩ => show 64 ≤ q.val ∧ q.val < 64 + 64; omega
          | ⟨1, _⟩ => show 256 ≤ p.val ∧ p.val < 256 + 128; omega⟩
      by_cases hq2 : q.val < 192
      · exact ⟨_, List.mem_cons_of_mem _ (List.mem_cons_of_mem _ (List.mem_cons_of_mem _ (List.mem_cons_of_mem _ (List.mem_cons_of_mem _ (List.mem_cons_of_mem _ (List.mem_cons_self ..)))))), by
          rw [Rect.mem_set_unit]
          intro a
          match a with
          | ⟨0, _⟩ => show 128 ≤ q.val ∧ q.val < 128 + 64; omega
          | ⟨1, _⟩ => show 256 ≤ p.val ∧ p.val < 256 + 128; omega⟩
      by_cases hq3 : q.val < 256
      · exact ⟨_, List.mem_cons_of_mem _ (List.mem_cons_of_mem _ (List.mem_cons_of_mem _ (List.mem_cons_of_mem _ (List.mem_cons_of_mem _ (List.mem_cons_self ..))))), by
          rw [Rect.mem_set_unit]
          intro a
          match a with
          | ⟨0, _⟩ => show 192 ≤ q.val ∧ q.val < 192 + 64; omega
          | ⟨1, _⟩ => show 256 ≤ p.val ∧ p.val < 256 + 128; omega⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), by
          rw [Rect.mem_set_unit]
          intro a
          match a with
          | ⟨0, _⟩ => show 256 ≤ q.val ∧ q.val < 256 + 256; omega
          | ⟨1, _⟩ => show 256 ≤ p.val ∧ p.val < 256 + 128; omega⟩
    · skip
      by_cases hq0 : q.val < 64
      · exact ⟨_, List.mem_cons_of_mem _ (List.mem_cons_of_mem _ (List.mem_cons_of_mem _ (List.mem_cons_self ..))), by
          rw [Rect.mem_set_unit]
          intro a
          match a with
          | ⟨0, _⟩ => show 0 ≤ q.val ∧ q.val < 0 + 64; omega
          | ⟨1, _⟩ => show 384 ≤ p.val ∧ p.val < 384 + 128; omega⟩
      by_cases hq1 : q.val < 128
      · exact ⟨_, List.mem_cons_of_mem _ (List.mem_cons_of_mem _ (List.mem_cons_self ..)), by
          rw [Rect.mem_set_unit]
          intro a
          match a with
          | ⟨0, _⟩ => show 64 ≤ q.val ∧ q.val < 64 + 64; omega
          | ⟨1, _⟩ => show 384 ≤ p.val ∧ p.val < 384 + 128; omega⟩
      by_cases hq2 : q.val < 192
      · exact ⟨_, List.mem_cons_of_mem _ (List.mem_cons_self ..), by
          rw [Rect.mem_set_unit]
          intro a
          match a with
          | ⟨0, _⟩ => show 128 ≤ q.val ∧ q.val < 128 + 64; omega
          | ⟨1, _⟩ => show 384 ≤ p.val ∧ p.val < 384 + 128; omega⟩
      by_cases hq3 : q.val < 256
      · exact ⟨_, List.mem_cons_self .., by
          rw [Rect.mem_set_unit]
          intro a
          match a with
          | ⟨0, _⟩ => show 192 ≤ q.val ∧ q.val < 192 + 64; omega
          | ⟨1, _⟩ => show 384 ≤ p.val ∧ p.val < 384 + 128; omega⟩
      · exact ⟨_, List.mem_cons_of_mem _ (List.mem_cons_of_mem _ (List.mem_cons_of_mem _ (List.mem_cons_of_mem _ (List.mem_cons_self ..)))), by
          rw [Rect.mem_set_unit]
          intro a
          match a with
          | ⟨0, _⟩ => show 256 ≤ q.val ∧ q.val < 256 + 256; omega
          | ⟨1, _⟩ => show 384 ≤ p.val ∧ p.val < 384 + 128; omega⟩

/-- The gradient of a token's normalised row. -/
theorem dNorm_apply (r : Fin 512) (k : Fin 1024) :
    k0_pay126 x1 (View.ld x10 (Rect.unit ![0, 0] ![2048, 1024] inb_S5632x1024_S2048x1024_0_0)) x7
        (View.ld x10 (Rect.unit ![3584, 0] ![2048, 1024] inb_S5632x1024_S2048x1024_3584_0)) x2
        (View.ld x10 (Rect.unit ![2048, 0] ![1024, 1024] inb_S5632x1024_S1024x1024_2048_0)) (kvBlock i x3 x4 x5 x6)
        (View.ld x10 (Rect.unit ![3072, 0] ![512, 1024] inb_S5632x1024_S512x1024_3072_0)) (ix2 r k)
      = dNorm A (tok t r) k := by
  rw [pay126_apply, dNorm, lin, sum_parts]
  refine congrArg₂ (· + ·) (congrArg₂ (· + ·) (congrArg₂ (· + ·) ?_ ?_) ?_) ?_ <;> refine Finset.sum_congr rfl fun j _ => ?_
  · refine congrArg₂ (· * ·) ((F.du r j).trans ?_) ((View.ld_unit_apply_of _ _ _ _ _ (ix2 ⟨j.val, by omega⟩ k) fun a => ?_).trans (F.wi _ k))
    · unfold dRow
      rw [dif_pos (show j.val < 2048 by omega)]
    · match a with
      | ⟨0, _⟩ => show j.val = 0 + j.val; omega
      | ⟨1, _⟩ => show k.val = 0 + k.val; omega
  · refine congrArg₂ (· * ·) ((F.dgt r j).trans ?_) ((View.ld_unit_apply_of _ _ _ _ _ (ix2 ⟨3584 + j.val, by omega⟩ k) fun a => ?_).trans (F.wi _ k))
    · unfold dRow
      rw [dif_neg (show ¬3584 + j.val < 2048 by omega), dif_neg (show ¬3584 + j.val < 3072 by omega), dif_neg (show ¬3584 + j.val < 3584 by omega)]
      exact congrArg (fun q => A.dgt (ix2 (tok t r) q)) (Fin.ext (by show j.val = 3584 + j.val - 3584; omega))
    · match a with
      | ⟨0, _⟩ => show 3584 + j.val = 3584 + j.val; rfl
      | ⟨1, _⟩ => show k.val = 0 + k.val; omega
  · refine congrArg₂ (· * ·) ((F.dq j r).trans ?_) ((View.ld_unit_apply_of _ _ _ _ _ (ix2 ⟨2048 + j.val, by omega⟩ k) fun a => ?_).trans (F.wi _ k))
    · unfold dRow
      rw [dif_neg (show ¬2048 + j.val < 2048 by omega), dif_pos (show 2048 + j.val < 3072 by omega)]
      exact congrArg (fun q => A.dq (ix2 (tok t r) q)) (Fin.ext (by show j.val = 2048 + j.val - 2048; omega))
    · match a with
      | ⟨0, _⟩ => show 2048 + j.val = 2048 + j.val; rfl
      | ⟨1, _⟩ => show k.val = 0 + k.val; omega
  · refine congrArg₂ (· * ·) ((kvBlock_apply F j r).trans ?_) ((View.ld_unit_apply_of _ _ _ _ _ (ix2 ⟨3072 + j.val, by omega⟩ k) fun a => ?_).trans (F.wi _ k))
    · unfold dRow
      rw [dif_neg (show ¬3072 + j.val < 2048 by omega), dif_neg (show ¬3072 + j.val < 3072 by omega), dif_pos (show 3072 + j.val < 3584 by omega)]
      exact congrArg (dKV A (tok t r)) (Fin.ext (by show j.val = 3072 + j.val - 3072; omega))
    · match a with
      | ⟨0, _⟩ => show 3072 + j.val = 3072 + j.val; rfl
      | ⟨1, _⟩ => show k.val = 0 + k.val; omega

omit F in
variable (i x3 x4 x5) in
/-- The sums of the keys' gain's gradient, one for each lane and row, on top of `ps`. -/
abbrev gainSum (ps : Vec Ideal S64x128 .f32) : FVec Ideal S64x128 .f32 :=
  k0_pay125 ps
    (addf (addf (addf (addf (addf (addf (addf (addf (addf (addf (addf (addf (addf (addf (addf k0_pay6 (mulf (S00 x3) (k0_pay11 (K00 x5)))) (mulf (S01 x3) (k0_pay11 (K01 x5)))) (mulf (S02 x3) (k0_pay11 (K02 x5)))) (mulf (S03 x3) (k0_pay11 (K03 x5)))) (mulf (S10 x3) (k0_pay11 (K10 x5)))) (mulf (S11 x3) (k0_pay11 (K11 x5)))) (mulf (S12 x3) (k0_pay11 (K12 x5)))) (mulf (S13 x3) (k0_pay11 (K13 x5)))) (mulf (S20 x3) (k0_pay11 (K20 x5)))) (mulf (S21 x3) (k0_pay11 (K21 x5)))) (mulf (S22 x3) (k0_pay11 (K22 x5)))) (mulf (S23 x3) (k0_pay11 (K23 x5)))) (mulf (S30 i x3 x4) (k0_pay11 (K30 x5)))) (mulf (S31 i x3 x4) (k0_pay11 (K31 x5)))) (mulf (S32 i x3 x4) (k0_pay11 (K32 x5))))
    (k0_pay11 (K33 x5)) (S33 i x3 x4)

theorem gainSum_apply (ps : Vec Ideal S64x128 .f32) (f : Fin 64) (l : Fin 128) :
    gainSum i x3 x4 x5 ps (ix2 f l) = ps (ix2 f l) + ∑ s : Fin 4, ∑ h : Fin 4, dKGPart A (tok t (lane s l)) h f := by
  have e00 := gainPiece F.key 0 0 _ (D0_apply x3 F.own) (S00 x3) (slice_apply 0 _ rfl _) (K00 x5) (keys_apply 0 0 rfl rfl _) f l
  have e01 := gainPiece F.key 0 1 _ (D0_apply x3 F.own) (S01 x3) (slice_apply 1 _ rfl _) (K01 x5) (keys_apply 0 1 rfl rfl _) f l
  have e02 := gainPiece F.key 0 2 _ (D0_apply x3 F.own) (S02 x3) (slice_apply 2 _ rfl _) (K02 x5) (keys_apply 0 2 rfl rfl _) f l
  have e03 := gainPiece F.key 0 3 _ (D0_apply x3 F.own) (S03 x3) (slice_apply 3 _ rfl _) (K03 x5) (keys_apply 0 3 rfl rfl _) f l
  have e10 := gainPiece F.key 1 0 _ (D1_apply x3 F.own) (S10 x3) (slice_apply 0 _ rfl _) (K10 x5) (keys_apply 1 0 rfl rfl _) f l
  have e11 := gainPiece F.key 1 1 _ (D1_apply x3 F.own) (S11 x3) (slice_apply 1 _ rfl _) (K11 x5) (keys_apply 1 1 rfl rfl _) f l
  have e12 := gainPiece F.key 1 2 _ (D1_apply x3 F.own) (S12 x3) (slice_apply 2 _ rfl _) (K12 x5) (keys_apply 1 2 rfl rfl _) f l
  have e13 := gainPiece F.key 1 3 _ (D1_apply x3 F.own) (S13 x3) (slice_apply 3 _ rfl _) (K13 x5) (keys_apply 1 3 rfl rfl _) f l
  have e20 := gainPiece F.key 2 0 _ (D2_apply x3 F.own) (S20 x3) (slice_apply 0 _ rfl _) (K20 x5) (keys_apply 2 0 rfl rfl _) f l
  have e21 := gainPiece F.key 2 1 _ (D2_apply x3 F.own) (S21 x3) (slice_apply 1 _ rfl _) (K21 x5) (keys_apply 2 1 rfl rfl _) f l
  have e22 := gainPiece F.key 2 2 _ (D2_apply x3 F.own) (S22 x3) (slice_apply 2 _ rfl _) (K22 x5) (keys_apply 2 2 rfl rfl _) f l
  have e23 := gainPiece F.key 2 3 _ (D2_apply x3 F.own) (S23 x3) (slice_apply 3 _ rfl _) (K23 x5) (keys_apply 2 3 rfl rfl _) f l
  have e30 := gainPiece F.key 3 0 _ (D3_apply i x3 x4 F.own F.next F.mask) (S30 i x3 x4) (slice_apply 0 _ rfl _) (K30 x5) (keys_apply 3 0 rfl rfl _) f l
  have e31 := gainPiece F.key 3 1 _ (D3_apply i x3 x4 F.own F.next F.mask) (S31 i x3 x4) (slice_apply 1 _ rfl _) (K31 x5) (keys_apply 3 1 rfl rfl _) f l
  have e32 := gainPiece F.key 3 2 _ (D3_apply i x3 x4 F.own F.next F.mask) (S32 i x3 x4) (slice_apply 2 _ rfl _) (K32 x5) (keys_apply 3 2 rfl rfl _) f l
  have e33 := gainPiece F.key 3 3 _ (D3_apply i x3 x4 F.own F.next F.mask) (S33 i x3 x4) (slice_apply 3 _ rfl _) (K33 x5) (keys_apply 3 3 rfl rfl _) f l
  simp only [Fin.sum_univ_four]
  rw [← e00, ← e01, ← e02, ← e03, ← e10, ← e11, ← e12, ← e13, ← e20, ← e21, ← e22, ← e23, ← e30, ← e31, ← e32, ← e33]
  exact chain_apply ..

/-- The gradient of a token's row. -/
theorem dX_apply (r : Fin 512) (k : Fin 1024) (dn : Vec Ideal S512x1024 .f32) (hdn : ∀ r k, dn (ix2 r k) = dNorm A (tok t r) k) :
    k0_pay129 dn x8 x9 x0 (ix2 r k) = dX A (tok t r) k := by
  rw [pay129_apply, F.e, show row dn r = dNorm A (tok t r) from funext (hdn r),
    show row x8 r = row A.x (tok t r) from funext (F.x r), show row x9 0 = gain A from funext (F.g 0)]
  rfl

theorem dG_apply (dn : Vec Ideal S512x1024 .f32) (hdn : ∀ r k, dn (ix2 r k) = dNorm A (tok t r) k) (acc : Vec Ideal S1x1024 .f32)
    (z : Fin 1) (k : Fin 1024) : k0_pay130 dn x8 acc (ix2 z k)
      = acc (ix2 0 k) + ∑ r : Fin 512, gainGrad (dNorm A (tok t r)) (row A.x (tok t r)) k := by
  rw [pay130_apply]
  refine congrArg (acc _ + ·) (Finset.sum_congr rfl fun r _ => ?_)
  rw [show row dn r = dNorm A (tok t r) from funext (hdn r), show row x8 r = row A.x (tok t r) from funext (F.x r)]

end Block

end Cert.Mix

end
-- ==== Proof.Mix.Out.lean ====
/- WHAT A POINT OF THE GRID LEAVES in each output's buffer in the call `mix_proj_bwd`, as the arithmetic of Proof/Mix/Block.lean
   and Proof/Mix/Sums.lean: at the first point (case A), where the two sums start from zero, at the middle ones (case B) and
   at the last (case C), which adds up the lanes of the keys' gain's gradient. -/
module

public import proofs.«01_k».proof.Proof.Mix.Sums

@[expose] public section

set_option maxRecDepth 16384

noncomputable section

namespace Cert.Mix

open Idealize.ShloMosaic Idealize Cert.MixKernelIdeal Cert.MixKernelIdeal.Gen Cert.Ffn Cert.Last
theorem hz : (![0, 0] : Fin 2 → Nat) = fun _ => 0 := funext fun a => by fin_cases a <;> rfl

variable (c : Dev nD) (i : grid0.Coords)
  (a1 : Memref sig .tc .vmem S512x1024 .f32) (h1 : a1.IsWhole)
  (a2 : Memref sig .tc .vmem S512x2048 .bf16) (h2 : a2.IsWhole)
  (a3 : Memref sig .tc .vmem S1024x512 .bf16) (h3 : a3.IsWhole)
  (a4 : Memref sig .tc .vmem S4x512x256 .f32) (h4 : a4.IsWhole)
  (a5 : Memref sig .tc .vmem S1x512x256 .f32) (h5 : a5.IsWhole)
  (a6 : Memref sig .tc .vmem S256x512 .bf16) (h6 : a6.IsWhole)
  (a7 : Memref sig .tc .vmem S64x1 .f32) (h7 : a7.IsWhole)
  (a8 : Memref sig .tc .vmem S512x2048 .bf16) (h8 : a8.IsWhole)
  (a9 : Memref sig .tc .vmem S512x1024 .f32) (h9 : a9.IsWhole)
  (a10 : Memref sig .tc .vmem S1x1024 .f32) (h10 : a10.IsWhole)
  (a11 : Memref sig .tc .vmem S5632x1024 .bf16) (h11 : a11.IsWhole)
  (a12 : Memref sig .tc .vmem S512x1024 .f32) (h12 : a12.IsWhole)
  (a13 : Memref sig .tc .vmem S1x1024 .f32) (h13 : a13.IsWhole)
  (a14 : Memref sig .tc .vmem S512x512 .bf16) (h14 : a14.IsWhole)
  (a15 : Memref sig .tc .vmem S64x1 .f32) (h15 : a15.IsWhole)
  (a16 : Memref sig .tc .vmem S64x128 .f32) (h16 : a16.IsWhole)
  (x0 : Vec Ideal S512x1024 .f32) (x1 : Vec Ideal S512x2048 .bf16) (x2 : Vec Ideal S1024x512 .bf16) (x3 : Vec Ideal S4x512x256 .f32) (x4 : Vec Ideal S1x512x256 .f32) (x5 : Vec Ideal S256x512 .bf16) (x6 : Vec Ideal S64x1 .f32) (x7 : Vec Ideal S512x2048 .bf16) (x8 : Vec Ideal S512x1024 .f32) (x9 : Vec Ideal S1x1024 .f32) (x10 : Vec Ideal S5632x1024 .bf16)
  (p12 : Vec Ideal S1x1024 .f32) (ps : Vec Ideal S64x128 .f32)

/-- The gradient of the block's normalised rows. -/
abbrev dnBlock : FVec Ideal S512x1024 .f32 :=
  k0_pay126 x1 (View.ld x10 (Rect.unit ![0, 0] ![2048, 1024] inb_S5632x1024_S2048x1024_0_0)) x7
    (View.ld x10 (Rect.unit ![3584, 0] ![2048, 1024] inb_S5632x1024_S2048x1024_3584_0)) x2
    (View.ld x10 (Rect.unit ![2048, 0] ![1024, 1024] inb_S5632x1024_S1024x1024_2048_0)) (kvBlock i x3 x4 x5 x6)
    (View.ld x10 (Rect.unit ![3072, 0] ![512, 1024] inb_S5632x1024_S512x1024_3072_0))

theorem out11_A (hc0 : cond0_0 i) (hc1 : ¬cond0_1 i) :
    out0_A_11 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 = k0_pay129 (dnBlock i x1 x2 x3 x4 x5 x6 x7 x10) x8 x9 x0 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S512x1024) hz, View.ld_unit_zero (S := S512x2048) hz, View.ld_unit_zero (S := S1024x512) hz,
    View.ld_unit_zero (S := S64x1) hz, View.ld_unit_zero (S := S1x1024) hz]
  exact congrArg (fun kv => k0_pay129 (k0_pay126 x1 (View.ld x10 (Rect.unit ![0, 0] ![2048, 1024] inb_S5632x1024_S2048x1024_0_0)) x7 (View.ld x10 (Rect.unit ![3584, 0] ![2048, 1024] inb_S5632x1024_S2048x1024_3584_0)) x2 (View.ld x10 (Rect.unit ![2048, 0] ![1024, 1024] inb_S5632x1024_S1024x1024_2048_0)) kv (View.ld x10 (Rect.unit ![3072, 0] ![512, 1024] inb_S5632x1024_S512x1024_3072_0))) x8 x9 x0) (reload (i := i) (x3 := x3) (x4 := x4) (x5 := x5) (x6 := x6) hz a14)

theorem out12_A (hc0 : cond0_0 i) (hc1 : ¬cond0_1 i) :
    out0_A_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 = k0_pay130 (dnBlock i x1 x2 x3 x4 x5 x6 x7 x10) x8 (k0_pay2 (F := Ideal)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S512x1024) hz, View.ld_unit_zero (S := S512x2048) hz, View.ld_unit_zero (S := S1024x512) hz,
    View.ld_unit_zero (S := S64x1) hz, View.ld_unit_zero (S := S1x1024) hz]
  exact congrArg (fun kv => k0_pay130 (k0_pay126 x1 (View.ld x10 (Rect.unit ![0, 0] ![2048, 1024] inb_S5632x1024_S2048x1024_0_0)) x7 (View.ld x10 (Rect.unit ![3584, 0] ![2048, 1024] inb_S5632x1024_S2048x1024_3584_0)) x2 (View.ld x10 (Rect.unit ![2048, 0] ![1024, 1024] inb_S5632x1024_S1024x1024_2048_0)) kv (View.ld x10 (Rect.unit ![3072, 0] ![512, 1024] inb_S5632x1024_S512x1024_3072_0))) x8 (k0_pay2 (F := Ideal))) (reload (i := i) (x3 := x3) (x4 := x4) (x5 := x5) (x6 := x6) hz a14)

theorem out13_A (hc0 : cond0_0 i) (hc1 : ¬cond0_1 i) :
    out0_A_13 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 = kvBlock i x3 x4 x5 x6 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, h11.read_unread,
    View.ld_unit_zero (S := S512x1024) hz, View.ld_unit_zero (S := S512x2048) hz, View.ld_unit_zero (S := S1024x512) hz,
    View.ld_unit_zero (S := S64x1) hz, View.ld_unit_zero (S := S1x1024) hz]
  rfl

theorem outs_A (hc0 : cond0_0 i) (hc1 : ¬cond0_1 i) :
    sout0_A_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 = gainSum i x3 x4 x5 (k0_pay3 (F := Ideal)) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10)]
  unfold kernelRun0_A
  dsimp only
  sl_unfold_words
  rw [View.canon_cons_unit_zero (S := S64x128) hz, View.readCov_unit_zero (S := S64x128) _ hz]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S512x1024) hz, View.ld_unit_zero (S := S512x2048) hz, View.ld_unit_zero (S := S1024x512) hz,
    View.ld_unit_zero (S := S64x1) hz, View.ld_unit_zero (S := S1x1024) hz]
  rfl

theorem out11_B (hc0 : ¬cond0_0 i) (hc1 : ¬cond0_1 i) :
    out0_B_11 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps = k0_pay129 (dnBlock i x1 x2 x3 x4 x5 x6 x7 x10) x8 x9 x0 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h13.read_unread, h16.read_unread,
    View.ld_unit_zero (S := S512x1024) hz, View.ld_unit_zero (S := S512x2048) hz, View.ld_unit_zero (S := S1024x512) hz,
    View.ld_unit_zero (S := S64x1) hz, View.ld_unit_zero (S := S1x1024) hz, View.ld_unit_zero (S := S64x128) hz]
  exact congrArg (fun kv => k0_pay129 (k0_pay126 x1 (View.ld x10 (Rect.unit ![0, 0] ![2048, 1024] inb_S5632x1024_S2048x1024_0_0)) x7 (View.ld x10 (Rect.unit ![3584, 0] ![2048, 1024] inb_S5632x1024_S2048x1024_3584_0)) x2 (View.ld x10 (Rect.unit ![2048, 0] ![1024, 1024] inb_S5632x1024_S1024x1024_2048_0)) kv (View.ld x10 (Rect.unit ![3072, 0] ![512, 1024] inb_S5632x1024_S512x1024_3072_0))) x8 x9 x0) (reload (i := i) (x3 := x3) (x4 := x4) (x5 := x5) (x6 := x6) hz a14)

theorem out12_B (hc0 : ¬cond0_0 i) (hc1 : ¬cond0_1 i) :
    out0_B_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps = k0_pay130 (dnBlock i x1 x2 x3 x4 x5 x6 x7 x10) x8 p12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h13.read_unread, h16.read_unread,
    View.ld_unit_zero (S := S512x1024) hz, View.ld_unit_zero (S := S512x2048) hz, View.ld_unit_zero (S := S1024x512) hz,
    View.ld_unit_zero (S := S64x1) hz, View.ld_unit_zero (S := S1x1024) hz, View.ld_unit_zero (S := S64x128) hz]
  exact congrArg (fun kv => k0_pay130 (k0_pay126 x1 (View.ld x10 (Rect.unit ![0, 0] ![2048, 1024] inb_S5632x1024_S2048x1024_0_0)) x7 (View.ld x10 (Rect.unit ![3584, 0] ![2048, 1024] inb_S5632x1024_S2048x1024_3584_0)) x2 (View.ld x10 (Rect.unit ![2048, 0] ![1024, 1024] inb_S5632x1024_S1024x1024_2048_0)) kv (View.ld x10 (Rect.unit ![3072, 0] ![512, 1024] inb_S5632x1024_S512x1024_3072_0))) x8 p12) (reload (i := i) (x3 := x3) (x4 := x4) (x5 := x5) (x6 := x6) hz a14)

theorem out13_B (hc0 : ¬cond0_0 i) (hc1 : ¬cond0_1 i) :
    out0_B_13 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps = kvBlock i x3 x4 x5 x6 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps)]
  unfold kernelRun0_B
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, h13.read_unread, h16.read_unread,
    View.ld_unit_zero (S := S512x1024) hz, View.ld_unit_zero (S := S512x2048) hz, View.ld_unit_zero (S := S1024x512) hz,
    View.ld_unit_zero (S := S64x1) hz, View.ld_unit_zero (S := S1x1024) hz, View.ld_unit_zero (S := S64x128) hz]
  rfl

theorem outs_B (hc0 : ¬cond0_0 i) (hc1 : ¬cond0_1 i) :
    sout0_B_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps = gainSum i x3 x4 x5 ps := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h13.read_unread, h16.read_unread,
    View.ld_unit_zero (S := S512x1024) hz, View.ld_unit_zero (S := S512x2048) hz, View.ld_unit_zero (S := S1024x512) hz,
    View.ld_unit_zero (S := S64x1) hz, View.ld_unit_zero (S := S1x1024) hz, View.ld_unit_zero (S := S64x128) hz]
  rfl

theorem out11_C (hc0 : ¬cond0_0 i) (hc1 : cond0_1 i) :
    out0_C_11 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps = k0_pay129 (dnBlock i x1 x2 x3 x4 x5 x6 x7 x10) x8 x9 x0 := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps)]
  unfold kernelRun0_C
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h13.read_unread, h16.read_unread,
    View.ld_unit_zero (S := S512x1024) hz, View.ld_unit_zero (S := S512x2048) hz, View.ld_unit_zero (S := S1024x512) hz,
    View.ld_unit_zero (S := S64x1) hz, View.ld_unit_zero (S := S1x1024) hz, View.ld_unit_zero (S := S64x128) hz]
  exact congrArg (fun kv => k0_pay129 (k0_pay126 x1 (View.ld x10 (Rect.unit ![0, 0] ![2048, 1024] inb_S5632x1024_S2048x1024_0_0)) x7 (View.ld x10 (Rect.unit ![3584, 0] ![2048, 1024] inb_S5632x1024_S2048x1024_3584_0)) x2 (View.ld x10 (Rect.unit ![2048, 0] ![1024, 1024] inb_S5632x1024_S1024x1024_2048_0)) kv (View.ld x10 (Rect.unit ![3072, 0] ![512, 1024] inb_S5632x1024_S512x1024_3072_0))) x8 x9 x0) (reload (i := i) (x3 := x3) (x4 := x4) (x5 := x5) (x6 := x6) hz a14)

theorem out12_C (hc0 : ¬cond0_0 i) (hc1 : cond0_1 i) :
    out0_C_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps = k0_pay130 (dnBlock i x1 x2 x3 x4 x5 x6 x7 x10) x8 p12 := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps)]
  unfold kernelRun0_C
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h13.read_unread, h16.read_unread,
    View.ld_unit_zero (S := S512x1024) hz, View.ld_unit_zero (S := S512x2048) hz, View.ld_unit_zero (S := S1024x512) hz,
    View.ld_unit_zero (S := S64x1) hz, View.ld_unit_zero (S := S1x1024) hz, View.ld_unit_zero (S := S64x128) hz]
  exact congrArg (fun kv => k0_pay130 (k0_pay126 x1 (View.ld x10 (Rect.unit ![0, 0] ![2048, 1024] inb_S5632x1024_S2048x1024_0_0)) x7 (View.ld x10 (Rect.unit ![3584, 0] ![2048, 1024] inb_S5632x1024_S2048x1024_3584_0)) x2 (View.ld x10 (Rect.unit ![2048, 0] ![1024, 1024] inb_S5632x1024_S1024x1024_2048_0)) kv (View.ld x10 (Rect.unit ![3072, 0] ![512, 1024] inb_S5632x1024_S512x1024_3072_0))) x8 p12) (reload (i := i) (x3 := x3) (x4 := x4) (x5 := x5) (x6 := x6) hz a14)

theorem out13_C (hc0 : ¬cond0_0 i) (hc1 : cond0_1 i) :
    out0_C_13 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps = kvBlock i x3 x4 x5 x6 := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps)]
  unfold kernelRun0_C
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, h13.read_unread, h16.read_unread,
    View.ld_unit_zero (S := S512x1024) hz, View.ld_unit_zero (S := S512x2048) hz, View.ld_unit_zero (S := S1024x512) hz,
    View.ld_unit_zero (S := S64x1) hz, View.ld_unit_zero (S := S1x1024) hz, View.ld_unit_zero (S := S64x128) hz]
  rfl

theorem out14_C (hc0 : ¬cond0_0 i) (hc1 : cond0_1 i) :
    out0_C_14 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps = k0_pay1 (F := Ideal) (gainSum i x3 x4 x5 ps) := by
  unfold out0_C_14
  rw [View.read_writes_eq_canon _ _ _ (cover0_C_14 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps)]
  unfold kernelRun0_C
  dsimp only
  sl_unfold_words
  rw [View.canon_unit_zero hz]
  rw [View.readCov_unit_zero (S := S64x128) _ hz]
  simp only [View.readAt_eq_ld, h1.read_unread, h2.read_unread, h3.read_unread, h4.read_unread, h5.read_unread, h6.read_unread,
    h7.read_unread, h8.read_unread, h9.read_unread, h10.read_unread, h11.read_unread, h13.read_unread, h16.read_unread,
    View.ld_unit_zero (S := S512x1024) hz, View.ld_unit_zero (S := S512x2048) hz, View.ld_unit_zero (S := S1024x512) hz,
    View.ld_unit_zero (S := S64x1) hz, View.ld_unit_zero (S := S1x1024) hz, View.ld_unit_zero (S := S64x128) hz]
  rfl

theorem outs_C (hc0 : ¬cond0_0 i) (hc1 : cond0_1 i) :
    sout0_C_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps = gainSum i x3 x4 x5 ps := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 p12 ps)]
  unfold kernelRun0_C
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, h10.read_unread, h11.read_unread, h13.read_unread, h16.read_unread,
    View.ld_unit_zero (S := S512x1024) hz, View.ld_unit_zero (S := S512x2048) hz, View.ld_unit_zero (S := S1024x512) hz,
    View.ld_unit_zero (S := S64x1) hz, View.ld_unit_zero (S := S1x1024) hz, View.ld_unit_zero (S := S64x128) hz]
  rfl

end Cert.Mix

end
-- ==== Proof.Mix.Reference.lean ====
/- WHAT THE REFERENCE of the call `mix_proj_bwd` COMPUTES, stage by stage and read at an index: the functions of
   Proof/Mix/Spec.lean. The gradients through the two normalisations have another form than the block's; the two agree
   (Proof/Mix/Rows.lean). -/
module

public import proofs.«01_k».proof.Proof.Mix.Spec
public import proofs.«01_k».proof.Proof.Last.Reference
public import proofs.«01_k».proof.Proof.Gen.MixReferenceIdeal.Run
public import Idealize.ShloMosaic.Lib.Pointwise

@[expose] public section

noncomputable section

namespace Cert.Mix.Reference

open Idealize.ShloMosaic Idealize.SL.Sem Cert.MixReferenceIdeal Cert.MixReferenceIdeal.Facts₀ Cert.Ffn Cert.Mix Cert.Last
open Cert.Last.Reference (vWidth vMsq vRstd vRstdB vHat vGain vNorm vUp minusHalf_word)

variable (A : Args)

/-! ### A sum over the first two of three axes -/

section Sum
variable {n0 n1 n2 : ℕ}

theorem drop_iff (h : (⟨3, ![n0, n1, n2]⟩ : Shape).ReducesTo [0, 1] ⟨1, ![n2]⟩) (j : Fin n2)
    (i : (⟨3, ![n0, n1, n2]⟩ : Shape).Idx) : h.drop i = ix1 j ↔ ∃ k : Fin n0 × Fin n1, ix3 k.1 k.2 j = i := by
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    refine funext fun b => Fin.ext ?_
    match b with
    | ⟨0, _⟩ => rfl

theorem sum_first_two (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ?_
  refine (Finset.sum_filter_eq_sum_of_fiber _ (fun k : Fin n0 × Fin n1 => ix3 k.1 k.2 j)
    (fun _ _ e => Prod.ext (congrFun e 0) (congrFun e 1)) (drop_iff h j) v).trans ?_
  simp only [Fintype.sum_prod_type]

end Sum

/-! ### The stages -/

def vK : FVec Ideal S4096x4x64 .f32 :=
  shapeCast S4096x4x64 (extractStridedSlice S4096x256 ![0, 3072] (vUp A.x A.g A.wi) slices_S4096x5632_S4096x256_0_3072)
    shapeCasts_S4096x256_S4096x4x64
def vHWidth : FVec Ideal S4096x4x1 .f32 := broadcastInDim S4096x4x1 ![] bcast_S_S4096x4x1 (constant S_ .f32 0x42800000#32)
def vHMsq : FVec Ideal S4096x4x1 .f32 :=
  addf (Host.divf (broadcastInDim S4096x4x1 ![0, 1] bcast_S4096x4_S4096x4x1_0_1
    (Host.reduceAdd (mulf (vK A) (vK A)) (constant S_ .f32 0x00000000#32) reducesTo_S4096x4x64_S4096x4_d2 h_S_)) vHWidth)
    (broadcastInDim S4096x4x1 ![] bcast_S_S4096x4x1 (constant S_ .f32 0x358637BD#32))
def vHRstd : FVec Ideal S4096x4x1 .f32 := Host.rsqrt (vHMsq A)
def vHRstdB : FVec Ideal S4096x4x64 .f32 := broadcastInDim S4096x4x64 ![0, 1, 2] bcast_S4096x4x1_S4096x4x64_0_1_2 (vHRstd A)
def vKHat : FVec Ideal S4096x4x64 .f32 := mulf (vK A) (vHRstdB A)
def vKGain : FVec Ideal S4096x4x64 .f32 :=
  broadcastInDim S4096x4x64 ![0, 1, 2] bcast_S1x1x64_S4096x4x64_0_1_2 (broadcastInDim S1x1x64 ![2] bcast_S64_S1x1x64_2 A.kn)
def vWin (w : FVec Ideal S32x256x256 .f32) : FVec Ideal S32x128x256 .f32 :=
  addf (extractStridedSlice S32x128x256 ![0, 128, 0] w slices_S32x256x256_S32x128x256_0_128_0)
    (pad S32x128x256 ![0, 0, 0] ![1, 0, 0] ![0, 0, 0]
      (extractStridedSlice S31x128x256 ![1, 0, 0] (extractStridedSlice S32x128x256 ![0, 0, 0] w slices_S32x256x256_S32x128x256_0_0_0)
        slices_S32x128x256_S31x128x256_1_0_0 : FVec Ideal S31x128x256 .f32) (constant S_ .f32 0x00000000#32)
      pads_S31x128x256_S32x128x256_010_000_000 h_S_)
def vDKN : FVec Ideal S4096x4x64 .f32 := shapeCast S4096x4x64 (vWin A.dkw) shapeCasts_S32x128x256_S4096x4x64
def vDV : FVec Ideal S4096x256 .f32 := shapeCast S4096x256 (vWin A.dvw) shapeCasts_S32x128x256_S4096x256
def vDKHat : FVec Ideal S4096x4x64 .f32 := mulf (vDKN A) (vKGain A)
def vHBack : FVec Ideal S4096x4x1 .f32 :=
  Host.divf (mulf (shapeCast S4096x4x1 (Host.reduceAdd (mulf (vK A) (vDKHat A)) (constant S_ .f32 0x00000000#32)
      reducesTo_S4096x4x64_S4096x4_d2 h_S_) shapeCasts_S4096x4_S4096x4x1)
    (mulf (broadcastInDim S4096x4x1 ![] bcast_S_S4096x4x1 (constant S_ .f32 0xBF000000#32)) (Host.divf (vHRstd A) (vHMsq A)))) vHWidth
def vHBackB : FVec Ideal S4096x4x64 .f32 :=
  broadcastInDim S4096x4x64 ![0, 1] bcast_S4096x4_S4096x4x64_0_1
    (Host.reduceAdd (vHBack A) (constant S_ .f32 0x00000000#32) reducesTo_S4096x4x1_S4096x4_d2 h_S_)
def vDK3 : FVec Ideal S4096x4x64 .f32 :=
  addf (addf (mulf (vDKHat A) (vHRstdB A)) (mulf (vK A) (vHBackB A))) (mulf (vHBackB A) (vK A))
def vDK : FVec Ideal S4096x256 .f32 := shapeCast S4096x256 (vDK3 A) shapeCasts_S4096x4x64_S4096x256
def vDKG : FVec Ideal S64x1 .f32 :=
  shapeCast S64x1 (Host.reduceAdd (shapeCast S1x1x64
      (Host.reduceAdd (mulf (vKHat A) (vDKN A)) (constant S_ .f32 0x00000000#32) reducesTo_S4096x4x64_S64_d0_1 h_S_)
      shapeCasts_S64_S1x1x64) (constant S_ .f32 0x00000000#32) reducesTo_S1x1x64_S64_d0_1 h_S_) shapeCasts_S64_S64x1
def vDRow : FVec Ideal S4096x5632 .f32 :=
  concatenate S4096x5632 1 [⟨S4096x2048, A.du⟩, ⟨S4096x1024, A.dq⟩, ⟨S4096x256, vDK A⟩, ⟨S4096x256, vDV A⟩,
    ⟨S4096x1024, (extractStridedSlice S4096x1024 ![0, 0] A.dgt slices_S4096x2048_S4096x1024_0_0 : FVec Ideal S4096x1024 .f32)⟩,
    ⟨S4096x1024, (extractStridedSlice S4096x1024 ![0, 1024] A.dgt slices_S4096x2048_S4096x1024_0_1024 : FVec Ideal S4096x1024 .f32)⟩]
    concatenates_S4096x2048_S4096x1024_S4096x256_S4096x256_S4096x1024_S4096x1024_S4096x5632_d1
def vDKV : FVec Ideal S512x4096 .bf16 :=
  truncf .bf16 (transpose S512x4096 [1, 0] (concatenate S4096x512 1 [⟨S4096x256, vDK A⟩, ⟨S4096x256, vDV A⟩]
    concatenates_S4096x256_S4096x256_S4096x512_d1 : FVec Ideal S4096x512 .f32) transposes_S4096x512_S512x4096_1_0 : FVec Ideal S512x4096 .f32)
    bitsLt_bf16_f32
def vDNorm : FVec Ideal S4096x1024 .f32 :=
  Host.dotGeneral dot_S4096x5632_S1024x5632_S4096x1024_1_1_0_0_n_n none (vDRow A) A.wi
def vDHat : FVec Ideal S4096x1024 .f32 := mulf (vDNorm A) (vGain A.g)
def vBack : FVec Ideal S4096x1 .f32 :=
  Host.divf (mulf (shapeCast S4096x1 (Host.reduceAdd (mulf A.x (vDHat A)) (constant S_ .f32 0x00000000#32)
      reducesTo_S4096x1024_S4096_d1 h_S_) shapeCasts_S4096_S4096x1)
    (mulf (broadcastInDim S4096x1 ![] bcast_S_S4096x1 (constant S_ .f32 0xBF000000#32)) (Host.divf (vRstd A.x) (vMsq A.x)))) vWidth
def vBackB : FVec Ideal S4096x1024 .f32 :=
  broadcastInDim S4096x1024 ![0] bcast_S4096_S4096x1024_0
    (Host.reduceAdd (vBack A) (constant S_ .f32 0x00000000#32) reducesTo_S4096x1_S4096_d1 h_S_)
def vDX : FVec Ideal S4096x1024 .f32 :=
  addf A.e (addf (addf (mulf (vDHat A) (vRstdB A.x)) (mulf A.x (vBackB A))) (mulf (vBackB A) A.x))
def vDG : FVec Ideal S1x1024 .f32 :=
  shapeCast S1x1024 (Host.reduceAdd (shapeCast S1x1024
      (Host.reduceAdd (mulf (vHat A.x) (vDNorm A)) (constant S_ .f32 0x00000000#32) reducesTo_S4096x1024_S1024_d0 h_S_)
      shapeCasts_S1024_S1x1024) (constant S_ .f32 0x00000000#32) reducesTo_S1x1024_S1024_d0 h_S_) shapeCasts_S1024_S1x1024

/-! ### Each stage at an index -/

theorem vK_apply (R : Fin 4096) (h : Fin 4) (f : Fin 64) : vK A (ix3 R h f) = key A R h f := by
  unfold key
  rw [← Cert.Last.Reference.vUp_apply]
  pointwise [vK, col, keyCol]

theorem vHWidth_apply (i : S4096x4x1.Idx) : vHWidth i = hWidth := by pointwise [vHWidth, hWidth_word]

theorem vHMsq_apply (R : Fin 4096) (h : Fin 4) (z : Fin 1) : vHMsq A (ix3 R h z) = hMsq (key A R h) := by
  unfold hMsq
  simp only [← vK_apply]
  rw [← vHWidth_apply (ix3 R h z)]
  pointwise [vHMsq]

theorem vHRstd_apply (R : Fin 4096) (h : Fin 4) (z : Fin 1) : vHRstd A (ix3 R h z) = hRstd (key A R h) := by
  unfold hRstd; rw [← vHMsq_apply A R h z]; pointwise [vHRstd]

theorem vHRstdB_apply (R : Fin 4096) (h : Fin 4) (f : Fin 64) : vHRstdB A (ix3 R h f) = hRstd (key A R h) := by
  rw [← vHRstd_apply A R h 0]; pointwise [vHRstdB]

theorem vKHat_apply (R : Fin 4096) (h : Fin 4) (f : Fin 64) : vKHat A (ix3 R h f) = key A R h f * hRstd (key A R h) := by
  rw [← vHRstdB_apply A R h f, ← vK_apply]; pointwise [vKHat]

theorem vKGain_apply (R : Fin 4096) (h : Fin 4) (f : Fin 64) : vKGain A (ix3 R h f) = kGain A f := by pointwise [vKGain]

theorem vWin_apply (w : FVec Ideal S32x256x256 .f32) (R : Fin 4096) (j : Fin 256) :
    vWin w (ix3 ⟨R.val / 128, by omega⟩ ⟨R.val % 128, by omega⟩ j) = dWin w R j := by
  unfold dWin
  pointwise [vWin]
  refine congrArg (_ + ·) ?_
  by_cases h : R.val / 128 < 31
  · rw [dif_pos h, dif_pos ⟨h, by omega⟩]
    refine congrArg (fun n => w (ix3 n _ j)) (Fin.ext ?_)
    show 1 + R.val / 128 = R.val / 128 + 1
    omega
  · rw [dif_neg h, dif_neg (fun e => h e.1)]

theorem vDKN_apply (R : Fin 4096) (h : Fin 4) (f : Fin 64) : vDKN A (ix3 R h f) = dWin A.dkw R (col h f) := by
  rw [← vWin_apply]; pointwise [vDKN, col]

theorem vDV_apply (R : Fin 4096) (j : Fin 256) : vDV A (ix2 R j) = dWin A.dvw R j := by
  rw [← vWin_apply]; pointwise [vDV]

theorem vDKHat_apply (R : Fin 4096) (h : Fin 4) (f : Fin 64) :
    vDKHat A (ix3 R h f) = dWin A.dkw R (col h f) * kGain A f := by
  rw [← vDKN_apply, ← vKGain_apply A R h f]; pointwise [vDKHat]

theorem vHBackB_apply (R : Fin 4096) (h : Fin 4) (f : Fin 64) :
    vHBackB A (ix3 R h f) = Ideal.div ((∑ j : Fin 64, key A R h j * (dWin A.dkw R (col h j) * kGain A j))
      * (((-(1 / 2) : ℝ) : EReal) * Ideal.div (hRstd (key A R h)) (hMsq (key A R h)))) hWidth := by
  simp only [← vDKHat_apply]
  rw [← vHRstd_apply A R h 0, ← vHMsq_apply A R h 0, ← minusHalf_word, ← vHWidth_apply (ix3 R h 0)]
  simp only [← vK_apply]
  pointwise [vHBackB, vHBack]
  exact Fin.sum_univ_one _

theorem vDKG_apply (f : Fin 64) (z : Fin 1) : vDKG A (ix2 f z) = dKG A f := by
  unfold dKG dKGPart
  simp only [← vDKN_apply, ← vKHat_apply, mul_comm (vDKN A _)]
  have e0 : ∀ v : FVec Ideal S4096x4x64 .f32, (Host.reduceAdd v (constant S_ .f32 0x00000000#32 : FVec Ideal S_ .f32)
      reducesTo_S4096x4x64_S64_d0_1 h_S_ : FVec Ideal S64 .f32) (ix1 f) = ∑ R : Fin 4096, ∑ h : Fin 4, v (ix3 R h f) := fun v => by
    refine (sum_first_two (n0 := 4096) (n1 := 4) (n2 := 64) reducesTo_S4096x4x64_S64_d0_1 v _ f).trans ?_
    rw [show (constant S_ .f32 0x00000000#32 : FVec Ideal S_ .f32) (Shape.Idx.first h_S_) = 0 from Ideal.ofBits_zero_f32, zero_add]
  have e1 : ∀ v : FVec Ideal S1x1x64 .f32, (Host.reduceAdd v (constant S_ .f32 0x00000000#32 : FVec Ideal S_ .f32)
      reducesTo_S1x1x64_S64_d0_1 h_S_ : FVec Ideal S64 .f32) (ix1 f) = v (ix3 0 0 f) := fun v => by
    refine (sum_first_two (n0 := 1) (n1 := 1) (n2 := 64) reducesTo_S1x1x64_S64_d0_1 v _ f).trans ?_
    rw [show (constant S_ .f32 0x00000000#32 : FVec Ideal S_ .f32) (Shape.Idx.first h_S_) = 0 from Ideal.ofBits_zero_f32, zero_add,
      Fin.sum_univ_one, Fin.sum_univ_one]
  have h0 : ∀ v : FVec Ideal S64 .f32, (shapeCast S64x1 v shapeCasts_S64_S64x1 : FVec Ideal S64x1 .f32) (ix2 f z) = v (ix1 f) :=
    fun v => by pointwise
  have h1 : ∀ v : FVec Ideal S64 .f32, (shapeCast S1x1x64 v shapeCasts_S64_S1x1x64 : FVec Ideal S1x1x64 .f32) (ix3 0 0 f) = v (ix1 f) :=
    fun v => by pointwise
  unfold vDKG
  rw [h0, e1, h1, e0]
  refine Finset.sum_congr rfl fun R _ => Finset.sum_congr rfl fun h _ => ?_
  pointwise

/-! ### The gradients through the two normalisations -/

theorem vDK3_apply (R : Fin 4096) (h : Fin 4) (f : Fin 64) : vDK3 A (ix3 R h f) = dKey A R h f := by
  unfold dKey
  rw [← headGrad_eq, ← vHBackB_apply A R h f,
    ← vDKHat_apply, ← vHRstdB_apply A R h f, ← vK_apply]
  pointwise [vDK3]

theorem vDK_apply (R : Fin 4096) (j : Fin 256) : vDK A (ix2 R j) = dKey A R ⟨j.val / 64, by omega⟩ ⟨j.val % 64, by omega⟩ := by
  rw [← vDK3_apply A]; pointwise [vDK]

theorem vDRow_apply (R : Fin 4096) (q : Fin 5632) : vDRow A (ix2 R q) = dRow A R q := by
  unfold dRow dKV
  simp only [← vDV_apply]
  pointwise [vDRow]
  have hq := q.isLt
  by_cases h0 : q.val < 2048
  · rw [dif_pos h0, dif_pos h0]
  rw [dif_neg h0, dif_neg h0]
  by_cases h1 : q.val < 3072
  · rw [dif_pos h1, dif_pos (by omega)]
  rw [dif_neg h1, dif_neg (by omega)]
  by_cases h2 : q.val < 3584
  · rw [dif_pos h2]
    have e : q.val - 2048 - 1024 = q.val - 3072 := by omega
    by_cases h3 : q.val - 3072 < 256
    · rw [dif_pos h3, dif_pos (by omega), vDK_apply A]
      simp only [e]
    · rw [dif_neg h3, dif_neg (by omega), dif_pos (by omega)]
      simp only [e]
  rw [dif_neg h2, dif_neg (by omega), dif_neg (by omega)]
  by_cases h4 : q.val - 2048 - 1024 - 256 - 256 < 1024
  · rw [dif_pos h4]
    refine congrArg (fun k => A.dgt (ix2 R k)) (Fin.ext ?_)
    show q.val - 2048 - 1024 - 256 - 256 = q.val - 3584
    omega
  · rw [dif_neg h4]
    refine congrArg (fun k => A.dgt (ix2 R k)) (Fin.ext ?_)
    show 1024 + (q.val - 2048 - 1024 - 256 - 256 - 1024) = q.val - 3584
    omega

theorem vDKV_apply (q : Fin 512) (R : Fin 4096) : vDKV A (ix2 q R) = dKV A R q := by
  unfold dKV
  simp only [← vDV_apply]
  pointwise [vDKV]
  by_cases h : q.val < 256
  · rw [dif_pos h, dif_pos h, vDK_apply A]
  · rw [dif_neg h, dif_neg h]

theorem vDNorm_apply (R : Fin 4096) (k : Fin 1024) : vDNorm A (ix2 R k) = dNorm A R k := by
  unfold dNorm lin; simp only [← vDRow_apply A]; pointwise [vDNorm]

theorem vDHat_apply (R : Fin 4096) (k : Fin 1024) : vDHat A (ix2 R k) = dNorm A R k * gain A k := by
  refine (?_ : _ = vDNorm A (ix2 R k) * vGain A.g (ix2 R k)).trans
    (congrArg₂ (· * ·) (vDNorm_apply A R k) (Cert.Last.Reference.vGain_apply A.g R k))
  pointwise [vDHat]

theorem vBackB_apply (R : Fin 4096) (k : Fin 1024) :
    vBackB A (ix2 R k) = Ideal.div ((∑ j : Fin 1024, row A.x R j * (dNorm A R j * gain A j))
      * (((-(1 / 2) : ℝ) : EReal) * Ideal.div (rstd (row A.x R)) (msq (row A.x R)))) width := by
  simp only [← vDHat_apply A]
  rw [← Cert.Last.Reference.vRstd_apply A.x R 0, ← Cert.Last.Reference.vMsq_apply A.x R 0, ← minusHalf_word,
    ← Cert.Last.Reference.vWidth_apply (ix2 R 0)]
  pointwise [vBackB, vBack]
  exact Fin.sum_univ_one _

theorem vDX_apply (R : Fin 4096) (k : Fin 1024) : vDX A (ix2 R k) = dX A R k := by
  unfold dX
  rw [← rowGrad_eq, ← vBackB_apply A R k, ← vDHat_apply A,
    ← Cert.Last.Reference.vRstdB_apply A.x R k]
  pointwise [vDX]

theorem vDG_apply (z : Fin 1) (k : Fin 1024) : vDG A (ix2 z k) = dG A k := by
  unfold dG gainGrad
  simp only [← vDNorm_apply A, ← Cert.Last.Reference.vHat_apply, mul_comm (vDNorm A _)]
  pointwise [vDG]
  exact Fin.sum_univ_one _

/-! ### The printed results are these stages -/

section Results
variable (m : (ℓ : Loc nD τ sig) → Buf (Elt Ideal) ℓ) (c : Dev nD)

/-- The reference's arguments. -/
def args : Args where
  e := m ((c.tc : Thread nD τ).loc main_arg0)
  du := m ((c.tc : Thread nD τ).loc main_arg1)
  dq := m ((c.tc : Thread nD τ).loc main_arg2)
  dkw := m ((c.tc : Thread nD τ).loc main_arg3)
  dvw := m ((c.tc : Thread nD τ).loc main_arg4)
  dgt := m ((c.tc : Thread nD τ).loc main_arg5)
  x := m ((c.tc : Thread nD τ).loc main_arg6)
  g := m ((c.tc : Thread nD τ).loc main_arg7)
  wi := m ((c.tc : Thread nD τ).loc main_arg8)
  kn := m ((c.tc : Thread nD τ).loc main_arg9)

theorem result_dx : Value.res_main_v113 m c = vDX (args m c) := by unfold Value.res_main_v113; rfl
theorem result_dg : Value.res_main_v114 m c = vDG (args m c) := by unfold Value.res_main_v114; rfl
theorem result_dkv : Value.res_main_v116 m c = vDKV (args m c) := by unfold Value.res_main_v116; rfl

/-- The reference's run, its results named by the stages. -/
theorem run_stages (ρ : Dev nD → PrngReg) :
    θ_run (defs (F := Ideal)) (onTc (τ := τ) (main (F := Ideal))) ⟨m, fun _ => 0, ρ⟩ (fun r => ∀ c : Dev nD,
      r.2.mem ((c.tc : Thread nD τ).loc main_v113) = vDX (args m c)
      ∧ r.2.mem ((c.tc : Thread nD τ).loc main_v114) = vDG (args m c)
      ∧ r.2.mem ((c.tc : Thread nD τ).loc main_v116) = vDKV (args m c)
      ∧ r.2.mem ((c.tc : Thread nD τ).loc main_v117) = vDKG (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run _ _ _).mono (fun r h c => ?_) (Value.run (F := Ideal) m ρ)
  obtain ⟨h0, h1, h2, h3, hk⟩ := h c
  exact ⟨h0.trans (result_dx m c), h1.trans (result_dg m c), h2.trans (result_dkv m c), h3.trans rfl, hk⟩

end Results

end Cert.Mix.Reference

end
-- ==== Proof.Mix.Arrays.lean ====
/- WHAT THE FOUR RESULT ARRAYS of the call `mix_proj_bwd` HOLD after the kernel's run, index by index, as the functions of
   Proof/Mix/Spec.lean of the arguments. Grid point `t` reads the rows of tokens `512 t … 512 t + 511`, their four windows of keys
   and values and the next one; it writes the same tokens' rows of two results and adds to the two gains' gradients. -/
module

public import proofs.«01_k».proof.Proof.Mix.Out
public import proofs.«01_k».proof.Proof.Mix.Reference

@[expose] public section

noncomputable section

namespace Cert.Mix

open Idealize.ShloMosaic Idealize.ShloMosaic.TcCoe Idealize.SL.Sem Cert.MixKernelIdeal Cert.MixKernelIdeal.Gen
  Cert.MixKernelIdeal.Value Cert.Ffn
open Cert.Last (row up)

attribute [local instance] Cert.LastReferenceIdeal.Gen.facts

variable (m : (ℓ : Loc nD τ sig) → Buf (Elt Ideal) ℓ) (c : Dev nD)

/-- The kernel's arguments. -/
def args : Args where
  e := m ((c : Thread nD τ).loc main_arg0)
  du := m ((c : Thread nD τ).loc main_arg1)
  dq := m ((c : Thread nD τ).loc main_arg2)
  dkw := m ((c : Thread nD τ).loc main_arg3)
  dvw := m ((c : Thread nD τ).loc main_arg4)
  dgt := m ((c : Thread nD τ).loc main_arg5)
  x := m ((c : Thread nD τ).loc main_arg6)
  g := m ((c : Thread nD τ).loc main_arg7)
  wi := m ((c : Thread nD τ).loc main_arg8)
  kn := m ((c : Thread nD τ).loc main_arg9)

/-! ### What the host hands over -/

theorem V_v17 : (V m c main_v17 : S4096x2048.Idx → EReal) = (args m c).du := by
  have e : V m c main_v17 = (truncf .bf16 ((args m c).du : FVec Ideal S4096x2048 .f32) bitsLt_bf16_f32 : FVec Ideal S4096x2048 .bf16) := by
    unfold V; after_results_simp; try rfl
  exact e.trans rfl

theorem V_v23 : (V m c main_v23 : S4096x2048.Idx → EReal) = (args m c).dgt := by
  have e : V m c main_v23 = (truncf .bf16 ((args m c).dgt : FVec Ideal S4096x2048 .f32) bitsLt_bf16_f32 : FVec Ideal S4096x2048 .bf16) := by
    unfold V; after_results_simp; try rfl
  exact e.trans rfl

theorem V_v19 (k : Fin 1024) (R : Fin 4096) : (V m c main_v19 : S1024x4096.Idx → EReal) (ix2 k R) = (args m c).dq (ix2 R k) := by
  have e : V m c main_v19 = (truncf .bf16 (transpose S1024x4096 [1, 0] (args m c).dq transposes_S4096x1024_S1024x4096_1_0
      : FVec Ideal S1024x4096 .f32) bitsLt_bf16_f32 : FVec Ideal S1024x4096 .bf16) := by
    unfold V; after_results_simp; try rfl
  rw [e]; pointwise

theorem V_v22 (f : Fin 64) (z : Fin 1) : (V m c main_v22 : S64x1.Idx → EReal) (ix2 f z) = (args m c).kn (ix1 f) := by
  have e : V m c main_v22 = (shapeCast S64x1 (args m c).kn shapeCasts_S64_S64x1 : FVec Ideal S64x1 .f32) := by
    unfold V; after_results_simp; try rfl
  obtain rfl : z = 0 := Subsingleton.elim _ _
  rw [e]; pointwise

theorem V_v24 (z : Fin 1) (k : Fin 1024) : (V m c main_v24 : S1x1024.Idx → EReal) (ix2 z k) = (args m c).g (ix1 k) := by
  have e : V m c main_v24 = (shapeCast S1x1024 (args m c).g shapeCasts_S1024_S1x1024 : FVec Ideal S1x1024 .f32) := by
    unfold V; after_results_simp; try rfl
  obtain rfl : z = 0 := Subsingleton.elim _ _
  rw [e]; pointwise

theorem V_v26 (q : Fin 5632) (k : Fin 1024) : (V m c main_v26 : S5632x1024.Idx → EReal) (ix2 q k) = (args m c).wi (ix2 k q) := by
  have e : V m c main_v26 = (truncf .bf16 (transpose S5632x1024 [1, 0] (args m c).wi transposes_S1024x5632_S5632x1024_1_0
      : FVec Ideal S5632x1024 .f32) bitsLt_bf16_f32 : FVec Ideal S5632x1024 .bf16) := by
    unfold V; after_results_simp; try rfl
  rw [e]; pointwise

/-- The projected queries, keys and values, transposed. -/
theorem V_v21 (j : Fin 1536) (R : Fin 4096) : (V m c main_v21 : S1536x4096.Idx → EReal) (ix2 j R)
    = up (row (args m c).x R) (gain (args m c)) (row (args m c).wi) ⟨2048 + j.val, by omega⟩ := by
  have e : V m c main_v21 = (truncf .bf16 (transpose S1536x4096 [1, 0] (extractStridedSlice S4096x1536 ![0, 2048]
      (Cert.Last.Reference.vUp (args m c).x (args m c).g (args m c).wi) slices_S4096x5632_S4096x1536_0_2048 : FVec Ideal S4096x1536 .f32)
      transposes_S4096x1536_S1536x4096_1_0 : FVec Ideal S1536x4096 .f32) bitsLt_bf16_f32 : FVec Ideal S1536x4096 .bf16) := by
    unfold V; after_results_simp; try rfl
  rw [e, ← show _ = up _ _ _ _ from Cert.Last.Reference.vUp_apply (args m c).x (args m c).g (args m c).wi R ⟨2048 + j.val, by omega⟩]
  generalize Cert.Last.Reference.vUp (args m c).x (args m c).g (args m c).wi = u
  pointwise

/-- The windows' gradients, keys and values side by side, transposed. -/
theorem V_v16 (b : Fin 32) (q : Fin 512) (j : Fin 256) : (V m c main_v16 : S32x512x256.Idx → EReal) (ix3 b q j)
    = win (args m c) b q j := by
  have e : V m c main_v16 = (transpose S32x512x256 [0, 2, 1] (concatenate S32x256x512 2
      [⟨S32x256x256, (args m c).dkw⟩, ⟨S32x256x256, (args m c).dvw⟩] concatenates_S32x256x256_S32x256x256_S32x256x512_d2
      : FVec Ideal S32x256x512 .f32) transposes_S32x256x512_S32x512x256_0_2_1 : FVec Ideal S32x512x256 .f32) := by
    unfold V; after_results_simp; try rfl
  rw [e]
  unfold win
  by_cases h : q.val < 256
  · rw [dif_pos h]
    pointwise
    exact dif_pos h
  · rw [dif_neg h]
    pointwise
    exact dif_neg h

/-! ### Which rows a grid point's blocks are -/

theorem ix_r0 : ∀ t : Fin cfg0.N, win0_0.index t (0 : Fin 2) = t.val ∧ win0_0.index t (1 : Fin 2) = 0 :=
  (by decide +kernel : ∀ t : Fin grid0.N, _)
theorem ix_r1 : ∀ t : Fin cfg0.N, win0_1.index t (0 : Fin 2) = t.val ∧ win0_1.index t (1 : Fin 2) = 0 :=
  (by decide +kernel : ∀ t : Fin grid0.N, _)
theorem ix_r2 : ∀ t : Fin cfg0.N, win0_2.index t (0 : Fin 2) = 0 ∧ win0_2.index t (1 : Fin 2) = t.val :=
  (by decide +kernel : ∀ t : Fin grid0.N, _)
theorem ix_r3 : ∀ t : Fin cfg0.N, win0_3.index t (0 : Fin 3) = t.val ∧ win0_3.index t (1 : Fin 3) = 0 ∧ win0_3.index t (2 : Fin 3) = 0 :=
  (by decide +kernel : ∀ t : Fin grid0.N, _)
theorem ix_r4 : ∀ t : Fin cfg0.N, win0_4.index t (0 : Fin 3) = min ((t.val + 1) * 4) 31 ∧ win0_4.index t (1 : Fin 3) = 0 ∧ win0_4.index t (2 : Fin 3) = 0 :=
  (by decide +kernel : ∀ t : Fin grid0.N, _)
theorem ix_r5 : ∀ t : Fin cfg0.N, win0_5.index t (0 : Fin 2) = 4 ∧ win0_5.index t (1 : Fin 2) = t.val :=
  (by decide +kernel : ∀ t : Fin grid0.N, _)
theorem ix_r6 : ∀ t : Fin cfg0.N, win0_6.index t (0 : Fin 2) = 0 ∧ win0_6.index t (1 : Fin 2) = 0 :=
  (by decide +kernel : ∀ t : Fin grid0.N, _)
theorem ix_r7 : ∀ t : Fin cfg0.N, win0_7.index t (0 : Fin 2) = t.val ∧ win0_7.index t (1 : Fin 2) = 0 :=
  (by decide +kernel : ∀ t : Fin grid0.N, _)
theorem ix_r8 : ∀ t : Fin cfg0.N, win0_8.index t (0 : Fin 2) = t.val ∧ win0_8.index t (1 : Fin 2) = 0 :=
  (by decide +kernel : ∀ t : Fin grid0.N, _)
theorem ix_r9 : ∀ t : Fin cfg0.N, win0_9.index t (0 : Fin 2) = 0 ∧ win0_9.index t (1 : Fin 2) = 0 :=
  (by decide +kernel : ∀ t : Fin grid0.N, _)
theorem ix_r10 : ∀ t : Fin cfg0.N, win0_10.index t (0 : Fin 2) = 0 ∧ win0_10.index t (1 : Fin 2) = 0 :=
  (by decide +kernel : ∀ t : Fin grid0.N, _)
theorem ix_r11 : ∀ t : Fin cfg0.N, win0_11.index t (0 : Fin 2) = t.val ∧ win0_11.index t (1 : Fin 2) = 0 :=
  (by decide +kernel : ∀ t : Fin grid0.N, _)
theorem ix_r12 : ∀ t : Fin cfg0.N, win0_12.index t (0 : Fin 2) = 0 ∧ win0_12.index t (1 : Fin 2) = 0 :=
  (by decide +kernel : ∀ t : Fin grid0.N, _)
theorem ix_r13 : ∀ t : Fin cfg0.N, win0_13.index t (0 : Fin 2) = 0 ∧ win0_13.index t (1 : Fin 2) = t.val :=
  (by decide +kernel : ∀ t : Fin grid0.N, _)
theorem ix_r14 : ∀ t : Fin cfg0.N, win0_14.index t (0 : Fin 2) = 0 ∧ win0_14.index t (1 : Fin 2) = 0 :=
  (by decide +kernel : ∀ t : Fin grid0.N, _)

variable (t : Fin cfg0.N)

/-- The grid point's number. -/
abbrev pt (t : Fin cfg0.N) : Fin 8 := ⟨t.val, lt_of_lt_of_eq t.isLt (show cfg0.N = 8 from N_0)⟩

theorem word : ∀ t : Fin cfg0.N, (Scalar.extui (Scalar.cmpi .slt (BitVec.ofNat 32 (grid0.coords t 0).val) 7#32) : BitVec 32)
    = if t.val < 7 then 1#32 else 0#32 :=
  (by decide +kernel : ∀ t : Fin grid0.N, _)

theorem mask : k0_pay4 (F := Ideal) (grid0.coords t) = if (pt t).val < 7 then 1 else 0 := by
  refine (congrArg (Scalar.sitofp (F := Ideal) .f32) (word t)).trans ?_
  split
  · show (((1#32 : BitVec 32).toInt : ℝ) : EReal) = 1
    norm_num
  · show (((0#32 : BitVec 32).toInt : ℝ) : EReal) = 0
    norm_num

theorem blk0 (r : Fin 512) (k : Fin 1024) : iblk m c 0 t (ix2 r k) = (args m c).e (ix2 (tok (pt t) r) k) := by
  obtain ⟨e0, e1⟩ := ix_r0 t
  show V m c main_arg0 (((cfg0.win 0).blk t).view.emb (ix2 r k)) = _
  rw [V_main_arg0 m c]
  refine congrArg (args m c).e (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

theorem blk1 (r : Fin 512) (k : Fin 2048) : iblk m c 1 t (ix2 r k) = (args m c).du (ix2 (tok (pt t) r) k) := by
  obtain ⟨e0, e1⟩ := ix_r1 t
  show V m c main_v17 (((cfg0.win 1).blk t).view.emb (ix2 r k)) = _
  rw [V_v17 m c]
  refine congrArg (args m c).du (funext fun a => Fin.ext ?_)
  match a with
  | ⟨0, _⟩ => show win0_1.index t (0 : Fin 2) * 512 + 1 * r.val = 512 * t.val + r.val; omega
  | ⟨1, _⟩ => show win0_1.index t (1 : Fin 2) * 2048 + 1 * k.val = k.val; omega

theorem blk2 (k : Fin 1024) (r : Fin 512) : iblk m c 2 t (ix2 k r) = (args m c).dq (ix2 (tok (pt t) r) k) := by
  obtain ⟨e0, e1⟩ := ix_r2 t
  refine Eq.trans ?_ (V_v19 m c k (tok (pt t) r))
  show V m c main_v19 (((cfg0.win 2).blk t).view.emb (ix2 k r)) = _
  refine congrArg (V m c main_v19) (funext fun a => Fin.ext ?_)
  match a with
  | ⟨0, _⟩ => show win0_2.index t (0 : Fin 2) * 1024 + 1 * k.val = k.val; omega
  | ⟨1, _⟩ => show win0_2.index t (1 : Fin 2) * 512 + 1 * r.val = 512 * t.val + r.val; omega

theorem blk3 (s : Fin 4) (q : Fin 512) (j : Fin 256) : iblk m c 3 t (ix3 s q j) = win (args m c) ⟨4 * t.val + s.val, by have hN : cfg0.N = 8 := N_0; omega⟩ q j := by
  obtain ⟨e0, e1, e2⟩ := ix_r3 t
  refine Eq.trans ?_ (V_v16 m c _ q j)
  show V m c main_v16 (((cfg0.win 3).blk t).view.emb (ix3 s q j)) = _
  refine congrArg (V m c main_v16) (funext fun a => Fin.ext ?_)
  match a with
  | ⟨0, _⟩ => show win0_3.index t (0 : Fin 3) * 4 + 1 * s.val = 4 * t.val + s.val; omega
  | ⟨1, _⟩ => show win0_3.index t (1 : Fin 3) * 512 + 1 * q.val = q.val; omega
  | ⟨2, _⟩ => show win0_3.index t (2 : Fin 3) * 256 + 1 * j.val = j.val; omega

theorem blk4 (h : t.val < 7) (z : Fin 1) (q : Fin 512) (j : Fin 256) : iblk m c 4 t (ix3 z q j) = win (args m c) ⟨4 * t.val + 4, by omega⟩ q j := by
  obtain ⟨e0, e1, e2⟩ := ix_r4 t
  refine Eq.trans ?_ (V_v16 m c _ q j)
  show V m c main_v16 (((cfg0.win 4).blk t).view.emb (ix3 z q j)) = _
  refine congrArg (V m c main_v16) (funext fun a => Fin.ext ?_)
  match a with
  | ⟨0, _⟩ => show win0_4.index t (0 : Fin 3) * 1 + 1 * z.val = 4 * t.val + 4; omega
  | ⟨1, _⟩ => show win0_4.index t (1 : Fin 3) * 512 + 1 * q.val = q.val; omega
  | ⟨2, _⟩ => show win0_4.index t (2 : Fin 3) * 256 + 1 * j.val = j.val; omega

theorem blk5 (h : Fin 4) (f : Fin 64) (r : Fin 512) : iblk m c 5 t (ix2 (col h f) r) = key (args m c) (tok (pt t) r) h f := by
  obtain ⟨e0, e1⟩ := ix_r5 t
  refine Eq.trans ?_ ((V_v21 m c ⟨1024 + (h.val * 64 + f.val), by omega⟩ (tok (pt t) r)).trans (congrArg (up _ _ _) (Fin.ext (by show 2048 + (1024 + (h.val * 64 + f.val)) = 3072 + (h.val * 64 + f.val); omega))))
  show V m c main_v21 (((cfg0.win 5).blk t).view.emb (ix2 (col h f) r)) = _
  refine congrArg (V m c main_v21) (funext fun a => Fin.ext ?_)
  match a with
  | ⟨0, _⟩ => show win0_5.index t (0 : Fin 2) * 256 + 1 * (h.val * 64 + f.val) = 1024 + (h.val * 64 + f.val); omega
  | ⟨1, _⟩ => show win0_5.index t (1 : Fin 2) * 512 + 1 * r.val = 512 * t.val + r.val; omega

theorem blk6 (f : Fin 64) (z : Fin 1) : iblk m c 6 t (ix2 f z) = (args m c).kn (ix1 f) := by
  obtain ⟨e0, e1⟩ := ix_r6 t
  refine Eq.trans ?_ (V_v22 m c f z)
  show V m c main_v22 (((cfg0.win 6).blk t).view.emb (ix2 f z)) = _
  refine congrArg (V m c main_v22) (funext fun a => Fin.ext ?_)
  match a with
  | ⟨0, _⟩ => show win0_6.index t (0 : Fin 2) * 64 + 1 * f.val = f.val; omega
  | ⟨1, _⟩ => show win0_6.index t (1 : Fin 2) * 1 + 1 * z.val = z.val; omega

theorem blk7 (r : Fin 512) (k : Fin 2048) : iblk m c 7 t (ix2 r k) = (args m c).dgt (ix2 (tok (pt t) r) k) := by
  obtain ⟨e0, e1⟩ := ix_r7 t
  show V m c main_v23 (((cfg0.win 7).blk t).view.emb (ix2 r k)) = _
  rw [V_v23 m c]
  refine congrArg (args m c).dgt (funext fun a => Fin.ext ?_)
  match a with
  | ⟨0, _⟩ => show win0_7.index t (0 : Fin 2) * 512 + 1 * r.val = 512 * t.val + r.val; omega
  | ⟨1, _⟩ => show win0_7.index t (1 : Fin 2) * 2048 + 1 * k.val = k.val; omega

theorem blk8 (r : Fin 512) (k : Fin 1024) : iblk m c 8 t (ix2 r k) = (args m c).x (ix2 (tok (pt t) r) k) := by
  obtain ⟨e0, e1⟩ := ix_r8 t
  show V m c main_arg6 (((cfg0.win 8).blk t).view.emb (ix2 r k)) = _
  rw [V_main_arg6 m c]
  refine congrArg (args m c).x (funext fun a => Fin.ext ?_)
  match a with
  | ⟨0, _⟩ => show win0_8.index t (0 : Fin 2) * 512 + 1 * r.val = 512 * t.val + r.val; omega
  | ⟨1, _⟩ => show win0_8.index t (1 : Fin 2) * 1024 + 1 * k.val = k.val; omega

theorem blk9 (z : Fin 1) (k : Fin 1024) : iblk m c 9 t (ix2 z k) = (args m c).g (ix1 k) := by
  obtain ⟨e0, e1⟩ := ix_r9 t
  refine Eq.trans ?_ (V_v24 m c z k)
  show V m c main_v24 (((cfg0.win 9).blk t).view.emb (ix2 z k)) = _
  refine congrArg (V m c main_v24) (funext fun a => Fin.ext ?_)
  match a with
  | ⟨0, _⟩ => show win0_9.index t (0 : Fin 2) * 1 + 1 * z.val = z.val; omega
  | ⟨1, _⟩ => show win0_9.index t (1 : Fin 2) * 1024 + 1 * k.val = k.val; omega

theorem blk10 (q : Fin 5632) (k : Fin 1024) : iblk m c 10 t (ix2 q k) = (args m c).wi (ix2 k q) := by
  obtain ⟨e0, e1⟩ := ix_r10 t
  refine Eq.trans ?_ (V_v26 m c q k)
  show V m c main_v26 (((cfg0.win 10).blk t).view.emb (ix2 q k)) = _
  refine congrArg (V m c main_v26) (funext fun a => Fin.ext ?_)
  match a with
  | ⟨0, _⟩ => show win0_10.index t (0 : Fin 2) * 5632 + 1 * q.val = q.val; omega
  | ⟨1, _⟩ => show win0_10.index t (1 : Fin 2) * 1024 + 1 * k.val = k.val; omega

/-- A grid point's windows hold its tokens' part of the arguments. -/
theorem fed : Fed (args m c) (pt t) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) where
  mask := mask t
  e := blk0 m c t
  du := blk1 m c t
  dq := blk2 m c t
  own := blk3 m c t
  next := blk4 m c t
  key := blk5 m c t
  kn := blk6 m c t
  dgt := blk7 m c t
  x := blk8 m c t
  g := blk9 m c t
  wi := blk10 m c t

/-! ### The result arrays -/

/-- The gradient of the rows. -/
def G11 : S4096x1024.Idx → EReal := fun i => dX (args m c) (i 0) (i 1)
/-- The gradient of the gain. -/
def G12 : S1x1024.Idx → EReal := fun i => dG (args m c) (i 1)
/-- The gradient of the projected keys and values, transposed. -/
def G13 : S512x4096.Idx → EReal := fun i => dKV (args m c) (i 1) (i 0)
/-- The gradient of the keys' gain. -/
def G14 : S64x1.Idx → EReal := fun i => dKG (args m c) (i 0)

/-- Every token is a token of some grid point's block. -/
theorem exists_tok (R : Fin 4096) : ∃ (t : Fin cfg0.N) (r : Fin 512), tok (pt t) r = R :=
  ⟨⟨R.val / 512, by have hN : cfg0.N = 8 := N_0; omega⟩, ⟨R.val % 512, by omega⟩,
    Fin.ext (by show 512 * (R.val / 512) + R.val % 512 = R.val; omega)⟩

/-- The gradient of a block's normalised rows. -/
abbrev dn : FVec Ideal S512x1024 .f32 := dnBlock (grid0.coords t) (iblk m c 1 t) (iblk m c 2 t) (iblk m c 3 t) (iblk m c 4 t) (iblk m c 5 t) (iblk m c 6 t) (iblk m c 7 t) (iblk m c 10 t)

theorem dn_apply (r : Fin 512) (k : Fin 1024) : dn m c t (ix2 r k) = dNorm (args m c) (tok (pt t) r) k :=
  dNorm_apply (fed m c t) r k

theorem left11 : (outsAt0 m c t.val t.isLt).1 = k0_pay129 (dn m c t) (iblk m c 8 t) (iblk m c 9 t) (iblk m c 0 t) := by
  by_cases h : t.val % 8 = 0
  · rw [outsAt0_A m c t h (by omega)]; dsimp only; rw [out11_A]
  · by_cases h1 : t.val % 8 = 7
    · rw [outsAt0_C m c t h h1]; dsimp only; rw [out11_C]
    · rw [outsAt0_B m c t h h1]; dsimp only; rw [out11_B]

theorem emb11 (r : Fin 512) (k : Fin 1024) : ((cfg0.win 11).blk t).view.emb (ix2 r k) = (ix2 (tok (pt t) r) k : S4096x1024.Idx) := by
  obtain ⟨e0, e1⟩ := ix_r11 t
  refine funext fun a => Fin.ext ?_
  match a with
  | ⟨0, _⟩ => show win0_11.index t (0 : Fin 2) * 512 + 1 * r.val = 512 * t.val + r.val; omega
  | ⟨1, _⟩ => show win0_11.index t (1 : Fin 2) * 1024 + 1 * k.val = k.val; omega

theorem final11 : (dats m 0 c).arrAt 11 cfg0.N = G11 m c := by
  refine (dats m 0 c).arrAt_eq_of_cover 11 (G11 m c) (fun t _ => ?_) (fun (i : S4096x1024.Idx) => ?_)
  · rw [flushed11, left11]
    funext j
    have e : j = ix2 (n0 := 512) (n1 := 1024) (j 0) (j 1) := eq_ix2 j
    rw [e]
    exact (dX_apply (fed m c t) (j 0) (j 1) _ (dn_apply m c t)).trans (congrArg (G11 m c) (emb11 t (j 0) (j 1)).symm)
  · obtain ⟨t, r, h⟩ := exists_tok (i 0)
    have e : ((cfg0.win 11).blk t).view.emb (ix2 r (i 1)) = i :=
      (emb11 t r (i 1)).trans (by rw [h]; exact (eq_ix2 i).symm)
    exact ⟨t, flush0_11 t, e ▸ View.emb_mem_set _ _⟩

theorem left13 : (outsAt0 m c t.val t.isLt).2.2.1
    = kvBlock (grid0.coords t) (iblk m c 3 t) (iblk m c 4 t) (iblk m c 5 t) (iblk m c 6 t) := by
  by_cases h : t.val % 8 = 0
  · rw [outsAt0_A m c t h (by omega)]; dsimp only; rw [out13_A]
  · by_cases h1 : t.val % 8 = 7
    · rw [outsAt0_C m c t h h1]; dsimp only; rw [out13_C]
    · rw [outsAt0_B m c t h h1]; dsimp only; rw [out13_B]

theorem emb13 (q r : Fin 512) : ((cfg0.win 13).blk t).view.emb (ix2 q r) = (ix2 q (tok (pt t) r) : S512x4096.Idx) := by
  obtain ⟨e0, e1⟩ := ix_r13 t
  refine funext fun a => Fin.ext ?_
  match a with
  | ⟨0, _⟩ => show win0_13.index t (0 : Fin 2) * 512 + 1 * q.val = q.val; omega
  | ⟨1, _⟩ => show win0_13.index t (1 : Fin 2) * 512 + 1 * r.val = 512 * t.val + r.val; omega

theorem final13 : (dats m 0 c).arrAt 13 cfg0.N = G13 m c := by
  refine (dats m 0 c).arrAt_eq_of_cover 13 (G13 m c) (fun t _ => ?_) (fun (i : S512x4096.Idx) => ?_)
  · rw [flushed13, left13]
    funext j
    have e : j = ix2 (n0 := 512) (n1 := 512) (j 0) (j 1) := eq_ix2 j
    rw [e]
    exact (kvBlock_apply (fed m c t) (j 0) (j 1)).trans (congrArg (G13 m c) (emb13 t (j 0) (j 1)).symm)
  · obtain ⟨t, r, h⟩ := exists_tok (i 1)
    have e : ((cfg0.win 13).blk t).view.emb (ix2 (i 0) r) = i :=
      (emb13 t (i 0) r).trans (by rw [h]; exact (eq_ix2 i).symm)
    exact ⟨t, flush0_13 t, e ▸ View.emb_mem_set _ _⟩

/-! ### The sums over the tokens -/

theorem eq_row (i : S1x1024.Idx) : i = ix2 0 (i 1) :=
  (eq_ix2 i).trans (congrArg (fun z : Fin 1 => (ix2 z (i 1) : S1x1024.Idx)) (Subsingleton.elim (α := Fin 1) (i 0) 0))

theorem eq_col (i : S64x1.Idx) : i = ix2 (i 0) 0 :=
  (eq_ix2 i).trans (congrArg (fun z : Fin 1 => (ix2 (i 0) z : S64x1.Idx)) (Subsingleton.elim (α := Fin 1) (i 1) 0))

/-- The last point. -/
abbrev t7 : Fin cfg0.N := ⟨7, by rw [show cfg0.N = 8 from N_0]; decide⟩

/-- A sum over the points' blocks is the sum over all tokens. -/
theorem sum_blocks (f : Fin 4096 → EReal) : ∑ u : Fin 8, ∑ r : Fin 512, f (tok u r) = ∑ R : Fin 4096, f R := by
  rw [← (finProdFinEquiv (m := 8) (n := 512)).sum_comp, Fintype.sum_prod_type]
  refine Finset.sum_congr rfl fun s _ => Finset.sum_congr rfl fun r _ => congrArg f (Fin.ext ?_)
  show 512 * s.val + r.val = r.val + 512 * s.val
  omega

theorem sum_lanes (f : Fin 512 → EReal) : ∑ l : Fin 128, ∑ s : Fin 4, f (lane s l) = ∑ r : Fin 512, f r := by
  rw [Finset.sum_comm, ← (finProdFinEquiv (m := 4) (n := 128)).sum_comp, Fintype.sum_prod_type]
  refine Finset.sum_congr rfl fun s _ => Finset.sum_congr rfl fun r _ => congrArg f (Fin.ext ?_)
  show 128 * s.val + r.val = r.val + 128 * s.val
  omega

/-- What point `u` adds to the gain's gradient. -/
def part12 (u : Fin 8) (k : Fin 1024) : EReal :=
  ∑ r : Fin 512, gainGrad (dNorm (args m c) (tok u r)) (row (args m c).x (tok u r)) k

theorem step12 (acc : Vec Ideal S1x1024 .f32) (k : Fin 1024) :
    k0_pay130 (dn m c t) (iblk m c 8 t) acc (ix2 0 k) = acc (ix2 0 k) + part12 m c (pt t) k :=
  dG_apply (fed m c t) _ (dn_apply m c t) acc 0 k

/-- After point `n` the gain's gradient holds what the points up to `n` added. -/
theorem sum12 (k : Fin 1024) : ∀ (n : ℕ) (h : n < cfg0.N), (outsAt0 m c n h).2.1 (ix2 0 k)
    = ∑ s : Fin (n + 1), part12 m c (pt ⟨s.val, by omega⟩) k
  | 0, h => by
    rw [outsAt0_A m c ⟨0, h⟩ rfl (by show ¬0 % 8 = 7; omega)]; dsimp only; rw [out12_A, step12, Fin.sum_univ_one, pay2_apply, zero_add]; rfl
  | n + 1, h => by
    have hN : cfg0.N = 8 := N_0
    have hB : ¬(⟨n + 1, h⟩ : Fin cfg0.N).val % 8 = 0 := by dsimp only; omega
    by_cases h1 : (⟨n + 1, h⟩ : Fin cfg0.N).val % 8 = 7
    · rw [outsAt0_C m c ⟨n + 1, h⟩ hB h1]; dsimp only; rw [out12_C, step12, Fin.sum_univ_castSucc]
      exact congrArg (· + part12 m c (pt ⟨n + 1, h⟩) k) (sum12 k n (Nat.lt_of_succ_lt h))
    · rw [outsAt0_B m c ⟨n + 1, h⟩ hB h1]; dsimp only; rw [out12_B, step12, Fin.sum_univ_castSucc]
      exact congrArg (· + part12 m c (pt ⟨n + 1, h⟩) k) (sum12 k n (Nat.lt_of_succ_lt h))

theorem emb12 (k : Fin 1024) : ((cfg0.win 12).blk t).view.emb (ix2 0 k) = (ix2 0 k : S1x1024.Idx) := by
  obtain ⟨e0, e1⟩ := ix_r12 t
  refine funext fun a => Fin.ext ?_
  match a with
  | ⟨0, _⟩ => show win0_12.index t (0 : Fin 2) * 1 + 1 * 0 = 0; omega
  | ⟨1, _⟩ => show win0_12.index t (1 : Fin 2) * 1024 + 1 * k.val = k.val; omega

theorem total12 (t : Fin cfg0.N) (ht : t.val = 7) (k : Fin 1024) :
    (outsAt0 m c t.val t.isLt).2.1 (ix2 0 k) = G12 m c (ix2 0 k) := by
  obtain ⟨n, hn⟩ := t
  obtain rfl : n = 7 := ht
  rw [sum12]
  exact sum_blocks fun R => gainGrad (dNorm (args m c) R) (row (args m c).x R) k

theorem final12 : (dats m 0 c).arrAt 12 cfg0.N = G12 m c := by
  have hN : cfg0.N = 8 := N_0
  refine (dats m 0 c).arrAt_eq_of_cover 12 (G12 m c) (fun t hf => ?_) (fun (i : S1x1024.Idx) => ?_)
  · have ht : t.val = 7 := by have := (flush0_12 t).mp hf; have := t.isLt; omega
    rw [flushed12]
    funext j
    have e : j = ix2 (n0 := 1) (n1 := 1024) 0 (j 1) := eq_row j
    rw [e]
    exact (total12 m c t ht (j 1)).trans (congrArg (G12 m c) (emb12 t (j 1)).symm)
  · have e : ((cfg0.win 12).blk t7).view.emb (ix2 0 (i 1)) = i :=
      (emb12 t7 (i 1)).trans (eq_row i).symm
    exact ⟨t7, (flush0_12 _).mpr rfl, e ▸ View.emb_mem_set _ _⟩

/-- What point `u` adds to the sums of the keys' gain's gradient, at one lane. -/
def part14 (u : Fin 8) (f : Fin 64) (l : Fin 128) : EReal :=
  ∑ s : Fin 4, ∑ h : Fin 4, dKGPart (args m c) (tok u (lane s l)) h f

theorem step14 (ps : Vec Ideal S64x128 .f32) (f : Fin 64) (l : Fin 128) :
    gainSum (grid0.coords t) (iblk m c 3 t) (iblk m c 4 t) (iblk m c 5 t) ps (ix2 f l) = ps (ix2 f l) + part14 m c (pt t) f l :=
  gainSum_apply (fed m c t) ps f l

/-- After point `n` the kept sums hold what the points up to `n` added. -/
theorem sum14 (f : Fin 64) (l : Fin 128) : ∀ (n : ℕ) (h : n < cfg0.N), (outsAt0 m c n h).2.2.2.2 (ix2 f l)
    = ∑ s : Fin (n + 1), part14 m c (pt ⟨s.val, by omega⟩) f l
  | 0, h => by
    rw [outsAt0_A m c ⟨0, h⟩ rfl (by show ¬0 % 8 = 7; omega)]; dsimp only; rw [outs_A, step14, Fin.sum_univ_one, pay3_apply, zero_add]; rfl
  | n + 1, h => by
    have hN : cfg0.N = 8 := N_0
    have hB : ¬(⟨n + 1, h⟩ : Fin cfg0.N).val % 8 = 0 := by dsimp only; omega
    by_cases h1 : (⟨n + 1, h⟩ : Fin cfg0.N).val % 8 = 7
    · rw [outsAt0_C m c ⟨n + 1, h⟩ hB h1]; dsimp only; rw [outs_C, step14, Fin.sum_univ_castSucc]
      exact congrArg (· + part14 m c (pt ⟨n + 1, h⟩) f l) (sum14 f l n (Nat.lt_of_succ_lt h))
    · rw [outsAt0_B m c ⟨n + 1, h⟩ hB h1]; dsimp only; rw [outs_B, step14, Fin.sum_univ_castSucc]
      exact congrArg (· + part14 m c (pt ⟨n + 1, h⟩) f l) (sum14 f l n (Nat.lt_of_succ_lt h))

/-- The last point writes the lanes' sums, added up. -/
theorem left14 (h1 : t.val % 8 = 7) :
    (outsAt0 m c t.val t.isLt).2.2.2.1 = k0_pay1 (F := Ideal) (outsAt0 m c t.val t.isLt).2.2.2.2 := by
  have h : ¬t.val % 8 = 0 := by omega
  rw [outsAt0_C m c t h h1]; dsimp only; rw [out14_C, outs_C]

theorem emb14 (f : Fin 64) : ((cfg0.win 14).blk t).view.emb (ix2 f 0) = (ix2 f 0 : S64x1.Idx) := by
  obtain ⟨e0, e1⟩ := ix_r14 t
  refine funext fun a => Fin.ext ?_
  match a with
  | ⟨0, _⟩ => show win0_14.index t (0 : Fin 2) * 64 + 1 * f.val = f.val; omega
  | ⟨1, _⟩ => show win0_14.index t (1 : Fin 2) * 1 + 1 * 0 = 0; omega

theorem total14 (t : Fin cfg0.N) (ht : t.val = 7) (f : Fin 64) :
    (outsAt0 m c t.val t.isLt).2.2.2.1 (ix2 f 0) = G14 m c (ix2 f 0) := by
  obtain ⟨n, hn⟩ := t
  obtain rfl : n = 7 := ht
  rw [left14 m c ⟨7, hn⟩ rfl, pay1_apply]
  simp only [sum14]
  rw [Finset.sum_comm]
  refine Eq.trans ?_ (sum_blocks fun R => ∑ h : Fin 4, dKGPart (args m c) R h f)
  exact Finset.sum_congr rfl fun u _ => sum_lanes fun r => ∑ h : Fin 4, dKGPart (args m c) (tok (pt ⟨u.val, by omega⟩) r) h f

theorem final14 : (dats m 0 c).arrAt 14 cfg0.N = G14 m c := by
  have hN : cfg0.N = 8 := N_0
  refine (dats m 0 c).arrAt_eq_of_cover 14 (G14 m c) (fun t hf => ?_) (fun (i : S64x1.Idx) => ?_)
  · have ht : t.val = 7 := by have := (flush0_14 t).mp hf; have := t.isLt; omega
    rw [flushed14]
    funext j
    have e : j = ix2 (n0 := 64) (n1 := 1) (j 0) 0 := eq_col j
    rw [e]
    exact (total14 m c t ht (j 0)).trans (congrArg (G14 m c) (emb14 t (j 0)).symm)
  · have e : ((cfg0.win 14).blk t7).view.emb (ix2 (i 0) 0) = i :=
      (emb14 t7 (i 0)).trans (eq_col i).symm
    exact ⟨t7, (flush0_14 _).mpr rfl, e ▸ View.emb_mem_set _ _⟩

end Cert.Mix

end
-- ==== Proof.Mix.Claim.lean ====
/- THE CALL `mix_proj_bwd`: the kernel and the reference agree. -/
module

public import proofs.«01_k».proof.Defs
public import proofs.«01_k».proof.Proof.Mix.Arrays
public import proofs.«01_k».proof.Proof.Mix.KernelIdealValue
public import Idealize.ShloMosaic.Adequacy
public import Idealize.ShloMosaic.Init

@[expose] public section

noncomputable section

namespace Cert.Mix

open Idealize.ShloMosaic Idealize.SL.Sem

attribute [local instance] Cert.MixKernelIdeal.Gen.facts Cert.MixReferenceIdeal.Gen.facts

/-- The kernel and the reference end with the same four arrays. -/
theorem algebraic : Cert.algebraic_MixKernelIdeal_MixReferenceIdeal := by
  intro m g m' g' _ hargs
  refine ⟨fun c => G11 m c, fun c => G12 m c, fun c => G13 m c, fun c => G14 m c, ?_, ?_⟩
  · refine (θ_run _ _ _).mono (fun r h c => ?_) (Cert.MixKernelIdeal.Value.run_blocks m g)
    obtain ⟨h11, h12, h13, h14, hk⟩ := h c
    exact ⟨h11.trans (final11 m c), h12.trans (final12 m c), h13.trans (final13 m c), h14.trans (final14 m c), hk⟩
  · refine (θ_run _ _ _).mono (fun r h c => ?_) (Reference.run_stages m' g')
    obtain ⟨a0, a1, a2, a3, a4, a5, a6, a7, a8, a9⟩ := hargs c
    obtain ⟨h11, h12, h13, h14, hk⟩ := h c
    have b : Reference.args m' c = args m c := by
      unfold Reference.args args
      congr 1
    rw [b] at h11 h12 h13 h14
    exact ⟨h11.trans (funext fun i => (congrArg _ (eq_ix2 i)).trans (Reference.vDX_apply (args m c) (i 0) (i 1))),
      h12.trans (funext fun i => (congrArg _ (eq_ix2 i)).trans (Reference.vDG_apply (args m c) (i 0) (i 1))),
      h13.trans (funext fun i => (congrArg _ (eq_ix2 i)).trans (Reference.vDKV_apply (args m c) (i 0) (i 1))),
      h14.trans (funext fun i => (congrArg _ (eq_ix2 i)).trans (Reference.vDKG_apply (args m c) (i 0) (i 1))), hk⟩

/-- The reference's frame: its run leaves the arguments unchanged, and it declares no semaphore. -/
theorem reference_frame : Cert.quiescent_MixReferenceIdeal := fun m ρ _ =>
  (θ_run Cert.MixReferenceIdeal.defs _ _).mono
    (fun r h => ⟨fun c => (h c).2.2.2.2, sem_eq_zero_of_no_sems (by decide) r.2⟩)
    (Cert.MixReferenceIdeal.Value.run (F := Ideal) m ρ)

end Cert.Mix

end
-- ==== Proof.Update.Arrays.lean ====
/- WHAT THE FOUR RESULT ARRAYS of the call `adamw_mix_in` HOLD after the kernel's run, index by index: the sum of the four chips'
   partial gradients, the weight's step and the two moments. Grid point `t` reads the rows `352 t … 352 t + 351` of each chip's
   partial gradient (all four lie in one array, one above the other), of the weight and of the moments, and writes the same rows. -/
module

public import proofs.«01_k».proof.Proof.Gen.UpdateKernelIdeal.Value
public import Idealize.ShloMosaic.Lib.Pipeline.Value
public import Idealize.ShloMosaic.Lib.Pipeline.ValueKit.Tiles
public import Idealize.ShloMosaic.Lib.Pointwise

@[expose] public section

noncomputable section

namespace Cert.Update

open Idealize.ShloMosaic Idealize.ShloMosaic.TcCoe Idealize.SL.Sem Cert.UpdateKernelIdeal Cert.UpdateKernelIdeal.Gen
  Cert.UpdateKernelIdeal.Value

/-! ### One element's AdamW step -/

/-- A literal's value. -/
abbrev lit (b : BitVec 32) : EReal := Ideal.ofBits .f32 b
/-- The first moment. -/
def first (g m : EReal) : EReal := lit 0x3F666666#32 * m + lit 0x3DCCCCCD#32 * g
/-- The second moment. -/
def second (g v : EReal) : EReal := lit 0x3F7FBE77#32 * v + lit 0x3A83126F#32 * (g * g)
/-- The weight's step. -/
def step (g w m v : EReal) : EReal :=
  lit 0xBA83126F#32 * (Ideal.div (Ideal.div (first g m) (lit 0x3F26BD02#32))
    (Ideal.sqrt (Ideal.div (second g v) (lit 0x3C231ACC#32)) + lit 0x322BCC77#32) + lit 0x3C23D70A#32 * w)

/-! ### A block -/

theorem hz : (![0, 0] : Fin 2 → Nat) = fun _ => 0 := funext fun a => by fin_cases a <;> rfl

theorem ld_whole {e : EltTy} (X : Vec Ideal S352x1024 e) : View.ld X r0_0 = X := View.ld_unit_zero hz _ X

section Block
variable (x : Fin 4 → Vec Ideal S352x1024 .bf16) (w m v : Vec Ideal S352x1024 .f32) (i : S352x1024.Idx)

theorem pay2_apply : k0_pay2 (x 0) (x 1) (x 2) (x 3) i = ∑ q : Fin 4, x q i := by
  rw [Fin.sum_univ_four]; pointwise [k0_pay2]

theorem out7_apply : out0_7 (x 0) (x 1) (x 2) (x 3) w m v i = ∑ q : Fin 4, x q i := by
  unfold_out out0_7
  rw [View.canon_unit_zero hz]
  simp only [ld_whole]
  exact pay2_apply x i

theorem out9_apply : out0_9 (x 0) (x 1) (x 2) (x 3) w m v i = first (∑ q : Fin 4, x q i) (m i) := by
  unfold_out out0_9
  rw [View.canon_unit_zero hz]
  simp only [ld_whole]
  rw [← pay2_apply]
  generalize hg : k0_pay2 (x 0) (x 1) (x 2) (x 3) = g
  pointwise [k0_pay4, first, hg]

theorem out10_apply : out0_10 (x 0) (x 1) (x 2) (x 3) w m v i = second (∑ q : Fin 4, x q i) (v i) := by
  unfold_out out0_10
  rw [View.canon_unit_zero hz]
  simp only [ld_whole]
  rw [← pay2_apply]
  generalize hg : k0_pay2 (x 0) (x 1) (x 2) (x 3) = g
  pointwise [k0_pay5, second, hg]

theorem out8_apply : out0_8 (x 0) (x 1) (x 2) (x 3) w m v i = step (∑ q : Fin 4, x q i) (w i) (m i) (v i) := by
  unfold_out out0_8
  rw [View.canon_unit_zero hz]
  simp only [ld_whole]
  rw [← pay2_apply]
  generalize hg : k0_pay2 (x 0) (x 1) (x 2) (x 3) = g
  pointwise [k0_pay1, k0_pay3, k0_pay4, k0_pay5, k0_pay6, k0_pay7, step, first, second, hg]

end Block

variable (m : (ℓ : Loc nD τ sig) → Buf (Elt Ideal) ℓ) (c : Dev nD)

/-! ### The arguments -/

abbrev argP : Vec Ideal S4x704x1024 .f32 := m ((c : Thread nD τ).loc main_arg0)
abbrev argW : Vec Ideal S1024x704 .f32 := m ((c : Thread nD τ).loc main_arg1)
abbrev argM : Vec Ideal S1024x704 .f32 := m ((c : Thread nD τ).loc main_arg2)
abbrev argV : Vec Ideal S1024x704 .f32 := m ((c : Thread nD τ).loc main_arg3)

/-- Row `R` of chip `q`'s partial gradient in the array that holds the four. -/
def stacked (q : Fin 4) (R : Fin 704) : Fin 2816 := ⟨704 * q.val + R.val, by omega⟩

theorem V_v1 (q : Fin 4) (R : Fin 704) (k : Fin 1024) :
    (V m c main_v1 : S2816x1024.Idx → EReal) (ix2 (stacked q R) k) = argP m c (ix3 q R k) := by
  have e : V m c main_v1 = (truncf .bf16 (shapeCast S2816x1024 (argP m c) shapeCasts_S4x704x1024_S2816x1024 : FVec Ideal S2816x1024 .f32)
      bitsLt_bf16_f32 : FVec Ideal S2816x1024 .bf16) := by
    unfold V; after_results_simp; try rfl
  have h : (V m c main_v1 : S2816x1024.Idx → EReal) (ix2 (stacked q R) k)
      = argP m c (ix3 ⟨(stacked q R).val / 704, by have := (stacked q R).isLt; omega⟩
          ⟨(stacked q R).val % 704, by omega⟩ k) := by
    rw [e]; pointwise
  rw [h]
  have h0 : (stacked q R).val / 704 = q.val := by show (704 * q.val + R.val) / 704 = q.val; omega
  have h1 : (stacked q R).val % 704 = R.val := by show (704 * q.val + R.val) % 704 = R.val; omega
  congr 2 <;> exact Fin.ext ‹_›

theorem V_v2 (R : Fin 704) (k : Fin 1024) : (V m c main_v2 : S704x1024.Idx → EReal) (ix2 R k) = argW m c (ix2 k R) := by
  have e : V m c main_v2 = (transpose S704x1024 [1, 0] (argW m c) transposes_S1024x704_S704x1024_1_0 : FVec Ideal S704x1024 .f32) := by
    unfold V; after_results_simp
  rw [e]; pointwise

theorem V_v3 (R : Fin 704) (k : Fin 1024) : (V m c main_v3 : S704x1024.Idx → EReal) (ix2 R k) = argM m c (ix2 k R) := by
  have e : V m c main_v3 = (transpose S704x1024 [1, 0] (argM m c) transposes_S1024x704_S704x1024_1_0 : FVec Ideal S704x1024 .f32) := by
    unfold V; after_results_simp
  rw [e]; pointwise

theorem V_v4 (R : Fin 704) (k : Fin 1024) : (V m c main_v4 : S704x1024.Idx → EReal) (ix2 R k) = argV m c (ix2 k R) := by
  have e : V m c main_v4 = (transpose S704x1024 [1, 0] (argV m c) transposes_S1024x704_S704x1024_1_0 : FVec Ideal S704x1024 .f32) := by
    unfold V; after_results_simp
  rw [e]; pointwise

/-! ### Which rows a grid point's blocks are -/

/-- Row `r` of grid point `t`'s block. -/
def at_ (t : Fin cfg0.N) (r : Fin 352) : Fin 704 :=
  ⟨352 * t.val + r.val, by have := t.isLt; have hN : cfg0.N = 2 := N_0; omega⟩

theorem ix_p : ∀ t : Fin cfg0.N, win0_0.index t = ![t.val, 0] ∧ win0_1.index t = ![2 + t.val, 0] ∧ win0_2.index t = ![4 + t.val, 0]
    ∧ win0_3.index t = ![6 + t.val, 0] := (by decide +kernel : ∀ t : Fin grid0.N, _)
theorem ix_r : ∀ t : Fin cfg0.N, win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The index a block's element has in the array, from the block's own row. -/
theorem place {n : Nat} {s : Fin 2 → Nat} {b : Nat} (h : s = ![b, 0]) (r : Fin 352) (k : Fin 1024) (R : Fin n)
    (hR : b * 352 + r.val = R.val) (j : (⟨2, ![n, 1024]⟩ : Shape).Idx)
    (h0 : (j 0).val = s 0 * 352 + 1 * r.val) (h1 : (j 1).val = s 1 * 1024 + 1 * k.val) : j = ix2 R k := by
  have e0 : s 0 = b := by rw [h]; rfl
  have e1 : s 1 = 0 := by rw [h]; rfl
  rw [e0] at h0
  rw [e1] at h1
  refine funext fun a => Fin.ext ?_
  match a with
  | ⟨0, _⟩ => show (j 0).val = R.val; omega
  | ⟨1, _⟩ => show (j 1).val = k.val; omega

/-! ### The input blocks -/

variable (t : Fin cfg0.N) (r : Fin 352) (k : Fin 1024)

/-- The four chips' blocks. -/
def parts : Fin 4 → Vec Ideal S352x1024 .bf16 := ![iblk m c 0 t, iblk m c 1 t, iblk m c 2 t, iblk m c 3 t]

theorem blkP (q : Fin 4) : parts m c t q (ix2 r k) = argP m c (ix3 q (at_ t r) k) := by
  obtain ⟨e0, e1, e2, e3⟩ := ix_p t
  rw [← V_v1]
  fin_cases q
  · show V m c main_v1 (((cfg0.win 0).blk t).view.emb (ix2 r k)) = _
    exact congrArg (V m c main_v1) (place e0 r k (stacked 0 (at_ t r)) (by show _ = 704 * 0 + (352 * t.val + r.val); omega) _ rfl rfl)
  · show V m c main_v1 (((cfg0.win 1).blk t).view.emb (ix2 r k)) = _
    exact congrArg (V m c main_v1) (place e1 r k (stacked 1 (at_ t r)) (by show _ = 704 * 1 + (352 * t.val + r.val); omega) _ rfl rfl)
  · show V m c main_v1 (((cfg0.win 2).blk t).view.emb (ix2 r k)) = _
    exact congrArg (V m c main_v1) (place e2 r k (stacked 2 (at_ t r)) (by show _ = 704 * 2 + (352 * t.val + r.val); omega) _ rfl rfl)
  · show V m c main_v1 (((cfg0.win 3).blk t).view.emb (ix2 r k)) = _
    exact congrArg (V m c main_v1) (place e3 r k (stacked 3 (at_ t r)) (by show _ = 704 * 3 + (352 * t.val + r.val); omega) _ rfl rfl)

theorem at_val : t.val * 352 + r.val = (at_ t r).val := by show _ = 352 * t.val + r.val; omega

theorem blkW : (iblk m c 4 t : S352x1024.Idx → EReal) (ix2 r k) = argW m c (ix2 k (at_ t r)) :=
  Eq.trans (by show V m c main_v2 (((cfg0.win 4).blk t).view.emb (ix2 r k)) = _; exact congrArg (V m c main_v2) (place (ix_r t).1 r k (at_ t r) (at_val t r) _ rfl rfl)) (V_v2 m c _ k)
theorem blkM : (iblk m c 5 t : S352x1024.Idx → EReal) (ix2 r k) = argM m c (ix2 k (at_ t r)) :=
  Eq.trans (by show V m c main_v3 (((cfg0.win 5).blk t).view.emb (ix2 r k)) = _; exact congrArg (V m c main_v3) (place (ix_r t).2.1 r k (at_ t r) (at_val t r) _ rfl rfl)) (V_v3 m c _ k)
theorem blkV : (iblk m c 6 t : S352x1024.Idx → EReal) (ix2 r k) = argV m c (ix2 k (at_ t r)) :=
  Eq.trans (by show V m c main_v4 (((cfg0.win 6).blk t).view.emb (ix2 r k)) = _; exact congrArg (V m c main_v4) (place (ix_r t).2.2.1 r k (at_ t r) (at_val t r) _ rfl rfl)) (V_v4 m c _ k)

/-! ### The result arrays -/

/-- The gradient: the four chips' partial gradients summed. -/
def grad (R : Fin 704) (k : Fin 1024) : EReal := ∑ q : Fin 4, argP m c (ix3 q R k)

theorem parts_sum : ∑ q : Fin 4, parts m c t q (ix2 r k) = grad m c (at_ t r) k := Finset.sum_congr rfl fun q _ => blkP m c t r k q

def G7 : S704x1024.Idx → EReal := fun i => grad m c (i 0) (i 1)
def G8 : S704x1024.Idx → EReal := fun i =>
  step (grad m c (i 0) (i 1)) (argW m c (ix2 (i 1) (i 0))) (argM m c (ix2 (i 1) (i 0))) (argV m c (ix2 (i 1) (i 0)))
def G9 : S704x1024.Idx → EReal := fun i => first (grad m c (i 0) (i 1)) (argM m c (ix2 (i 1) (i 0)))
def G10 : S704x1024.Idx → EReal := fun i => second (grad m c (i 0) (i 1)) (argV m c (ix2 (i 1) (i 0)))

/-- Every row is a row of some grid point's block. -/
theorem exists_row (R : Fin 704) : ∃ (t : Fin cfg0.N) (r : Fin 352), at_ t r = R :=
  ⟨⟨R.val / 352, by have hN : cfg0.N = 2 := N_0; omega⟩, ⟨R.val % 352, by omega⟩,
    Fin.ext (by show 352 * (R.val / 352) + R.val % 352 = R.val; omega)⟩

theorem blkOut7 : out0_7 (iblk m c 0 t) (iblk m c 1 t) (iblk m c 2 t) (iblk m c 3 t) (iblk m c 4 t) (iblk m c 5 t) (iblk m c 6 t) (ix2 r k)
    = G7 m c (ix2 (at_ t r) k) :=
  (out7_apply (parts m c t) (iblk m c 4 t) (iblk m c 5 t) (iblk m c 6 t) _).trans (by rw [parts_sum]; rfl)

theorem emb7 : ((cfg0.win 7).blk t).view.emb (ix2 r k) = (ix2 (at_ t r) k : S704x1024.Idx) :=
  place (ix_r t).2.2.2.1 r k (at_ t r) (at_val t r) _ rfl rfl

theorem final7 : (dats m 0 c).arrAt 7 cfg0.N = G7 m c := by
  refine (dats m 0 c).arrAt_eq_of_cover 7 (G7 m c) (fun t _ => ?_) (fun (i : S704x1024.Idx) => ?_)
  · rw [flushed7]
    funext j
    have e : j = ix2 (n0 := 352) (n1 := 1024) (j 0) (j 1) := eq_ix2 j
    rw [e]
    exact (blkOut7 m c t (j 0) (j 1)).trans
      (congrArg (G7 m c) (emb7 t (j 0) (j 1)).symm)
  · obtain ⟨t, r, h⟩ := exists_row (i 0)
    have e : ((cfg0.win 7).blk t).view.emb (ix2 r (i 1)) = i :=
      (emb7 t r (i 1)).trans (by rw [h]; exact (eq_ix2 i).symm)
    exact ⟨t, flush0_7 t, e ▸ View.emb_mem_set _ _⟩

theorem blkOut8 : out0_8 (iblk m c 0 t) (iblk m c 1 t) (iblk m c 2 t) (iblk m c 3 t) (iblk m c 4 t) (iblk m c 5 t) (iblk m c 6 t) (ix2 r k)
    = G8 m c (ix2 (at_ t r) k) :=
  (out8_apply (parts m c t) (iblk m c 4 t) (iblk m c 5 t) (iblk m c 6 t) _).trans (by rw [parts_sum, blkW, blkM, blkV]; rfl)

theorem emb8 : ((cfg0.win 8).blk t).view.emb (ix2 r k) = (ix2 (at_ t r) k : S704x1024.Idx) :=
  place (ix_r t).2.2.2.2.1 r k (at_ t r) (at_val t r) _ rfl rfl

theorem final8 : (dats m 0 c).arrAt 8 cfg0.N = G8 m c := by
  refine (dats m 0 c).arrAt_eq_of_cover 8 (G8 m c) (fun t _ => ?_) (fun (i : S704x1024.Idx) => ?_)
  · rw [flushed8]
    funext j
    have e : j = ix2 (n0 := 352) (n1 := 1024) (j 0) (j 1) := eq_ix2 j
    rw [e]
    exact (blkOut8 m c t (j 0) (j 1)).trans
      (congrArg (G8 m c) (emb8 t (j 0) (j 1)).symm)
  · obtain ⟨t, r, h⟩ := exists_row (i 0)
    have e : ((cfg0.win 8).blk t).view.emb (ix2 r (i 1)) = i :=
      (emb8 t r (i 1)).trans (by rw [h]; exact (eq_ix2 i).symm)
    exact ⟨t, flush0_8 t, e ▸ View.emb_mem_set _ _⟩

theorem blkOut9 : out0_9 (iblk m c 0 t) (iblk m c 1 t) (iblk m c 2 t) (iblk m c 3 t) (iblk m c 4 t) (iblk m c 5 t) (iblk m c 6 t) (ix2 r k)
    = G9 m c (ix2 (at_ t r) k) :=
  (out9_apply (parts m c t) (iblk m c 4 t) (iblk m c 5 t) (iblk m c 6 t) _).trans (by rw [parts_sum, blkM]; rfl)

theorem emb9 : ((cfg0.win 9).blk t).view.emb (ix2 r k) = (ix2 (at_ t r) k : S704x1024.Idx) :=
  place (ix_r t).2.2.2.2.2.1 r k (at_ t r) (at_val t r) _ rfl rfl

theorem final9 : (dats m 0 c).arrAt 9 cfg0.N = G9 m c := by
  refine (dats m 0 c).arrAt_eq_of_cover 9 (G9 m c) (fun t _ => ?_) (fun (i : S704x1024.Idx) => ?_)
  · rw [flushed9]
    funext j
    have e : j = ix2 (n0 := 352) (n1 := 1024) (j 0) (j 1) := eq_ix2 j
    rw [e]
    exact (blkOut9 m c t (j 0) (j 1)).trans
      (congrArg (G9 m c) (emb9 t (j 0) (j 1)).symm)
  · obtain ⟨t, r, h⟩ := exists_row (i 0)
    have e : ((cfg0.win 9).blk t).view.emb (ix2 r (i 1)) = i :=
      (emb9 t r (i 1)).trans (by rw [h]; exact (eq_ix2 i).symm)
    exact ⟨t, flush0_9 t, e ▸ View.emb_mem_set _ _⟩

theorem blkOut10 : out0_10 (iblk m c 0 t) (iblk m c 1 t) (iblk m c 2 t) (iblk m c 3 t) (iblk m c 4 t) (iblk m c 5 t) (iblk m c 6 t) (ix2 r k)
    = G10 m c (ix2 (at_ t r) k) :=
  (out10_apply (parts m c t) (iblk m c 4 t) (iblk m c 5 t) (iblk m c 6 t) _).trans (by rw [parts_sum, blkV]; rfl)

theorem emb10 : ((cfg0.win 10).blk t).view.emb (ix2 r k) = (ix2 (at_ t r) k : S704x1024.Idx) :=
  place (ix_r t).2.2.2.2.2.2 r k (at_ t r) (at_val t r) _ rfl rfl

theorem final10 : (dats m 0 c).arrAt 10 cfg0.N = G10 m c := by
  refine (dats m 0 c).arrAt_eq_of_cover 10 (G10 m c) (fun t _ => ?_) (fun (i : S704x1024.Idx) => ?_)
  · rw [flushed10]
    funext j
    have e : j = ix2 (n0 := 352) (n1 := 1024) (j 0) (j 1) := eq_ix2 j
    rw [e]
    exact (blkOut10 m c t (j 0) (j 1)).trans
      (congrArg (G10 m c) (emb10 t (j 0) (j 1)).symm)
  · obtain ⟨t, r, h⟩ := exists_row (i 0)
    have e : ((cfg0.win 10).blk t).view.emb (ix2 r (i 1)) = i :=
      (emb10 t r (i 1)).trans (by rw [h]; exact (eq_ix2 i).symm)
    exact ⟨t, flush0_10 t, e ▸ View.emb_mem_set _ _⟩

end Cert.Update

end
-- ==== Proof.Update.Claim.lean ====
/- THE CALL `adamw_mix_in`: what the reference computes, read at an index, and that the kernel and the reference agree. -/
module

public import proofs.«01_k».proof.Defs
public import proofs.«01_k».proof.Proof.Update.Arrays
public import proofs.«01_k».proof.Proof.Gen.UpdateReferenceIdeal.Run
public import Idealize.ShloMosaic.Adequacy
public import Idealize.ShloMosaic.Init

@[expose] public section

noncomputable section

namespace Cert.Update

open Idealize.ShloMosaic Idealize.SL.Sem

attribute [local instance] Cert.UpdateKernelIdeal.Gen.facts Cert.UpdateReferenceIdeal.Gen.facts

section Reference
open Cert.UpdateReferenceIdeal Cert.UpdateReferenceIdeal.Facts₀

/-- A literal at every index. -/
def splat (b : BitVec 32) : FVec Ideal S1024x704 .f32 := broadcastInDim S1024x704 ![] bcast_S_S1024x704 (constant S_ .f32 b)
/-- A result as the call returns it, transposed. -/
def turned (x : FVec Ideal S1024x704 .f32) : FVec Ideal S704x1024 .f32 := transpose S704x1024 [1, 0] x transposes_S1024x704_S704x1024_1_0

variable (p : FVec Ideal S4x704x1024 .f32) (w mo ve : FVec Ideal S1024x704 .f32)

def vGrad : FVec Ideal S1024x704 .f32 :=
  transpose S1024x704 [1, 0] (Host.reduceAdd p (constant S_ .f32 0x00000000#32) reducesTo_S4x704x1024_S704x1024_d0 h_S_)
    transposes_S704x1024_S1024x704_1_0

/-- The moments and the step of a gradient `g`. -/
def vFirst (g : FVec Ideal S1024x704 .f32) : FVec Ideal S1024x704 .f32 := addf (mulf (splat 0x3F666666#32) mo) (mulf (splat 0x3DCCCCCD#32) g)
def vSecond (g : FVec Ideal S1024x704 .f32) : FVec Ideal S1024x704 .f32 :=
  addf (mulf (splat 0x3F7FBE77#32) ve) (mulf (splat 0x3A83126F#32) (mulf g g))
def vStep (g : FVec Ideal S1024x704 .f32) : FVec Ideal S1024x704 .f32 :=
  mulf (splat 0xBA83126F#32) (addf (Host.divf (Host.divf (vFirst mo g) (splat 0x3F26BD02#32))
    (addf (Host.sqrt (Host.divf (vSecond ve g) (splat 0x3C231ACC#32))) (splat 0x322BCC77#32))) (mulf (splat 0x3C23D70A#32) w))

/-- The gradient's element: the four chips' summed. -/
theorem vGrad_apply (R : Fin 704) (k : Fin 1024) : vGrad p (ix2 k R) = ∑ q : Fin 4, p (ix3 q R k) := by pointwise [vGrad]

section Elementwise
variable (g : FVec Ideal S1024x704 .f32) (i : S1024x704.Idx)

theorem vFirst_apply : vFirst mo g i = first (g i) (mo i) := by pointwise [vFirst, splat, first]
theorem vSecond_apply : vSecond ve g i = second (g i) (ve i) := by pointwise [vSecond, splat, second]
theorem vStep_apply : vStep w mo ve g i = step (g i) (w i) (mo i) (ve i) := by
  unfold step
  rw [← vFirst_apply, ← vSecond_apply]
  generalize hm : vFirst mo g = a
  generalize hv : vSecond ve g = b
  pointwise [vStep, splat, hm, hv]

end Elementwise

theorem turned_apply (x : FVec Ideal S1024x704 .f32) (i : S704x1024.Idx) : turned x i = x (ix2 (i 1) (i 0)) :=
  (congrArg (turned x) (eq_ix2 i)).trans (by pointwise [turned])

variable (m : (ℓ : Loc nD τ sig) → Buf (Elt Ideal) ℓ) (c : Dev nD)

abbrev inP : FVec Ideal S4x704x1024 .f32 := m ((c.tc : Thread nD τ).loc main_arg0)
abbrev inW : FVec Ideal S1024x704 .f32 := m ((c.tc : Thread nD τ).loc main_arg1)
abbrev inM : FVec Ideal S1024x704 .f32 := m ((c.tc : Thread nD τ).loc main_arg2)
abbrev inV : FVec Ideal S1024x704 .f32 := m ((c.tc : Thread nD τ).loc main_arg3)

/-- The reference's run, its results named by the stages. -/
theorem run_stages (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26) = turned (vGrad (inP m c))
      ∧ r.2.mem ((c.tc : Thread nD τ).loc main_v27) = turned (vStep (inW m c) (inM m c) (inV m c) (vGrad (inP m c)))
      ∧ r.2.mem ((c.tc : Thread nD τ).loc main_v28) = turned (vFirst (inM m c) (vGrad (inP m c)))
      ∧ r.2.mem ((c.tc : Thread nD τ).loc main_v29) = turned (vSecond (inV m c) (vGrad (inP m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ?_) (Value.run (F := Ideal) m ρ)
  obtain ⟨h0, h1, h2, h3, hk⟩ := h c
  exact ⟨h0.trans rfl, h1.trans rfl, h2.trans rfl, h3.trans rfl, hk⟩

end Reference

/-- The kernel and the reference end with the same four arrays. -/
theorem algebraic : Cert.algebraic_UpdateKernelIdeal_UpdateReferenceIdeal := by
  intro m g m' g' _ hargs
  refine ⟨fun c => G7 m c, fun c => G8 m c, fun c => G9 m c, fun c => G10 m c, ?_, ?_⟩
  · refine (θ_run _ _ _).mono (fun r h c => ?_) (Cert.UpdateKernelIdeal.Value.run_blocks m g)
    obtain ⟨h7, h8, h9, h10, hk⟩ := h c
    exact ⟨h7.trans (final7 m c), h8.trans (final8 m c), h9.trans (final9 m c), h10.trans (final10 m c), hk⟩
  · refine (θ_run _ _ _).mono (fun r h c => ?_) (run_stages m' g')
    obtain ⟨a0, a1, a2, a3⟩ := hargs c
    obtain ⟨h7, h8, h9, h10, hk⟩ := h c
    have b0 : inP m' c = argP m c := a0
    have b1 : inW m' c = argW m c := a1
    have b2 : inM m' c = argM m c := a2
    have b3 : inV m' c = argV m c := a3
    rw [b0] at h7
    rw [b0, b1, b2, b3] at h8
    rw [b0, b2] at h9
    rw [b0, b3] at h10
    exact ⟨h7.trans (funext fun i => (turned_apply _ i).trans (vGrad_apply _ _ _)),
      h8.trans (funext fun i => (turned_apply _ i).trans ((vStep_apply _ _ _ _ _).trans (congrArg (step · _ _ _) (vGrad_apply _ _ _)))),
      h9.trans (funext fun i => (turned_apply _ i).trans ((vFirst_apply _ _ _).trans (congrArg (first · _) (vGrad_apply _ _ _)))),
      h10.trans (funext fun i => (turned_apply _ i).trans ((vSecond_apply _ _ _).trans (congrArg (second · _) (vGrad_apply _ _ _)))), hk⟩

/-- The reference's frame: its run leaves the arguments unchanged, and it declares no semaphore. -/
theorem reference_frame : Cert.quiescent_UpdateReferenceIdeal := fun m ρ _ =>
  (θ_run Cert.UpdateReferenceIdeal.defs _ _).mono
    (fun r h => ⟨fun c => (h c).2.2.2.2, sem_eq_zero_of_no_sems (by decide) r.2⟩)
    (Cert.UpdateReferenceIdeal.Value.run (F := Ideal) m ρ)

end Cert.Update

end
-- ==== Proof.lean ====
/- THE CLAIMS, ASSEMBLED. Frames come from the generated runs. The value claim of `mix_out_bwd` sets the kernel's six result
   arrays (`Proof/Gate/Arrays.lean`) beside the reference's six terms read at an index (`Proof/Gate/Reference.lean`); that of
   `ffn2` is proved in `Proof/Last/Claim.lean`, that of `ffn1_bwd` in `Proof/Back/Claim.lean`. -/
module

public import proofs.«01_k».proof.Defs
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.GateKernelIdeal.Value
public import proofs.«01_k».proof.Proof.Gen.GateReferenceIdeal.Run
public import proofs.«01_k».proof.Proof.Gate.Reference
public import proofs.«01_k».proof.Proof.Gen.LastKernel
public import proofs.«01_k».proof.Proof.Gen.LastKernel.Skeleton
public import proofs.«01_k».proof.Proof.Gen.LastKernel.Launch
public import proofs.«01_k».proof.Proof.Gen.LastKernel.Points
public import proofs.«01_k».proof.Proof.Gen.LastKernel.Frame
public import proofs.«01_k».proof.Proof.Gen.LastKernelIdeal
public import proofs.«01_k».proof.Proof.Gen.LastKernelIdeal.Skeleton
public import proofs.«01_k».proof.Proof.Gen.LastKernelIdeal.Launch
public import proofs.«01_k».proof.Proof.Gen.LastKernelIdeal.Points
public import proofs.«01_k».proof.Proof.Gen.LastKernelIdeal.Frame
public import proofs.«01_k».proof.Proof.Gen.LastKernelIdeal.Value
public import proofs.«01_k».proof.Proof.Gen.LastReferenceIdeal
public import proofs.«01_k».proof.Proof.Gen.LastReferenceIdeal.Run
public import proofs.«01_k».proof.Proof.Last.Claim
public import proofs.«01_k».proof.Proof.Gen.BackKernel
public import proofs.«01_k».proof.Proof.Gen.BackKernel.Skeleton
public import proofs.«01_k».proof.Proof.Gen.BackKernel.Launch
public import proofs.«01_k».proof.Proof.Gen.BackKernel.Points
public import proofs.«01_k».proof.Proof.Back.Frame
public import proofs.«01_k».proof.Proof.Gen.BackKernelIdeal
public import proofs.«01_k».proof.Proof.Gen.BackKernelIdeal.Skeleton
public import proofs.«01_k».proof.Proof.Gen.BackKernelIdeal.Launch
public import proofs.«01_k».proof.Proof.Gen.BackKernelIdeal.Points
public import proofs.«01_k».proof.Proof.Back.KernelIdealFrame
public import proofs.«01_k».proof.Proof.Back.KernelIdealValue
public import proofs.«01_k».proof.Proof.Gen.BackReferenceIdeal
public import proofs.«01_k».proof.Proof.Gen.BackReferenceIdeal.Run
public import proofs.«01_k».proof.Proof.Back.Claim
public import proofs.«01_k».proof.Proof.Proj.Claim
public import proofs.«01_k».proof.Proof.Grad.Claim
public import proofs.«01_k».proof.Proof.Merge.Claim
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Gen.GradKernel
public import proofs.«01_k».proof.Proof.Gen.GradKernel.Skeleton
public import proofs.«01_k».proof.Proof.Gen.GradKernel.Launch
public import proofs.«01_k».proof.Proof.Gen.GradKernel.Points
public import proofs.«01_k».proof.Proof.Gen.GradKernel.Frame
public import proofs.«01_k».proof.Proof.Gen.GradKernelIdeal
public import proofs.«01_k».proof.Proof.Gen.GradKernelIdeal.Skeleton
public import proofs.«01_k».proof.Proof.Gen.GradKernelIdeal.Launch
public import proofs.«01_k».proof.Proof.Gen.GradKernelIdeal.Points
public import proofs.«01_k».proof.Proof.Gen.GradKernelIdeal.Frame
public import proofs.«01_k».proof.Proof.Gen.GradKernelIdeal.Value
public import proofs.«01_k».proof.Proof.Gen.GradReferenceIdeal
public import proofs.«01_k».proof.Proof.Gen.GradReferenceIdeal.Run
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.MixReferenceIdeal.Run
public import proofs.«01_k».proof.Proof.Mix.Claim
public import proofs.«01_k».proof.Proof.Gen.UpdateKernel
public import proofs.«01_k».proof.Proof.Gen.UpdateKernel.Skeleton
public import proofs.«01_k».proof.Proof.Gen.UpdateKernel.Launch
public import proofs.«01_k».proof.Proof.Gen.UpdateKernel.Points
public import proofs.«01_k».proof.Proof.Gen.UpdateKernel.Frame
public import proofs.«01_k».proof.Proof.Gen.UpdateKernelIdeal
public import proofs.«01_k».proof.Proof.Gen.UpdateKernelIdeal.Skeleton
public import proofs.«01_k».proof.Proof.Gen.UpdateKernelIdeal.Launch
public import proofs.«01_k».proof.Proof.Gen.UpdateKernelIdeal.Points
public import proofs.«01_k».proof.Proof.Gen.UpdateKernelIdeal.Frame
public import proofs.«01_k».proof.Proof.Gen.UpdateKernelIdeal.Value
public import proofs.«01_k».proof.Proof.Gen.UpdateReferenceIdeal
public import proofs.«01_k».proof.Proof.Gen.UpdateReferenceIdeal.Run
public import proofs.«01_k».proof.Proof.Update.Claim
public import Idealize.ShloMosaic.Adequacy
public import Idealize.ShloMosaic.Init

@[expose] public section

noncomputable section

namespace Cert.Proof

open Idealize.ShloMosaic Idealize.SL.Sem Cert.Gate Cert.Gate.Reference

section Facts
attribute [local instance] Cert.GateKernel.Gen.facts Cert.GateKernelIdeal.Gen.facts Cert.GateReferenceIdeal.Gen.facts

/-- The kernel and the reference end with the same six arrays. -/
theorem gate_algebraic : Cert.algebraic_GateKernelIdeal_GateReferenceIdeal := by
  intro m g m' g' _ hargs
  refine ⟨fun c => Cert.Gate.G7 m c, fun c => Cert.Gate.G8 m c, fun c => Cert.Gate.G9 m c, fun c => Cert.Gate.G10 m c,
    fun c => Cert.Gate.G11 m c, fun c => Cert.Gate.argDx m c, ?_, ?_⟩
  · refine (θ_run _ _ _).mono (fun r h c => ?_) (Cert.GateKernelIdeal.Value.run_blocks m g)
    obtain ⟨h7, h8, h9, h10, h11, h12, hk⟩ := h c
    exact ⟨h7.trans (Cert.Gate.final7 m c), h8.trans (Cert.Gate.final8 m c), h9.trans (Cert.Gate.final9 m c),
      h10.trans (Cert.Gate.final10 m c), h11.trans (Cert.Gate.final11 m c), h12.trans (Cert.Gate.final12 m c), hk⟩
  · refine (θ_run _ _ _).mono (fun r h c => ?_) (Cert.GateReferenceIdeal.Value.run m' g')
    obtain ⟨a0, a1, a2, a3, a4, a5, a6⟩ := hargs c
    obtain ⟨h7, h8, h9, h10, h11, h12, hk⟩ := h c
    refine ⟨h7.trans ?_, h8.trans ?_, h9.trans ?_, h10.trans ?_, h11.trans ?_, h12.trans ?_, hk⟩
    · rw [a2, a3, a5, a6]
      exact funext fun i => (congrArg _ (eq_ix2 i)).trans (ref7 (argDx m c) (argG m c) (argWp m c) (argWout m c) (i 0) (i 1))
    · rw [a2, a4, a5, a6]
      exact funext fun i => (congrArg _ (eq_ix2 i)).trans (ref8 (argDx m c) (argG m c) (argWo m c) (argWout m c) (i 0) (i 1))
    · rw [a0, a1, a2, a3, a4, a5, a6]
      exact funext fun i => (congrArg _ (eq_ix2 i)).trans
        (ref9 (argZ m c) (argO m c) (argDx m c) (argG m c) (argWp m c) (argWo m c) (argWout m c) (i 0) (i 1))
    · rw [a2, a5, a6]
      exact funext fun i => (congrArg _ (eq_ix2 i)).trans (ref10 (argDx m c) (argG m c) (argWout m c) (i 0) (i 1))
    · rw [a2, a5, a6]
      exact funext fun i => (congrArg _ (eq_ix2 i)).trans (ref11 (argDx m c) (argG m c) (argWout m c) (i 0) (i 1))
    · rw [a6]
      rfl

/-- The reference's frame: its run leaves the arguments unchanged, and it declares no semaphore. -/
theorem gate_reference_frame : Cert.quiescent_GateReferenceIdeal := fun m ρ _ =>
  (θ_run Cert.GateReferenceIdeal.defs _ _).mono
    (fun r h => ⟨fun c => (h c).2.2.2.2.2.2, sem_eq_zero_of_no_sems (by decide) r.2⟩)
    (Cert.GateReferenceIdeal.Value.run (F := Ideal) m ρ)

end Facts

theorem claim : Cert.Claim :=
  ⟨Cert.GateKernel.Gen.facts, Cert.GateKernelIdeal.Gen.facts, Cert.GateReferenceIdeal.Gen.facts,
    Cert.LastKernel.Gen.facts, Cert.LastKernelIdeal.Gen.facts, Cert.LastReferenceIdeal.Gen.facts,
    Cert.BackKernel.Gen.facts, Cert.BackKernelIdeal.Gen.facts, Cert.BackReferenceIdeal.Gen.facts,
    Cert.ProjKernel.Gen.facts, Cert.ProjKernelIdeal.Gen.facts, Cert.ProjReferenceIdeal.Gen.facts,
    Cert.GradKernel.Gen.facts, Cert.GradKernelIdeal.Gen.facts, Cert.GradReferenceIdeal.Gen.facts,
    Cert.MergeKernel.Gen.facts, Cert.MergeKernelIdeal.Gen.facts, Cert.MergeReferenceIdeal.Gen.facts,
    Cert.MixKernel.Gen.facts, Cert.MixKernelIdeal.Gen.facts, Cert.MixReferenceIdeal.Gen.facts,
    Cert.UpdateKernel.Gen.facts, Cert.UpdateKernelIdeal.Gen.facts, Cert.UpdateReferenceIdeal.Gen.facts,
    Cert.Last.given_facts,
    fun m ρ _ => Cert.GateKernel.Gen.frame m ρ, fun m ρ _ => Cert.GateKernelIdeal.Gen.frame m ρ, gate_reference_frame,
    fun m ρ _ => Cert.LastKernel.Gen.frame m ρ, fun m ρ _ => Cert.LastKernelIdeal.Gen.frame m ρ,
    fun m ρ _ => Cert.LastKernelIdeal.Gen.frame m ρ, Cert.Last.reference_frame, fun m ρ _ => Cert.Last.reference_frame m ρ trivial,
    Cert.Back.kernel_frame, fun m ρ _ => Cert.BackKernelIdeal.Gen.frame m ρ,
    fun m ρ _ => Cert.BackKernelIdeal.Gen.frame m ρ, Cert.Back.reference_frame, fun m ρ _ => Cert.Back.reference_frame m ρ trivial,
    fun m ρ _ => Cert.ProjKernel.Gen.frame m ρ, fun m ρ _ => Cert.ProjKernelIdeal.Gen.frame m ρ, Cert.Proj.reference_frame,
    fun m ρ _ => Cert.GradKernel.Gen.frame m ρ, fun m ρ _ => Cert.GradKernelIdeal.Gen.frame m ρ, Cert.Grad.reference_frame,
    fun m ρ _ => Cert.MergeKernel.Gen.frame m ρ, fun m ρ _ => Cert.MergeKernelIdeal.Gen.frame m ρ, Cert.Merge.reference_frame,
    fun m ρ _ => Cert.MixKernel.Gen.frame m ρ, fun m ρ _ => Cert.MixKernelIdeal.Gen.frame m ρ, Cert.Mix.reference_frame,
    fun m ρ _ => Cert.UpdateKernel.Gen.frame m ρ, fun m ρ _ => Cert.UpdateKernelIdeal.Gen.frame m ρ, Cert.Update.reference_frame,
    trivial, gate_algebraic, trivial, Cert.Last.algebraic, trivial, Cert.Back.algebraic,
    trivial, Cert.Proj.algebraic, trivial, Cert.Grad.algebraic, trivial, Cert.Merge.algebraic,
    trivial, Cert.Mix.algebraic, trivial, Cert.Update.algebraic⟩

end Cert.Proof

end
